-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_finite : Cert.Pre_finite.Facts] (m : (ℓ : Loc Cert.Kernel5.nD Cert.Kernel5.τ Cert.Kernel5.sig) → Buf (Elt Bits) ℓ) : Prop :=
  ∀ c : Dev Cert.Kernel5.nD,
    (Cert.Pre_finite.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).1 = (fun _ => 1#1)
    ∧ (Cert.Pre_finite.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.1 = (fun _ => 1#1)
    ∧ (Cert.Pre_finite.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.1 = (fun _ => 1#1)
    ∧ (Cert.Pre_finite.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.1 = (fun _ => 1#1)
    ∧ (Cert.Pre_finite.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))).2.2.2.2 = (fun _ => 1#1)

def Pre_Kernel5Ideal [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2 = (fun _ => 1#1)

def Pre_Reference5Ideal [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] [hPre_finite : Cert.Pre_finite.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v95_2)) (v1 : (c : Dev Cert.Kernel3Ideal.nD) → Buf (Elt Ideal) ((c.tc : Thread Cert.Kernel3Ideal.nD Cert.Kernel3Ideal.τ).loc Cert.Kernel3Ideal.main_v95_3)) (v2 : (c : Dev Cert.Kernel3Ideal.nD) → Buf (Elt Ideal) ((c.tc : Thread Cert.Kernel3Ideal.nD Cert.Kernel3Ideal.τ).loc Cert.Kernel3Ideal.main_v95_4)) (v3 : (c : Dev Cert.Kernel3Ideal.nD) → Buf (Elt Ideal) ((c.tc : Thread Cert.Kernel3Ideal.nD Cert.Kernel3Ideal.τ).loc Cert.Kernel3Ideal.main_v95_5)) (v4 : (c : Dev Cert.Kernel3Ideal.nD) → Buf (Elt Ideal) ((c.tc : Thread Cert.Kernel3Ideal.nD Cert.Kernel3Ideal.τ).loc Cert.Kernel3Ideal.main_v95_6)) (v5 : (c : Dev Cert.Kernel3Ideal.nD) → Buf (Elt Ideal) ((c.tc : Thread Cert.Kernel3Ideal.nD Cert.Kernel3Ideal.τ).loc Cert.Kernel3Ideal.main_v95_7)) (v6 : (c : Dev Cert.Kernel3Ideal.nD) → Buf (Elt Ideal) ((c.tc : Thread Cert.Kernel3Ideal.nD Cert.Kernel3Ideal.τ).loc Cert.Kernel3Ideal.main_v95_8)) (v7 : (c : Dev Cert.Kernel3Ideal.nD) → Buf (Elt Ideal) ((c.tc : Thread Cert.Kernel3Ideal.nD Cert.Kernel3Ideal.τ).loc Cert.Kernel3Ideal.main_v95_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v95_2) = v0 c
          ∧ r.2.mem ((c.tc : Thread Cert.Kernel3Ideal.nD Cert.Kernel3Ideal.τ).loc Cert.Kernel3Ideal.main_v95_3) = v1 c
          ∧ r.2.mem ((c.tc : Thread Cert.Kernel3Ideal.nD Cert.Kernel3Ideal.τ).loc Cert.Kernel3Ideal.main_v95_4) = v2 c
          ∧ r.2.mem ((c.tc : Thread Cert.Kernel3Ideal.nD Cert.Kernel3Ideal.τ).loc Cert.Kernel3Ideal.main_v95_5) = v3 c
          ∧ r.2.mem ((c.tc : Thread Cert.Kernel3Ideal.nD Cert.Kernel3Ideal.τ).loc Cert.Kernel3Ideal.main_v95_6) = v4 c
          ∧ r.2.mem ((c.tc : Thread Cert.Kernel3Ideal.nD Cert.Kernel3Ideal.τ).loc Cert.Kernel3Ideal.main_v95_7) = v5 c
          ∧ r.2.mem ((c.tc : Thread Cert.Kernel3Ideal.nD Cert.Kernel3Ideal.τ).loc Cert.Kernel3Ideal.main_v95_8) = v6 c
          ∧ r.2.mem ((c.tc : Thread Cert.Kernel3Ideal.nD Cert.Kernel3Ideal.τ).loc Cert.Kernel3Ideal.main_v95_9) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_v92) = v4 c
          ∧ r.2.mem ((c.tc : Thread Cert.Reference3Ideal.nD Cert.Reference3Ideal.τ).loc Cert.Reference3Ideal.main_v94) = v5 c
          ∧ r.2.mem ((c.tc : Thread Cert.Reference3Ideal.nD Cert.Reference3Ideal.τ).loc Cert.Reference3Ideal.main_v95) = v6 c
          ∧ r.2.mem ((c.tc : Thread Cert.Reference3Ideal.nD Cert.Reference3Ideal.τ).loc Cert.Reference3Ideal.main_v96) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v95_0)) (v1 : (c : Dev Cert.Kernel5Ideal.nD) → Buf (Elt Ideal) ((c.tc : Thread Cert.Kernel5Ideal.nD Cert.Kernel5Ideal.τ).loc Cert.Kernel5Ideal.main_v95_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v95_0) = v0 c
          ∧ r.2.mem ((c.tc : Thread Cert.Kernel5Ideal.nD Cert.Kernel5Ideal.τ).loc Cert.Kernel5Ideal.main_v95_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v124) = v0 c
          ∧ r.2.mem ((c.tc : Thread Cert.Reference5Ideal.nD Cert.Reference5Ideal.τ).loc Cert.Reference5Ideal.main_v128) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_finite := hPre_finite)
    ∧ quiescent_Kernel5Ideal (hKernel5Ideal := hKernel5Ideal) (hPre_finite := hPre_finite)
    ∧ quiescent_Reference5Ideal (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_finite := hPre_finite)
-- ==== Pre_finite.lean ====
abbrev S32x2048x1024 : Shape := ⟨3, ![32, 2048, 1024]⟩
abbrev S1x1024 : Shape := ⟨2, ![1, 1024]⟩
abbrev S1x1024x4528 : Shape := ⟨3, ![1, 1024, 4528]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x2x4 : Shape := ⟨3, ![1, 2, 4]⟩
abbrev S_ : Shape := ⟨0, ![]⟩

class Facts : Prop where
  bcast_S_S32x2048x1024 : S_.BroadcastsInDim S32x2048x1024 (![] : Fin 0 → Fin S32x2048x1024.rank)
  bcast_S_S1x1024 : S_.BroadcastsInDim S1x1024 (![] : Fin 0 → Fin S1x1024.rank)
  bcast_S_S1x1024x4528 : S_.BroadcastsInDim S1x1024x4528 (![] : Fin 0 → Fin S1x1024x4528.rank)
  bcast_S_S1x256 : S_.BroadcastsInDim S1x256 (![] : Fin 0 → Fin S1x256.rank)
  bcast_S_S1x256x768 : S_.BroadcastsInDim S1x256x768 (![] : Fin 0 → Fin S1x256x768.rank)

variable [Facts]

def fn {F : FTy → Type} [FloatOps F] (main_arg0 : FVec F S32x2048x1024 .f32) (main_arg1 : FVec F S1x1024 .f32) (main_arg2 : FVec F S1x1024x4528 .f32) (main_arg3 : FVec F S1x256 .f32) (main_arg4 : FVec F S1x256x768 .f32) (main_arg5 : FVec F S1x128 .f32) (main_arg6 : FVec F S1x128x1024 .f32) (main_arg7 : FVec F S1x2x4 .f32) (main_arg8 : FVec F S1x2x4 .f32) : IVec S32x2048x1024 1 × IVec S1x1024 1 × IVec S1x1024x4528 1 × IVec S1x256 1 × IVec S1x256x768 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4528 .f32 := Host.absf main_arg2
  let main_cst_1 : FVec F S_ .f32 := constant S_ .f32 0x7F800000#32
  let main_v7 : FVec F S1x1024x4528 .f32 := broadcastInDim S1x1024x4528 ![] bcast_S_S1x1024x4528 main_cst_1
  let main_v8 : IVec S1x1024x4528 1 := cmpf .olt main_v6 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S1x256x768 .f32 := Host.absf main_arg4
  let main_cst_3 : FVec F S_ .f32 := constant S_ .f32 0x7F800000#32
  let main_v13 : FVec F S1x256x768 .f32 := broadcastInDim S1x256x768 ![] bcast_S_S1x256x768 main_cst_3
  let main_v14 : IVec S1x256x768 1 := cmpf .olt main_v12 main_v13
  (main_v2, main_v5, main_v8, main_v11, main_v14)
-- ==== Kernel.lean ====
abbrev S65536x512 : Shape := ⟨2, ![65536, 512]⟩
abbrev S65536x1024 : Shape := ⟨2, ![65536, 1024]⟩
abbrev S1x512 : Shape := ⟨2, ![1, 512]⟩
abbrev S1x512x1024 : Shape := ⟨3, ![1, 512, 1024]⟩
abbrev S1x1024x1024 : Shape := ⟨3, ![1, 1024, 1024]⟩
abbrev S512 : Shape := ⟨1, ![512]⟩
abbrev S512x1024 : Shape := ⟨2, ![512, 1024]⟩
abbrev S1024x1024 : Shape := ⟨2, ![1024, 1024]⟩
abbrev S3x1024x512 : Shape := ⟨3, ![3, 1024, 512]⟩
abbrev S3 : Shape := ⟨1, ![3]⟩
abbrev S3x1024x1024 : Shape := ⟨3, ![3, 1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩

abbrev nBuf : Space → Nat
  | .hbm => 19
  | .vmem => 11
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S65536x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S512, .f32⟩
  | .hbm, ⟨11, _⟩ => ⟨S1x512, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S65536x1024, .f32⟩
  | .local _ .vmem, ⟨0, _⟩ => ⟨S1x512, .f32⟩
  | .local _ .vmem, ⟨1, _⟩ => ⟨S512x1024, .bf16⟩
  | .local _ .vmem, ⟨2, _⟩ => ⟨S512x1024, .bf16⟩
  | .local _ .vmem, ⟨3, _⟩ => ⟨S1024x1024, .bf16⟩
  | .local _ .vmem, ⟨4, _⟩ => ⟨S3x1024x512, .bf16⟩
  | .local _ .vmem, ⟨5, _⟩ => ⟨S3x1024x512, .bf16⟩
  | .local _ .vmem, ⟨6, _⟩ => ⟨S3x1024x512, .bf16⟩
  | .local _ .vmem, ⟨7, _⟩ => ⟨S3x1024x1024, .bf16⟩
  | .local _ .vmem, ⟨8, _⟩ => ⟨S3x1024x1024, .bf16⟩
  | .local _ .vmem, ⟨9, _⟩ => ⟨S3x1024x1024, .f32⟩
  | .local _ .vmem, ⟨10, _⟩ => ⟨S2x1024x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scoped0 : Ref sig .tc := ⟨.vmem, 4, rfl⟩
abbrev cc0_scoped2 : Ref sig .tc := ⟨.vmem, 5, rfl⟩
abbrev cc0_scoped4 : Ref sig .tc := ⟨.vmem, 6, rfl⟩
abbrev cc0_scoped6 : Ref sig .tc := ⟨.vmem, 7, rfl⟩
abbrev cc0_scoped8 : Ref sig .tc := ⟨.vmem, 8, rfl⟩
abbrev cc0_scoped10 : Ref sig .tc := ⟨.vmem, 9, rfl⟩
abbrev cc0_scoped12 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_22_r0 : BitVec 32 := 0#32
  let c3_i32_r0 : BitVec 32 := 3#32
  let v25_r0 : BitVec 32 := Scalar.remui c0_i32_22_r0 c3_i32_r0
  ![v25_r0.toNat]
def k0_off2 : Fin 3 → Nat :=
  let c0_i32_22_r0 : BitVec 32 := 0#32
  let c3_i32_r0 : BitVec 32 := 3#32
  let v25_r0 : BitVec 32 := Scalar.remui c0_i32_22_r0 c3_i32_r0
  let c0_i32_23_r0 : BitVec 32 := 0#32
  let c0_i32_24_r0 : BitVec 32 := 0#32
  ![v25_r0.toNat, 0, 0]
def k0_off3 : Fin 3 → Nat :=
  let c0_i32_45_r0 : BitVec 32 := 0#32
  let c3_i32_46_r0 : BitVec 32 := 3#32
  let v46_r0 : BitVec 32 := Scalar.remui c0_i32_45_r0 c3_i32_46_r0
  let c0_i32_47_r0 : BitVec 32 := 0#32
  let c0_i32_48_r0 : BitVec 32 := 0#32
  ![v46_r0.toNat, 0, 0]
def k0_cond1 : BitVec 1 :=
  let true_70_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_69_r0 : BitVec 32 := 0#32
  let v67_r0 : BitVec 1 := Scalar.cmpi .ne v14_r0 c0_i32_69_r0
  let v68_r0 : BitVec 1 := Scalar.andi true_70_r0 v67_r0
  let true_71_r0 : BitVec 1 := 1#1
  let v69_r0 : BitVec 1 := Scalar.andi v68_r0 true_71_r0
  let v70_r0 : BitVec 32 := Scalar.extui v69_r0
  let c0_i32_72_r0 : BitVec 32 := 0#32
  let v71_r0 : BitVec 1 := Scalar.cmpi .ne v70_r0 c0_i32_72_r0
  v71_r0

def k0_off4 : Fin 1 → Nat :=
  let c0_i32_27_r0 : BitVec 32 := 0#32
  let c1_i32_28_r0 : BitVec 32 := 1#32
  let v31_r0 : BitVec 32 := Scalar.addi c0_i32_27_r0 c1_i32_28_r0
  let c3_i32_140_r0 : BitVec 32 := 3#32
  let v143_r0 : BitVec 32 := Scalar.remui v31_r0 c3_i32_140_r0
  ![v143_r0.toNat]
def k0_off5 : Fin 3 → Nat :=
  let c0_i32_27_r0 : BitVec 32 := 0#32
  let c1_i32_28_r0 : BitVec 32 := 1#32
  let v31_r0 : BitVec 32 := Scalar.addi c0_i32_27_r0 c1_i32_28_r0
  let c3_i32_140_r0 : BitVec 32 := 3#32
  let v143_r0 : BitVec 32 := Scalar.remui v31_r0 c3_i32_140_r0
  let c0_i32_142_r0 : BitVec 32 := 0#32
  let c0_i32_143_r0 : BitVec 32 := 0#32
  ![v143_r0.toNat, 0, 0]
def k0_off6 : Fin 2 → Nat :=
  let c1024_i32_141_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v144_r0 : BitVec 32 := Scalar.muli c1024_i32_141_r0 v14_r0
  let c0_i32_144_r0 : BitVec 32 := 0#32
  ![v144_r0.toNat, 0]
def k0_cond2 : BitVec 1 :=
  let true_75_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_74_r0 : BitVec 32 := 0#32
  let v74_r0 : BitVec 1 := Scalar.cmpi .ne v14_r0 c0_i32_74_r0
  let v75_r0 : BitVec 1 := Scalar.andi true_75_r0 v74_r0
  let true_76_r0 : BitVec 1 := 1#1
  let v76_r0 : BitVec 1 := Scalar.andi v75_r0 true_76_r0
  let v77_r0 : BitVec 32 := Scalar.extui v76_r0
  let c0_i32_77_r0 : BitVec 32 := 0#32
  let v78_r0 : BitVec 1 := Scalar.cmpi .ne v77_r0 c0_i32_77_r0
  v78_r0

def k0_off7 : Fin 1 → Nat :=
  let c0_i32_35_r0 : BitVec 32 := 0#32
  let c1_i32_36_r0 : BitVec 32 := 1#32
  let v38_r0 : BitVec 32 := Scalar.addi c0_i32_35_r0 c1_i32_36_r0
  let c3_i32_140_r0 : BitVec 32 := 3#32
  let v143_r0 : BitVec 32 := Scalar.remui v38_r0 c3_i32_140_r0
  ![v143_r0.toNat]
def k0_off8 : Fin 3 → Nat :=
  let c0_i32_35_r0 : BitVec 32 := 0#32
  let c1_i32_36_r0 : BitVec 32 := 1#32
  let v38_r0 : BitVec 32 := Scalar.addi c0_i32_35_r0 c1_i32_36_r0
  let c3_i32_140_r0 : BitVec 32 := 3#32
  let v143_r0 : BitVec 32 := Scalar.remui v38_r0 c3_i32_140_r0
  let c0_i32_142_r0 : BitVec 32 := 0#32
  let c0_i32_143_r0 : BitVec 32 := 0#32
  ![v143_r0.toNat, 0, 0]
def k0_off9 : Fin 2 → Nat :=
  let c1024_i32_141_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v144_r0 : BitVec 32 := Scalar.muli c1024_i32_141_r0 v14_r0
  let c0_i32_144_r0 : BitVec 32 := 0#32
  ![v144_r0.toNat, 0]
def k0_cond3 : BitVec 1 :=
  let true_80_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_79_r0 : BitVec 32 := 0#32
  let v81_r0 : BitVec 1 := Scalar.cmpi .ne v14_r0 c0_i32_79_r0
  let v82_r0 : BitVec 1 := Scalar.andi true_80_r0 v81_r0
  let true_81_r0 : BitVec 1 := 1#1
  let v83_r0 : BitVec 1 := Scalar.andi v82_r0 true_81_r0
  let v84_r0 : BitVec 32 := Scalar.extui v83_r0
  let c0_i32_82_r0 : BitVec 32 := 0#32
  let v85_r0 : BitVec 1 := Scalar.cmpi .ne v84_r0 c0_i32_82_r0
  v85_r0

def k0_off10 : Fin 1 → Nat :=
  let c0_i32_43_r0 : BitVec 32 := 0#32
  let c1_i32_44_r0 : BitVec 32 := 1#32
  let v45_r0 : BitVec 32 := Scalar.addi c0_i32_43_r0 c1_i32_44_r0
  let c3_i32_140_r0 : BitVec 32 := 3#32
  let v143_r0 : BitVec 32 := Scalar.remui v45_r0 c3_i32_140_r0
  ![v143_r0.toNat]
def k0_off11 : Fin 3 → Nat :=
  let c0_i32_43_r0 : BitVec 32 := 0#32
  let c1_i32_44_r0 : BitVec 32 := 1#32
  let v45_r0 : BitVec 32 := Scalar.addi c0_i32_43_r0 c1_i32_44_r0
  let c3_i32_140_r0 : BitVec 32 := 3#32
  let v143_r0 : BitVec 32 := Scalar.remui v45_r0 c3_i32_140_r0
  let c0_i32_142_r0 : BitVec 32 := 0#32
  let c0_i32_143_r0 : BitVec 32 := 0#32
  ![v143_r0.toNat, 0, 0]
def k0_off12 : Fin 2 → Nat :=
  let c1024_i32_141_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v144_r0 : BitVec 32 := Scalar.muli c1024_i32_141_r0 v14_r0
  let c0_i32_144_r0 : BitVec 32 := 0#32
  ![v144_r0.toNat, 0]
def k0_cond4 : BitVec 1 :=
  let true_85_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_84_r0 : BitVec 32 := 0#32
  let v88_r0 : BitVec 1 := Scalar.cmpi .ne v14_r0 c0_i32_84_r0
  let v89_r0 : BitVec 1 := Scalar.andi true_85_r0 v88_r0
  let true_86_r0 : BitVec 1 := 1#1
  let v90_r0 : BitVec 1 := Scalar.andi v89_r0 true_86_r0
  let v91_r0 : BitVec 32 := Scalar.extui v90_r0
  let c0_i32_87_r0 : BitVec 32 := 0#32
  let v92_r0 : BitVec 1 := Scalar.cmpi .ne v91_r0 c0_i32_87_r0
  v92_r0

def k0_off13 : Fin 1 → Nat :=
  let c0_i32_51_r0 : BitVec 32 := 0#32
  let c1_i32_52_r0 : BitVec 32 := 1#32
  let v52_r0 : BitVec 32 := Scalar.addi c0_i32_51_r0 c1_i32_52_r0
  let c3_i32_140_r0 : BitVec 32 := 3#32
  let v143_r0 : BitVec 32 := Scalar.remui v52_r0 c3_i32_140_r0
  ![v143_r0.toNat]
def k0_off14 : Fin 3 → Nat :=
  let c0_i32_51_r0 : BitVec 32 := 0#32
  let c1_i32_52_r0 : BitVec 32 := 1#32
  let v52_r0 : BitVec 32 := Scalar.addi c0_i32_51_r0 c1_i32_52_r0
  let c3_i32_140_r0 : BitVec 32 := 3#32
  let v143_r0 : BitVec 32 := Scalar.remui v52_r0 c3_i32_140_r0
  let c0_i32_142_r0 : BitVec 32 := 0#32
  let c0_i32_143_r0 : BitVec 32 := 0#32
  ![v143_r0.toNat, 0, 0]
def k0_off15 : Fin 2 → Nat :=
  let c1024_i32_141_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v144_r0 : BitVec 32 := Scalar.muli c1024_i32_141_r0 v14_r0
  let c0_i32_144_r0 : BitVec 32 := 0#32
  ![v144_r0.toNat, 0]
def k0_cond5 : BitVec 1 :=
  let true_90_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_89_r0 : BitVec 32 := 0#32
  let v95_r0 : BitVec 1 := Scalar.cmpi .ne v14_r0 c0_i32_89_r0
  let v96_r0 : BitVec 1 := Scalar.andi true_90_r0 v95_r0
  let true_91_r0 : BitVec 1 := 1#1
  let v97_r0 : BitVec 1 := Scalar.andi v96_r0 true_91_r0
  let v98_r0 : BitVec 32 := Scalar.extui v97_r0
  let c0_i32_92_r0 : BitVec 32 := 0#32
  let v99_r0 : BitVec 1 := Scalar.cmpi .ne v98_r0 c0_i32_92_r0
  v99_r0

def k0_off16 : Fin 1 → Nat :=
  let c0_i32_59_r0 : BitVec 32 := 0#32
  let c1_i32_60_r0 : BitVec 32 := 1#32
  let v59_r0 : BitVec 32 := Scalar.addi c0_i32_59_r0 c1_i32_60_r0
  let c3_i32_140_r0 : BitVec 32 := 3#32
  let v143_r0 : BitVec 32 := Scalar.remui v59_r0 c3_i32_140_r0
  ![v143_r0.toNat]
def k0_off17 : Fin 3 → Nat :=
  let c0_i32_59_r0 : BitVec 32 := 0#32
  let c1_i32_60_r0 : BitVec 32 := 1#32
  let v59_r0 : BitVec 32 := Scalar.addi c0_i32_59_r0 c1_i32_60_r0
  let c3_i32_140_r0 : BitVec 32 := 3#32
  let v143_r0 : BitVec 32 := Scalar.remui v59_r0 c3_i32_140_r0
  let c0_i32_142_r0 : BitVec 32 := 0#32
  let c0_i32_143_r0 : BitVec 32 := 0#32
  ![v143_r0.toNat, 0, 0]
def k0_off18 : Fin 2 → Nat :=
  let c1024_i32_141_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v144_r0 : BitVec 32 := Scalar.muli c1024_i32_141_r0 v14_r0
  let c0_i32_144_r0 : BitVec 32 := 0#32
  ![v144_r0.toNat, 0]
def k0_cond6 : BitVec 1 :=
  let true_95_r0 : BitVec 1 := 1#1
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let c0_i32_94_r0 : BitVec 32 := 0#32
  let v102_r0 : BitVec 1 := Scalar.cmpi .ne v14_r0 c0_i32_94_r0
  let v103_r0 : BitVec 1 := Scalar.andi true_95_r0 v102_r0
  let true_96_r0 : BitVec 1 := 1#1
  let v104_r0 : BitVec 1 := Scalar.andi v103_r0 true_96_r0
  let v105_r0 : BitVec 32 := Scalar.extui v104_r0
  let c0_i32_97_r0 : BitVec 32 := 0#32
  let v106_r0 : BitVec 1 := Scalar.cmpi .ne v105_r0 c0_i32_97_r0
  v106_r0

def k0_off19 : Fin 1 → Nat :=
  let c0_i32_67_r0 : BitVec 32 := 0#32
  let c1_i32_68_r0 : BitVec 32 := 1#32
  let v66_r0 : BitVec 32 := Scalar.addi c0_i32_67_r0 c1_i32_68_r0
  let c3_i32_140_r0 : BitVec 32 := 3#32
  let v143_r0 : BitVec 32 := Scalar.remui v66_r0 c3_i32_140_r0
  ![v143_r0.toNat]
def k0_off20 : Fin 3 → Nat :=
  let c0_i32_67_r0 : BitVec 32 := 0#32
  let c1_i32_68_r0 : BitVec 32 := 1#32
  let v66_r0 : BitVec 32 := Scalar.addi c0_i32_67_r0 c1_i32_68_r0
  let c3_i32_140_r0 : BitVec 32 := 3#32
  let v143_r0 : BitVec 32 := Scalar.remui v66_r0 c3_i32_140_r0
  let c0_i32_142_r0 : BitVec 32 := 0#32
  let c0_i32_143_r0 : BitVec 32 := 0#32
  ![v143_r0.toNat, 0, 0]
def k0_off21 : Fin 2 → Nat :=
  let c1024_i32_141_r0 : BitVec 32 := 1024#32
  let true_8_r0 : BitVec 1 := 1#1
  let c1_i32_r0 : BitVec 32 := 1#32
  let c0_i32_9_r0 : BitVec 32 := 0#32
  let v11_r0 : BitVec 32 := Scalar.select true_8_r0 c1_i32_r0 c0_i32_9_r0
  let c64_i32_r0 : BitVec 32 := 64#32
  let v12_r0 : BitVec 1 := Scalar.cmpi .eq v11_r0 c64_i32_r0
  let c0_i32_10_r0 : BitVec 32 := 0#32
  let v13_r0 : BitVec 32 := Scalar.select v12_r0 c0_i32_10_r0 v11_r0
  let c0_i32_11_r0 : BitVec 32 := 0#32
  let v14_r0 : BitVec 32 := Scalar.addi v13_r0 c0_i32_11_r0
  let v144_r0 : BitVec 32 := Scalar.muli c1024_i32_141_r0 v14_r0
  let c0_i32_144_r0 : BitVec 32 := 0#32
  ![v144_r0.toNat, 0]
@[reducible] def k0_t1_loop : Scf.Loop 32 :=
  let c0_i32_108_r0 : BitVec 32 := 0#32
  let c64_i32_109_r0 : BitVec 32 := 64#32
  let v109_r0 : BitVec 32 := Scalar.addi c0_i32_108_r0 c64_i32_109_r0
  let c1_i32_110_r0 : BitVec 32 := 1#32
  ⟨c0_i32_108_r0, v109_r0, c1_i32_110_r0⟩
def k0_off22 (arg12_r0 : BitVec 32) : Fin 1 → Nat :=
  let c3_i32_302_r0 : BitVec 32 := 3#32
  let v489_r0 : BitVec 32 := Scalar.remui arg12_r0 c3_i32_302_r0
  ![v489_r0.toNat]
def k0_cond7 (k0_t1 : Fin k0_t1_loop.trips) (arg26_r0 : BitVec 32) : BitVec 1 :=
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let true_154_r0 : BitVec 1 := 1#1
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v166_r0 : BitVec 1 := Scalar.cmpi .ne v155_r0 v160_r0
  let c0_i32_108_r0 : BitVec 32 := 0#32
  let c1_i32_110_r0 : BitVec 32 := 1#32
  let arg11_r0 : BitVec 32 := Scf.iv c0_i32_108_r0 c1_i32_110_r0 k0_t1
  let c62_i32_r0 : BitVec 32 := 62#32
  let v167_r0 : BitVec 1 := Scalar.cmpi .sge arg11_r0 c62_i32_r0
  let true_163_r0 : BitVec 1 := 1#1
  let v168_r0 : BitVec 1 := Scalar.xori v167_r0 true_163_r0
  let v169_r0 : BitVec 1 := Scalar.andi v166_r0 v168_r0
  let true_164_r0 : BitVec 1 := 1#1
  let v170_r0 : BitVec 1 := Scalar.andi v169_r0 true_164_r0
  let v171_r0 : BitVec 32 := Scalar.extui v170_r0
  let c0_i32_165_r0 : BitVec 32 := 0#32
  let v172_r0 : BitVec 1 := Scalar.cmpi .ne v171_r0 c0_i32_165_r0
  v172_r0

def k0_off23 (arg12_r0 : BitVec 32) : Fin 3 → Nat :=
  let c3_i32_302_r0 : BitVec 32 := 3#32
  let v489_r0 : BitVec 32 := Scalar.remui arg12_r0 c3_i32_302_r0
  let c0_i32_304_r0 : BitVec 32 := 0#32
  let c0_i32_305_r0 : BitVec 32 := 0#32
  ![v489_r0.toNat, 0, 0]
def k0_off24 (arg26_r0 : BitVec 32) : Fin 2 → Nat :=
  let c1024_i32_303_r0 : BitVec 32 := 1024#32
  let true_154_r0 : BitVec 1 := 1#1
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v490_r0 : BitVec 32 := Scalar.muli c1024_i32_303_r0 v160_r0
  let c0_i32_306_r0 : BitVec 32 := 0#32
  ![v490_r0.toNat, 0]
def k0_off25 (arg14_r0 : BitVec 32) : Fin 1 → Nat :=
  let c3_i32_302_r0 : BitVec 32 := 3#32
  let v489_r0 : BitVec 32 := Scalar.remui arg14_r0 c3_i32_302_r0
  ![v489_r0.toNat]
def k0_cond8 (k0_t1 : Fin k0_t1_loop.trips) (arg26_r0 : BitVec 32) : BitVec 1 :=
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let true_154_r0 : BitVec 1 := 1#1
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v176_r0 : BitVec 1 := Scalar.cmpi .ne v155_r0 v160_r0
  let c0_i32_108_r0 : BitVec 32 := 0#32
  let c1_i32_110_r0 : BitVec 32 := 1#32
  let arg11_r0 : BitVec 32 := Scf.iv c0_i32_108_r0 c1_i32_110_r0 k0_t1
  let c62_i32_168_r0 : BitVec 32 := 62#32
  let v177_r0 : BitVec 1 := Scalar.cmpi .sge arg11_r0 c62_i32_168_r0
  let true_169_r0 : BitVec 1 := 1#1
  let v178_r0 : BitVec 1 := Scalar.xori v177_r0 true_169_r0
  let v179_r0 : BitVec 1 := Scalar.andi v176_r0 v178_r0
  let true_170_r0 : BitVec 1 := 1#1
  let v180_r0 : BitVec 1 := Scalar.andi v179_r0 true_170_r0
  let v181_r0 : BitVec 32 := Scalar.extui v180_r0
  let c0_i32_171_r0 : BitVec 32 := 0#32
  let v182_r0 : BitVec 1 := Scalar.cmpi .ne v181_r0 c0_i32_171_r0
  v182_r0

def k0_off26 (arg14_r0 : BitVec 32) : Fin 3 → Nat :=
  let c3_i32_302_r0 : BitVec 32 := 3#32
  let v489_r0 : BitVec 32 := Scalar.remui arg14_r0 c3_i32_302_r0
  let c0_i32_304_r0 : BitVec 32 := 0#32
  let c0_i32_305_r0 : BitVec 32 := 0#32
  ![v489_r0.toNat, 0, 0]
def k0_off27 (arg26_r0 : BitVec 32) : Fin 2 → Nat :=
  let c1024_i32_303_r0 : BitVec 32 := 1024#32
  let true_154_r0 : BitVec 1 := 1#1
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v490_r0 : BitVec 32 := Scalar.muli c1024_i32_303_r0 v160_r0
  let c0_i32_306_r0 : BitVec 32 := 0#32
  ![v490_r0.toNat, 0]
def k0_off28 (arg16_r0 : BitVec 32) : Fin 1 → Nat :=
  let c3_i32_302_r0 : BitVec 32 := 3#32
  let v489_r0 : BitVec 32 := Scalar.remui arg16_r0 c3_i32_302_r0
  ![v489_r0.toNat]
def k0_cond9 (k0_t1 : Fin k0_t1_loop.trips) (arg26_r0 : BitVec 32) : BitVec 1 :=
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let true_154_r0 : BitVec 1 := 1#1
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v186_r0 : BitVec 1 := Scalar.cmpi .ne v155_r0 v160_r0
  let c0_i32_108_r0 : BitVec 32 := 0#32
  let c1_i32_110_r0 : BitVec 32 := 1#32
  let arg11_r0 : BitVec 32 := Scf.iv c0_i32_108_r0 c1_i32_110_r0 k0_t1
  let c62_i32_174_r0 : BitVec 32 := 62#32
  let v187_r0 : BitVec 1 := Scalar.cmpi .sge arg11_r0 c62_i32_174_r0
  let true_175_r0 : BitVec 1 := 1#1
  let v188_r0 : BitVec 1 := Scalar.xori v187_r0 true_175_r0
  let v189_r0 : BitVec 1 := Scalar.andi v186_r0 v188_r0
  let true_176_r0 : BitVec 1 := 1#1
  let v190_r0 : BitVec 1 := Scalar.andi v189_r0 true_176_r0
  let v191_r0 : BitVec 32 := Scalar.extui v190_r0
  let c0_i32_177_r0 : BitVec 32 := 0#32
  let v192_r0 : BitVec 1 := Scalar.cmpi .ne v191_r0 c0_i32_177_r0
  v192_r0

def k0_off29 (arg16_r0 : BitVec 32) : Fin 3 → Nat :=
  let c3_i32_302_r0 : BitVec 32 := 3#32
  let v489_r0 : BitVec 32 := Scalar.remui arg16_r0 c3_i32_302_r0
  let c0_i32_304_r0 : BitVec 32 := 0#32
  let c0_i32_305_r0 : BitVec 32 := 0#32
  ![v489_r0.toNat, 0, 0]
def k0_off30 (arg26_r0 : BitVec 32) : Fin 2 → Nat :=
  let c1024_i32_303_r0 : BitVec 32 := 1024#32
  let true_154_r0 : BitVec 1 := 1#1
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v490_r0 : BitVec 32 := Scalar.muli c1024_i32_303_r0 v160_r0
  let c0_i32_306_r0 : BitVec 32 := 0#32
  ![v490_r0.toNat, 0]
def k0_off31 (arg18_r0 : BitVec 32) : Fin 1 → Nat :=
  let c3_i32_302_r0 : BitVec 32 := 3#32
  let v489_r0 : BitVec 32 := Scalar.remui arg18_r0 c3_i32_302_r0
  ![v489_r0.toNat]
def k0_cond10 (k0_t1 : Fin k0_t1_loop.trips) (arg26_r0 : BitVec 32) : BitVec 1 :=
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let true_154_r0 : BitVec 1 := 1#1
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v196_r0 : BitVec 1 := Scalar.cmpi .ne v155_r0 v160_r0
  let c0_i32_108_r0 : BitVec 32 := 0#32
  let c1_i32_110_r0 : BitVec 32 := 1#32
  let arg11_r0 : BitVec 32 := Scf.iv c0_i32_108_r0 c1_i32_110_r0 k0_t1
  let c62_i32_180_r0 : BitVec 32 := 62#32
  let v197_r0 : BitVec 1 := Scalar.cmpi .sge arg11_r0 c62_i32_180_r0
  let true_181_r0 : BitVec 1 := 1#1
  let v198_r0 : BitVec 1 := Scalar.xori v197_r0 true_181_r0
  let v199_r0 : BitVec 1 := Scalar.andi v196_r0 v198_r0
  let true_182_r0 : BitVec 1 := 1#1
  let v200_r0 : BitVec 1 := Scalar.andi v199_r0 true_182_r0
  let v201_r0 : BitVec 32 := Scalar.extui v200_r0
  let c0_i32_183_r0 : BitVec 32 := 0#32
  let v202_r0 : BitVec 1 := Scalar.cmpi .ne v201_r0 c0_i32_183_r0
  v202_r0

def k0_off32 (arg18_r0 : BitVec 32) : Fin 3 → Nat :=
  let c3_i32_302_r0 : BitVec 32 := 3#32
  let v489_r0 : BitVec 32 := Scalar.remui arg18_r0 c3_i32_302_r0
  let c0_i32_304_r0 : BitVec 32 := 0#32
  let c0_i32_305_r0 : BitVec 32 := 0#32
  ![v489_r0.toNat, 0, 0]
def k0_off33 (arg26_r0 : BitVec 32) : Fin 2 → Nat :=
  let c1024_i32_303_r0 : BitVec 32 := 1024#32
  let true_154_r0 : BitVec 1 := 1#1
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v490_r0 : BitVec 32 := Scalar.muli c1024_i32_303_r0 v160_r0
  let c0_i32_306_r0 : BitVec 32 := 0#32
  ![v490_r0.toNat, 0]
def k0_off34 (arg20_r0 : BitVec 32) : Fin 1 → Nat :=
  let c3_i32_302_r0 : BitVec 32 := 3#32
  let v489_r0 : BitVec 32 := Scalar.remui arg20_r0 c3_i32_302_r0
  ![v489_r0.toNat]
def k0_cond11 (k0_t1 : Fin k0_t1_loop.trips) (arg26_r0 : BitVec 32) : BitVec 1 :=
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let true_154_r0 : BitVec 1 := 1#1
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v206_r0 : BitVec 1 := Scalar.cmpi .ne v155_r0 v160_r0
  let c0_i32_108_r0 : BitVec 32 := 0#32
  let c1_i32_110_r0 : BitVec 32 := 1#32
  let arg11_r0 : BitVec 32 := Scf.iv c0_i32_108_r0 c1_i32_110_r0 k0_t1
  let c62_i32_186_r0 : BitVec 32 := 62#32
  let v207_r0 : BitVec 1 := Scalar.cmpi .sge arg11_r0 c62_i32_186_r0
  let true_187_r0 : BitVec 1 := 1#1
  let v208_r0 : BitVec 1 := Scalar.xori v207_r0 true_187_r0
  let v209_r0 : BitVec 1 := Scalar.andi v206_r0 v208_r0
  let true_188_r0 : BitVec 1 := 1#1
  let v210_r0 : BitVec 1 := Scalar.andi v209_r0 true_188_r0
  let v211_r0 : BitVec 32 := Scalar.extui v210_r0
  let c0_i32_189_r0 : BitVec 32 := 0#32
  let v212_r0 : BitVec 1 := Scalar.cmpi .ne v211_r0 c0_i32_189_r0
  v212_r0

def k0_off35 (arg20_r0 : BitVec 32) : Fin 3 → Nat :=
  let c3_i32_302_r0 : BitVec 32 := 3#32
  let v489_r0 : BitVec 32 := Scalar.remui arg20_r0 c3_i32_302_r0
  let c0_i32_304_r0 : BitVec 32 := 0#32
  let c0_i32_305_r0 : BitVec 32 := 0#32
  ![v489_r0.toNat, 0, 0]
def k0_off36 (arg26_r0 : BitVec 32) : Fin 2 → Nat :=
  let c1024_i32_303_r0 : BitVec 32 := 1024#32
  let true_154_r0 : BitVec 1 := 1#1
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v490_r0 : BitVec 32 := Scalar.muli c1024_i32_303_r0 v160_r0
  let c0_i32_306_r0 : BitVec 32 := 0#32
  ![v490_r0.toNat, 0]
def k0_off37 (arg22_r0 : BitVec 32) : Fin 1 → Nat :=
  let c3_i32_302_r0 : BitVec 32 := 3#32
  let v489_r0 : BitVec 32 := Scalar.remui arg22_r0 c3_i32_302_r0
  ![v489_r0.toNat]
def k0_cond12 (k0_t1 : Fin k0_t1_loop.trips) (arg26_r0 : BitVec 32) : BitVec 1 :=
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let true_154_r0 : BitVec 1 := 1#1
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v216_r0 : BitVec 1 := Scalar.cmpi .ne v155_r0 v160_r0
  let c0_i32_108_r0 : BitVec 32 := 0#32
  let c1_i32_110_r0 : BitVec 32 := 1#32
  let arg11_r0 : BitVec 32 := Scf.iv c0_i32_108_r0 c1_i32_110_r0 k0_t1
  let c62_i32_192_r0 : BitVec 32 := 62#32
  let v217_r0 : BitVec 1 := Scalar.cmpi .sge arg11_r0 c62_i32_192_r0
  let true_193_r0 : BitVec 1 := 1#1
  let v218_r0 : BitVec 1 := Scalar.xori v217_r0 true_193_r0
  let v219_r0 : BitVec 1 := Scalar.andi v216_r0 v218_r0
  let true_194_r0 : BitVec 1 := 1#1
  let v220_r0 : BitVec 1 := Scalar.andi v219_r0 true_194_r0
  let v221_r0 : BitVec 32 := Scalar.extui v220_r0
  let c0_i32_195_r0 : BitVec 32 := 0#32
  let v222_r0 : BitVec 1 := Scalar.cmpi .ne v221_r0 c0_i32_195_r0
  v222_r0

def k0_off38 (arg22_r0 : BitVec 32) : Fin 3 → Nat :=
  let c3_i32_302_r0 : BitVec 32 := 3#32
  let v489_r0 : BitVec 32 := Scalar.remui arg22_r0 c3_i32_302_r0
  let c0_i32_304_r0 : BitVec 32 := 0#32
  let c0_i32_305_r0 : BitVec 32 := 0#32
  ![v489_r0.toNat, 0, 0]
def k0_off39 (arg26_r0 : BitVec 32) : Fin 2 → Nat :=
  let c1024_i32_303_r0 : BitVec 32 := 1024#32
  let true_154_r0 : BitVec 1 := 1#1
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c1_i32_153_r0 : BitVec 32 := 1#32
  let v156_r0 : BitVec 32 := Scalar.addi v154_r0 c1_i32_153_r0
  let v157_r0 : BitVec 32 := Scalar.select true_154_r0 v156_r0 v154_r0
  let c64_i32_155_r0 : BitVec 32 := 64#32
  let v158_r0 : BitVec 1 := Scalar.cmpi .eq v157_r0 c64_i32_155_r0
  let c0_i32_156_r0 : BitVec 32 := 0#32
  let v159_r0 : BitVec 32 := Scalar.select v158_r0 c0_i32_156_r0 v157_r0
  let c0_i32_157_r0 : BitVec 32 := 0#32
  let v160_r0 : BitVec 32 := Scalar.addi v159_r0 c0_i32_157_r0
  let v490_r0 : BitVec 32 := Scalar.muli c1024_i32_303_r0 v160_r0
  let c0_i32_306_r0 : BitVec 32 := 0#32
  ![v490_r0.toNat, 0]
def k0_off40 (arg13_r0 : BitVec 32) : Fin 1 → Nat :=
  let c3_i32_303_r0 : BitVec 32 := 3#32
  let v490_r0 : BitVec 32 := Scalar.remui arg13_r0 c3_i32_303_r0
  ![v490_r0.toNat]
def k0_cond13 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v230_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let v231_r0 : BitVec 1 := Scalar.ori v230_r0 v143_r0
  let c0_i32_200_r0 : BitVec 32 := 0#32
  let v232_r0 : BitVec 1 := Scalar.cmpi .sge arg11_r0 c0_i32_200_r0
  let v233_r0 : BitVec 1 := Scalar.andi v231_r0 v232_r0
  let v234_r0 : BitVec 32 := Scalar.extui v233_r0
  let c0_i32_201_r0 : BitVec 32 := 0#32
  let v235_r0 : BitVec 1 := Scalar.cmpi .ne v234_r0 c0_i32_201_r0
  v235_r0

def k0_off41 (arg13_r0 : BitVec 32) : Fin 3 → Nat :=
  let c3_i32_303_r0 : BitVec 32 := 3#32
  let v490_r0 : BitVec 32 := Scalar.remui arg13_r0 c3_i32_303_r0
  let c0_i32_304_r0 : BitVec 32 := 0#32
  let c0_i32_305_r0 : BitVec 32 := 0#32
  ![v490_r0.toNat, 0, 0]
def k0_off42 (arg26_r0 : BitVec 32) : Fin 2 → Nat :=
  let c1024_i32_302_r0 : BitVec 32 := 1024#32
  let c0_i32_142_r0 : BitVec 32 := 0#32
  let v145_r0 : BitVec 32 := Scalar.addi arg26_r0 c0_i32_142_r0
  let v489_r0 : BitVec 32 := Scalar.muli c1024_i32_302_r0 v145_r0
  let c0_i32_306_r0 : BitVec 32 := 0#32
  ![v489_r0.toNat, 0]
def k0_off43 (arg15_r0 : BitVec 32) : Fin 1 → Nat :=
  let c3_i32_303_r0 : BitVec 32 := 3#32
  let v490_r0 : BitVec 32 := Scalar.remui arg15_r0 c3_i32_303_r0
  ![v490_r0.toNat]
def k0_cond14 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v236_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let v237_r0 : BitVec 1 := Scalar.ori v236_r0 v143_r0
  let c0_i32_202_r0 : BitVec 32 := 0#32
  let v238_r0 : BitVec 1 := Scalar.cmpi .sge arg11_r0 c0_i32_202_r0
  let v239_r0 : BitVec 1 := Scalar.andi v237_r0 v238_r0
  let v240_r0 : BitVec 32 := Scalar.extui v239_r0
  let c0_i32_203_r0 : BitVec 32 := 0#32
  let v241_r0 : BitVec 1 := Scalar.cmpi .ne v240_r0 c0_i32_203_r0
  v241_r0

def k0_off44 (arg15_r0 : BitVec 32) : Fin 3 → Nat :=
  let c3_i32_303_r0 : BitVec 32 := 3#32
  let v490_r0 : BitVec 32 := Scalar.remui arg15_r0 c3_i32_303_r0
  let c0_i32_304_r0 : BitVec 32 := 0#32
  let c0_i32_305_r0 : BitVec 32 := 0#32
  ![v490_r0.toNat, 0, 0]
def k0_off45 (arg26_r0 : BitVec 32) : Fin 2 → Nat :=
  let c1024_i32_302_r0 : BitVec 32 := 1024#32
  let c0_i32_142_r0 : BitVec 32 := 0#32
  let v145_r0 : BitVec 32 := Scalar.addi arg26_r0 c0_i32_142_r0
  let v489_r0 : BitVec 32 := Scalar.muli c1024_i32_302_r0 v145_r0
  let c0_i32_306_r0 : BitVec 32 := 0#32
  ![v489_r0.toNat, 0]
def k0_off46 (arg17_r0 : BitVec 32) : Fin 1 → Nat :=
  let c3_i32_303_r0 : BitVec 32 := 3#32
  let v490_r0 : BitVec 32 := Scalar.remui arg17_r0 c3_i32_303_r0
  ![v490_r0.toNat]
def k0_cond15 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v242_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let v243_r0 : BitVec 1 := Scalar.ori v242_r0 v143_r0
  let c0_i32_204_r0 : BitVec 32 := 0#32
  let v244_r0 : BitVec 1 := Scalar.cmpi .sge arg11_r0 c0_i32_204_r0
  let v245_r0 : BitVec 1 := Scalar.andi v243_r0 v244_r0
  let v246_r0 : BitVec 32 := Scalar.extui v245_r0
  let c0_i32_205_r0 : BitVec 32 := 0#32
  let v247_r0 : BitVec 1 := Scalar.cmpi .ne v246_r0 c0_i32_205_r0
  v247_r0

def k0_off47 (arg17_r0 : BitVec 32) : Fin 3 → Nat :=
  let c3_i32_303_r0 : BitVec 32 := 3#32
  let v490_r0 : BitVec 32 := Scalar.remui arg17_r0 c3_i32_303_r0
  let c0_i32_304_r0 : BitVec 32 := 0#32
  let c0_i32_305_r0 : BitVec 32 := 0#32
  ![v490_r0.toNat, 0, 0]
def k0_off48 (arg26_r0 : BitVec 32) : Fin 2 → Nat :=
  let c1024_i32_302_r0 : BitVec 32 := 1024#32
  let c0_i32_142_r0 : BitVec 32 := 0#32
  let v145_r0 : BitVec 32 := Scalar.addi arg26_r0 c0_i32_142_r0
  let v489_r0 : BitVec 32 := Scalar.muli c1024_i32_302_r0 v145_r0
  let c0_i32_306_r0 : BitVec 32 := 0#32
  ![v489_r0.toNat, 0]
def k0_off49 (arg19_r0 : BitVec 32) : Fin 1 → Nat :=
  let c3_i32_303_r0 : BitVec 32 := 3#32
  let v490_r0 : BitVec 32 := Scalar.remui arg19_r0 c3_i32_303_r0
  ![v490_r0.toNat]
def k0_cond16 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v248_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let v249_r0 : BitVec 1 := Scalar.ori v248_r0 v143_r0
  let c0_i32_206_r0 : BitVec 32 := 0#32
  let v250_r0 : BitVec 1 := Scalar.cmpi .sge arg11_r0 c0_i32_206_r0
  let v251_r0 : BitVec 1 := Scalar.andi v249_r0 v250_r0
  let v252_r0 : BitVec 32 := Scalar.extui v251_r0
  let c0_i32_207_r0 : BitVec 32 := 0#32
  let v253_r0 : BitVec 1 := Scalar.cmpi .ne v252_r0 c0_i32_207_r0
  v253_r0

def k0_off50 (arg19_r0 : BitVec 32) : Fin 3 → Nat :=
  let c3_i32_303_r0 : BitVec 32 := 3#32
  let v490_r0 : BitVec 32 := Scalar.remui arg19_r0 c3_i32_303_r0
  let c0_i32_304_r0 : BitVec 32 := 0#32
  let c0_i32_305_r0 : BitVec 32 := 0#32
  ![v490_r0.toNat, 0, 0]
def k0_off51 (arg26_r0 : BitVec 32) : Fin 2 → Nat :=
  let c1024_i32_302_r0 : BitVec 32 := 1024#32
  let c0_i32_142_r0 : BitVec 32 := 0#32
  let v145_r0 : BitVec 32 := Scalar.addi arg26_r0 c0_i32_142_r0
  let v489_r0 : BitVec 32 := Scalar.muli c1024_i32_302_r0 v145_r0
  let c0_i32_306_r0 : BitVec 32 := 0#32
  ![v489_r0.toNat, 0]
def k0_off52 (arg21_r0 : BitVec 32) : Fin 1 → Nat :=
  let c3_i32_303_r0 : BitVec 32 := 3#32
  let v490_r0 : BitVec 32 := Scalar.remui arg21_r0 c3_i32_303_r0
  ![v490_r0.toNat]
def k0_cond17 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v254_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let v255_r0 : BitVec 1 := Scalar.ori v254_r0 v143_r0
  let c0_i32_208_r0 : BitVec 32 := 0#32
  let v256_r0 : BitVec 1 := Scalar.cmpi .sge arg11_r0 c0_i32_208_r0
  let v257_r0 : BitVec 1 := Scalar.andi v255_r0 v256_r0
  let v258_r0 : BitVec 32 := Scalar.extui v257_r0
  let c0_i32_209_r0 : BitVec 32 := 0#32
  let v259_r0 : BitVec 1 := Scalar.cmpi .ne v258_r0 c0_i32_209_r0
  v259_r0

def k0_off53 (arg21_r0 : BitVec 32) : Fin 3 → Nat :=
  let c3_i32_303_r0 : BitVec 32 := 3#32
  let v490_r0 : BitVec 32 := Scalar.remui arg21_r0 c3_i32_303_r0
  let c0_i32_304_r0 : BitVec 32 := 0#32
  let c0_i32_305_r0 : BitVec 32 := 0#32
  ![v490_r0.toNat, 0, 0]
def k0_off54 (arg26_r0 : BitVec 32) : Fin 2 → Nat :=
  let c1024_i32_302_r0 : BitVec 32 := 1024#32
  let c0_i32_142_r0 : BitVec 32 := 0#32
  let v145_r0 : BitVec 32 := Scalar.addi arg26_r0 c0_i32_142_r0
  let v489_r0 : BitVec 32 := Scalar.muli c1024_i32_302_r0 v145_r0
  let c0_i32_306_r0 : BitVec 32 := 0#32
  ![v489_r0.toNat, 0]
def k0_off55 (arg23_r0 : BitVec 32) : Fin 1 → Nat :=
  let c3_i32_303_r0 : BitVec 32 := 3#32
  let v490_r0 : BitVec 32 := Scalar.remui arg23_r0 c3_i32_303_r0
  ![v490_r0.toNat]
def k0_cond18 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v260_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let v261_r0 : BitVec 1 := Scalar.ori v260_r0 v143_r0
  let c0_i32_210_r0 : BitVec 32 := 0#32
  let v262_r0 : BitVec 1 := Scalar.cmpi .sge arg11_r0 c0_i32_210_r0
  let v263_r0 : BitVec 1 := Scalar.andi v261_r0 v262_r0
  let v264_r0 : BitVec 32 := Scalar.extui v263_r0
  let c0_i32_211_r0 : BitVec 32 := 0#32
  let v265_r0 : BitVec 1 := Scalar.cmpi .ne v264_r0 c0_i32_211_r0
  v265_r0

def k0_off56 (arg23_r0 : BitVec 32) : Fin 3 → Nat :=
  let c3_i32_303_r0 : BitVec 32 := 3#32
  let v490_r0 : BitVec 32 := Scalar.remui arg23_r0 c3_i32_303_r0
  let c0_i32_304_r0 : BitVec 32 := 0#32
  let c0_i32_305_r0 : BitVec 32 := 0#32
  ![v490_r0.toNat, 0, 0]
def k0_off57 (arg26_r0 : BitVec 32) : Fin 2 → Nat :=
  let c1024_i32_302_r0 : BitVec 32 := 1024#32
  let c0_i32_142_r0 : BitVec 32 := 0#32
  let v145_r0 : BitVec 32 := Scalar.addi arg26_r0 c0_i32_142_r0
  let v489_r0 : BitVec 32 := Scalar.muli c1024_i32_302_r0 v145_r0
  let c0_i32_306_r0 : BitVec 32 := 0#32
  ![v489_r0.toNat, 0]
def k0_off58 (arg15_r0 : BitVec 32) : Fin 3 → Nat :=
  let c3_i32_215_r0 : BitVec 32 := 3#32
  let v273_r0 : BitVec 32 := Scalar.remui arg15_r0 c3_i32_215_r0
  let v279_r0 : Index := Scalar.indexCast v273_r0
  let c0_r0 : Index := 0#32
  let c0_221_r0 : Index := 0#32
  ![v279_r0.toNat, 0, 0]

def k0_chk2 (arg15_r0 : BitVec 32) : Prop :=
  (∀ a, (k0_off58 arg15_r0) a + S1x1024x512.size a ≤ S3x1024x512.size a)
theorem k0_off58_inb : ∀ (arg15_r0 : BitVec 32) (k0_hw2 : k0_chk2 arg15_r0), ∀ a, (k0_off58 arg15_r0) a + S1x1024x512.size a ≤ S3x1024x512.size a := fun arg15_r0 k0_hw2 => k0_hw2

def k0_off59 (arg17_r0 : BitVec 32) : Fin 3 → Nat :=
  let c3_i32_216_r0 : BitVec 32 := 3#32
  let v274_r0 : BitVec 32 := Scalar.remui arg17_r0 c3_i32_216_r0
  let v342_r0 : Index := Scalar.indexCast v274_r0
  let c0_235_r0 : Index := 0#32
  let c0_236_r0 : Index := 0#32
  ![v342_r0.toNat, 0, 0]

def k0_chk3 (arg17_r0 : BitVec 32) : Prop :=
  (∀ a, (k0_off59 arg17_r0) a + S1x1024x512.size a ≤ S3x1024x512.size a)
theorem k0_off59_inb : ∀ (arg17_r0 : BitVec 32) (k0_hw3 : k0_chk3 arg17_r0), ∀ a, (k0_off59 arg17_r0) a + S1x1024x512.size a ≤ S3x1024x512.size a := fun arg17_r0 k0_hw3 => k0_hw3

def k0_off60 (arg19_r0 : BitVec 32) : Fin 3 → Nat :=
  let c3_i32_217_r0 : BitVec 32 := 3#32
  let v275_r0 : BitVec 32 := Scalar.remui arg19_r0 c3_i32_217_r0
  let v348_r0 : Index := Scalar.indexCast v275_r0
  let c0_237_r0 : Index := 0#32
  let c0_238_r0 : Index := 0#32
  ![v348_r0.toNat, 0, 0]

def k0_chk4 (arg19_r0 : BitVec 32) : Prop :=
  (∀ a, (k0_off60 arg19_r0) a + S1x1024x1024.size a ≤ S3x1024x1024.size a)
theorem k0_off60_inb : ∀ (arg19_r0 : BitVec 32) (k0_hw4 : k0_chk4 arg19_r0), ∀ a, (k0_off60 arg19_r0) a + S1x1024x1024.size a ≤ S3x1024x1024.size a := fun arg19_r0 k0_hw4 => k0_hw4

def k0_off61 (arg13_r0 : BitVec 32) : Fin 3 → Nat :=
  let c3_i32_214_r0 : BitVec 32 := 3#32
  let v272_r0 : BitVec 32 := Scalar.remui arg13_r0 c3_i32_214_r0
  let v352_r0 : Index := Scalar.indexCast v272_r0
  let c0_239_r0 : Index := 0#32
  let c0_240_r0 : Index := 0#32
  ![v352_r0.toNat, 0, 0]

def k0_chk5 (arg13_r0 : BitVec 32) : Prop :=
  (∀ a, (k0_off61 arg13_r0) a + S1x1024x512.size a ≤ S3x1024x512.size a)
theorem k0_off61_inb : ∀ (arg13_r0 : BitVec 32) (k0_hw5 : k0_chk5 arg13_r0), ∀ a, (k0_off61 arg13_r0) a + S1x1024x512.size a ≤ S3x1024x512.size a := fun arg13_r0 k0_hw5 => k0_hw5

def k0_off62 (arg21_r0 : BitVec 32) : Fin 3 → Nat :=
  let c3_i32_218_r0 : BitVec 32 := 3#32
  let v276_r0 : BitVec 32 := Scalar.remui arg21_r0 c3_i32_218_r0
  let v359_r0 : Index := Scalar.indexCast v276_r0
  let c0_244_r0 : Index := 0#32
  let c0_245_r0 : Index := 0#32
  ![v359_r0.toNat, 0, 0]

def k0_chk6 (arg21_r0 : BitVec 32) : Prop :=
  (∀ a, (k0_off62 arg21_r0) a + S1x1024x1024.size a ≤ S3x1024x1024.size a)
theorem k0_off62_inb : ∀ (arg21_r0 : BitVec 32) (k0_hw6 : k0_chk6 arg21_r0), ∀ a, (k0_off62 arg21_r0) a + S1x1024x1024.size a ≤ S3x1024x1024.size a := fun arg21_r0 k0_hw6 => k0_hw6

def k0_off63 (arg23_r0 : BitVec 32) : Fin 3 → Nat :=
  let c3_i32_219_r0 : BitVec 32 := 3#32
  let v277_r0 : BitVec 32 := Scalar.remui arg23_r0 c3_i32_219_r0
  let v368_r0 : Index := Scalar.indexCast v277_r0
  let c0_249_r0 : Index := 0#32
  let c0_250_r0 : Index := 0#32
  ![v368_r0.toNat, 0, 0]

def k0_chk7 (arg23_r0 : BitVec 32) : Prop :=
  (∀ a, (k0_off63 arg23_r0) a + S1x1024x1024.size a ≤ S3x1024x1024.size a)
theorem k0_off63_inb : ∀ (arg23_r0 : BitVec 32) (k0_hw7 : k0_chk7 arg23_r0), ∀ a, (k0_off63 arg23_r0) a + S1x1024x1024.size a ≤ S3x1024x1024.size a := fun arg23_r0 k0_hw7 => k0_hw7

def k0_off64 (arg24_r0 : BitVec 32) : Fin 3 → Nat :=
  let c2_i32_220_r0 : BitVec 32 := 2#32
  let v278_r0 : BitVec 32 := Scalar.remui arg24_r0 c2_i32_220_r0
  let v376_r0 : Index := Scalar.indexCast v278_r0
  let c0_254_r0 : Index := 0#32
  let c0_255_r0 : Index := 0#32
  ![v376_r0.toNat, 0, 0]

def k0_chk8 (arg24_r0 : BitVec 32) : Prop :=
  (∀ a, (k0_off64 arg24_r0) a + S1x1024x1024.size a ≤ S2x1024x1024.size a)
theorem k0_off64_inb : ∀ (arg24_r0 : BitVec 32) (k0_hw8 : k0_chk8 arg24_r0), ∀ a, (k0_off64 arg24_r0) a + S1x1024x1024.size a ≤ S2x1024x1024.size a := fun arg24_r0 k0_hw8 => k0_hw8

def k0_off65 (arg24_r0 : BitVec 32) : Fin 1 → Nat :=
  let c2_i32_302_r0 : BitVec 32 := 2#32
  let v489_r0 : BitVec 32 := Scalar.remui arg24_r0 c2_i32_302_r0
  ![v489_r0.toNat]
def k0_cond26 (k0_t1 : Fin k0_t1_loop.trips) (arg26_r0 : BitVec 32) : BitVec 1 :=
  let c0_i32_142_r0 : BitVec 32 := 0#32
  let v145_r0 : BitVec 32 := Scalar.addi arg26_r0 c0_i32_142_r0
  let true_149_r0 : BitVec 1 := 1#1
  let c1_i32_148_r0 : BitVec 32 := 1#32
  let v151_r0 : BitVec 32 := Scalar.addi arg26_r0 c1_i32_148_r0
  let v152_r0 : BitVec 32 := Scalar.select true_149_r0 v151_r0 arg26_r0
  let c64_i32_150_r0 : BitVec 32 := 64#32
  let v153_r0 : BitVec 1 := Scalar.cmpi .eq v152_r0 c64_i32_150_r0
  let c0_i32_151_r0 : BitVec 32 := 0#32
  let v154_r0 : BitVec 32 := Scalar.select v153_r0 c0_i32_151_r0 v152_r0
  let c0_i32_152_r0 : BitVec 32 := 0#32
  let v155_r0 : BitVec 32 := Scalar.addi v154_r0 c0_i32_152_r0
  let v410_r0 : BitVec 1 := Scalar.cmpi .ne v145_r0 v155_r0
  let c0_i32_108_r0 : BitVec 32 := 0#32
  let c1_i32_110_r0 : BitVec 32 := 1#32
  let arg11_r0 : BitVec 32 := Scf.iv c0_i32_108_r0 c1_i32_110_r0 k0_t1
  let c63_i32_141_r0 : BitVec 32 := 63#32
  let v144_r0 : BitVec 1 := Scalar.cmpi .eq arg11_r0 c63_i32_141_r0
  let v411_r0 : BitVec 1 := Scalar.ori v410_r0 v144_r0
  let v412_r0 : BitVec 32 := Scalar.extui v411_r0
  let c0_i32_267_r0 : BitVec 32 := 0#32
  let v413_r0 : BitVec 1 := Scalar.cmpi .ne v412_r0 c0_i32_267_r0
  v413_r0

def k0_off66 (arg26_r0 : BitVec 32) : Fin 2 → Nat :=
  let c1024_i32_303_r0 : BitVec 32 := 1024#32
  let c0_i32_142_r0 : BitVec 32 := 0#32
  let v145_r0 : BitVec 32 := Scalar.addi arg26_r0 c0_i32_142_r0
  let v490_r0 : BitVec 32 := Scalar.muli c1024_i32_303_r0 v145_r0
  let c0_i32_304_r0 : BitVec 32 := 0#32
  ![v490_r0.toNat, 0]
def k0_off67 (arg24_r0 : BitVec 32) : Fin 3 → Nat :=
  let c2_i32_302_r0 : BitVec 32 := 2#32
  let v489_r0 : BitVec 32 := Scalar.remui arg24_r0 c2_i32_302_r0
  let c0_i32_305_r0 : BitVec 32 := 0#32
  let c0_i32_306_r0 : BitVec 32 := 0#32
  ![v489_r0.toNat, 0, 0]
def k0_off68 (arg25_r0 : BitVec 32) : Fin 1 → Nat :=
  let c2_i32_302_r0 : BitVec 32 := 2#32
  let v489_r0 : BitVec 32 := Scalar.remui arg25_r0 c2_i32_302_r0
  ![v489_r0.toNat]
def k0_cond33 (k0_t1 : Fin k0_t1_loop.trips) (arg26_r0 : BitVec 32) : BitVec 1 :=
  let c0_i32_142_r0 : BitVec 32 := 0#32
  let v145_r0 : BitVec 32 := Scalar.addi arg26_r0 c0_i32_142_r0
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v453_r0 : BitVec 1 := Scalar.cmpi .ne v145_r0 v150_r0
  let c0_i32_108_r0 : BitVec 32 := 0#32
  let c1_i32_110_r0 : BitVec 32 := 1#32
  let arg11_r0 : BitVec 32 := Scf.iv c0_i32_108_r0 c1_i32_110_r0 k0_t1
  let c0_i32_140_r0 : BitVec 32 := 0#32
  let v143_r0 : BitVec 1 := Scalar.cmpi .eq arg11_r0 c0_i32_140_r0
  let true_288_r0 : BitVec 1 := 1#1
  let v454_r0 : BitVec 1 := Scalar.xori v143_r0 true_288_r0
  let v455_r0 : BitVec 1 := Scalar.andi v453_r0 v454_r0
  let v456_r0 : BitVec 32 := Scalar.extui v455_r0
  let c0_i32_289_r0 : BitVec 32 := 0#32
  let v457_r0 : BitVec 1 := Scalar.cmpi .ne v456_r0 c0_i32_289_r0
  v457_r0

def k0_off69 (arg26_r0 : BitVec 32) : Fin 2 → Nat :=
  let c1024_i32_303_r0 : BitVec 32 := 1024#32
  let true_144_r0 : BitVec 1 := 1#1
  let c1_i32_143_r0 : BitVec 32 := 1#32
  let v146_r0 : BitVec 32 := Scalar.subi arg26_r0 c1_i32_143_r0
  let v147_r0 : BitVec 32 := Scalar.select true_144_r0 v146_r0 arg26_r0
  let c_m1_i32_145_r0 : BitVec 32 := 4294967295#32
  let v148_r0 : BitVec 1 := Scalar.cmpi .eq v147_r0 c_m1_i32_145_r0
  let c63_i32_146_r0 : BitVec 32 := 63#32
  let v149_r0 : BitVec 32 := Scalar.select v148_r0 c63_i32_146_r0 v147_r0
  let c0_i32_147_r0 : BitVec 32 := 0#32
  let v150_r0 : BitVec 32 := Scalar.addi v149_r0 c0_i32_147_r0
  let v490_r0 : BitVec 32 := Scalar.muli c1024_i32_303_r0 v150_r0
  let c0_i32_304_r0 : BitVec 32 := 0#32
  ![v490_r0.toNat, 0]
def k0_off70 (arg25_r0 : BitVec 32) : Fin 3 → Nat :=
  let c2_i32_302_r0 : BitVec 32 := 2#32
  let v489_r0 : BitVec 32 := Scalar.remui arg25_r0 c2_i32_302_r0
  let c0_i32_305_r0 : BitVec 32 := 0#32
  let c0_i32_306_r0 : BitVec 32 := 0#32
  ![v489_r0.toNat, 0, 0]

def k0_chk1_0 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  (∀ (k0_h7 : k0_cond7 k0_t1 arg26_r0 = 1#1), ∀ a, (k0_off22 arg12_r0) a + S1.size a ≤ S3.size a) ∧
  (∀ (k0_h7 : k0_cond7 k0_t1 arg26_r0 = 1#1), ∀ a, (k0_off23 arg12_r0) a + S1x1024x512.size a ≤ S3x1024x512.size a) ∧
  (∀ (k0_h7 : k0_cond7 k0_t1 arg26_r0 = 1#1), ∀ a, (k0_off24 arg26_r0) a + S1024x512.size a ≤ S65536x512.size a) ∧
  (∀ (k0_h7 : k0_cond7 k0_t1 arg26_r0 = 1#1), ∀ (hinb : ∀ a, (k0_off24 arg26_r0) a + S1024x512.size a ≤ S65536x512.size a), (Rect.unit (s := S65536x512) (k0_off24 arg26_r0) S1024x512.size hinb).WholeWords (EltTy.packing .bf16)) ∧
  (∀ (k0_h7 : k0_cond7 k0_t1 arg26_r0 = 1#1), ∀ (hinb : ∀ a, (k0_off23 arg12_r0) a + S1x1024x512.size a ≤ S3x1024x512.size a), (Rect.unit (s := S3x1024x512) (k0_off23 arg12_r0) S1x1024x512.size hinb).WholeWords (EltTy.packing .bf16)) ∧
  (∀ (k0_h8 : k0_cond8 k0_t1 arg26_r0 = 1#1), ∀ a, (k0_off25 arg14_r0) a + S1.size a ≤ S3.size a) ∧
  (∀ (k0_h8 : k0_cond8 k0_t1 arg26_r0 = 1#1), ∀ a, (k0_off26 arg14_r0) a + S1x1024x512.size a ≤ S3x1024x512.size a) ∧
  (∀ (k0_h8 : k0_cond8 k0_t1 arg26_r0 = 1#1), ∀ a, (k0_off27 arg26_r0) a + S1024x512.size a ≤ S65536x512.size a) ∧
  (∀ (k0_h8 : k0_cond8 k0_t1 arg26_r0 = 1#1), ∀ (hinb : ∀ a, (k0_off27 arg26_r0) a + S1024x512.size a ≤ S65536x512.size a), (Rect.unit (s := S65536x512) (k0_off27 arg26_r0) S1024x512.size hinb).WholeWords (EltTy.packing .bf16)) ∧
  (∀ (k0_h8 : k0_cond8 k0_t1 arg26_r0 = 1#1), ∀ (hinb : ∀ a, (k0_off26 arg14_r0) a + S1x1024x512.size a ≤ S3x1024x512.size a), (Rect.unit (s := S3x1024x512) (k0_off26 arg14_r0) S1x1024x512.size hinb).WholeWords (EltTy.packing .bf16)) ∧
  (∀ (k0_h9 : k0_cond9 k0_t1 arg26_r0 = 1#1), ∀ a, (k0_off28 arg16_r0) a + S1.size a ≤ S3.size a) ∧
  (∀ (k0_h9 : k0_cond9 k0_t1 arg26_r0 = 1#1), ∀ a, (k0_off29 arg16_r0) a + S1x1024x512.size a ≤ S3x1024x512.size a) ∧
  (∀ (k0_h9 : k0_cond9 k0_t1 arg26_r0 = 1#1), ∀ a, (k0_off30 arg26_r0) a + S1024x512.size a ≤ S65536x512.size a) ∧
  (∀ (k0_h9 : k0_cond9 k0_t1 arg26_r0 = 1#1), ∀ (hinb : ∀ a, (k0_off30 arg26_r0) a + S1024x512.size a ≤ S65536x512.size a), (Rect.unit (s := S65536x512) (k0_off30 arg26_r0) S1024x512.size hinb).WholeWords (EltTy.packing .bf16)) ∧
  (∀ (k0_h9 : k0_cond9 k0_t1 arg26_r0 = 1#1), ∀ (hinb : ∀ a, (k0_off29 arg16_r0) a + S1x1024x512.size a ≤ S3x1024x512.size a), (Rect.unit (s := S3x1024x512) (k0_off29 arg16_r0) S1x1024x512.size hinb).WholeWords (EltTy.packing .bf16)) ∧
  (∀ (k0_h10 : k0_cond10 k0_t1 arg26_r0 = 1#1), ∀ a, (k0_off31 arg18_r0) a + S1.size a ≤ S3.size a) ∧
  (∀ (k0_h10 : k0_cond10 k0_t1 arg26_r0 = 1#1), ∀ a, (k0_off32 arg18_r0) a + S1x1024x1024.size a ≤ S3x1024x1024.size a) ∧
  (∀ (k0_h10 : k0_cond10 k0_t1 arg26_r0 = 1#1), ∀ a, (k0_off33 arg26_r0) a + S1024x1024.size a ≤ S65536x1024.size a) ∧
  (∀ (k0_h10 : k0_cond10 k0_t1 arg26_r0 = 1#1), ∀ (hinb : ∀ a, (k0_off33 arg26_r0) a + S1024x1024.size a ≤ S65536x1024.size a), (Rect.unit (s := S65536x1024) (k0_off33 arg26_r0) S1024x1024.size hinb).WholeWords (EltTy.packing .bf16)) ∧
  (∀ (k0_h10 : k0_cond10 k0_t1 arg26_r0 = 1#1), ∀ (hinb : ∀ a, (k0_off32 arg18_r0) a + S1x1024x1024.size a ≤ S3x1024x1024.size a), (Rect.unit (s := S3x1024x1024) (k0_off32 arg18_r0) S1x1024x1024.size hinb).WholeWords (EltTy.packing .bf16)) ∧
  (∀ (k0_h11 : k0_cond11 k0_t1 arg26_r0 = 1#1), ∀ a, (k0_off34 arg20_r0) a + S1.size a ≤ S3.size a) ∧
  (∀ (k0_h11 : k0_cond11 k0_t1 arg26_r0 = 1#1), ∀ a, (k0_off35 arg20_r0) a + S1x1024x1024.size a ≤ S3x1024x1024.size a) ∧
  (∀ (k0_h11 : k0_cond11 k0_t1 arg26_r0 = 1#1), ∀ a, (k0_off36 arg26_r0) a + S1024x1024.size a ≤ S65536x1024.size a) ∧
  (∀ (k0_h11 : k0_cond11 k0_t1 arg26_r0 = 1#1), ∀ (hinb : ∀ a, (k0_off36 arg26_r0) a + S1024x1024.size a ≤ S65536x1024.size a), (Rect.unit (s := S65536x1024) (k0_off36 arg26_r0) S1024x1024.size hinb).WholeWords (EltTy.packing .bf16)) ∧
  (∀ (k0_h11 : k0_cond11 k0_t1 arg26_r0 = 1#1), ∀ (hinb : ∀ a, (k0_off35 arg20_r0) a + S1x1024x1024.size a ≤ S3x1024x1024.size a), (Rect.unit (s := S3x1024x1024) (k0_off35 arg20_r0) S1x1024x1024.size hinb).WholeWords (EltTy.packing .bf16)) ∧
  (∀ (k0_h12 : k0_cond12 k0_t1 arg26_r0 = 1#1), ∀ a, (k0_off37 arg22_r0) a + S1.size a ≤ S3.size a) ∧
  (∀ (k0_h12 : k0_cond12 k0_t1 arg26_r0 = 1#1), ∀ a, (k0_off38 arg22_r0) a + S1x1024x1024.size a ≤ S3x1024x1024.size a) ∧
  (∀ (k0_h12 : k0_cond12 k0_t1 arg26_r0 = 1#1), ∀ a, (k0_off39 arg26_r0) a + S1024x1024.size a ≤ S65536x1024.size a) ∧
  (∀ (k0_h13 : k0_cond13 k0_t1 arg26_r0 = 1#1), ∀ a, (k0_off40 arg13_r0) a + S1.size a ≤ S3.size a) ∧
  (∀ (k0_h13 : k0_cond13 k0_t1 arg26_r0 = 1#1), ∀ a, (k0_off41 arg13_r0) a + S1x1024x512.size a ≤ S3x1024x512.size a) ∧
  (∀ (k0_h13 : k0_cond13 k0_t1 arg26_r0 = 1#1), ∀ a, (k0_off42 arg26_r0) a + S1024x512.size a ≤ S65536x512.size a) ∧
  (∀ (k0_h13 : k0_cond13 k0_t1 arg26_r0 = 1#1), ∀ (hinb : ∀ a, (k0_off42 arg26_r0) a + S1024x512.size a ≤ S65536x512.size a), (Rect.unit (s := S65536x512) (k0_off42 arg26_r0) S1024x512.size hinb).WholeWords (EltTy.packing .bf16))
def k0_chk1_1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  (∀ (k0_h13 : k0_cond13 k0_t1 arg26_r0 = 1#1), ∀ (hinb : ∀ a, (k0_off41 arg13_r0) a + S1x1024x512.size a ≤ S3x1024x512.size a), (Rect.unit (s := S3x1024x512) (k0_off41 arg13_r0) S1x1024x512.size hinb).WholeWords (EltTy.packing .bf16)) ∧
  (∀ (k0_h14 : k0_cond14 k0_t1 arg26_r0 = 1#1), ∀ a, (k0_off43 arg15_r0) a + S1.size a ≤ S3.size a) ∧
  (∀ (k0_h14 : k0_cond14 k0_t1 arg26_r0 = 1#1), ∀ a, (k0_off44 arg15_r0) a + S1x1024x512.size a ≤ S3x1024x512.size a) ∧
  (∀ (k0_h14 : k0_cond14 k0_t1 arg26_r0 = 1#1), ∀ a, (k0_off45 arg26_r0) a + S1024x512.size a ≤ S65536x512.size a) ∧
  (∀ (k0_h14 : k0_cond14 k0_t1 arg26_r0 = 1#1), ∀ (hinb : ∀ a, (k0_off45 arg26_r0) a + S1024x512.size a ≤ S65536x512.size a), (Rect.unit (s := S65536x512) (k0_off45 arg26_r0) S1024x512.size hinb).WholeWords (EltTy.packing .bf16)) ∧
  (∀ (k0_h14 : k0_cond14 k0_t1 arg26_r0 = 1#1), ∀ (hinb : ∀ a, (k0_off44 arg15_r0) a + S1x1024x512.size a ≤ S3x1024x512.size a), (Rect.unit (s := S3x1024x512) (k0_off44 arg15_r0) S1x1024x512.size hinb).WholeWords (EltTy.packing .bf16)) ∧
  (∀ (k0_h15 : k0_cond15 k0_t1 arg26_r0 = 1#1), ∀ a, (k0_off46 arg17_r0) a + S1.size a ≤ S3.size a) ∧
  (∀ (k0_h15 : k0_cond15 k0_t1 arg26_r0 = 1#1), ∀ a, (k0_off47 arg17_r0) a + S1x1024x512.size a ≤ S3x1024x512.size a) ∧
  (∀ (k0_h15 : k0_cond15 k0_t1 arg26_r0 = 1#1), ∀ a, (k0_off48 arg26_r0) a + S1024x512.size a ≤ S65536x512.size a) ∧
  (∀ (k0_h15 : k0_cond15 k0_t1 arg26_r0 = 1#1), ∀ (hinb : ∀ a, (k0_off48 arg26_r0) a + S1024x512.size a ≤ S65536x512.size a), (Rect.unit (s := S65536x512) (k0_off48 arg26_r0) S1024x512.size hinb).WholeWords (EltTy.packing .bf16)) ∧
  (∀ (k0_h15 : k0_cond15 k0_t1 arg26_r0 = 1#1), ∀ (hinb : ∀ a, (k0_off47 arg17_r0) a + S1x1024x512.size a ≤ S3x1024x512.size a), (Rect.unit (s := S3x1024x512) (k0_off47 arg17_r0) S1x1024x512.size hinb).WholeWords (EltTy.packing .bf16)) ∧
  (∀ (k0_h16 : k0_cond16 k0_t1 arg26_r0 = 1#1), ∀ a, (k0_off49 arg19_r0) a + S1.size a ≤ S3.size a) ∧
  (∀ (k0_h16 : k0_cond16 k0_t1 arg26_r0 = 1#1), ∀ a, (k0_off50 arg19_r0) a + S1x1024x1024.size a ≤ S3x1024x1024.size a) ∧
  (∀ (k0_h16 : k0_cond16 k0_t1 arg26_r0 = 1#1), ∀ a, (k0_off51 arg26_r0) a + S1024x1024.size a ≤ S65536x1024.size a) ∧
  (∀ (k0_h16 : k0_cond16 k0_t1 arg26_r0 = 1#1), ∀ (hinb : ∀ a, (k0_off51 arg26_r0) a + S1024x1024.size a ≤ S65536x1024.size a), (Rect.unit (s := S65536x1024) (k0_off51 arg26_r0) S1024x1024.size hinb).WholeWords (EltTy.packing .bf16)) ∧
  (∀ (k0_h16 : k0_cond16 k0_t1 arg26_r0 = 1#1), ∀ (hinb : ∀ a, (k0_off50 arg19_r0) a + S1x1024x1024.size a ≤ S3x1024x1024.size a), (Rect.unit (s := S3x1024x1024) (k0_off50 arg19_r0) S1x1024x1024.size hinb).WholeWords (EltTy.packing .bf16)) ∧
  (∀ (k0_h17 : k0_cond17 k0_t1 arg26_r0 = 1#1), ∀ a, (k0_off52 arg21_r0) a + S1.size a ≤ S3.size a) ∧
  (∀ (k0_h17 : k0_cond17 k0_t1 arg26_r0 = 1#1), ∀ a, (k0_off53 arg21_r0) a + S1x1024x1024.size a ≤ S3x1024x1024.size a) ∧
  (∀ (k0_h17 : k0_cond17 k0_t1 arg26_r0 = 1#1), ∀ a, (k0_off54 arg26_r0) a + S1024x1024.size a ≤ S65536x1024.size a) ∧
  (∀ (k0_h17 : k0_cond17 k0_t1 arg26_r0 = 1#1), ∀ (hinb : ∀ a, (k0_off54 arg26_r0) a + S1024x1024.size a ≤ S65536x1024.size a), (Rect.unit (s := S65536x1024) (k0_off54 arg26_r0) S1024x1024.size hinb).WholeWords (EltTy.packing .bf16)) ∧
  (∀ (k0_h17 : k0_cond17 k0_t1 arg26_r0 = 1#1), ∀ (hinb : ∀ a, (k0_off53 arg21_r0) a + S1x1024x1024.size a ≤ S3x1024x1024.size a), (Rect.unit (s := S3x1024x1024) (k0_off53 arg21_r0) S1x1024x1024.size hinb).WholeWords (EltTy.packing .bf16)) ∧
  (∀ (k0_h18 : k0_cond18 k0_t1 arg26_r0 = 1#1), ∀ a, (k0_off55 arg23_r0) a + S1.size a ≤ S3.size a) ∧
  (∀ (k0_h18 : k0_cond18 k0_t1 arg26_r0 = 1#1), ∀ a, (k0_off56 arg23_r0) a + S1x1024x1024.size a ≤ S3x1024x1024.size a) ∧
  (∀ (k0_h18 : k0_cond18 k0_t1 arg26_r0 = 1#1), ∀ a, (k0_off57 arg26_r0) a + S1024x1024.size a ≤ S65536x1024.size a) ∧
  (∀ (k0_h26 : k0_cond26 k0_t1 arg26_r0 = 1#1), ∀ a, (k0_off65 arg24_r0) a + S1.size a ≤ S2.size a) ∧
  (∀ (k0_h26 : k0_cond26 k0_t1 arg26_r0 = 1#1), ∀ a, (k0_off66 arg26_r0) a + S1024x1024.size a ≤ S65536x1024.size a) ∧
  (∀ (k0_h26 : k0_cond26 k0_t1 arg26_r0 = 1#1), ∀ a, (k0_off67 arg24_r0) a + S1x1024x1024.size a ≤ S2x1024x1024.size a) ∧
  (∀ (k0_h33 : k0_cond33 k0_t1 arg26_r0 = 1#1), ∀ a, (k0_off68 arg25_r0) a + S1.size a ≤ S2.size a) ∧
  (∀ (k0_h33 : k0_cond33 k0_t1 arg26_r0 = 1#1), ∀ a, (k0_off69 arg26_r0) a + S1024x1024.size a ≤ S65536x1024.size a) ∧
  (∀ (k0_h33 : k0_cond33 k0_t1 arg26_r0 = 1#1), ∀ a, (k0_off70 arg25_r0) a + S1x1024x1024.size a ≤ S2x1024x1024.size a)
def k0_chk1 (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) : Prop :=
  k0_chk1_0 k0_t1 arg12_r0 arg13_r0 arg14_r0 arg15_r0 arg16_r0 arg17_r0 arg18_r0 arg19_r0 arg20_r0 arg21_r0 arg22_r0 arg23_r0 arg24_r0 arg25_r0 arg26_r0 ∧
  k0_chk1_1 k0_t1 arg12_r0 arg13_r0 arg14_r0 arg15_r0 arg16_r0 arg17_r0 arg18_r0 arg19_r0 arg20_r0 arg21_r0 arg22_r0 arg23_r0 arg24_r0 arg25_r0 arg26_r0
theorem k0_off22_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h7 : k0_cond7 k0_t1 arg26_r0 = 1#1), ∀ a, (k0_off22 arg12_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h7 => k0_hw1.1.1 k0_h7
theorem k0_off23_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h7 : k0_cond7 k0_t1 arg26_r0 = 1#1), ∀ a, (k0_off23 arg12_r0) a + S1x1024x512.size a ≤ S3x1024x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h7 => k0_hw1.1.2.1 k0_h7
theorem k0_off24_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h7 : k0_cond7 k0_t1 arg26_r0 = 1#1), ∀ a, (k0_off24 arg26_r0) a + S1024x512.size a ≤ S65536x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h7 => k0_hw1.1.2.2.1 k0_h7
theorem k0_off24_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h7 : k0_cond7 k0_t1 arg26_r0 = 1#1), (Rect.unit (s := S65536x512) (k0_off24 arg26_r0) S1024x512.size (k0_off24_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h7)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h7 => k0_hw1.1.2.2.2.1 k0_h7 (k0_off24_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h7)
theorem k0_off23_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h7 : k0_cond7 k0_t1 arg26_r0 = 1#1), (Rect.unit (s := S3x1024x512) (k0_off23 arg12_r0) S1x1024x512.size (k0_off23_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h7)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h7 => k0_hw1.1.2.2.2.2.1 k0_h7 (k0_off23_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h7)
theorem k0_off25_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h8 : k0_cond8 k0_t1 arg26_r0 = 1#1), ∀ a, (k0_off25 arg14_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h8 => k0_hw1.1.2.2.2.2.2.1 k0_h8
theorem k0_off26_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h8 : k0_cond8 k0_t1 arg26_r0 = 1#1), ∀ a, (k0_off26 arg14_r0) a + S1x1024x512.size a ≤ S3x1024x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h8 => k0_hw1.1.2.2.2.2.2.2.1 k0_h8
theorem k0_off27_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h8 : k0_cond8 k0_t1 arg26_r0 = 1#1), ∀ a, (k0_off27 arg26_r0) a + S1024x512.size a ≤ S65536x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h8 => k0_hw1.1.2.2.2.2.2.2.2.1 k0_h8
theorem k0_off27_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h8 : k0_cond8 k0_t1 arg26_r0 = 1#1), (Rect.unit (s := S65536x512) (k0_off27 arg26_r0) S1024x512.size (k0_off27_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h8)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h8 => k0_hw1.1.2.2.2.2.2.2.2.2.1 k0_h8 (k0_off27_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h8)
theorem k0_off26_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h8 : k0_cond8 k0_t1 arg26_r0 = 1#1), (Rect.unit (s := S3x1024x512) (k0_off26 arg14_r0) S1x1024x512.size (k0_off26_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h8)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h8 => k0_hw1.1.2.2.2.2.2.2.2.2.2.1 k0_h8 (k0_off26_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h8)
theorem k0_off28_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), ∀ a, (k0_off28 arg16_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.1 k0_h9
theorem k0_off29_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), ∀ a, (k0_off29 arg16_r0) a + S1x1024x512.size a ≤ S3x1024x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.1 k0_h9
theorem k0_off30_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), ∀ a, (k0_off30 arg26_r0) a + S1024x512.size a ≤ S65536x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.2.1 k0_h9
theorem k0_off30_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), (Rect.unit (s := S65536x512) (k0_off30 arg26_r0) S1024x512.size (k0_off30_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h9)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.2.2.1 k0_h9 (k0_off30_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h9)
theorem k0_off29_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h9 : k0_cond9 k0_t1 arg26_r0 = 1#1), (Rect.unit (s := S3x1024x512) (k0_off29 arg16_r0) S1x1024x512.size (k0_off29_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h9)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h9 => k0_hw1.1.2.2.2.2.2.2.2.2.2.2.2.2.2.2.1 k0_h9 (k0_off29_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h9)
theorem k0_off31_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), ∀ a, (k0_off31 arg18_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.1 k0_h10
theorem k0_off32_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), ∀ a, (k0_off32 arg18_r0) a + S1x1024x1024.size a ≤ S3x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.2.1 k0_h10
theorem k0_off33_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), ∀ a, (k0_off33 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.2.2.1 k0_h10
theorem k0_off33_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), (Rect.unit (s := S65536x1024) (k0_off33 arg26_r0) S1024x1024.size (k0_off33_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h10)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.2.2.2.1 k0_h10 (k0_off33_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h10)
theorem k0_off32_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h10 : k0_cond10 k0_t1 arg26_r0 = 1#1), (Rect.unit (s := S3x1024x1024) (k0_off32 arg18_r0) S1x1024x1024.size (k0_off32_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h10)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h10 => k0_hw1.1.2.2.2.2.2.2.2.2.2.2.2.2.2.2.2.2.2.2.2.1 k0_h10 (k0_off32_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h10)
theorem k0_off34_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), ∀ a, (k0_off34 arg20_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.2.2.1 k0_h11
theorem k0_off35_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), ∀ a, (k0_off35 arg20_r0) a + S1x1024x1024.size a ≤ S3x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.2.2.2.1 k0_h11
theorem k0_off36_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), ∀ a, (k0_off36 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.2.2.2.2.1 k0_h11
theorem k0_off36_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), (Rect.unit (s := S65536x1024) (k0_off36 arg26_r0) S1024x1024.size (k0_off36_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h11)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.2.2.2.2.2.1 k0_h11 (k0_off36_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h11)
theorem k0_off35_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h11 : k0_cond11 k0_t1 arg26_r0 = 1#1), (Rect.unit (s := S3x1024x1024) (k0_off35 arg20_r0) S1x1024x1024.size (k0_off35_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h11)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h11 => k0_hw1.1.2.2.2.2.2.2.2.2.2.2.2.2.2.2.2.2.2.2.2.2.2.2.2.2.1 k0_h11 (k0_off35_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h11)
theorem k0_off37_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h12 : k0_cond12 k0_t1 arg26_r0 = 1#1), ∀ a, (k0_off37 arg22_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h12 => k0_hw1.1.2.2.2.2.2.2.2.2.2.2.2.2.2.2.2.2.2.2.2.2.2.2.2.2.2.1 k0_h12
theorem k0_off38_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h12 : k0_cond12 k0_t1 arg26_r0 = 1#1), ∀ a, (k0_off38 arg22_r0) a + S1x1024x1024.size a ≤ S3x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h12 => k0_hw1.1.2.2.2.2.2.2.2.2.2.2.2.2.2.2.2.2.2.2.2.2.2.2.2.2.2.2.1 k0_h12
theorem k0_off39_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h12 : k0_cond12 k0_t1 arg26_r0 = 1#1), ∀ a, (k0_off39 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h12 => k0_hw1.1.2.2.2.2.2.2.2.2.2.2.2.2.2.2.2.2.2.2.2.2.2.2.2.2.2.2.2.1 k0_h12
theorem k0_off40_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), ∀ a, (k0_off40 arg13_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.2.2.2.2.2.1 k0_h13
theorem k0_off41_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), ∀ a, (k0_off41 arg13_r0) a + S1x1024x512.size a ≤ S3x1024x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.2.2.2.2.2.2.1 k0_h13
theorem k0_off42_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), ∀ a, (k0_off42 arg26_r0) a + S1024x512.size a ≤ S65536x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.2.2.2.2.2.2.2.1 k0_h13
theorem k0_off42_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), (Rect.unit (s := S65536x512) (k0_off42 arg26_r0) S1024x512.size (k0_off42_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h13)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h13 => k0_hw1.1.2.2.2.2.2.2.2.2.2.2.2.2.2.2.2.2.2.2.2.2.2.2.2.2.2.2.2.2.2.2.2 k0_h13 (k0_off42_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h13)
theorem k0_off41_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h13 : k0_cond13 k0_t1 arg26_r0 = 1#1), (Rect.unit (s := S3x1024x512) (k0_off41 arg13_r0) S1x1024x512.size (k0_off41_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h13)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h13 => k0_hw1.2.1 k0_h13 (k0_off41_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h13)
theorem k0_off43_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h14 : k0_cond14 k0_t1 arg26_r0 = 1#1), ∀ a, (k0_off43 arg15_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h14 => k0_hw1.2.2.1 k0_h14
theorem k0_off44_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h14 : k0_cond14 k0_t1 arg26_r0 = 1#1), ∀ a, (k0_off44 arg15_r0) a + S1x1024x512.size a ≤ S3x1024x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h14 => k0_hw1.2.2.2.1 k0_h14
theorem k0_off45_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h14 : k0_cond14 k0_t1 arg26_r0 = 1#1), ∀ a, (k0_off45 arg26_r0) a + S1024x512.size a ≤ S65536x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h14 => k0_hw1.2.2.2.2.1 k0_h14
theorem k0_off45_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h14 : k0_cond14 k0_t1 arg26_r0 = 1#1), (Rect.unit (s := S65536x512) (k0_off45 arg26_r0) S1024x512.size (k0_off45_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h14)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h14 => k0_hw1.2.2.2.2.2.1 k0_h14 (k0_off45_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h14)
theorem k0_off44_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h14 : k0_cond14 k0_t1 arg26_r0 = 1#1), (Rect.unit (s := S3x1024x512) (k0_off44 arg15_r0) S1x1024x512.size (k0_off44_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h14)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h14 => k0_hw1.2.2.2.2.2.2.1 k0_h14 (k0_off44_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h14)
theorem k0_off46_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), ∀ a, (k0_off46 arg17_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h15 => k0_hw1.2.2.2.2.2.2.2.1 k0_h15
theorem k0_off47_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), ∀ a, (k0_off47 arg17_r0) a + S1x1024x512.size a ≤ S3x1024x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h15 => k0_hw1.2.2.2.2.2.2.2.2.1 k0_h15
theorem k0_off48_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), ∀ a, (k0_off48 arg26_r0) a + S1024x512.size a ≤ S65536x512.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h15 => k0_hw1.2.2.2.2.2.2.2.2.2.1 k0_h15
theorem k0_off48_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), (Rect.unit (s := S65536x512) (k0_off48 arg26_r0) S1024x512.size (k0_off48_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h15)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h15 => k0_hw1.2.2.2.2.2.2.2.2.2.2.1 k0_h15 (k0_off48_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h15)
theorem k0_off47_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h15 : k0_cond15 k0_t1 arg26_r0 = 1#1), (Rect.unit (s := S3x1024x512) (k0_off47 arg17_r0) S1x1024x512.size (k0_off47_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h15)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h15 => k0_hw1.2.2.2.2.2.2.2.2.2.2.2.1 k0_h15 (k0_off47_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h15)
theorem k0_off49_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), ∀ a, (k0_off49 arg19_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h16 => k0_hw1.2.2.2.2.2.2.2.2.2.2.2.2.1 k0_h16
theorem k0_off50_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), ∀ a, (k0_off50 arg19_r0) a + S1x1024x1024.size a ≤ S3x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h16 => k0_hw1.2.2.2.2.2.2.2.2.2.2.2.2.2.1 k0_h16
theorem k0_off51_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), ∀ a, (k0_off51 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h16 => k0_hw1.2.2.2.2.2.2.2.2.2.2.2.2.2.2.1 k0_h16
theorem k0_off51_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), (Rect.unit (s := S65536x1024) (k0_off51 arg26_r0) S1024x1024.size (k0_off51_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h16)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h16 => k0_hw1.2.2.2.2.2.2.2.2.2.2.2.2.2.2.2.1 k0_h16 (k0_off51_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h16)
theorem k0_off50_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h16 : k0_cond16 k0_t1 arg26_r0 = 1#1), (Rect.unit (s := S3x1024x1024) (k0_off50 arg19_r0) S1x1024x1024.size (k0_off50_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h16)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h16 => k0_hw1.2.2.2.2.2.2.2.2.2.2.2.2.2.2.2.2.1 k0_h16 (k0_off50_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h16)
theorem k0_off52_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), ∀ a, (k0_off52 arg21_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h17 => k0_hw1.2.2.2.2.2.2.2.2.2.2.2.2.2.2.2.2.2.1 k0_h17
theorem k0_off53_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), ∀ a, (k0_off53 arg21_r0) a + S1x1024x1024.size a ≤ S3x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h17 => k0_hw1.2.2.2.2.2.2.2.2.2.2.2.2.2.2.2.2.2.2.1 k0_h17
theorem k0_off54_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), ∀ a, (k0_off54 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h17 => k0_hw1.2.2.2.2.2.2.2.2.2.2.2.2.2.2.2.2.2.2.2.1 k0_h17
theorem k0_off54_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), (Rect.unit (s := S65536x1024) (k0_off54 arg26_r0) S1024x1024.size (k0_off54_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h17)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h17 => k0_hw1.2.2.2.2.2.2.2.2.2.2.2.2.2.2.2.2.2.2.2.2.1 k0_h17 (k0_off54_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h17)
theorem k0_off53_wordsbf16 : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h17 : k0_cond17 k0_t1 arg26_r0 = 1#1), (Rect.unit (s := S3x1024x1024) (k0_off53 arg21_r0) S1x1024x1024.size (k0_off53_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h17)).WholeWords (EltTy.packing .bf16) := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h17 => k0_hw1.2.2.2.2.2.2.2.2.2.2.2.2.2.2.2.2.2.2.2.2.2.1 k0_h17 (k0_off53_inb k0_t1 arg12_r0 arg13_r0 arg14_r0 arg15_r0 arg16_r0 arg17_r0 arg18_r0 arg19_r0 arg20_r0 arg21_r0 arg22_r0 arg23_r0 arg24_r0 arg25_r0 arg26_r0 k0_hw1 k0_h17)
theorem k0_off55_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h18 : k0_cond18 k0_t1 arg26_r0 = 1#1), ∀ a, (k0_off55 arg23_r0) a + S1.size a ≤ S3.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h18 => k0_hw1.2.2.2.2.2.2.2.2.2.2.2.2.2.2.2.2.2.2.2.2.2.2.1 k0_h18
theorem k0_off56_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h18 : k0_cond18 k0_t1 arg26_r0 = 1#1), ∀ a, (k0_off56 arg23_r0) a + S1x1024x1024.size a ≤ S3x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h18 => k0_hw1.2.2.2.2.2.2.2.2.2.2.2.2.2.2.2.2.2.2.2.2.2.2.2.1 k0_h18
theorem k0_off57_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h18 : k0_cond18 k0_t1 arg26_r0 = 1#1), ∀ a, (k0_off57 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h18 => k0_hw1.2.2.2.2.2.2.2.2.2.2.2.2.2.2.2.2.2.2.2.2.2.2.2.2.1 k0_h18
theorem k0_off65_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h26 : k0_cond26 k0_t1 arg26_r0 = 1#1), ∀ a, (k0_off65 arg24_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h26 => k0_hw1.2.2.2.2.2.2.2.2.2.2.2.2.2.2.2.2.2.2.2.2.2.2.2.2.2.1 k0_h26
theorem k0_off66_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h26 : k0_cond26 k0_t1 arg26_r0 = 1#1), ∀ a, (k0_off66 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h26 => k0_hw1.2.2.2.2.2.2.2.2.2.2.2.2.2.2.2.2.2.2.2.2.2.2.2.2.2.2.1 k0_h26
theorem k0_off67_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h26 : k0_cond26 k0_t1 arg26_r0 = 1#1), ∀ a, (k0_off67 arg24_r0) a + S1x1024x1024.size a ≤ S2x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h26 => k0_hw1.2.2.2.2.2.2.2.2.2.2.2.2.2.2.2.2.2.2.2.2.2.2.2.2.2.2.2.1 k0_h26
theorem k0_off68_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h33 : k0_cond33 k0_t1 arg26_r0 = 1#1), ∀ a, (k0_off68 arg25_r0) a + S1.size a ≤ S2.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h33 => k0_hw1.2.2.2.2.2.2.2.2.2.2.2.2.2.2.2.2.2.2.2.2.2.2.2.2.2.2.2.2.1 k0_h33
theorem k0_off69_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h33 : k0_cond33 k0_t1 arg26_r0 = 1#1), ∀ a, (k0_off69 arg26_r0) a + S1024x1024.size a ≤ S65536x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h33 => k0_hw1.2.2.2.2.2.2.2.2.2.2.2.2.2.2.2.2.2.2.2.2.2.2.2.2.2.2.2.2.2.1 k0_h33
theorem k0_off70_inb : ∀ (k0_t1 : Fin k0_t1_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (k0_hw1 : k0_chk1 k0_t1 arg12_r0 arg13_r0 arg14_r0 arg15_r0 arg16_r0 arg17_r0 arg18_r0 arg19_r0 arg20_r0 arg21_r0 arg22_r0 arg23_r0 arg24_r0 arg25_r0 arg26_r0), ∀ (k0_h33 : k0_cond33 k0_t1 arg26_r0 = 1#1), ∀ a, (k0_off70 arg25_r0) a + S1x1024x1024.size a ≤ S2x1024x1024.size a := fun k0_t1 arg12_r0 arg13_r0 arg14_r0 arg15_r0 arg16_r0 arg17_r0 arg18_r0 arg19_r0 arg20_r0 arg21_r0 arg22_r0 arg23_r0 arg24_r0 arg25_r0 arg26_r0 k0_hw1 k0_h33 => k0_hw1.2.2.2.2.2.2.2.2.2.2.2.2.2.2.2.2.2.2.2.2.2.2.2.2.2.2.2.2.2.2 k0_h33

def k0_off71 (v110_13_r0 : BitVec 32) : Fin 1 → Nat :=
  let c2_i32_r0 : BitVec 32 := 2#32
  let v136_r0 : BitVec 32 := Scalar.remui v110_13_r0 c2_i32_r0
  ![v136_r0.toNat]

def k0_off72 (v110_14_r0 : BitVec 32) : Fin 2 → Nat :=
  let c1024_i32_r0 : BitVec 32 := 1024#32
  let true_113_r0 : BitVec 1 := 1#1
  let c1_i32_112_r0 : BitVec 32 := 1#32
  let v111_r0 : BitVec 32 := Scalar.subi v110_14_r0 c1_i32_112_r0
  let v112_r0 : BitVec 32 := Scalar.select true_113_r0 v111_r0 v110_14_r0
  let c_m1_i32_114_r0 : BitVec 32 := 4294967295#32
  let v113_r0 : BitVec 1 := Scalar.cmpi .eq v112_r0 c_m1_i32_114_r0
  let c63_i32_115_r0 : BitVec 32 := 63#32
  let v114_r0 : BitVec 32 := Scalar.select v113_r0 c63_i32_115_r0 v112_r0
  let c0_i32_116_r0 : BitVec 32 := 0#32
  let v115_r0 : BitVec 32 := Scalar.addi v114_r0 c0_i32_116_r0
  let v137_r0 : BitVec 32 := Scalar.muli c1024_i32_r0 v115_r0
  let c0_i32_137_r0 : BitVec 32 := 0#32
  ![v137_r0.toNat, 0]

def k0_chk10 (v110_14_r0 : BitVec 32) : Prop :=
  (∀ a, (k0_off72 v110_14_r0) a + S1024x1024.size a ≤ S65536x1024.size a)
theorem k0_off72_inb : ∀ (v110_14_r0 : BitVec 32) (k0_hw10 : k0_chk10 v110_14_r0), ∀ a, (k0_off72 v110_14_r0) a + S1024x1024.size a ≤ S65536x1024.size a := fun v110_14_r0 k0_hw10 => k0_hw10

def k0_off73 (v110_13_r0 : BitVec 32) : Fin 3 → Nat :=
  let c2_i32_r0 : BitVec 32 := 2#32
  let v136_r0 : BitVec 32 := Scalar.remui v110_13_r0 c2_i32_r0
  let c0_i32_138_r0 : BitVec 32 := 0#32
  let c0_i32_139_r0 : BitVec 32 := 0#32
  ![v136_r0.toNat, 0, 0]

def k0_chk9 (v110_13_r0 : BitVec 32) : Prop :=
  (∀ a, (k0_off71 v110_13_r0) a + S1.size a ≤ S2.size a) ∧
  (∀ a, (k0_off73 v110_13_r0) a + S1x1024x1024.size a ≤ S2x1024x1024.size a)
theorem k0_off71_inb : ∀ (v110_13_r0 : BitVec 32) (k0_hw9 : k0_chk9 v110_13_r0), ∀ a, (k0_off71 v110_13_r0) a + S1.size a ≤ S2.size a := fun v110_13_r0 k0_hw9 => k0_hw9.1
theorem k0_off73_inb : ∀ (v110_13_r0 : BitVec 32) (k0_hw9 : k0_chk9 v110_13_r0), ∀ a, (k0_off73 v110_13_r0) a + S1x1024x1024.size a ≤ S2x1024x1024.size a := fun v110_13_r0 k0_hw9 => k0_hw9.2

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S65536x512 : Shape := ⟨2, ![65536, 512]⟩
abbrev S65536x1024 : Shape := ⟨2, ![65536, 1024]⟩
abbrev S1x512 : Shape := ⟨2, ![1, 512]⟩
abbrev S1x512x1024 : Shape := ⟨3, ![1, 512, 1024]⟩
abbrev S1x1024x1024 : Shape := ⟨3, ![1, 1024, 1024]⟩
abbrev S65536x4x128 : Shape := ⟨3, ![65536, 4, 128]⟩
abbrev S512 : Shape := ⟨1, ![512]⟩
abbrev S4x128 : Shape := ⟨2, ![4, 128]⟩
abbrev S_ : Shape := ⟨0, ![]⟩
abbrev S65536x4 : Shape := ⟨2, ![65536, 4]⟩
abbrev S65536x4x1 : Shape := ⟨3, ![65536, 4, 1]⟩
abbrev S1x4x128 : Shape := ⟨3, ![1, 4, 128]⟩
abbrev S512x1024 : Shape := ⟨2, ![512, 1024]⟩
abbrev S1024x1024 : Shape := ⟨2, ![1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S65536x1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S65536x1024, .f32⟩
  | .hbm, ⟨14, _⟩ => ⟨S65536x1024, .f32⟩
  | .hbm, ⟨15, _⟩ => ⟨S65536x4x128, .f32⟩
  | .hbm, ⟨16, _⟩ => ⟨S512, .f32⟩
  | .hbm, ⟨17, _⟩ => ⟨S4x128, .f32⟩
  | .hbm, ⟨18, _⟩ => ⟨S65536x4x128, .f32⟩
  | .hbm, ⟨19, _⟩ => ⟨S_, .f32⟩
  | .hbm, ⟨20, _⟩ => ⟨S65536x4, .f32⟩
  | .hbm, ⟨21, _⟩ => ⟨S65536x4x1, .f32⟩
  | .hbm, ⟨22, _⟩ => ⟨S_, .f32⟩
  | .hbm, ⟨23, _⟩ => ⟨S65536x4x1, .f32⟩
  | .hbm, ⟨24, _⟩ => ⟨S65536x4x1, .f32⟩
  | .hbm, ⟨25, _⟩ => ⟨S_, .f32⟩
  | .hbm, ⟨26, _⟩ => ⟨S65536x4x1, .f32⟩
  | .hbm, ⟨27, _⟩ => ⟨S65536x4x1, .f32⟩
  | .hbm, ⟨28, _⟩ => ⟨S65536x4x1, .f32⟩
  | .hbm, ⟨29, _⟩ => ⟨S65536x4x128, .f32⟩
  | .hbm, ⟨30, _⟩ => ⟨S65536x4x128, .f32⟩
  | .hbm, ⟨31, _⟩ => ⟨S1x4x128, .f32⟩
  | .hbm, ⟨32, _⟩ => ⟨S65536x4x128, .f32⟩
  | .hbm, ⟨33, _⟩ => ⟨S65536x4x128, .f32⟩
  | .hbm, ⟨34, _⟩ => ⟨S65536x4x128, .f32⟩
  | .hbm, ⟨35, _⟩ => ⟨S65536x4x128, .f32⟩
  | .hbm, ⟨36, _⟩ => ⟨S65536x512, .f32⟩
  | .hbm, ⟨37, _⟩ => ⟨S512x1024, .f32⟩
  | .hbm, ⟨38, _⟩ => ⟨S65536x1024, .f32⟩
  | .hbm, ⟨39, _⟩ => ⟨S65536x1024, .f32⟩
  | .hbm, ⟨40, _⟩ => ⟨S512x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S1024x1024, .f32⟩
  | .hbm, ⟨45, _⟩ => ⟨S65536x1024, .f32⟩
  | .hbm, ⟨46, _⟩ => ⟨S65536x1024, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel2.lean ====
abbrev S65536x1024 : Shape := ⟨2, ![65536, 1024]⟩
abbrev S4096x1024 : Shape := ⟨2, ![4096, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S3x2816 : Shape := ⟨2, ![3, 2816]⟩
abbrev S_ : Shape := ⟨0, ![]⟩
abbrev S5x2816 : Shape := ⟨2, ![5, 2816]⟩
abbrev S8x2816 : Shape := ⟨2, ![8, 2816]⟩
abbrev S1024x2816 : Shape := ⟨2, ![1024, 2816]⟩
abbrev S2816 : Shape := ⟨1, ![2816]⟩
abbrev S2816x1024 : Shape := ⟨2, ![2816, 1024]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1024x1 : Shape := ⟨2, ![1024, 1]⟩
abbrev S1024x512 : Shape := ⟨2, ![1024, 512]⟩
abbrev S1040x512 : Shape := ⟨2, ![1040, 512]⟩
abbrev S1x512 : Shape := ⟨2, ![1, 512]⟩
abbrev S8x512 : Shape := ⟨2, ![8, 512]⟩
abbrev S512x1024 : Shape := ⟨2, ![512, 1024]⟩
abbrev S1024x256 : Shape := ⟨2, ![1024, 256]⟩
abbrev S1040x256 : Shape := ⟨2, ![1040, 256]⟩
abbrev S1x256 : Shape := ⟨2, ![1, 256]⟩
abbrev S8x256 : Shape := ⟨2, ![8, 256]⟩
abbrev S256x1024 : Shape := ⟨2, ![256, 1024]⟩

abbrev nBuf : Space → Nat
  | .hbm => 25
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S3x2816, .f32⟩
  | .hbm, ⟨10, _⟩ => ⟨S_, .f32⟩
  | .hbm, ⟨11, _⟩ => ⟨S5x2816, .f32⟩
  | .hbm, ⟨12, _⟩ => ⟨S8x2816, .f32⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816, .f32⟩
  | .hbm, ⟨20, _⟩ => ⟨S1x2816, .f32⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S8x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c2_i32_4 : BitVec 32 := 2#32
  let v18 : BitVec 32 := Scalar.addi v17 c2_i32_4
  let c1_i32_5 : BitVec 32 := 1#32
  let v19 : BitVec 32 := Scalar.subi v18 c1_i32_5
  let c0_i32_6 : BitVec 32 := 0#32
  let c0_i32_7 : BitVec 32 := 0#32
  ![v19.toNat, c0_i32_6.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
abbrev S65536x1024 : Shape := ⟨2, ![65536, 1024]⟩
abbrev S4096x1024 : Shape := ⟨2, ![4096, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S3x2816 : Shape := ⟨2, ![3, 2816]⟩
abbrev S_ : Shape := ⟨0, ![]⟩
abbrev S5x2816 : Shape := ⟨2, ![5, 2816]⟩
abbrev S8x2816 : Shape := ⟨2, ![8, 2816]⟩
abbrev S1024x2816 : Shape := ⟨2, ![1024, 2816]⟩
abbrev S2816 : Shape := ⟨1, ![2816]⟩
abbrev S2816x1024 : Shape := ⟨2, ![2816, 1024]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1024x1 : Shape := ⟨2, ![1024, 1]⟩
abbrev S1024x512 : Shape := ⟨2, ![1024, 512]⟩
abbrev S1040x512 : Shape := ⟨2, ![1040, 512]⟩
abbrev S1x512 : Shape := ⟨2, ![1, 512]⟩
abbrev S8x512 : Shape := ⟨2, ![8, 512]⟩
abbrev S512x1024 : Shape := ⟨2, ![512, 1024]⟩
abbrev S1024x256 : Shape := ⟨2, ![1024, 256]⟩
abbrev S1040x256 : Shape := ⟨2, ![1040, 256]⟩
abbrev S1x256 : Shape := ⟨2, ![1, 256]⟩
abbrev S8x256 : Shape := ⟨2, ![8, 256]⟩
abbrev S256x1024 : Shape := ⟨2, ![256, 1024]⟩

abbrev nBuf : Space → Nat
  | .hbm => 25
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S3x2816, .f32⟩
  | .hbm, ⟨10, _⟩ => ⟨S_, .f32⟩
  | .hbm, ⟨11, _⟩ => ⟨S5x2816, .f32⟩
  | .hbm, ⟨12, _⟩ => ⟨S8x2816, .f32⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816, .f32⟩
  | .hbm, ⟨20, _⟩ => ⟨S1x2816, .f32⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S8x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let c2_i32_4 : BitVec 32 := 2#32
  let v18 : BitVec 32 := Scalar.addi v17 c2_i32_4
  let c1_i32_5 : BitVec 32 := 1#32
  let v19 : BitVec 32 := Scalar.subi v18 c1_i32_5
  let c0_i32_6 : BitVec 32 := 0#32
  let c0_i32_7 : BitVec 32 := 0#32
  ![v19.toNat, c0_i32_6.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S65536x1024 : Shape := ⟨2, ![65536, 1024]⟩
abbrev S4096x1024 : Shape := ⟨2, ![4096, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S32x128x1024 : Shape := ⟨3, ![32, 128, 1024]⟩
abbrev S32x16x1024 : Shape := ⟨3, ![32, 16, 1024]⟩
abbrev S32x2048x1024 : Shape := ⟨3, ![32, 2048, 1024]⟩
abbrev S32x2064x1024 : Shape := ⟨3, ![32, 2064, 1024]⟩
abbrev S_ : Shape := ⟨0, ![]⟩
abbrev S32x2064 : Shape := ⟨2, ![32, 2064]⟩
abbrev S32x2064x1 : Shape := ⟨3, ![32, 2064, 1]⟩
abbrev S1x1x1024 : Shape := ⟨3, ![1, 1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S32x2064x2816 : Shape := ⟨3, ![32, 2064, 2816]⟩
abbrev S32x2066x2816 : Shape := ⟨3, ![32, 2066, 2816]⟩
abbrev S1x1x2816 : Shape := ⟨3, ![1, 1, 2816]⟩

abbrev nBuf : Space → Nat
  | .hbm => 104
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S32x128x1024, .f32⟩
  | .hbm, ⟨10, _⟩ => ⟨S32x16x1024, .f32⟩
  | .hbm, ⟨11, _⟩ => ⟨S32x2048x1024, .f32⟩
  | .hbm, ⟨12, _⟩ => ⟨S32x2064x1024, .f32⟩
  | .hbm, ⟨13, _⟩ => ⟨S1024, .f32⟩
  | .hbm, ⟨14, _⟩ => ⟨S32x2064x1024, .f32⟩
  | .hbm, ⟨15, _⟩ => ⟨S_, .f32⟩
  | .hbm, ⟨16, _⟩ => ⟨S32x2064, .f32⟩
  | .hbm, ⟨17, _⟩ => ⟨S32x2064x1, .f32⟩
  | .hbm, ⟨18, _⟩ => ⟨S_, .f32⟩
  | .hbm, ⟨19, _⟩ => ⟨S32x2064x1, .f32⟩
  | .hbm, ⟨20, _⟩ => ⟨S32x2064x1, .f32⟩
  | .hbm, ⟨21, _⟩ => ⟨S_, .f32⟩
  | .hbm, ⟨22, _⟩ => ⟨S32x2064x1, .f32⟩
  | .hbm, ⟨23, _⟩ => ⟨S32x2064x1, .f32⟩
  | .hbm, ⟨24, _⟩ => ⟨S32x2064x1, .f32⟩
  | .hbm, ⟨25, _⟩ => ⟨S32x2064x1024, .f32⟩
  | .hbm, ⟨26, _⟩ => ⟨S32x2064x1024, .f32⟩
  | .hbm, ⟨27, _⟩ => ⟨S1x1x1024, .f32⟩
  | .hbm, ⟨28, _⟩ => ⟨S32x2064x1024, .f32⟩
  | .hbm, ⟨29, _⟩ => ⟨S32x2064x1024, .f32⟩
  | .hbm, ⟨30, _⟩ => ⟨S1024x2816, .f32⟩
  | .hbm, ⟨31, _⟩ => ⟨S1024x2816, .f32⟩
  | .hbm, ⟨32, _⟩ => ⟨S3x2816, .f32⟩
  | .hbm, ⟨33, _⟩ => ⟨S2816, .f32⟩
  | .hbm, ⟨34, _⟩ => ⟨S2816x1024, .f32⟩
  | .hbm, ⟨35, _⟩ => ⟨S32x2064x2816, .f32⟩
  | .hbm, ⟨36, _⟩ => ⟨S_, .i32⟩
  | .hbm, ⟨37, _⟩ => ⟨S_, .f32⟩
  | .hbm, ⟨38, _⟩ => ⟨S32x2066x2816, .f32⟩
  | .hbm, ⟨39, _⟩ => ⟨S32x2064x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S32x2064x2816, .f32⟩
  | .hbm, ⟨44, _⟩ => ⟨S32x2064x2816, .f32⟩
  | .hbm, ⟨45, _⟩ => ⟨S_, .f32⟩
  | .hbm, ⟨46, _⟩ => ⟨S32x2064x2816, .f32⟩
  | .hbm, ⟨47, _⟩ => ⟨S32x2064x2816, .f32⟩
  | .hbm, ⟨48, _⟩ => ⟨S32x2064x2816, .f32⟩
  | .hbm, ⟨49, _⟩ => ⟨S1x2816, .f32⟩
  | .hbm, ⟨50, _⟩ => ⟨S2816, .f32⟩
  | .hbm, ⟨51, _⟩ => ⟨S1x1x2816, .f32⟩
  | .hbm, ⟨52, _⟩ => ⟨S32x2064x2816, .f32⟩
  | .hbm, ⟨53, _⟩ => ⟨S32x2064x2816, .f32⟩
  | .hbm, ⟨54, _⟩ => ⟨S32x2064x2816, .f32⟩
  | .hbm, ⟨55, _⟩ => ⟨S32x2064x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S32x2064x2816, .f32⟩
  | .hbm, ⟨60, _⟩ => ⟨S32x2064x2816, .f32⟩
  | .hbm, ⟨61, _⟩ => ⟨S32x2064x2816, .f32⟩
  | .hbm, ⟨62, _⟩ => ⟨S1x1x2816, .f32⟩
  | .hbm, ⟨63, _⟩ => ⟨S32x2064x2816, .f32⟩
  | .hbm, ⟨64, _⟩ => ⟨S32x2064x2816, .f32⟩
  | .hbm, ⟨65, _⟩ => ⟨S32x2064x2816, .f32⟩
  | .hbm, ⟨66, _⟩ => ⟨S32x2064x2816, .f32⟩
  | .hbm, ⟨67, _⟩ => ⟨S_, .f32⟩
  | .hbm, ⟨68, _⟩ => ⟨S32x2064x2816, .f32⟩
  | .hbm, ⟨69, _⟩ => ⟨S32x2064x2816, .f32⟩
  | .hbm, ⟨70, _⟩ => ⟨S32x2064x2816, .f32⟩
  | .hbm, ⟨71, _⟩ => ⟨S_, .f32⟩
  | .hbm, ⟨72, _⟩ => ⟨S32x2064x2816, .f32⟩
  | .hbm, ⟨73, _⟩ => ⟨S32x2064x2816, .f32⟩
  | .hbm, ⟨74, _⟩ => ⟨S32x2064x2816, .f32⟩
  | .hbm, ⟨75, _⟩ => ⟨S_, .f32⟩
  | .hbm, ⟨76, _⟩ => ⟨S32x2064x2816, .f32⟩
  | .hbm, ⟨77, _⟩ => ⟨S32x2064x2816, .f32⟩
  | .hbm, ⟨78, _⟩ => ⟨S_, .f32⟩
  | .hbm, ⟨79, _⟩ => ⟨S32x2064x2816, .f32⟩
  | .hbm, ⟨80, _⟩ => ⟨S32x2064x2816, .f32⟩
  | .hbm, ⟨81, _⟩ => ⟨S32x2064x2816, .f32⟩
  | .hbm, ⟨82, _⟩ => ⟨S32x2064x2816, .f32⟩
  | .hbm, ⟨83, _⟩ => ⟨S32x2064x2816, .f32⟩
  | .hbm, ⟨84, _⟩ => ⟨S32x2064x1024, .f32⟩
  | .hbm, ⟨85, _⟩ => ⟨S32x2064x1024, .f32⟩
  | .hbm, ⟨86, _⟩ => ⟨S32x2064x1024, .f32⟩
  | .hbm, ⟨87, _⟩ => ⟨S_, .f32⟩
  | .hbm, ⟨88, _⟩ => ⟨S32x2064, .f32⟩
  | .hbm, ⟨89, _⟩ => ⟨S32x2064x1, .f32⟩
  | .hbm, ⟨90, _⟩ => ⟨S_, .f32⟩
  | .hbm, ⟨91, _⟩ => ⟨S32x2064x1, .f32⟩
  | .hbm, ⟨92, _⟩ => ⟨S32x2064x1, .f32⟩
  | .hbm, ⟨93, _⟩ => ⟨S_, .f32⟩
  | .hbm, ⟨94, _⟩ => ⟨S32x2064x1, .f32⟩
  | .hbm, ⟨95, _⟩ => ⟨S32x2064x1, .f32⟩
  | .hbm, ⟨96, _⟩ => ⟨S32x2064x1, .f32⟩
  | .hbm, ⟨97, _⟩ => ⟨S32x2064x1024, .f32⟩
  | .hbm, ⟨98, _⟩ => ⟨S32x2064x1024, .f32⟩
  | .hbm, ⟨99, _⟩ => ⟨S1x1x1024, .f32⟩
  | .hbm, ⟨100, _⟩ => ⟨S32x2064x1024, .f32⟩
  | .hbm, ⟨101, _⟩ => ⟨S32x2064x1024, .f32⟩
  | .hbm, ⟨102, _⟩ => ⟨S32x2048x1024, .f32⟩
  | .hbm, ⟨103, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Kernel3.lean ====
abbrev S32x2048x1024 : Shape := ⟨3, ![32, 2048, 1024]⟩
abbrev S1x1024 : Shape := ⟨2, ![1, 1024]⟩
abbrev S1x1024x4528 : Shape := ⟨3, ![1, 1024, 4528]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x2x4 : Shape := ⟨3, ![1, 2, 4]⟩
abbrev S1024x4528 : Shape := ⟨2, ![1024, 4528]⟩
abbrev S1024x32 : Shape := ⟨2, ![1024, 32]⟩
abbrev S_ : Shape := ⟨0, ![]⟩
abbrev S1024x64 : Shape := ⟨2, ![1024, 64]⟩
abbrev S1024x128 : Shape := ⟨2, ![1024, 128]⟩
abbrev S1024x16 : Shape := ⟨2, ![1024, 16]⟩
abbrev S1024x256 : Shape := ⟨2, ![1024, 256]⟩
abbrev S1024x640 : Shape := ⟨2, ![1024, 640]⟩
abbrev S1024x512 : Shape := ⟨2, ![1024, 512]⟩
abbrev S1024x8 : Shape := ⟨2, ![1024, 8]⟩
abbrev S1024x112 : Shape := ⟨2, ![1024, 112]⟩
abbrev S1024x2176 : Shape := ⟨2, ![1024, 2176]⟩
abbrev S1024x1024 : Shape := ⟨2, ![1024, 1024]⟩
abbrev S1024x2048 : Shape := ⟨2, ![1024, 2048]⟩
abbrev S256x768 : Shape := ⟨2, ![256, 768]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S256x2048 : Shape := ⟨2, ![256, 2048]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S2x4 : Shape := ⟨2, ![2, 4]⟩
abbrev S8 : Shape := ⟨1, ![8]⟩
abbrev S112 : Shape := ⟨1, ![112]⟩
abbrev S128 : Shape := ⟨1, ![128]⟩
abbrev S1024 : Shape := ⟨1, ![1024]⟩
abbrev S256 : Shape := ⟨1, ![256]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S65536x1024 : Shape := ⟨2, ![65536, 1024]⟩
abbrev S256x1024x256 : Shape := ⟨3, ![256, 1024, 256]⟩
abbrev S256x8x256x128 : Shape := ⟨4, ![256, 8, 256, 128]⟩
abbrev S256x512x256 : Shape := ⟨3, ![256, 512, 256]⟩
abbrev S65536x512 : Shape := ⟨2, ![65536, 512]⟩
abbrev S512x512x128 : Shape := ⟨3, ![512, 512, 128]⟩
abbrev S512x16x128 : Shape := ⟨3, ![512, 16, 128]⟩
abbrev S512x1024 : Shape := ⟨2, ![512, 1024]⟩
abbrev S512x128 : Shape := ⟨2, ![512, 128]⟩
abbrev S2x1024x256 : Shape := ⟨3, ![2, 1024, 256]⟩
abbrev S2x8x256x128 : Shape := ⟨4, ![2, 8, 256, 128]⟩
abbrev S2x512x256 : Shape := ⟨3, ![2, 512, 256]⟩
abbrev S512x512 : Shape := ⟨2, ![512, 512]⟩
abbrev S4x512x128 : Shape := ⟨3, ![4, 512, 128]⟩
abbrev S4x16x128 : Shape := ⟨3, ![4, 16, 128]⟩
abbrev S512 : Shape := ⟨1, ![512]⟩
abbrev S512x1 : Shape := ⟨2, ![512, 1]⟩
abbrev S512x640 : Shape := ⟨2, ![512, 640]⟩
abbrev S512x256 : Shape := ⟨2, ![512, 256]⟩
abbrev S1x1024x256 : Shape := ⟨3, ![1, 1024, 256]⟩
abbrev S512x1536 : Shape := ⟨2, ![512, 1536]⟩
abbrev S256x128 : Shape := ⟨2, ![256, 128]⟩
abbrev S1x1x256x128 : Shape := ⟨4, ![1, 1, 256, 128]⟩
abbrev S1x512x256 : Shape := ⟨3, ![1, 512, 256]⟩
abbrev S512x2176 : Shape := ⟨2, ![512, 2176]⟩
abbrev S1x512x128 : Shape := ⟨3, ![1, 512, 128]⟩
abbrev S16x128 : Shape := ⟨2, ![16, 128]⟩
abbrev S1x16x128 : Shape := ⟨3, ![1, 16, 128]⟩
abbrev S512x2048 : Shape := ⟨2, ![512, 2048]⟩

abbrev nBuf : Space → Nat
  | .hbm => 133
  | .vmem => 35
  | .smem => 0
  | _ => 0

abbrev hbmTy0_0 (i : Nat) : BufTy := match i % 128 with
  | 0 => ⟨S32x2048x1024, .f32⟩
  | 1 => ⟨S1x1024, .f32⟩
  | 2 => ⟨S1x1024x4528, .f32⟩
  | 3 => ⟨S1x256, .f32⟩
  | 4 => ⟨S1x256x768, .f32⟩
  | 5 => ⟨S1x128, .f32⟩
  | 6 => ⟨S1x128x1024, .f32⟩
  | 7 => ⟨S1x2x4, .f32⟩
  | 8 => ⟨S1x2x4, .f32⟩
  | 9 => ⟨S1024x4528, .f32⟩
  | 10 => ⟨S1024x32, .f32⟩
  | 11 => ⟨S_, .f32⟩
  | 12 => ⟨S1024x64, .f32⟩
  | 13 => ⟨S_, .f32⟩
  | 14 => ⟨S1024x32, .f32⟩
  | 15 => ⟨S1024x128, .f32⟩
  | 16 => ⟨S_, .f32⟩
  | 17 => ⟨S1024x64, .f32⟩
  | 18 => ⟨S1024x16, .f32⟩
  | 19 => ⟨S1024x16, .f32⟩
  | 20 => ⟨S1024x16, .f32⟩
  | 21 => ⟨S_, .f32⟩
  | 22 => ⟨S1024x32, .f32⟩
  | 23 => ⟨S1024x128, .f32⟩
  | 24 => ⟨S1024x256, .f32⟩
  | 25 => ⟨S1024x128, .f32⟩
  | 26 => ⟨S1024x640, .f32⟩
  | 27 => ⟨S1024x512, .f32⟩
  | 28 => ⟨S1024x512, .f32⟩
  | 29 => ⟨S1024x512, .f32⟩
  | 30 => ⟨S1024x512, .f32⟩
  | 31 => ⟨S1024x8, .f32⟩
  | 32 => ⟨S1024x8, .f32⟩
  | 33 => ⟨S_, .f32⟩
  | 34 => ⟨S1024x112, .f32⟩
  | 35 => ⟨S1024x2176, .f32⟩
  | 36 => ⟨S1024x1024, .f32⟩
  | 37 => ⟨S1024x1024, .f32⟩
  | 38 => ⟨S1024x2048, .f32⟩
  | 39 => ⟨S256x768, .f32⟩
  | 40 => ⟨S256x8x96, .f32⟩
  | 41 => ⟨S256x8x64, .f32⟩
  | 42 => ⟨S256x8x32, .f32⟩
  | 43 => ⟨S_, .f32⟩
  | 44 => ⟨S256x8x32, .f32⟩
  | 45 => ⟨S256x8x128, .f32⟩
  | 46 => ⟨S256x1024, .f32⟩
  | 47 => ⟨S_, .f32⟩
  | 48 => ⟨S256x8x64, .f32⟩
  | 49 => ⟨S256x8x16, .f32⟩
  | 50 => ⟨S256x8x16, .f32⟩
  | 51 => ⟨S256x8x16, .f32⟩
  | 52 => ⟨S_, .f32⟩
  | 53 => ⟨S256x8x32, .f32⟩
  | 54 => ⟨S256x8x128, .f32⟩
  | 55 => ⟨S256x1024, .f32⟩
  | 56 => ⟨S256x2048, .f32⟩
  | 57 => ⟨S128x1024, .f32⟩
  | 58 => ⟨S128x8x128, .f32⟩
  | 59 => ⟨S128x8x64, .f32⟩
  | 60 => ⟨S_, .f32⟩
  | 61 => ⟨S128x8x64, .f32⟩
  | 62 => ⟨S128x8x128, .f32⟩
  | 63 => ⟨S128x1024, .f32⟩
  | 64 => ⟨S128x8x64, .f32⟩
  | 65 => ⟨S128x512, .f32⟩
  | 66 => ⟨S128x1536, .f32⟩
  | 67 => ⟨S2x4, .f32⟩
  | 68 => ⟨S8, .f32⟩
  | 69 => ⟨S2x4, .f32⟩
  | 70 => ⟨S8, .f32⟩
  | 71 => ⟨S_, .f32⟩
  | 72 => ⟨S112, .f32⟩
  | 73 => ⟨S128, .f32⟩
  | 74 => ⟨S1024, .f32⟩
  | 75 => ⟨S1x1024, .f32⟩
  | 76 => ⟨S1024x640, .bf16⟩
  | 77 => ⟨S1024x2176, .bf16⟩
  | 78 => ⟨S1024x2048, .bf16⟩
  | 79 => ⟨S256, .f32⟩
  | 80 => ⟨S1x256, .f32⟩
  | 81 => ⟨S256x2048, .bf16⟩
  | 82 => ⟨S128, .f32⟩
  | 83 => ⟨S1x128, .f32⟩
  | 84 => ⟨S128x1536, .bf16⟩
  | 85 => ⟨S1x128, .f32⟩
  | 86 => ⟨S16384, .i32⟩
  | 87 => ⟨S_, .i32⟩
  | 88 => ⟨S16384, .i32⟩
  | 89 => ⟨S16384, .i32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16384, .f32⟩
  | 105 => ⟨S16384x1, .f32⟩
  | 106 => ⟨S1x16, .f32⟩
  | 107 => ⟨S16384x16, .f32⟩
  | 108 => ⟨S16384x16, .f32⟩
  | 109 => ⟨S16384x16, .f32⟩
  | 110 => ⟨S16384x16, .f32⟩
  | 111 => ⟨S16384x16, .f32⟩
  | 112 => ⟨S_, .f32⟩
  | 113 => ⟨S16384x64, .f32⟩
  | 114 => ⟨S_, .f32⟩
  | 115 => ⟨S16384x32, .f32⟩
  | 116 => ⟨S16384x128, .f32⟩
  | 117 => ⟨S_, .f32⟩
  | 118 => ⟨S16384x64, .f32⟩
  | 119 => ⟨S_, .f32⟩
  | 120 => ⟨S16384x32, .f32⟩
  | 121 => ⟨S16384x128, .f32⟩
  | 122 => ⟨S65536x1024, .f32⟩
  | 123 => ⟨S256x1024x256, .bf16⟩
  | 124 => ⟨S256x8x256x128, .bf16⟩
  | 125 => ⟨S256x512x256, .bf16⟩
  | 126 => ⟨S65536x512, .bf16⟩
  | 127 => ⟨S512x512x128, .bf16⟩
  | _ => ⟨S32x2048x1024, .f32⟩

abbrev hbmTy0_1 (i : Nat) : BufTy := match i % 128 with
  | 0 => ⟨S65536x512, .bf16⟩
  | 1 => ⟨S65536x512, .bf16⟩
  | 2 => ⟨S512x16x128, .f32⟩
  | 3 => ⟨S65536x1024, .bf16⟩
  | 4 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x640, .bf16⟩
  | .local _ .vmem, ⟨8, _⟩ => ⟨S1024x2176, .bf16⟩
  | .local _ .vmem, ⟨9, _⟩ => ⟨S1024x2048, .bf16⟩
  | .local _ .vmem, ⟨10, _⟩ => ⟨S1x256, .f32⟩
  | .local _ .vmem, ⟨11, _⟩ => ⟨S256x2048, .bf16⟩
  | .local _ .vmem, ⟨12, _⟩ => ⟨S1x128, .f32⟩
  | .local _ .vmem, ⟨13, _⟩ => ⟨S128x1536, .bf16⟩
  | .local _ .vmem, ⟨14, _⟩ => ⟨S1x128, .f32⟩
  | .local _ .vmem, ⟨15, _⟩ => ⟨S2x1024x256, .bf16⟩
  | .local _ .vmem, ⟨16, _⟩ => ⟨S2x1024x256, .bf16⟩
  | .local _ .vmem, ⟨17, _⟩ => ⟨S2x8x256x128, .bf16⟩
  | .local _ .vmem, ⟨18, _⟩ => ⟨S2x8x256x128, .bf16⟩
  | .local _ .vmem, ⟨19, _⟩ => ⟨S2x512x256, .bf16⟩
  | .local _ .vmem, ⟨20, _⟩ => ⟨S2x512x256, .bf16⟩
  | .local _ .vmem, ⟨21, _⟩ => ⟨S512x512, .bf16⟩
  | .local _ .vmem, ⟨22, _⟩ => ⟨S512x512, .bf16⟩
  | .local _ .vmem, ⟨23, _⟩ => ⟨S4x512x128, .bf16⟩
  | .local _ .vmem, ⟨24, _⟩ => ⟨S4x512x128, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S4x16x128, .f32⟩
  | .local _ .vmem, ⟨30, _⟩ => ⟨S4x16x128, .f32⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_11 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_cst_14 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95_0 : Ref sig .tc := ⟨.hbm, 123, rfl⟩
abbrev main_v95_1 : Ref sig .tc := ⟨.hbm, 124, rfl⟩
abbrev main_v95_2 : Ref sig .tc := ⟨.hbm, 125, rfl⟩
abbrev main_v95_3 : Ref sig .tc := ⟨.hbm, 126, rfl⟩
abbrev main_v95_4 : Ref sig .tc := ⟨.hbm, 127, rfl⟩
abbrev main_v95_5 : Ref sig .tc := ⟨.hbm, 128, rfl⟩
abbrev main_v95_6 : Ref sig .tc := ⟨.hbm, 129, rfl⟩
abbrev main_v95_7 : Ref sig .tc := ⟨.hbm, 130, rfl⟩
abbrev main_v95_8 : Ref sig .tc := ⟨.hbm, 131, rfl⟩
abbrev main_v95_9 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S32x2048x1024 : Shape := ⟨3, ![32, 2048, 1024]⟩
abbrev S1x1024 : Shape := ⟨2, ![1, 1024]⟩
abbrev S1x1024x4528 : Shape := ⟨3, ![1, 1024, 4528]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x2x4 : Shape := ⟨3, ![1, 2, 4]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4528 : Shape := ⟨2, ![1024, 4528]⟩
abbrev S32x2048x4528 : Shape := ⟨3, ![32, 2048, 4528]⟩
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x512 : Shape := ⟨3, ![32, 2048, 512]⟩
abbrev S32x2048x8 : Shape := ⟨3, ![32, 2048, 8]⟩
abbrev S128 : Shape := ⟨1, ![128]⟩
abbrev S1x1x128 : Shape := ⟨3, ![1, 1, 128]⟩
abbrev S128x1024 : Shape := ⟨2, ![128, 1024]⟩
abbrev S32x2048x8x128 : Shape := ⟨4, ![32, 2048, 8, 128]⟩
abbrev S32x2048x8x64 : Shape := ⟨4, ![32, 2048, 8, 64]⟩
abbrev S65536x512 : Shape := ⟨2, ![65536, 512]⟩
abbrev S32x2048x2x4 : Shape := ⟨4, ![32, 2048, 2, 4]⟩
abbrev S2x4 : Shape := ⟨2, ![2, 4]⟩
abbrev S1x1x2x4 : Shape := ⟨4, ![1, 1, 2, 4]⟩
abbrev S32x2048x4x4 : Shape := ⟨4, ![32, 2048, 4, 4]⟩
abbrev S65536x16 : Shape := ⟨2, ![65536, 16]⟩
abbrev S256x256x512 : Shape := ⟨3, ![256, 256, 512]⟩
abbrev S256x512x256 : Shape := ⟨3, ![256, 512, 256]⟩
abbrev S512x128x512 : Shape := ⟨3, ![512, 128, 512]⟩
abbrev S512x512x128 : Shape := ⟨3, ![512, 512, 128]⟩
abbrev S512x128x16 : Shape := ⟨3, ![512, 128, 16]⟩
abbrev S512x16x128 : Shape := ⟨3, ![512, 16, 128]⟩
abbrev S65536x1024 : Shape := ⟨2, ![65536, 1024]⟩

abbrev nBuf : Space → Nat
  | .hbm => 134
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x4528, .f32⟩
  | 3 => ⟨S1x256, .f32⟩
  | 4 => ⟨S1x256x768, .f32⟩
  | 5 => ⟨S1x128, .f32⟩
  | 6 => ⟨S1x128x1024, .f32⟩
  | 7 => ⟨S1x2x4, .f32⟩
  | 8 => ⟨S1x2x4, .f32⟩
  | 9 => ⟨S1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S1024x4528, .f32⟩
  | 27 => ⟨S32x2048x4528, .f32⟩
  | 28 => ⟨S32x2048x256, .f32⟩
  | 29 => ⟨S32x2048x128, .f32⟩
  | 30 => ⟨S32x2048x32, .f32⟩
  | 31 => ⟨S32x2048x512, .f32⟩
  | 32 => ⟨S32x2048x512, .f32⟩
  | 33 => ⟨S32x2048x512, .f32⟩
  | 34 => ⟨S32x2048x512, .f32⟩
  | 35 => ⟨S32x2048x8, .f32⟩
  | 36 => ⟨S32x2048x8, .f32⟩
  | 37 => ⟨S32x2048x1024, .f32⟩
  | 38 => ⟨S32x2048x1024, .f32⟩
  | 39 => ⟨S128, .f32⟩
  | 40 => ⟨S32x2048x128, .f32⟩
  | 41 => ⟨S_, .f32⟩
  | 42 => ⟨S32x2048, .f32⟩
  | 43 => ⟨S32x2048x1, .f32⟩
  | 44 => ⟨S_, .f32⟩
  | 45 => ⟨S32x2048x1, .f32⟩
  | 46 => ⟨S32x2048x1, .f32⟩
  | 47 => ⟨S_, .f32⟩
  | 48 => ⟨S32x2048x1, .f32⟩
  | 49 => ⟨S32x2048x1, .f32⟩
  | 50 => ⟨S32x2048x1, .f32⟩
  | 51 => ⟨S32x2048x128, .f32⟩
  | 52 => ⟨S32x2048x128, .f32⟩
  | 53 => ⟨S1x1x128, .f32⟩
  | 54 => ⟨S32x2048x128, .f32⟩
  | 55 => ⟨S32x2048x128, .f32⟩
  | 56 => ⟨S128x1024, .f32⟩
  | 57 => ⟨S32x2048x1024, .f32⟩
  | 58 => ⟨S32x2048x8x128, .f32⟩
  | 59 => ⟨S32x2048x8x64, .f32⟩
  | 60 => ⟨S65536x512, .f32⟩
  | 61 => ⟨S32x2048x2x4, .f32⟩
  | 62 => ⟨S2x4, .f32⟩
  | 63 => ⟨S1x1x2x4, .f32⟩
  | 64 => ⟨S32x2048x2x4, .f32⟩
  | 65 => ⟨S32x2048x2x4, .f32⟩
  | 66 => ⟨S32x2048x2x4, .f32⟩
  | 67 => ⟨S2x4, .f32⟩
  | 68 => ⟨S1x1x2x4, .f32⟩
  | 69 => ⟨S32x2048x2x4, .f32⟩
  | 70 => ⟨S32x2048x2x4, .f32⟩
  | 71 => ⟨S32x2048x2x4, .f32⟩
  | 72 => ⟨S_, .f32⟩
  | 73 => ⟨S32x2048x2x4, .f32⟩
  | 74 => ⟨S32x2048x2x4, .f32⟩
  | 75 => ⟨S32x2048x2x4, .f32⟩
  | 76 => ⟨S32x2048x2x4, .f32⟩
  | 77 => ⟨S32x2048x2x4, .i1⟩
  | 78 => ⟨S32x2048x2x4, .f32⟩
  | 79 => ⟨S32x2048x2x4, .f32⟩
  | 80 => ⟨S32x2048x2x4, .f32⟩
  | 81 => ⟨S32x2048x2x4, .f32⟩
  | 82 => ⟨S32x2048x2x4, .f32⟩
  | 83 => ⟨S32x2048x2x4, .f32⟩
  | 84 => ⟨S32x2048x2x4, .f32⟩
  | 85 => ⟨S32x2048x2x4, .f32⟩
  | 86 => ⟨S32x2048x2x4, .f32⟩
  | 87 => ⟨S32x2048x4x4, .f32⟩
  | 88 => ⟨S65536x16, .f32⟩
  | 89 => ⟨S_, .f32⟩
  | 90 => ⟨S32x2048x512, .f32⟩
  | 91 => ⟨S32x2048x512, .f32⟩
  | 92 => ⟨S32x2048x512, .f32⟩
  | 93 => ⟨S32x2048x512, .f32⟩
  | 94 => ⟨S_, .f32⟩
  | 95 => ⟨S32x2048x512, .f32⟩
  | 96 => ⟨S32x2048x512, .f32⟩
  | 97 => ⟨S_, .f32⟩
  | 98 => ⟨S32x2048x512, .f32⟩
  | 99 => ⟨S32x2048x512, .f32⟩
  | 100 => ⟨S32x2048x1024, .f32⟩
  | 101 => ⟨S32x2048x1024, .f32⟩
  | 102 => ⟨S_, .f32⟩
  | 103 => ⟨S32x2048x1024, .f32⟩
  | 104 => ⟨S32x2048x1024, .f32⟩
  | 105 => ⟨S_, .f32⟩
  | 106 => ⟨S32x2048x1024, .f32⟩
  | 107 => ⟨S32x2048x1024, .f32⟩
  | 108 => ⟨S32x2048x1024, .f32⟩
  | 109 => ⟨S32x2048x1024, .f32⟩
  | 110 => ⟨S_, .f32⟩
  | 111 => ⟨S32x2048x1024, .f32⟩
  | 112 => ⟨S32x2048x1024, .f32⟩
  | 113 => ⟨S_, .f32⟩
  | 114 => ⟨S32x2048x1024, .f32⟩
  | 115 => ⟨S32x2048x1024, .f32⟩
  | 116 => ⟨S65536x512, .bf16⟩
  | 117 => ⟨S32x2048x512, .bf16⟩
  | 118 => ⟨S32x2048x512, .bf16⟩
  | 119 => ⟨S32x2048x512, .bf16⟩
  | 120 => ⟨S32x2048x512, .bf16⟩
  | 121 => ⟨S32x2048x1024, .bf16⟩
  | 122 => ⟨S32x2048x1024, .bf16⟩
  | 123 => ⟨S256x256x512, .bf16⟩
  | 124 => ⟨S256x512x256, .bf16⟩
  | 125 => ⟨S65536x512, .bf16⟩
  | 126 => ⟨S512x128x512, .bf16⟩
  | 127 => ⟨S512x512x128, .bf16⟩
  | _ => ⟨S32x2048x1024, .f32⟩

abbrev hbmTy0_1 (i : Nat) : BufTy := match i % 128 with
  | 0 => ⟨S65536x512, .bf16⟩
  | 1 => ⟨S65536x512, .bf16⟩
  | 2 => ⟨S512x128x16, .f32⟩
  | 3 => ⟨S512x16x128, .f32⟩
  | 4 => ⟨S65536x1024, .bf16⟩
  | 5 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call0_v0 : Ref sig .tc := ⟨.hbm, 71, rfl⟩
abbrev main_call0_call0_cst : Ref sig .tc := ⟨.hbm, 72, rfl⟩
abbrev main_call0_call0_v0 : Ref sig .tc := ⟨.hbm, 73, rfl⟩
abbrev main_call0_call0_v1 : Ref sig .tc := ⟨.hbm, 74, rfl⟩
abbrev main_call0_call0_v2 : Ref sig .tc := ⟨.hbm, 75, rfl⟩
abbrev main_call0_call0_v3 : Ref sig .tc := ⟨.hbm, 76, rfl⟩
abbrev main_call0_call0_v4 : Ref sig .tc := ⟨.hbm, 77, rfl⟩
abbrev main_call0_call0_v5 : Ref sig .tc := ⟨.hbm, 78, rfl⟩
abbrev main_call0_call0_v6 : Ref sig .tc := ⟨.hbm, 79, rfl⟩
abbrev main_call0_call0_v7 : Ref sig .tc := ⟨.hbm, 80, rfl⟩
abbrev main_call0_call0_v8 : Ref sig .tc := ⟨.hbm, 81, rfl⟩
abbrev main_call0_call0_v9 : Ref sig .tc := ⟨.hbm, 82, rfl⟩
abbrev main_call0_call0_v10 : Ref sig .tc := ⟨.hbm, 83, rfl⟩
abbrev main_call0_call0_v11 : Ref sig .tc := ⟨.hbm, 84, rfl⟩
abbrev main_call0_v1 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_5 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_6 : Ref sig .tc := ⟨.hbm, 94, rfl⟩
abbrev main_v63 : Ref sig .tc := ⟨.hbm, 95, rfl⟩
abbrev main_v64 : Ref sig .tc := ⟨.hbm, 96, rfl⟩
abbrev main_cst_7 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_10 : Ref sig .tc := ⟨.hbm, 110, rfl⟩
abbrev main_v75 : Ref sig .tc := ⟨.hbm, 111, rfl⟩
abbrev main_v76 : Ref sig .tc := ⟨.hbm, 112, rfl⟩
abbrev main_cst_11 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]
-- ==== Kernel4.lean ====
abbrev S16384x1024 : Shape := ⟨2, ![16384, 1024]⟩
abbrev S128x1024 : Shape := ⟨2, ![128, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S3x2816 : Shape := ⟨2, ![3, 2816]⟩
abbrev S_ : Shape := ⟨0, ![]⟩
abbrev S5x2816 : Shape := ⟨2, ![5, 2816]⟩
abbrev S8x2816 : Shape := ⟨2, ![8, 2816]⟩
abbrev S1024x2816 : Shape := ⟨2, ![1024, 2816]⟩
abbrev S2816 : Shape := ⟨1, ![2816]⟩
abbrev S2816x1024 : Shape := ⟨2, ![2816, 1024]⟩
abbrev S1024x1024 : Shape := ⟨2, ![1024, 1024]⟩
abbrev S8x1024 : Shape := ⟨2, ![8, 1024]⟩
abbrev S1040x1024 : Shape := ⟨2, ![1040, 1024]⟩
abbrev S1040 : Shape := ⟨1, ![1040]⟩
abbrev S1040x1 : Shape := ⟨2, ![1040, 1]⟩
abbrev S1024x1 : Shape := ⟨2, ![1024, 1]⟩
abbrev S1024x512 : Shape := ⟨2, ![1024, 512]⟩
abbrev S1040x512 : Shape := ⟨2, ![1040, 512]⟩
abbrev S1x512 : Shape := ⟨2, ![1, 512]⟩
abbrev S8x512 : Shape := ⟨2, ![8, 512]⟩
abbrev S512x1024 : Shape := ⟨2, ![512, 1024]⟩
abbrev S1024x256 : Shape := ⟨2, ![1024, 256]⟩
abbrev S1040x256 : Shape := ⟨2, ![1040, 256]⟩
abbrev S1x256 : Shape := ⟨2, ![1, 256]⟩
abbrev S8x256 : Shape := ⟨2, ![8, 256]⟩
abbrev S256x1024 : Shape := ⟨2, ![256, 1024]⟩

abbrev nBuf : Space → Nat
  | .hbm => 25
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S3x2816, .f32⟩
  | .hbm, ⟨10, _⟩ => ⟨S_, .f32⟩
  | .hbm, ⟨11, _⟩ => ⟨S5x2816, .f32⟩
  | .hbm, ⟨12, _⟩ => ⟨S8x2816, .f32⟩
  | .hbm, ⟨13, _⟩ => ⟨S1024, .f32⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816, .f32⟩
  | .hbm, ⟨20, _⟩ => ⟨S1x2816, .f32⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S8x2816, .f32⟩
  | .local _ .vmem, ⟨12, _⟩ => ⟨S1x2816, .f32⟩
  | .local _ .vmem, ⟨13, _⟩ => ⟨S2816x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.muli v16 c16_i32_4
  let c2_i32 : BitVec 32 := 2#32
  let v18 : BitVec 32 := Scalar.addi v17 c2_i32
  let c1_i32_5 : BitVec 32 := 1#32
  let v19 : BitVec 32 := Scalar.subi v18 c1_i32_5
  let c0_i32_6 : BitVec 32 := 0#32
  let c0_i32_7 : BitVec 32 := 0#32
  ![v19.toNat, c0_i32_6.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S128x1024 : Shape := ⟨2, ![128, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S1x128x1024 : Shape := ⟨3, ![1, 128, 1024]⟩
abbrev S1x16x1024 : Shape := ⟨3, ![1, 16, 1024]⟩
abbrev S1x16384x1024 : Shape := ⟨3, ![1, 16384, 1024]⟩
abbrev S1x16400x1024 : Shape := ⟨3, ![1, 16400, 1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x16400x2816 : Shape := ⟨3, ![1, 16400, 2816]⟩
abbrev S1x16402x2816 : Shape := ⟨3, ![1, 16402, 2816]⟩
abbrev S1x1x2816 : Shape := ⟨3, ![1, 1, 2816]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S1x128x1024, .f32⟩
  | .hbm, ⟨10, _⟩ => ⟨S1x16x1024, .f32⟩
  | .hbm, ⟨11, _⟩ => ⟨S1x16384x1024, .f32⟩
  | .hbm, ⟨12, _⟩ => ⟨S1x16400x1024, .f32⟩
  | .hbm, ⟨13, _⟩ => ⟨S1024, .f32⟩
  | .hbm, ⟨14, _⟩ => ⟨S1x16400x1024, .f32⟩
  | .hbm, ⟨15, _⟩ => ⟨S_, .f32⟩
  | .hbm, ⟨16, _⟩ => ⟨S1x16400, .f32⟩
  | .hbm, ⟨17, _⟩ => ⟨S1x16400x1, .f32⟩
  | .hbm, ⟨18, _⟩ => ⟨S_, .f32⟩
  | .hbm, ⟨19, _⟩ => ⟨S1x16400x1, .f32⟩
  | .hbm, ⟨20, _⟩ => ⟨S1x16400x1, .f32⟩
  | .hbm, ⟨21, _⟩ => ⟨S_, .f32⟩
  | .hbm, ⟨22, _⟩ => ⟨S1x16400x1, .f32⟩
  | .hbm, ⟨23, _⟩ => ⟨S1x16400x1, .f32⟩
  | .hbm, ⟨24, _⟩ => ⟨S1x16400x1, .f32⟩
  | .hbm, ⟨25, _⟩ => ⟨S1x16400x1024, .f32⟩
  | .hbm, ⟨26, _⟩ => ⟨S1x16400x1024, .f32⟩
  | .hbm, ⟨27, _⟩ => ⟨S1x1x1024, .f32⟩
  | .hbm, ⟨28, _⟩ => ⟨S1x16400x1024, .f32⟩
  | .hbm, ⟨29, _⟩ => ⟨S1x16400x1024, .f32⟩
  | .hbm, ⟨30, _⟩ => ⟨S1024x2816, .f32⟩
  | .hbm, ⟨31, _⟩ => ⟨S1024x2816, .f32⟩
  | .hbm, ⟨32, _⟩ => ⟨S3x2816, .f32⟩
  | .hbm, ⟨33, _⟩ => ⟨S2816, .f32⟩
  | .hbm, ⟨34, _⟩ => ⟨S2816x1024, .f32⟩
  | .hbm, ⟨35, _⟩ => ⟨S1x16400x2816, .f32⟩
  | .hbm, ⟨36, _⟩ => ⟨S_, .i32⟩
  | .hbm, ⟨37, _⟩ => ⟨S_, .f32⟩
  | .hbm, ⟨38, _⟩ => ⟨S1x16402x2816, .f32⟩
  | .hbm, ⟨39, _⟩ => ⟨S1x16400x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S1x16400x2816, .f32⟩
  | .hbm, ⟨44, _⟩ => ⟨S1x16400x2816, .f32⟩
  | .hbm, ⟨45, _⟩ => ⟨S_, .f32⟩
  | .hbm, ⟨46, _⟩ => ⟨S1x16400x2816, .f32⟩
  | .hbm, ⟨47, _⟩ => ⟨S1x16400x2816, .f32⟩
  | .hbm, ⟨48, _⟩ => ⟨S1x16400x2816, .f32⟩
  | .hbm, ⟨49, _⟩ => ⟨S1x2816, .f32⟩
  | .hbm, ⟨50, _⟩ => ⟨S2816, .f32⟩
  | .hbm, ⟨51, _⟩ => ⟨S1x1x2816, .f32⟩
  | .hbm, ⟨52, _⟩ => ⟨S1x16400x2816, .f32⟩
  | .hbm, ⟨53, _⟩ => ⟨S1x16400x2816, .f32⟩
  | .hbm, ⟨54, _⟩ => ⟨S1x16400x2816, .f32⟩
  | .hbm, ⟨55, _⟩ => ⟨S1x16400x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S1x16400x2816, .f32⟩
  | .hbm, ⟨60, _⟩ => ⟨S1x16400x2816, .f32⟩
  | .hbm, ⟨61, _⟩ => ⟨S1x16400x2816, .f32⟩
  | .hbm, ⟨62, _⟩ => ⟨S1x1x2816, .f32⟩
  | .hbm, ⟨63, _⟩ => ⟨S1x16400x2816, .f32⟩
  | .hbm, ⟨64, _⟩ => ⟨S1x16400x2816, .f32⟩
  | .hbm, ⟨65, _⟩ => ⟨S1x16400x2816, .f32⟩
  | .hbm, ⟨66, _⟩ => ⟨S1x16400x2816, .f32⟩
  | .hbm, ⟨67, _⟩ => ⟨S_, .f32⟩
  | .hbm, ⟨68, _⟩ => ⟨S1x16400x2816, .f32⟩
  | .hbm, ⟨69, _⟩ => ⟨S1x16400x2816, .f32⟩
  | .hbm, ⟨70, _⟩ => ⟨S1x16400x2816, .f32⟩
  | .hbm, ⟨71, _⟩ => ⟨S_, .f32⟩
  | .hbm, ⟨72, _⟩ => ⟨S1x16400x2816, .f32⟩
  | .hbm, ⟨73, _⟩ => ⟨S1x16400x2816, .f32⟩
  | .hbm, ⟨74, _⟩ => ⟨S1x16400x2816, .f32⟩
  | .hbm, ⟨75, _⟩ => ⟨S_, .f32⟩
  | .hbm, ⟨76, _⟩ => ⟨S1x16400x2816, .f32⟩
  | .hbm, ⟨77, _⟩ => ⟨S1x16400x2816, .f32⟩
  | .hbm, ⟨78, _⟩ => ⟨S_, .f32⟩
  | .hbm, ⟨79, _⟩ => ⟨S1x16400x2816, .f32⟩
  | .hbm, ⟨80, _⟩ => ⟨S1x16400x2816, .f32⟩
  | .hbm, ⟨81, _⟩ => ⟨S1x16400x2816, .f32⟩
  | .hbm, ⟨82, _⟩ => ⟨S1x16400x2816, .f32⟩
  | .hbm, ⟨83, _⟩ => ⟨S1x16400x2816, .f32⟩
  | .hbm, ⟨84, _⟩ => ⟨S1x16400x1024, .f32⟩
  | .hbm, ⟨85, _⟩ => ⟨S1x16400x1024, .f32⟩
  | .hbm, ⟨86, _⟩ => ⟨S1x16400x1024, .f32⟩
  | .hbm, ⟨87, _⟩ => ⟨S_, .f32⟩
  | .hbm, ⟨88, _⟩ => ⟨S1x16400, .f32⟩
  | .hbm, ⟨89, _⟩ => ⟨S1x16400x1, .f32⟩
  | .hbm, ⟨90, _⟩ => ⟨S_, .f32⟩
  | .hbm, ⟨91, _⟩ => ⟨S1x16400x1, .f32⟩
  | .hbm, ⟨92, _⟩ => ⟨S1x16400x1, .f32⟩
  | .hbm, ⟨93, _⟩ => ⟨S_, .f32⟩
  | .hbm, ⟨94, _⟩ => ⟨S1x16400x1, .f32⟩
  | .hbm, ⟨95, _⟩ => ⟨S1x16400x1, .f32⟩
  | .hbm, ⟨96, _⟩ => ⟨S1x16400x1, .f32⟩
  | .hbm, ⟨97, _⟩ => ⟨S1x16400x1024, .f32⟩
  | .hbm, ⟨98, _⟩ => ⟨S1x16400x1024, .f32⟩
  | .hbm, ⟨99, _⟩ => ⟨S1x1x1024, .f32⟩
  | .hbm, ⟨100, _⟩ => ⟨S1x16400x1024, .f32⟩
  | .hbm, ⟨101, _⟩ => ⟨S1x16400x1024, .f32⟩
  | .hbm, ⟨102, _⟩ => ⟨S1x16384x1024, .f32⟩
  | .hbm, ⟨103, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Kernel5.lean ====
abbrev S32x2048x1024 : Shape := ⟨3, ![32, 2048, 1024]⟩
abbrev S1x1024 : Shape := ⟨2, ![1, 1024]⟩
abbrev S1x1024x4528 : Shape := ⟨3, ![1, 1024, 4528]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x2x4 : Shape := ⟨3, ![1, 2, 4]⟩
abbrev S1024x4528 : Shape := ⟨2, ![1024, 4528]⟩
abbrev S1024x32 : Shape := ⟨2, ![1024, 32]⟩
abbrev S_ : Shape := ⟨0, ![]⟩
abbrev S1024x64 : Shape := ⟨2, ![1024, 64]⟩
abbrev S1024x128 : Shape := ⟨2, ![1024, 128]⟩
abbrev S1024x16 : Shape := ⟨2, ![1024, 16]⟩
abbrev S1024x256 : Shape := ⟨2, ![1024, 256]⟩
abbrev S1024x640 : Shape := ⟨2, ![1024, 640]⟩
abbrev S1024x512 : Shape := ⟨2, ![1024, 512]⟩
abbrev S1024x8 : Shape := ⟨2, ![1024, 8]⟩
abbrev S1024x112 : Shape := ⟨2, ![1024, 112]⟩
abbrev S1024x2176 : Shape := ⟨2, ![1024, 2176]⟩
abbrev S1024x1024 : Shape := ⟨2, ![1024, 1024]⟩
abbrev S1024x2048 : Shape := ⟨2, ![1024, 2048]⟩
abbrev S256x768 : Shape := ⟨2, ![256, 768]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x1024 : Shape := ⟨2, ![256, 1024]⟩
abbrev S256x8x16 : Shape := ⟨3, ![256, 8, 16]⟩
abbrev S256x2048 : Shape := ⟨2, ![256, 2048]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S2x4 : Shape := ⟨2, ![2, 4]⟩
abbrev S8 : Shape := ⟨1, ![8]⟩
abbrev S112 : Shape := ⟨1, ![112]⟩
abbrev S128 : Shape := ⟨1, ![128]⟩
abbrev S1024 : Shape := ⟨1, ![1024]⟩
abbrev S256 : Shape := ⟨1, ![256]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S65536x1024 : Shape := ⟨2, ![65536, 1024]⟩
abbrev S256x1024x256 : Shape := ⟨3, ![256, 1024, 256]⟩
abbrev S256x8x256x128 : Shape := ⟨4, ![256, 8, 256, 128]⟩
abbrev S256x512x256 : Shape := ⟨3, ![256, 512, 256]⟩
abbrev S65536x512 : Shape := ⟨2, ![65536, 512]⟩
abbrev S512x512x128 : Shape := ⟨3, ![512, 512, 128]⟩
abbrev S512x16x128 : Shape := ⟨3, ![512, 16, 128]⟩
abbrev S512x1024 : Shape := ⟨2, ![512, 1024]⟩
abbrev S512x128 : Shape := ⟨2, ![512, 128]⟩
abbrev S2x1024x256 : Shape := ⟨3, ![2, 1024, 256]⟩
abbrev S2x8x256x128 : Shape := ⟨4, ![2, 8, 256, 128]⟩
abbrev S2x512x256 : Shape := ⟨3, ![2, 512, 256]⟩
abbrev S512x512 : Shape := ⟨2, ![512, 512]⟩
abbrev S4x512x128 : Shape := ⟨3, ![4, 512, 128]⟩
abbrev S4x16x128 : Shape := ⟨3, ![4, 16, 128]⟩
abbrev S512 : Shape := ⟨1, ![512]⟩
abbrev S512x1 : Shape := ⟨2, ![512, 1]⟩
abbrev S512x640 : Shape := ⟨2, ![512, 640]⟩
abbrev S512x256 : Shape := ⟨2, ![512, 256]⟩
abbrev S1x1024x256 : Shape := ⟨3, ![1, 1024, 256]⟩
abbrev S512x1536 : Shape := ⟨2, ![512, 1536]⟩
abbrev S256x128 : Shape := ⟨2, ![256, 128]⟩
abbrev S1x1x256x128 : Shape := ⟨4, ![1, 1, 256, 128]⟩
abbrev S1x512x256 : Shape := ⟨3, ![1, 512, 256]⟩
abbrev S512x2176 : Shape := ⟨2, ![512, 2176]⟩
abbrev S1x512x128 : Shape := ⟨3, ![1, 512, 128]⟩
abbrev S16x128 : Shape := ⟨2, ![16, 128]⟩
abbrev S1x16x128 : Shape := ⟨3, ![1, 16, 128]⟩
abbrev S512x2048 : Shape := ⟨2, ![512, 2048]⟩

abbrev nBuf : Space → Nat
  | .hbm => 133
  | .vmem => 35
  | .smem => 0
  | _ => 0

abbrev hbmTy0_0 (i : Nat) : BufTy := match i % 128 with
  | 0 => ⟨S32x2048x1024, .f32⟩
  | 1 => ⟨S1x1024, .f32⟩
  | 2 => ⟨S1x1024x4528, .f32⟩
  | 3 => ⟨S1x256, .f32⟩
  | 4 => ⟨S1x256x768, .f32⟩
  | 5 => ⟨S1x128, .f32⟩
  | 6 => ⟨S1x128x1024, .f32⟩
  | 7 => ⟨S1x2x4, .f32⟩
  | 8 => ⟨S1x2x4, .f32⟩
  | 9 => ⟨S1024x4528, .f32⟩
  | 10 => ⟨S1024x32, .f32⟩
  | 11 => ⟨S_, .f32⟩
  | 12 => ⟨S1024x64, .f32⟩
  | 13 => ⟨S_, .f32⟩
  | 14 => ⟨S1024x32, .f32⟩
  | 15 => ⟨S1024x128, .f32⟩
  | 16 => ⟨S_, .f32⟩
  | 17 => ⟨S1024x64, .f32⟩
  | 18 => ⟨S1024x16, .f32⟩
  | 19 => ⟨S1024x16, .f32⟩
  | 20 => ⟨S1024x16, .f32⟩
  | 21 => ⟨S_, .f32⟩
  | 22 => ⟨S1024x32, .f32⟩
  | 23 => ⟨S1024x128, .f32⟩
  | 24 => ⟨S1024x256, .f32⟩
  | 25 => ⟨S1024x128, .f32⟩
  | 26 => ⟨S1024x640, .f32⟩
  | 27 => ⟨S1024x512, .f32⟩
  | 28 => ⟨S1024x512, .f32⟩
  | 29 => ⟨S1024x512, .f32⟩
  | 30 => ⟨S1024x512, .f32⟩
  | 31 => ⟨S1024x8, .f32⟩
  | 32 => ⟨S1024x8, .f32⟩
  | 33 => ⟨S_, .f32⟩
  | 34 => ⟨S1024x112, .f32⟩
  | 35 => ⟨S1024x2176, .f32⟩
  | 36 => ⟨S1024x1024, .f32⟩
  | 37 => ⟨S1024x1024, .f32⟩
  | 38 => ⟨S1024x2048, .f32⟩
  | 39 => ⟨S256x768, .f32⟩
  | 40 => ⟨S256x8x96, .f32⟩
  | 41 => ⟨S256x8x64, .f32⟩
  | 42 => ⟨S256x8x32, .f32⟩
  | 43 => ⟨S_, .f32⟩
  | 44 => ⟨S256x8x32, .f32⟩
  | 45 => ⟨S256x8x128, .f32⟩
  | 46 => ⟨S256x1024, .f32⟩
  | 47 => ⟨S_, .f32⟩
  | 48 => ⟨S256x8x64, .f32⟩
  | 49 => ⟨S256x8x16, .f32⟩
  | 50 => ⟨S256x8x16, .f32⟩
  | 51 => ⟨S256x8x16, .f32⟩
  | 52 => ⟨S_, .f32⟩
  | 53 => ⟨S256x8x32, .f32⟩
  | 54 => ⟨S256x8x128, .f32⟩
  | 55 => ⟨S256x1024, .f32⟩
  | 56 => ⟨S256x2048, .f32⟩
  | 57 => ⟨S128x1024, .f32⟩
  | 58 => ⟨S128x8x128, .f32⟩
  | 59 => ⟨S128x8x64, .f32⟩
  | 60 => ⟨S_, .f32⟩
  | 61 => ⟨S128x8x64, .f32⟩
  | 62 => ⟨S128x8x128, .f32⟩
  | 63 => ⟨S128x1024, .f32⟩
  | 64 => ⟨S128x8x64, .f32⟩
  | 65 => ⟨S128x512, .f32⟩
  | 66 => ⟨S128x1536, .f32⟩
  | 67 => ⟨S2x4, .f32⟩
  | 68 => ⟨S8, .f32⟩
  | 69 => ⟨S2x4, .f32⟩
  | 70 => ⟨S8, .f32⟩
  | 71 => ⟨S_, .f32⟩
  | 72 => ⟨S112, .f32⟩
  | 73 => ⟨S128, .f32⟩
  | 74 => ⟨S1024, .f32⟩
  | 75 => ⟨S1x1024, .f32⟩
  | 76 => ⟨S1024x640, .bf16⟩
  | 77 => ⟨S1024x2176, .bf16⟩
  | 78 => ⟨S1024x2048, .bf16⟩
  | 79 => ⟨S256, .f32⟩
  | 80 => ⟨S1x256, .f32⟩
  | 81 => ⟨S256x2048, .bf16⟩
  | 82 => ⟨S128, .f32⟩
  | 83 => ⟨S1x128, .f32⟩
  | 84 => ⟨S128x1536, .bf16⟩
  | 85 => ⟨S1x128, .f32⟩
  | 86 => ⟨S16384, .i32⟩
  | 87 => ⟨S_, .i32⟩
  | 88 => ⟨S16384, .i32⟩
  | 89 => ⟨S16384, .i32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16384, .f32⟩
  | 105 => ⟨S16384x1, .f32⟩
  | 106 => ⟨S1x16, .f32⟩
  | 107 => ⟨S16384x16, .f32⟩
  | 108 => ⟨S16384x16, .f32⟩
  | 109 => ⟨S16384x16, .f32⟩
  | 110 => ⟨S16384x16, .f32⟩
  | 111 => ⟨S16384x16, .f32⟩
  | 112 => ⟨S_, .f32⟩
  | 113 => ⟨S16384x64, .f32⟩
  | 114 => ⟨S_, .f32⟩
  | 115 => ⟨S16384x32, .f32⟩
  | 116 => ⟨S16384x128, .f32⟩
  | 117 => ⟨S_, .f32⟩
  | 118 => ⟨S16384x64, .f32⟩
  | 119 => ⟨S_, .f32⟩
  | 120 => ⟨S16384x32, .f32⟩
  | 121 => ⟨S16384x128, .f32⟩
  | 122 => ⟨S65536x1024, .f32⟩
  | 123 => ⟨S256x1024x256, .bf16⟩
  | 124 => ⟨S256x8x256x128, .bf16⟩
  | 125 => ⟨S256x512x256, .bf16⟩
  | 126 => ⟨S65536x512, .bf16⟩
  | 127 => ⟨S512x512x128, .bf16⟩
  | _ => ⟨S32x2048x1024, .f32⟩

abbrev hbmTy0_1 (i : Nat) : BufTy := match i % 128 with
  | 0 => ⟨S65536x512, .bf16⟩
  | 1 => ⟨S65536x512, .bf16⟩
  | 2 => ⟨S512x16x128, .f32⟩
  | 3 => ⟨S65536x1024, .bf16⟩
  | 4 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x640, .bf16⟩
  | .local _ .vmem, ⟨8, _⟩ => ⟨S1024x2176, .bf16⟩
  | .local _ .vmem, ⟨9, _⟩ => ⟨S1024x2048, .bf16⟩
  | .local _ .vmem, ⟨10, _⟩ => ⟨S1x256, .f32⟩
  | .local _ .vmem, ⟨11, _⟩ => ⟨S256x2048, .bf16⟩
  | .local _ .vmem, ⟨12, _⟩ => ⟨S1x128, .f32⟩
  | .local _ .vmem, ⟨13, _⟩ => ⟨S128x1536, .bf16⟩
  | .local _ .vmem, ⟨14, _⟩ => ⟨S1x128, .f32⟩
  | .local _ .vmem, ⟨15, _⟩ => ⟨S2x1024x256, .bf16⟩
  | .local _ .vmem, ⟨16, _⟩ => ⟨S2x1024x256, .bf16⟩
  | .local _ .vmem, ⟨17, _⟩ => ⟨S2x8x256x128, .bf16⟩
  | .local _ .vmem, ⟨18, _⟩ => ⟨S2x8x256x128, .bf16⟩
  | .local _ .vmem, ⟨19, _⟩ => ⟨S2x512x256, .bf16⟩
  | .local _ .vmem, ⟨20, _⟩ => ⟨S2x512x256, .bf16⟩
  | .local _ .vmem, ⟨21, _⟩ => ⟨S512x512, .bf16⟩
  | .local _ .vmem, ⟨22, _⟩ => ⟨S512x512, .bf16⟩
  | .local _ .vmem, ⟨23, _⟩ => ⟨S4x512x128, .bf16⟩
  | .local _ .vmem, ⟨24, _⟩ => ⟨S4x512x128, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S4x16x128, .f32⟩
  | .local _ .vmem, ⟨30, _⟩ => ⟨S4x16x128, .f32⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_11 : Ref sig .tc := ⟨.hbm, 98, rfl⟩
abbrev main_v76 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_cst_14 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95_0 : Ref sig .tc := ⟨.hbm, 123, rfl⟩
abbrev main_v95_1 : Ref sig .tc := ⟨.hbm, 124, rfl⟩
abbrev main_v95_2 : Ref sig .tc := ⟨.hbm, 125, rfl⟩
abbrev main_v95_3 : Ref sig .tc := ⟨.hbm, 126, rfl⟩
abbrev main_v95_4 : Ref sig .tc := ⟨.hbm, 127, rfl⟩
abbrev main_v95_5 : Ref sig .tc := ⟨.hbm, 128, rfl⟩
abbrev main_v95_6 : Ref sig .tc := ⟨.hbm, 129, rfl⟩
abbrev main_v95_7 : Ref sig .tc := ⟨.hbm, 130, rfl⟩
abbrev main_v95_8 : Ref sig .tc := ⟨.hbm, 131, rfl⟩
abbrev main_v95_9 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x8x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4x16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference5Ideal.lean ====
abbrev S32x2048x1024 : Shape := ⟨3, ![32, 2048, 1024]⟩
abbrev S1x1024 : Shape := ⟨2, ![1, 1024]⟩
abbrev S1x1024x4528 : Shape := ⟨3, ![1, 1024, 4528]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x2x4 : Shape := ⟨3, ![1, 2, 4]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4528 : Shape := ⟨2, ![1024, 4528]⟩
abbrev S32x2048x4528 : Shape := ⟨3, ![32, 2048, 4528]⟩
abbrev S32x2048x256 : Shape := ⟨3, ![32, 2048, 256]⟩
abbrev S32x2048x128 : Shape := ⟨3, ![32, 2048, 128]⟩
abbrev S32x2048x32 : Shape := ⟨3, ![32, 2048, 32]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S256 : Shape := ⟨1, ![256]⟩
abbrev S1x1x256 : Shape := ⟨3, ![1, 1, 256]⟩
abbrev S256x768 : Shape := ⟨2, ![256, 768]⟩
abbrev S32x2048x768 : Shape := ⟨3, ![32, 2048, 768]⟩
abbrev S32x2048x8x96 : Shape := ⟨4, ![32, 2048, 8, 96]⟩
abbrev S32x2048x8x64 : Shape := ⟨4, ![32, 2048, 8, 64]⟩
abbrev S32x2048x8x32 : Shape := ⟨4, ![32, 2048, 8, 32]⟩
abbrev S32x2048x8x16 : Shape := ⟨4, ![32, 2048, 8, 16]⟩
abbrev S2048x1x16 : Shape := ⟨3, ![2048, 1, 16]⟩
abbrev S1x2048x1x16 : Shape := ⟨4, ![1, 2048, 1, 16]⟩
abbrev S128 : Shape := ⟨1, ![128]⟩
abbrev S1x1x128 : Shape := ⟨3, ![1, 1, 128]⟩
abbrev S128x1024 : Shape := ⟨2, ![128, 1024]⟩
abbrev S32x2048x8x128 : Shape := ⟨4, ![32, 2048, 8, 128]⟩
abbrev S32x2048x1x32 : Shape := ⟨4, ![32, 2048, 1, 32]⟩
abbrev S32x2048x1x16 : Shape := ⟨4, ![32, 2048, 1, 16]⟩
abbrev S256x256x1024 : Shape := ⟨3, ![256, 256, 1024]⟩
abbrev S256x1024x256 : Shape := ⟨3, ![256, 1024, 256]⟩
abbrev S256x256x8x128 : Shape := ⟨4, ![256, 256, 8, 128]⟩
abbrev S256x8x256x128 : Shape := ⟨4, ![256, 8, 256, 128]⟩

abbrev nBuf : Space → Nat
  | .hbm => 157
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x4528, .f32⟩
  | 3 => ⟨S1x256, .f32⟩
  | 4 => ⟨S1x256x768, .f32⟩
  | 5 => ⟨S1x128, .f32⟩
  | 6 => ⟨S1x128x1024, .f32⟩
  | 7 => ⟨S1x2x4, .f32⟩
  | 8 => ⟨S1x2x4, .f32⟩
  | 9 => ⟨S1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S1024x4528, .f32⟩
  | 27 => ⟨S32x2048x4528, .f32⟩
  | 28 => ⟨S32x2048x256, .f32⟩
  | 29 => ⟨S32x2048x128, .f32⟩
  | 30 => ⟨S32x2048x32, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S2048, .i32⟩
  | 46 => ⟨S_, .i32⟩
  | 47 => ⟨S2048, .i32⟩
  | 48 => ⟨S2048, .i32⟩
  | 49 => ⟨S2048, .f32⟩
  | 50 => ⟨S2048x1, .f32⟩
  | 51 => ⟨S1x16, .f32⟩
  | 52 => ⟨S2048x16, .f32⟩
  | 53 => ⟨S2048x16, .f32⟩
  | 54 => ⟨S2048x16, .f32⟩
  | 55 => ⟨S2048x16, .f32⟩
  | 56 => ⟨S2048x16, .f32⟩
  | 57 => ⟨S256, .f32⟩
  | 58 => ⟨S32x2048x256, .f32⟩
  | 59 => ⟨S_, .f32⟩
  | 60 => ⟨S32x2048, .f32⟩
  | 61 => ⟨S32x2048x1, .f32⟩
  | 62 => ⟨S_, .f32⟩
  | 63 => ⟨S32x2048x1, .f32⟩
  | 64 => ⟨S32x2048x1, .f32⟩
  | 65 => ⟨S_, .f32⟩
  | 66 => ⟨S32x2048x1, .f32⟩
  | 67 => ⟨S32x2048x1, .f32⟩
  | 68 => ⟨S32x2048x1, .f32⟩
  | 69 => ⟨S32x2048x256, .f32⟩
  | 70 => ⟨S32x2048x256, .f32⟩
  | 71 => ⟨S1x1x256, .f32⟩
  | 72 => ⟨S32x2048x256, .f32⟩
  | 73 => ⟨S32x2048x256, .f32⟩
  | 74 => ⟨S256x768, .f32⟩
  | 75 => ⟨S32x2048x768, .f32⟩
  | 76 => ⟨S32x2048x8x96, .f32⟩
  | 77 => ⟨S32x2048x8x64, .f32⟩
  | 78 => ⟨S32x2048x8x32, .f32⟩
  | 79 => ⟨S32x2048x8x16, .f32⟩
  | 80 => ⟨S32x2048x8x16, .f32⟩
  | 81 => ⟨S2048x1x16, .f32⟩
  | 82 => ⟨S2048x1x16, .f32⟩
  | 83 => ⟨S1x2048x1x16, .f32⟩
  | 84 => ⟨S32x2048x8x16, .f32⟩
  | 85 => ⟨S32x2048x8x16, .f32⟩
  | 86 => ⟨S1x2048x1x16, .f32⟩
  | 87 => ⟨S32x2048x8x16, .f32⟩
  | 88 => ⟨S32x2048x8x16, .f32⟩
  | 89 => ⟨S32x2048x8x16, .f32⟩
  | 90 => ⟨S1x2048x1x16, .f32⟩
  | 91 => ⟨S32x2048x8x16, .f32⟩
  | 92 => ⟨S32x2048x8x16, .f32⟩
  | 93 => ⟨S1x2048x1x16, .f32⟩
  | 94 => ⟨S32x2048x8x16, .f32⟩
  | 95 => ⟨S32x2048x8x16, .f32⟩
  | 96 => ⟨S32x2048x8x16, .f32⟩
  | 97 => ⟨S32x2048x8x32, .f32⟩
  | 98 => ⟨S32x2048x8x96, .f32⟩
  | 99 => ⟨S_, .f32⟩
  | 100 => ⟨S32x2048x8x96, .f32⟩
  | 101 => ⟨S32x2048x8x96, .f32⟩
  | 102 => ⟨S128, .f32⟩
  | 103 => ⟨S32x2048x128, .f32⟩
  | 104 => ⟨S_, .f32⟩
  | 105 => ⟨S32x2048, .f32⟩
  | 106 => ⟨S32x2048x1, .f32⟩
  | 107 => ⟨S_, .f32⟩
  | 108 => ⟨S32x2048x1, .f32⟩
  | 109 => ⟨S32x2048x1, .f32⟩
  | 110 => ⟨S_, .f32⟩
  | 111 => ⟨S32x2048x1, .f32⟩
  | 112 => ⟨S32x2048x1, .f32⟩
  | 113 => ⟨S32x2048x1, .f32⟩
  | 114 => ⟨S32x2048x128, .f32⟩
  | 115 => ⟨S32x2048x128, .f32⟩
  | 116 => ⟨S1x1x128, .f32⟩
  | 117 => ⟨S32x2048x128, .f32⟩
  | 118 => ⟨S32x2048x128, .f32⟩
  | 119 => ⟨S128x1024, .f32⟩
  | 120 => ⟨S32x2048x1024, .f32⟩
  | 121 => ⟨S32x2048x8x128, .f32⟩
  | 122 => ⟨S32x2048x8x64, .f32⟩
  | 123 => ⟨S32x2048x1x32, .f32⟩
  | 124 => ⟨S32x2048x1x16, .f32⟩
  | 125 => ⟨S32x2048x1x16, .f32⟩
  | 126 => ⟨S2048x1x16, .f32⟩
  | 127 => ⟨S2048x1x16, .f32⟩
  | _ => ⟨S32x2048x1024, .f32⟩

abbrev hbmTy0_1 (i : Nat) : BufTy := match i % 128 with
  | 0 => ⟨S1x2048x1x16, .f32⟩
  | 1 => ⟨S32x2048x1x16, .f32⟩
  | 2 => ⟨S32x2048x1x16, .f32⟩
  | 3 => ⟨S1x2048x1x16, .f32⟩
  | 4 => ⟨S32x2048x1x16, .f32⟩
  | 5 => ⟨S32x2048x1x16, .f32⟩
  | 6 => ⟨S32x2048x1x16, .f32⟩
  | 7 => ⟨S1x2048x1x16, .f32⟩
  | 8 => ⟨S32x2048x1x16, .f32⟩
  | 9 => ⟨S32x2048x1x16, .f32⟩
  | 10 => ⟨S1x2048x1x16, .f32⟩
  | 11 => ⟨S32x2048x1x16, .f32⟩
  | 12 => ⟨S32x2048x1x16, .f32⟩
  | 13 => ⟨S32x2048x1x16, .f32⟩
  | 14 => ⟨S32x2048x1x32, .f32⟩
  | 15 => ⟨S32x2048x8x32, .f32⟩
  | 16 => ⟨S32x2048x8x96, .f32⟩
  | 17 => ⟨S_, .i32⟩
  | 18 => ⟨S_, .f32⟩
  | 19 => ⟨S32x2048x8x128, .f32⟩
  | 20 => ⟨S32x2048x8x128, .bf16⟩
  | 21 => ⟨S256x256x1024, .bf16⟩
  | 22 => ⟨S256x1024x256, .bf16⟩
  | 23 => ⟨S_, .i32⟩
  | 24 => ⟨S_, .f32⟩
  | 25 => ⟨S32x2048x8x128, .f32⟩
  | 26 => ⟨S32x2048x8x128, .bf16⟩
  | 27 => ⟨S256x256x8x128, .bf16⟩
  | 28 => ⟨S256x8x256x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_cst_11 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_c_13 : Ref sig .tc := ⟨.hbm, 145, rfl⟩
abbrev main_call0_v0 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_c_14 : Ref sig .tc := ⟨.hbm, 151, rfl⟩
abbrev main_call1_v0 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩

abbrev nD : Nat := 1
abbrev τ : Topo := Topo.v7x

variable {F : FTy → Type} [FloatOps F]
-- ==== Proof.Merge.Words.lean ====
module

public import proofs.«01_k».proof.Proof.Gen.KernelIdeal

/-!
# The words the pipeline of the merge carries

Trip `k` of the loop over the 64 row blocks carries fifteen words: for each ring the slot its next fetch goes to and
the slot its next wait is for, the slot the next result is written to and the slot whose copy is awaited next, and the
number of the block.  This file says what each of them is at trip `k`, and what the offsets and conditions the kernel
computes from them are.
-/

@[expose] public section

noncomputable section

namespace Cert.KernelIdeal.Merge

open Idealize.ShloMosaic Idealize.ShloMosaic.TcCoe

/-- The word of a number. -/
abbrev wd (n : Nat) : BitVec 32 := BitVec.ofNat 32 n
/-- The bit of a condition. -/
abbrev bt (p : Prop) [Decidable p] : BitVec 1 := if p then 1#1 else 0#1
/-- The count of fetches issued on a ring before trip `k`. -/
abbrev fw (k : ℕ) : BitVec 32 := wd (min (k + 2) 64)

/-- The trips of the loop. -/
abbrev Trip := Fin k0_t1_loop.trips

theorem trips_eq : k0_t1_loop.trips = 64 := by decide +kernel
theorem trip_lt (k : Trip) : k.val < 64 := trips_eq ▸ k.isLt
/-- The block of a trip. -/
def tb (k : Trip) : Fin 64 := ⟨k.val, trip_lt k⟩
@[simp] theorem tb_val (k : Trip) : (tb k).val = k.val := rfl

/-! ## What one trip computes from them -/

theorem iv_at : ∀ k : Trip, Scf.iv 0#32 1#32 k = wd k := by decide +kernel
theorem first_at : ∀ k : Trip, Scalar.cmpi .eq (wd k) 0#32 = bt (k.val = 0) := by decide +kernel
theorem last_at : ∀ k : Trip, Scalar.cmpi .eq (wd k) 63#32 = bt (k.val = 63) := by decide +kernel
theorem add0_at : ∀ x : BitVec 32, Scalar.addi x 0#32 = x := by intro x; exact BitVec.add_zero x
theorem prev_at : ∀ k : Trip, Scalar.select (Scalar.cmpi .eq (Scalar.select 1#1 (Scalar.subi (wd k) 1#32) (wd k)) 4294967295#32) 63#32
    (Scalar.select 1#1 (Scalar.subi (wd k) 1#32) (wd k)) = wd ((k + 63) % 64) := by decide +kernel
theorem next_at : ∀ k : Trip, Scalar.select (Scalar.cmpi .eq (Scalar.select 1#1 (Scalar.addi (wd k) 1#32) (wd k)) 64#32) 0#32
    (Scalar.select 1#1 (Scalar.addi (wd k) 1#32) (wd k)) = wd ((k + 1) % 64) := by decide +kernel
theorem next2_at : ∀ k : Trip, Scalar.select (Scalar.cmpi .eq (Scalar.select 1#1 (Scalar.addi (wd ((k + 1) % 64)) 1#32) (wd ((k + 1) % 64))) 64#32) 0#32
    (Scalar.select 1#1 (Scalar.addi (wd ((k + 1) % 64)) 1#32) (wd ((k + 1) % 64))) = wd ((k + 2) % 64) := by decide +kernel
theorem moves_at : ∀ k : Trip, Scalar.cmpi .ne (wd ((k + 1) % 64)) (wd ((k + 2) % 64)) = 1#1 := by decide +kernel
theorem moved_at : ∀ k : Trip, Scalar.cmpi .ne (wd k) (wd ((k + 1) % 64)) = 1#1 := by decide +kernel
theorem came_at : ∀ k : Trip, Scalar.cmpi .ne (wd k) (wd ((k + 63) % 64)) = 1#1 := by decide +kernel
theorem more_at : ∀ k : Trip, Scalar.xori (Scalar.cmpi .sge (wd k) 62#32) 1#1 = bt (k.val < 62) := by decide +kernel
theorem and1 : ∀ x : BitVec 1, Scalar.andi x 1#1 = x := by decide +kernel
theorem one_and : ∀ x : BitVec 1, Scalar.andi 1#1 x = x := by decide +kernel
theorem one_or : ∀ x : BitVec 1, Scalar.ori 1#1 x = 1#1 := by decide +kernel
theorem not_first_at : ∀ k : Trip, Scalar.xori (bt (k.val = 0)) 1#1 = bt (k.val ≠ 0) := by decide +kernel
theorem fetched_at : ∀ k : Trip, Scalar.select (bt (k.val < 62)) (Scalar.addi (fw k) 1#32) (fw k) = fw (k + 1) := by decide +kernel
theorem taken_at : ∀ k : Trip, Scalar.select 1#1 (Scalar.addi (wd k) 1#32) (wd k) = wd (k + 1) := by decide +kernel
theorem awaited_at : ∀ k : Trip, Scalar.select (bt (k.val ≠ 0)) (Scalar.addi (wd (k - 1)) 1#32) (wd (k - 1)) = wd (k + 1 - 1) := by decide +kernel

/-! ## The conditions -/

theorem cond7_at : ∀ k : Trip, k0_cond7 k (wd k) = 1#1 ↔ k.val < 62 := by decide +kernel
theorem cond8_at : ∀ k : Trip, k0_cond8 k (wd k) = 1#1 ↔ k.val < 62 := cond7_at
theorem cond9_at : ∀ k : Trip, k0_cond9 k (wd k) = 1#1 ↔ k.val < 62 := cond7_at
theorem cond10_at : ∀ k : Trip, k0_cond10 k (wd k) = 1#1 ↔ k.val < 62 := cond7_at
theorem cond11_at : ∀ k : Trip, k0_cond11 k (wd k) = 1#1 ↔ k.val < 62 := cond7_at
theorem cond12_at : ∀ k : Trip, k0_cond12 k (wd k) = 1#1 ↔ k.val < 62 := cond7_at
theorem cond13_at : ∀ k : Trip, k0_cond13 k (wd k) = 1#1 := by decide +kernel
theorem cond14_at : ∀ k : Trip, k0_cond14 k (wd k) = 1#1 := cond13_at
theorem cond15_at : ∀ k : Trip, k0_cond15 k (wd k) = 1#1 := cond13_at
theorem cond16_at : ∀ k : Trip, k0_cond16 k (wd k) = 1#1 := cond13_at
theorem cond17_at : ∀ k : Trip, k0_cond17 k (wd k) = 1#1 := cond13_at
theorem cond18_at : ∀ k : Trip, k0_cond18 k (wd k) = 1#1 := cond13_at
theorem cond26_at : ∀ k : Trip, k0_cond26 k (wd k) = 1#1 := by decide +kernel
theorem cond33_at : ∀ k : Trip, k0_cond33 k (wd k) = 1#1 ↔ k.val ≠ 0 := by decide +kernel

/-! ## The checks -/

theorem chk1_at : ∀ k : Trip, k0_chk1 k (fw k) (wd k) (fw k) (wd k) (fw k) (wd k) (fw k) (wd k) (fw k) (wd k) (fw k) (wd k)
    (wd k) (wd (k - 1)) (wd k) := by decide +kernel
theorem chk2_at : ∀ k : Trip, k0_chk2 (wd k) := by decide +kernel
theorem chk3_at : ∀ k : Trip, k0_chk3 (wd k) := by decide +kernel
theorem chk4_at : ∀ k : Trip, k0_chk4 (wd k) := by decide +kernel
theorem chk5_at : ∀ k : Trip, k0_chk5 (wd k) := by decide +kernel
theorem chk6_at : ∀ k : Trip, k0_chk6 (wd k) := by decide +kernel
theorem chk7_at : ∀ k : Trip, k0_chk7 (wd k) := by decide +kernel
theorem chk8_at : ∀ k : Trip, k0_chk8 (wd k) := by decide +kernel
theorem chk9_at : k0_chk9 (wd 63) := by decide +kernel
theorem chk10_at : k0_chk10 (wd 0) := by decide +kernel

/-! ## The offsets: cells, slots and blocks -/

theorem off22_at : ∀ k : Trip, k.val < 62 → k0_off22 (fw k) = ![((k.val + 2) % 3)] := by decide +kernel
theorem off25_at : ∀ k : Trip, k.val < 62 → k0_off25 (fw k) = ![((k.val + 2) % 3)] := off22_at
theorem off28_at : ∀ k : Trip, k.val < 62 → k0_off28 (fw k) = ![((k.val + 2) % 3)] := off22_at
theorem off31_at : ∀ k : Trip, k.val < 62 → k0_off31 (fw k) = ![((k.val + 2) % 3)] := off22_at
theorem off34_at : ∀ k : Trip, k.val < 62 → k0_off34 (fw k) = ![((k.val + 2) % 3)] := off22_at
theorem off37_at : ∀ k : Trip, k.val < 62 → k0_off37 (fw k) = ![((k.val + 2) % 3)] := off22_at
theorem off23_at : ∀ k : Trip, k.val < 62 → k0_off23 (fw k) = ![((k.val + 2) % 3), 0, 0] := by decide +kernel
theorem off26_at : ∀ k : Trip, k.val < 62 → k0_off26 (fw k) = ![((k.val + 2) % 3), 0, 0] := off23_at
theorem off29_at : ∀ k : Trip, k.val < 62 → k0_off29 (fw k) = ![((k.val + 2) % 3), 0, 0] := off23_at
theorem off32_at : ∀ k : Trip, k.val < 62 → k0_off32 (fw k) = ![((k.val + 2) % 3), 0, 0] := off23_at
theorem off35_at : ∀ k : Trip, k.val < 62 → k0_off35 (fw k) = ![((k.val + 2) % 3), 0, 0] := off23_at
theorem off38_at : ∀ k : Trip, k.val < 62 → k0_off38 (fw k) = ![((k.val + 2) % 3), 0, 0] := off23_at
theorem off24_at : ∀ k : Trip, k.val < 62 → k0_off24 (wd k) = ![1024 * (k.val + 2), 0] := by decide +kernel
theorem off27_at : ∀ k : Trip, k.val < 62 → k0_off27 (wd k) = ![1024 * (k.val + 2), 0] := off24_at
theorem off30_at : ∀ k : Trip, k.val < 62 → k0_off30 (wd k) = ![1024 * (k.val + 2), 0] := off24_at
theorem off33_at : ∀ k : Trip, k.val < 62 → k0_off33 (wd k) = ![1024 * (k.val + 2), 0] := off24_at
theorem off36_at : ∀ k : Trip, k.val < 62 → k0_off36 (wd k) = ![1024 * (k.val + 2), 0] := off24_at
theorem off39_at : ∀ k : Trip, k.val < 62 → k0_off39 (wd k) = ![1024 * (k.val + 2), 0] := off24_at
theorem off40_at : ∀ k : Trip, k0_off40 (wd k) = ![(k.val % 3)] := by decide +kernel
theorem off43_at : ∀ k : Trip, k0_off43 (wd k) = ![(k.val % 3)] := off40_at
theorem off46_at : ∀ k : Trip, k0_off46 (wd k) = ![(k.val % 3)] := off40_at
theorem off49_at : ∀ k : Trip, k0_off49 (wd k) = ![(k.val % 3)] := off40_at
theorem off52_at : ∀ k : Trip, k0_off52 (wd k) = ![(k.val % 3)] := off40_at
theorem off55_at : ∀ k : Trip, k0_off55 (wd k) = ![(k.val % 3)] := off40_at
theorem off41_at : ∀ k : Trip, k0_off41 (wd k) = ![(k.val % 3), 0, 0] := by decide +kernel
theorem off44_at : ∀ k : Trip, k0_off44 (wd k) = ![(k.val % 3), 0, 0] := off41_at
theorem off47_at : ∀ k : Trip, k0_off47 (wd k) = ![(k.val % 3), 0, 0] := off41_at
theorem off50_at : ∀ k : Trip, k0_off50 (wd k) = ![(k.val % 3), 0, 0] := off41_at
theorem off53_at : ∀ k : Trip, k0_off53 (wd k) = ![(k.val % 3), 0, 0] := off41_at
theorem off56_at : ∀ k : Trip, k0_off56 (wd k) = ![(k.val % 3), 0, 0] := off41_at
theorem off58_at : ∀ k : Trip, k0_off58 (wd k) = ![(k.val % 3), 0, 0] := off41_at
theorem off59_at : ∀ k : Trip, k0_off59 (wd k) = ![(k.val % 3), 0, 0] := off41_at
theorem off60_at : ∀ k : Trip, k0_off60 (wd k) = ![(k.val % 3), 0, 0] := off41_at
theorem off61_at : ∀ k : Trip, k0_off61 (wd k) = ![(k.val % 3), 0, 0] := off41_at
theorem off62_at : ∀ k : Trip, k0_off62 (wd k) = ![(k.val % 3), 0, 0] := off41_at
theorem off63_at : ∀ k : Trip, k0_off63 (wd k) = ![(k.val % 3), 0, 0] := off41_at
theorem off42_at : ∀ k : Trip, k0_off42 (wd k) = ![1024 * k.val, 0] := by decide +kernel
theorem off45_at : ∀ k : Trip, k0_off45 (wd k) = ![1024 * k.val, 0] := off42_at
theorem off48_at : ∀ k : Trip, k0_off48 (wd k) = ![1024 * k.val, 0] := off42_at
theorem off51_at : ∀ k : Trip, k0_off51 (wd k) = ![1024 * k.val, 0] := off42_at
theorem off54_at : ∀ k : Trip, k0_off54 (wd k) = ![1024 * k.val, 0] := off42_at
theorem off57_at : ∀ k : Trip, k0_off57 (wd k) = ![1024 * k.val, 0] := off42_at
theorem off66_at : ∀ k : Trip, k0_off66 (wd k) = ![1024 * k.val, 0] := off42_at
theorem off65_at : ∀ k : Trip, k0_off65 (wd k) = ![(k.val % 2)] := by decide +kernel
theorem off64_at : ∀ k : Trip, k0_off64 (wd k) = ![(k.val % 2), 0, 0] := by decide +kernel
theorem off67_at : ∀ k : Trip, k0_off67 (wd k) = ![(k.val % 2), 0, 0] := off64_at
theorem off68_at : ∀ k : Trip, k.val ≠ 0 → k0_off68 (wd (k - 1)) = ![((k.val - 1) % 2)] := by decide +kernel
theorem off70_at : ∀ k : Trip, k.val ≠ 0 → k0_off70 (wd (k - 1)) = ![((k.val - 1) % 2), 0, 0] := by decide +kernel
theorem off69_at : ∀ k : Trip, k.val ≠ 0 → k0_off69 (wd k) = ![1024 * (k.val - 1), 0] := by decide +kernel
theorem off1_at : k0_off1 = ![0] := by decide +kernel
theorem off2_at : k0_off2 = ![0, 0, 0] := by decide +kernel
theorem off3_at : k0_off3 = ![0, 0, 0] := off2_at
theorem off4_at : k0_off4 = ![1] := by decide +kernel
theorem off7_at : k0_off7 = ![1] := off4_at
theorem off10_at : k0_off10 = ![1] := off4_at
theorem off13_at : k0_off13 = ![1] := off4_at
theorem off16_at : k0_off16 = ![1] := off4_at
theorem off19_at : k0_off19 = ![1] := off4_at
theorem off5_at : k0_off5 = ![1, 0, 0] := by decide +kernel
theorem off8_at : k0_off8 = ![1, 0, 0] := off5_at
theorem off11_at : k0_off11 = ![1, 0, 0] := off5_at
theorem off14_at : k0_off14 = ![1, 0, 0] := off5_at
theorem off17_at : k0_off17 = ![1, 0, 0] := off5_at
theorem off20_at : k0_off20 = ![1, 0, 0] := off5_at
theorem off6_at : k0_off6 = ![1024, 0] := by decide +kernel
theorem off9_at : k0_off9 = ![1024, 0] := off6_at
theorem off12_at : k0_off12 = ![1024, 0] := off6_at
theorem off15_at : k0_off15 = ![1024, 0] := off6_at
theorem off18_at : k0_off18 = ![1024, 0] := off6_at
theorem off21_at : k0_off21 = ![1024, 0] := off6_at
theorem cond1_at : k0_cond1 = 1#1 := by decide +kernel
theorem cond2_at : k0_cond2 = 1#1 := by decide +kernel
theorem cond3_at : k0_cond3 = 1#1 := by decide +kernel
theorem cond4_at : k0_cond4 = 1#1 := by decide +kernel
theorem cond5_at : k0_cond5 = 1#1 := by decide +kernel
theorem cond6_at : k0_cond6 = 1#1 := by decide +kernel
theorem off71_at : k0_off71 (wd 63) = ![1] := by decide +kernel
theorem off73_at : k0_off73 (wd 63) = ![1, 0, 0] := by decide +kernel
theorem off72_at : k0_off72 (wd 0) = ![1024 * 63, 0] := by decide +kernel

end Cert.KernelIdeal.Merge

end
-- ==== Proof.Merge.Ring.lean ====
/-
  The rings of the merge kernel. Every block it reads comes in through a ring of three slots: a copy of the block
  from HBM is started into a slot, and is waited for two trips later. The lemmas here say what each of these steps
  does to what is owned: a slot is FREE, IN FLIGHT with a block, or has LANDED with it.
-/
module

public import proofs.«01_k».proof.Proof.Gen.KernelIdeal.Launch
public import Idealize.ShloMosaic.Lib.Pipeline.FrameValue
public import Idealize.ShloMosaic.Lib.Pipeline.FrameBody
public import Idealize.ShloMosaic.Lib.Ring
public import Idealize.ShloMosaic.Lib.Ring.Trips
public import Idealize.ShloMosaic.Lib.Tactic
public import Idealize.ShloMosaic.Lib.Transfers
public import proofs.«01_k».proof.Proof.Merge.Words

@[expose] public section

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A ring of three slots of 1024 rows, its copies' cells, and the array in HBM its blocks come from. -/
structure InRing (w : ℕ) (e : EltTy) where
  buf : Memref sig .tc .vmem ⟨3, ![3, 1024, w]⟩ e
  sems : DmaSems sig S3
  home : Memref sig .tc .hbm ⟨2, ![65536, w]⟩ e
  sq : (⟨3, ![1, 1024, w]⟩ : Shape).Squeezes ⟨2, ![1024, w]⟩

namespace InRing

theorem slotInb (w : ℕ) (j : Fin 3) : ∀ a : Fin 3, (![j.val, 0, 0] : Fin 3 → ℕ) a + (![1, 1024, w] : Fin 3 → ℕ) a ≤ (![3, 1024, w] : Fin 3 → ℕ) a := by
  intro a; have := j.isLt; fin_cases a <;> simp <;> omega
theorem blkInb (w : ℕ) (b : Fin 64) : ∀ a : Fin 2, (![1024 * b.val, 0] : Fin 2 → ℕ) a + (![1024, w] : Fin 2 → ℕ) a ≤ (![65536, w] : Fin 2 → ℕ) a := by
  intro a; have := b.isLt; fin_cases a <;> simp <;> omega
theorem cellInb (j : Fin 3) : ∀ a : Fin 1, (![j.val] : Fin 1 → ℕ) a + (![1] : Fin 1 → ℕ) a ≤ (![3] : Fin 1 → ℕ) a := by
  intro a; have := j.isLt; fin_cases a; simp; omega

variable {w : ℕ} {e : EltTy} (R : InRing w e)

abbrev rect (w : ℕ) (j : Fin 3) : Rect ⟨3, ![3, 1024, w]⟩ := Rect.unit (s := ⟨3, ![3, 1024, w]⟩) ![j.val, 0, 0] ![1, 1024, w] (slotInb w j)
abbrev brect (w : ℕ) (b : Fin 64) : Rect ⟨2, ![65536, w]⟩ := Rect.unit (s := ⟨2, ![65536, w]⟩) ![1024 * b.val, 0] ![1024, w] (blkInb w b)
/-- Slot `j`, and block `b` of the array. -/
abbrev slot (j : Fin 3) : Memref sig .tc .vmem ⟨2, ![1024, w]⟩ e := (R.buf.slice (rect w j) (fun _ => rfl)).squeeze ⟨2, ![1024, w]⟩ R.sq
abbrev blk (b : Fin 64) : Memref sig .tc .hbm ⟨2, ![1024, w]⟩ e := R.home.slice (brect w b) (fun _ => rfl)
abbrev cell (j : Fin 3) : DmaSem sig := ((R.sems.slice (Rect.unit (s := S3) ![j.val] S1.size (cellInb j))).squeeze S_ squeezes_S1_S_).sem

variable (c : Dev nD) (A : Buf (Elt F) (R.home.view.loc (c : Thread nD τ)))

/-- Slot `j`'s share of the array. -/
def homeP (j : Fin 3) : sProp 𝕄 := R.home.view.loc (c : Thread nD τ) ↦[Finset.univ]{Ring.shares3 fullShare j} A
/-- Block `b` of the array. -/
def val (b : Fin 64) : (⟨2, ![1024, w]⟩ : Shape).Idx → Elt F e := (R.blk b).view.read (Elt F) A
/-- Slot `j` holding block `b`. -/
def hasP (j : Fin 3) (b : Fin 64) : sProp 𝕄 :=
  iprop(∃ f : Buf (Elt F) ((R.slot j).view.loc (c : Thread nD τ)), ((R.slot j).view.loc (c : Thread nD τ) ↦[(R.slot j).view.set]{fullShare} f)
    ∗ ⌜(R.slot j).view.read (Elt F) f = R.val c A b⌝)
def FreeP (j : Fin 3) : sProp 𝕄 :=
  iprop(semVal ((c : Thread nD τ), SemLoc.dma (R.cell j)) 0
    ∗ (∃ f : Buf (Elt F) ((R.slot j).view.loc (c : Thread nD τ)), (R.slot j).view.loc (c : Thread nD τ) ↦[(R.slot j).view.set]{fullShare} f) ∗ R.homeP c A j)
def LandedP (j : Fin 3) (b : Fin 64) : sProp 𝕄 :=
  iprop(semVal ((c : Thread nD τ), SemLoc.dma (R.cell j)) 0 ∗ R.hasP c A j b ∗ R.homeP c A j)
def FlyP (j : Fin 3) (b : Fin 64) : sProp 𝕄 :=
  iprop(Transfers.Flight countersEmb (c : Thread nD τ) (SemLoc.dma (R.cell j)) () (R.slot j).view.dmaCredit
      iprop(R.hasP c A j b ∗ ((R.blk b).view.loc (c : Thread nD τ) ↦[(R.blk b).view.set]{Ring.shares3 fullShare j} A))
    ∗ (R.home.view.loc (c : Thread nD τ) ↦[Finset.univ \ (R.blk b).view.set]{Ring.shares3 fullShare j} A))

theorem LandedP_free (j : Fin 3) (b : Fin 64) : R.LandedP c A j b ⊢ R.FreeP c A j := by
  unfold LandedP FreeP hasP
  iintro ⟨Hs, ⟨%f, Hf, -⟩, Hh⟩
  isplitl [Hs]; · iexact Hs
  isplitl [Hf]; · iexists f; iexact Hf
  iexact Hh

variable (𝒱 : Variants) (bd : Option 𝒱.V)

theorem wp_fetch (hw : 0 < w) (j : Fin 3) (b : Fin 64) {src : Memref sig .tc .hbm ⟨2, ![1024, w]⟩ e} {dst : Memref sig .tc .vmem ⟨2, ![1024, w]⟩ e} {sm : DmaSem sig}
    {hsrc : src.view.WordExact} {hdst : dst.view.WordExact} {hsem : DmaTarget.Typed (nD := nD) (τ := τ) (p := (c : Thread nD τ).2) .hbm (SemLoc.dma sm) (.here dst)}
    {Q : PUnit → sProp 𝕄} (es : src = R.blk b) (ed : dst = R.slot j) (ec : sm = R.cell j) :
    R.FreeP c A j ⊢ iprop((R.FlyP c A j b -∗ Q ⟨⟩) -∗ wp frame (wpE (defs₀ (F := F)) 𝒱 (c : Thread nD τ) bd) Set.univ
      (Prog.lift (TpuEff.enqueueDma src (.here dst) (.dma sm) hsrc hdst hsem)) Q) := by
  subst es ed ec
  unfold FreeP FlyP homeP
  iintro ⟨Hs, ⟨%f, Hf⟩, Hh⟩ HQ
  ihave Hh' := (pointsTo_split_subset (Finset.subset_univ (R.blk b).view.set)).1 $$ Hh
  icases Hh' with ⟨Hb, Hr⟩
  iapply (Transfers.wp_dmaLocal countersEmb 𝒱 (c : Thread nD τ) bd (src := R.blk b) (dst := R.slot j) (via := .same) () (R.slot j).view.dmaCredit rfl
    (View.dmaCredit_pos _ (Shape.numel_pos fun a => by fin_cases a <;> simp [hw])) (Finset.Subset.refl _)) $$ [Hb Hf Hs]
  · isplitl [Hb]; · iexact Hb
    isplitl [Hf]; · iexact Hf
    iexact Hs
  iintro HF
  irw [wp_ret]
  imodintro
  iapply HQ
  isplitl [HF]
  · iapply (Transfers.Flight_mono countersEmb _ ?_) $$ HF
    unfold hasP
    iintro ⟨Hf, Hb⟩
    isplitl [Hf]
    · iexists _
      isplitl [Hf]; · iexact Hf
      ipureintro
      exact View.read_write_univ _ _
    iexact Hb
  iexact Hr

theorem wp_await (j : Fin 3) (b : Fin 64) {srcw : Memref sig .tc .hbm ⟨2, ![1024, w]⟩ e} {dst : Memref sig .tc .vmem ⟨2, ![1024, w]⟩ e} {sm : DmaSem sig}
    {hsrc : srcw.view.WordExact} {hdst : dst.view.WordExact} {Q : PUnit → sProp 𝕄} (ed : dst = R.slot j) (ec : sm = R.cell j) :
    iprop(R.FlyP c A j b ∗ ∃ W, owes (c : Thread nD τ) 0 W) ⊢ iprop((iprop(R.LandedP c A j b ∗ ∃ W, owes (c : Thread nD τ) 0 W) -∗ Q ⟨⟩)
      -∗ wp frame (wpE (defs₀ (F := F)) 𝒱 (c : Thread nD τ) bd) Set.univ (Prog.lift (TpuEff.waitDma2 sm srcw dst hsrc hdst)) Q) := by
  subst ed ec
  unfold FlyP LandedP homeP
  iintro ⟨⟨HF, Hr⟩, %W, HW⟩ HQ
  iapply (Transfers.wp_waitLocal countersEmb 𝒱 (c : Thread nD τ) bd (dstw := R.slot j) () (N := (R.slot j).view.dmaCredit) rfl) $$ [HF HW]
  · isplitl [HF]; · iexact HF
    iexact HW
  iintro ⟨⟨Hd, Hb⟩, Hs, HW⟩
  irw [wp_ret]
  imodintro
  iapply HQ
  isplitr [HW]
  · isplitl [Hs]; · iexact Hs
    isplitl [Hd]; · iexact Hd
    iapply (pointsTo_split_subset (Finset.subset_univ (R.blk b).view.set)).2
    isplitl [Hb]; · iexact Hb
    iexact Hr
  iexists _; iexact HW

/-- A load of a landed slot reads its block. -/
theorem wp_loadSlot (j : Fin 3) (b : Fin 64) {off : Fin 3 → ℕ} {inb} {hl : R.buf.view.LoadsAt (Rect.unit (s := ⟨3, ![3, 1024, w]⟩) off ![1, 1024, w] inb).toLoadRect}
    (eo : off = ![j.val, 0, 0]) {Q : ((⟨3, ![1, 1024, w]⟩ : Shape).Idx → Elt F e) → sProp 𝕄} :
    R.LandedP c A j b ⊢ iprop((∀ v : (⟨3, ![1, 1024, w]⟩ : Shape).Idx → Elt F e, iprop(⌜(fun i => v (Shape.reshapeEquiv R.sq.numel_eq i)) = R.val c A b⌝ ∗ R.LandedP c A j b) -∗ Q v)
      -∗ wp frame (wpE (defs₀ (F := F)) 𝒱 (c : Thread nD τ) bd) Set.univ
        (Prog.lift (TpuEff.load R.buf (Rect.unit (s := ⟨3, ![3, 1024, w]⟩) off ![1, 1024, w] inb).toLoadRect hl)) Q) := by
  subst eo
  unfold LandedP hasP
  iintro ⟨Hs, ⟨%f, Hf, %hf⟩, Hh⟩ HQ
  iapply (wp_load_rect 𝒱 (c : Thread nD τ) bd Set.univ (m := R.buf) (r := rect w j) (S := (R.slot j).view.set) (f := f) (by rw [View.set_reshape])) $$ Hf
  iintro Hf
  irw [wp_ret]
  imodintro
  iapply HQ
  isplitr; · ipureintro; exact hf
  isplitl [Hs]; · iexact Hs
  isplitl [Hf]
  · iexists f
    isplitl [Hf]; · iexact Hf
    ipureintro; exact hf
  iexact Hh

/-- A slot, a block and a cell cut at offsets that equal theirs. -/
theorem slot_eq {j : Fin 3} {off : Fin 3 → ℕ} {inb} {hs} (eo : off = ![j.val, 0, 0]) :
    (R.buf.slice (Rect.unit (s := ⟨3, ![3, 1024, w]⟩) off ![1, 1024, w] inb) hs).squeeze ⟨2, ![1024, w]⟩ R.sq = R.slot j := by subst eo; rfl
theorem blk_eq {b : Fin 64} {off : Fin 2 → ℕ} {inb} {hs} (eo : off = ![1024 * b.val, 0]) :
    R.home.slice (Rect.unit (s := ⟨2, ![65536, w]⟩) off ![1024, w] inb) hs = R.blk b := by subst eo; rfl
theorem cell_eq {j : Fin 3} {off : Fin 1 → ℕ} {inb} (eo : off = ![j.val]) :
    ((R.sems.slice (Rect.unit (s := S3) off S1.size inb)).squeeze S_ squeezes_S1_S_).sem = R.cell j := by subst eo; rfl

/-- Slot `j` before trip `n`'s block is due: in flight with block `n`, or free when the array has no such block. -/
def AtP (j : Fin 3) (n : ℕ) : sProp 𝕄 := if h : n < 64 then R.FlyP c A j ⟨n, h⟩ else R.FreeP c A j

theorem at_fly {j : Fin 3} (n : ℕ) (h : n < 64) : R.FlyP c A j ⟨n, h⟩ ⊢ R.AtP c A j n := by rw [AtP, dif_pos h]
theorem at_free {j : Fin 3} (n : ℕ) (h : ¬ n < 64) : R.FreeP c A j ⊢ R.AtP c A j n := by rw [AtP, dif_neg h]
theorem of_at {j : Fin 3} (n : ℕ) (h : n < 64) : R.AtP c A j n ⊢ R.FlyP c A j ⟨n, h⟩ := by rw [AtP, dif_pos h]
theorem of_at_free {j : Fin 3} (n : ℕ) (h : ¬ n < 64) : R.AtP c A j n ⊢ R.FreeP c A j := by rw [AtP, dif_neg h]

end InRing

/-! ## The ring the results leave through -/

abbrev obuf : Memref sig .tc .vmem S2x1024x1024 .f32 := Memref.whole cc0_scoped12
abbrev ohome : Memref sig .tc .hbm S65536x1024 .f32 := Memref.whole main_v8
theorem oslotInb (j : Fin 2) : ∀ a : Fin 3, (![j.val, 0, 0] : Fin 3 → ℕ) a + (![1, 1024, 1024] : Fin 3 → ℕ) a ≤ (![2, 1024, 1024] : Fin 3 → ℕ) a := by
  intro a; have := j.isLt; fin_cases a <;> simp <;> omega
theorem ocellInb (j : Fin 2) : ∀ a : Fin 1, (![j.val] : Fin 1 → ℕ) a + (![1] : Fin 1 → ℕ) a ≤ (![2] : Fin 1 → ℕ) a := by
  intro a; have := j.isLt; fin_cases a; simp; omega
abbrev orect (j : Fin 2) : Rect S2x1024x1024 := Rect.unit (s := S2x1024x1024) ![j.val, 0, 0] S1x1024x1024.size (oslotInb j)
abbrev oslot (j : Fin 2) : Memref sig .tc .vmem S1024x1024 .f32 := (obuf.slice (orect j) (fun _ => rfl)).squeeze S1024x1024 squeezes_S1x1024x1024_S1024x1024
abbrev oblk (b : Fin 64) : Memref sig .tc .hbm S1024x1024 .f32 := ohome.slice (InRing.brect 1024 b) (fun _ => rfl)
abbrev ocell (j : Fin 2) : DmaSem sig := (((cc0_scoped13 : DmaSems sig S2).slice (Rect.unit (s := S2) ![j.val] S1.size (ocellInb j))).squeeze S_ squeezes_S1_S_).sem

theorem oslot_eq {j : Fin 2} {off : Fin 3 → ℕ} {inb} {hs} (eo : off = ![j.val, 0, 0]) :
    (obuf.slice (Rect.unit (s := S2x1024x1024) off S1x1024x1024.size inb) hs).squeeze S1024x1024 squeezes_S1x1024x1024_S1024x1024 = oslot j := by subst eo; rfl
theorem oblk_eq {b : Fin 64} {off : Fin 2 → ℕ} {inb} {hs} (eo : off = ![1024 * b.val, 0]) :
    ohome.slice (Rect.unit (s := S65536x1024) off S1024x1024.size inb) hs = oblk b := by subst eo; rfl
theorem ocell_eq {j : Fin 2} {off : Fin 1 → ℕ} {inb} (eo : off = ![j.val]) :
    (((cc0_scoped13 : DmaSems sig S2).slice (Rect.unit (s := S2) off S1.size inb)).squeeze S_ squeezes_S1_S_).sem = ocell j := by subst eo; rfl

section Out

variable (c : Dev nD) (G : Buf (Elt F) (ohome.view.loc (c : Thread nD τ)))

def OCell (j : Fin 2) : sProp 𝕄 := semVal ((c : Thread nD τ), SemLoc.dma (ocell j)) 0
def OAny (j : Fin 2) : sProp 𝕄 := iprop(∃ f : Buf (Elt F) ((oslot j).view.loc (c : Thread nD τ)), (oslot j).view.loc (c : Thread nD τ) ↦[(oslot j).view.set]{fullShare} f)
/-- Slot `j` holding `v`. -/
def OHas (j : Fin 2) (v : S1x1024x1024.Idx → Elt F .f32) : sProp 𝕄 :=
  iprop(∃ f : Buf (Elt F) ((oslot j).view.loc (c : Thread nD τ)), ((oslot j).view.loc (c : Thread nD τ) ↦[(oslot j).view.set]{fullShare} f)
    ∗ ⌜(obuf.access (orect j)).read (Elt F) f = v⌝)
def OFree (j : Fin 2) : sProp 𝕄 := iprop(OCell (F := F) c j ∗ OAny (F := F) c j)
/-- Block `b` of the result not yet written, and written. -/
def Todo (b : Fin 64) : sProp 𝕄 := iprop(∃ f : Buf (Elt F) ((oblk b).view.loc (c : Thread nD τ)), (oblk b).view.loc (c : Thread nD τ) ↦[(oblk b).view.set]{fullShare} f)
def Done (b : Fin 64) : sProp 𝕄 := (oblk b).view.loc (c : Thread nD τ) ↦[(oblk b).view.set]{fullShare} G
/-- Slot `j` on its way to block `b`. -/
def OFly (j : Fin 2) (b : Fin 64) : sProp 𝕄 :=
  Transfers.Flight countersEmb (c : Thread nD τ) (SemLoc.dma (ocell j)) () (oblk b).view.dmaCredit iprop(OAny (F := F) c j ∗ Done c G b)

theorem entails_eq {P Q : sProp 𝕄} (e : P = Q) : P ⊢ Q := e ▸ .rfl

theorem done_of_write (b : Fin 64) (g : Buf (Elt F) ((oblk b).view.loc (c : Thread nD τ))) {w : S1024x1024.Idx → Elt F .f32} (hw : w = (oblk b).view.read (Elt F) G) :
    ((((oblk b).view.loc (c : Thread nD τ) ↦[(oblk b).view.set]{fullShare} (oblk b).view.write (Elt F) g w Finset.univ) : sProp 𝕄)) = Done c G b := by
  subst hw
  refine (View.pointsTo_write_univ_congr (c : Thread nD τ) (oblk b).view fullShare g G ((oblk b).view.read (Elt F) G)).trans ?_
  have e := View.write_read_eq_piecewise (Val := Elt F) (v := (oblk b).view) G G Finset.univ
  rw [Finset.piecewise_same] at e
  rw [e]; rfl

variable (𝒱 : Variants) (bd : Option 𝒱.V)

theorem wp_oload (j : Fin 2) {off : Fin 3 → ℕ} {inb} {hl : obuf.view.LoadsAt (Rect.unit (s := S2x1024x1024) off S1x1024x1024.size inb).toLoadRect}
    (eo : off = ![j.val, 0, 0]) {Q : (S1x1024x1024.Idx → Elt F .f32) → sProp 𝕄} :
    OAny (F := F) c j ⊢ iprop((∀ v : S1x1024x1024.Idx → Elt F .f32, OAny (F := F) c j -∗ Q v)
      -∗ wp frame (wpE (defs₀ (F := F)) 𝒱 (c : Thread nD τ) bd) Set.univ
        (Prog.lift (TpuEff.load obuf (Rect.unit (s := S2x1024x1024) off S1x1024x1024.size inb).toLoadRect hl)) Q) := by
  subst eo
  unfold OAny
  iintro ⟨%f, Hf⟩ HQ
  iapply (wp_load_rect 𝒱 (c : Thread nD τ) bd Set.univ (m := obuf) (r := orect j) (S := (oslot j).view.set) (f := f) (by rw [View.set_reshape])) $$ Hf
  iintro Hf
  irw [wp_ret]
  imodintro
  iapply HQ
  iexists f; iexact Hf

theorem wp_ostore (j : Fin 2) {off : Fin 3 → ℕ} {inb} {v : S1x1024x1024.Idx → Elt F .f32}
    {hx : (obuf.access (Rect.unit (s := S2x1024x1024) off S1x1024x1024.size inb)).Stores Finset.univ} {hm}
    (eo : off = ![j.val, 0, 0]) {Q : PUnit → sProp 𝕄} :
    OAny (F := F) c j ⊢ iprop((OHas c j v -∗ Q ⟨⟩)
      -∗ wp frame (wpE (defs₀ (F := F)) 𝒱 (c : Thread nD τ) bd) Set.univ
        (Prog.lift (TpuEff.store obuf (Rect.unit (s := S2x1024x1024) off S1x1024x1024.size inb) v Finset.univ hx hm)) Q) := by
  subst eo
  unfold OAny OHas
  iintro ⟨%f, Hf⟩ HQ
  iapply (wp_store 𝒱 (c : Thread nD τ) bd Set.univ (m := obuf) (r := orect j) (S := (oslot j).view.set) (f := f)
    (by rw [View.set_reshape]; exact Finset.Subset.refl _)) $$ Hf
  iintro Hf
  irw [wp_ret]
  imodintro
  iapply HQ
  iexists _
  isplitl [Hf]; · iexact Hf
  ipureintro
  exact View.read_write_univ _ _

theorem wp_put (j : Fin 2) (b : Fin 64) {v : S1x1024x1024.Idx → Elt F .f32}
    {src : Memref sig .tc .vmem S1024x1024 .f32} {dst : Memref sig .tc .hbm S1024x1024 .f32} {sm : DmaSem sig}
    {hsrc : src.view.WordExact} {hdst : dst.view.WordExact} {hsem : DmaTarget.Typed (nD := nD) (τ := τ) (p := (c : Thread nD τ).2) .vmem (SemLoc.dma sm) (.here dst)}
    {Q : PUnit → sProp 𝕄} (es : src = oslot j) (ed : dst = oblk b) (ec : sm = ocell j)
    (hv : (fun i => v (Shape.reshapeEquiv squeezes_S1x1024x1024_S1024x1024.numel_eq i)) = (oblk b).view.read (Elt F) G) :
    iprop(OCell (F := F) c j ∗ OHas c j v ∗ Todo (F := F) c b) ⊢ iprop((OFly c G j b -∗ Q ⟨⟩)
      -∗ wp frame (wpE (defs₀ (F := F)) 𝒱 (c : Thread nD τ) bd) Set.univ
        (Prog.lift (TpuEff.enqueueDma src (.here dst) (.dma sm) hsrc hdst hsem)) Q) := by
  subst es ed ec
  unfold OCell OHas Todo OFly
  iintro ⟨Hs, ⟨%f, Hf, %hf⟩, ⟨%g, Hg⟩⟩ HQ
  iapply (Transfers.wp_dmaLocal countersEmb 𝒱 (c : Thread nD τ) bd (src := oslot j) (dst := oblk b) (via := .same) () (oblk b).view.dmaCredit rfl
    (View.dmaCredit_pos _ (by decide)) (Finset.Subset.refl _)) $$ [Hf Hg Hs]
  · isplitl [Hf]; · iexact Hf
    isplitl [Hg]; · iexact Hg
    iexact Hs
  iintro HF
  irw [wp_ret]
  imodintro
  iapply HQ
  iapply (Transfers.Flight_mono countersEmb _ ?_) $$ HF
  iintro ⟨Hg, Hf⟩
  isplitl [Hf]
  · unfold OAny; iexists f; iexact Hf
  have e : ReadAs.same.apply ((oslot j).view.read (Elt F) f) = (oblk b).view.read (Elt F) G := by rw [← hv, ← hf]; rfl
  iapply (entails_eq (done_of_write c G b g e)) $$ Hg

theorem wp_oawait (j : Fin 2) (b : Fin 64) {srcw : Memref sig .tc .vmem S1024x1024 .f32} {dst : Memref sig .tc .hbm S1024x1024 .f32} {sm : DmaSem sig}
    {hsrc : srcw.view.WordExact} {hdst : dst.view.WordExact} {Q : PUnit → sProp 𝕄} (ed : dst = oblk b) (ec : sm = ocell j) :
    iprop(OFly c G j b ∗ ∃ W, owes (c : Thread nD τ) 0 W) ⊢ iprop((iprop(OFree (F := F) c j ∗ Done c G b ∗ ∃ W, owes (c : Thread nD τ) 0 W) -∗ Q ⟨⟩)
      -∗ wp frame (wpE (defs₀ (F := F)) 𝒱 (c : Thread nD τ) bd) Set.univ (Prog.lift (TpuEff.waitDma2 sm srcw dst hsrc hdst)) Q) := by
  subst ed ec
  unfold OFly OFree OCell
  iintro ⟨HF, %W, HW⟩ HQ
  iapply (Transfers.wp_waitLocal countersEmb 𝒱 (c : Thread nD τ) bd (dstw := oblk b) () (N := (oblk b).view.dmaCredit) rfl) $$ [HF HW]
  · isplitl [HF]; · iexact HF
    iexact HW
  iintro ⟨⟨Hd, Hb⟩, Hs, HW⟩
  irw [wp_ret]
  imodintro
  iapply HQ
  isplitl [Hs Hd]
  · isplitl [Hs]; · iexact Hs
    iexact Hd
  isplitl [Hb]; · iexact Hb
  iexists _; iexact HW

end Out

/-- A check that holds is passed. -/
theorem wp_check (c : Dev nD) (𝒱 : Variants) (bd : Option 𝒱.V) {P : Prop} {d : Decidable P} (h : P) {Q : PLift P → sProp 𝕄} :
    Q ⟨h⟩ ⊢ wp frame (wpE (defs₀ (F := F)) 𝒱 (c : Thread nD τ) bd) Set.univ (Prog.lift (TpuEff.assume P d)) Q := by
  unfold Prog.lift
  rw [wp_assume_of (c := (c : Thread nD τ)) 𝒱 bd Set.univ h, wp_ret]
  iintro H; imodintro; iexact H

end Cert.KernelIdeal.Merge

end
-- ==== Proof.Merge.Parts.lean ====
module

public import proofs.«01_k».proof.Proof.Merge.Ring
public import proofs.«01_k».proof.Proof.Gen.KernelIdeal.Skeleton
public import proofs.«01_k».proof.Proof.Gen.KernelIdeal.Loops

/-!
# The steps of one trip

The kernel is printed in parts.  This file runs each part of a trip at the words the loop carries there
(`Merge.Words`) by the lemmas on the rings (`Merge.Ring`): the fetches of the block two ahead, the waits for this
block, the loads and the store, the copy of the result out and the wait for the previous one.
-/

@[expose] public section

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev r0 : InRing 512 .bf16 := ⟨Memref.whole cc0_scoped0, cc0_scoped1, Memref.whole main_arg0, squeezes_S1x1024x512_S1024x512⟩
abbrev r1 : InRing 512 .bf16 := ⟨Memref.whole cc0_scoped2, cc0_scoped3, Memref.whole main_arg1, squeezes_S1x1024x512_S1024x512⟩
abbrev r2 : InRing 512 .bf16 := ⟨Memref.whole cc0_scoped4, cc0_scoped5, Memref.whole main_arg2, squeezes_S1x1024x512_S1024x512⟩
abbrev r3 : InRing 1024 .bf16 := ⟨Memref.whole cc0_scoped6, cc0_scoped7, Memref.whole main_arg3, squeezes_S1x1024x1024_S1024x1024⟩
abbrev r4 : InRing 1024 .bf16 := ⟨Memref.whole cc0_scoped8, cc0_scoped9, Memref.whole main_arg4, squeezes_S1x1024x1024_S1024x1024⟩
abbrev r5 : InRing 1024 .f32 := ⟨Memref.whole cc0_scoped10, cc0_scoped11, Memref.whole main_arg5, squeezes_S1x1024x1024_S1024x1024⟩

/-- What the launch finds in the six arrays the rings read. -/
structure Ins (F : FTy → Type) (c : Dev nD) where
  a0 : Buf (Elt F) (r0.home.view.loc (c : Thread nD τ))
  a1 : Buf (Elt F) (r1.home.view.loc (c : Thread nD τ))
  a2 : Buf (Elt F) (r2.home.view.loc (c : Thread nD τ))
  a3 : Buf (Elt F) (r3.home.view.loc (c : Thread nD τ))
  a4 : Buf (Elt F) (r4.home.view.loc (c : Thread nD τ))
  a5 : Buf (Elt F) (r5.home.view.loc (c : Thread nD τ))

section

variable (c : Dev nD) (A : Ins F c) (G : Buf (Elt F) (ohome.view.loc (c : Thread nD τ))) (𝒱 : Variants) (bd : Option 𝒱.V)
variable (m6 : Memref sig .tc .vmem S1x512 .f32) (h6 : m6.IsWhole) (m7 : Memref sig .tc .vmem S512x1024 .bf16) (h7 : m7.IsWhole)
  (m8 : Memref sig .tc .vmem S512x1024 .bf16) (h8 : m8.IsWhole) (m9 : Memref sig .tc .vmem S1024x1024 .bf16) (h9 : m9.IsWhole)

abbrev p1 := k0_part1 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p2 := k0_part2 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p3 := k0_part3 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p4 := k0_part4 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p5 := k0_part5 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p6 := k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p7 := k0_part7 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p8 := k0_part8 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p9 := k0_part9 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p10 := k0_part10 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p11 := k0_part11 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p12 := k0_part12 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13
abbrev p13 := k0_part13 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13

/-- A run of a piece of the kernel, started from `P`, whatever comes after it. -/

theorem part1_spec (k : Trip) {Q : _ → sProp 𝕄} :
    Q ⟨chk8_at k, chk7_at k, chk6_at k, chk5_at k, chk4_at k, chk3_at k, chk2_at k, chk1_at k, wd k, bt (k.val = 0), bt (k.val = 63), wd k,
        wd ((k + 63) % 64), wd ((k + 1) % 64), wd ((k + 2) % 64), 1#1, bt (k.val < 62)⟩
      ⊢ wp frame (wpE (defs₀ (F := F)) 𝒱 (c : Thread nD τ) bd) Set.univ (p1 m6 h6 m7 h7 m8 h8 m9 h9 0#32 1#32 k (fw k) (wd k) (fw k) (wd k) (fw k) (wd k) (fw k) (wd k) (fw k) (wd k) (fw k) (wd k) (wd k) (wd (k - 1)) (wd k)) Q := by
  show _ ⊢ wp frame (wpE (defs₀ (F := F)) 𝒱 (c : Thread nD τ) bd) Set.univ (k0_part1 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  0#32 1#32 k (fw k) (wd k) (fw k) (wd k) (fw k) (wd k) (fw k) (wd k) (fw k) (wd k) (fw k) (wd k) (wd k) (wd (k - 1)) (wd k)) Q
  rw [k0_part1_eq_skeleton]; unfold k0_part1_skel
  simp only [wp_bind, wp_pure, iv_at, first_at, last_at, add0_at, prev_at, next_at, next2_at, moves_at, more_at]
  iintro HQ
  iapply (wp_check c 𝒱 bd (chk8_at k))
  iapply (wp_check c 𝒱 bd (chk7_at k))
  iapply (wp_check c 𝒱 bd (chk6_at k))
  iapply (wp_check c 𝒱 bd (chk5_at k))
  iapply (wp_check c 𝒱 bd (chk4_at k))
  iapply (wp_check c 𝒱 bd (chk3_at k))
  iapply (wp_check c 𝒱 bd (chk2_at k))
  iapply (wp_check c 𝒱 bd (chk1_at k))
  imodintro
  iexact HQ

theorem part2_spec (k : Trip) (hw) {Q : _ → sProp 𝕄} :
    iprop(r0.FreeP c A.a0 (Ring.sl 3 (k + 2)) ∗ r1.FreeP c A.a1 (Ring.sl 3 (k + 2)) ∗ r2.FreeP c A.a2 (Ring.sl 3 (k + 2)) ∗ r3.FreeP c A.a3 (Ring.sl 3 (k + 2))) ⊢
      iprop((iprop(r0.AtP c A.a0 (Ring.sl 3 (k + 2)) (k + 2) ∗ r1.AtP c A.a1 (Ring.sl 3 (k + 2)) (k + 2) ∗ r2.AtP c A.a2 (Ring.sl 3 (k + 2)) (k + 2) ∗ r3.AtP c A.a3 (Ring.sl 3 (k + 2)) (k + 2)) -∗ Q ⟨fw (k + 1), fw (k + 1), fw (k + 1), bt (k.val < 62)⟩) -∗
        wp frame (wpE (defs₀ (F := F)) 𝒱 (c : Thread nD τ) bd) Set.univ (p2 m6 h6 m7 h7 m8 h8 m9 h9 k (fw k) (wd k) (fw k) (wd k) (fw k) (wd k) (fw k) (wd k) (fw k) (wd k) (fw k) (wd k) (wd k) (wd (k - 1)) (wd k) hw (wd k) (wd ((k + 1) % 64)) (wd ((k + 2) % 64)) 1#1 (bt (k.val < 62))) Q) := by
  show _ ⊢ _ -∗ wp frame (wpE (defs₀ (F := F)) 𝒱 (c : Thread nD τ) bd) Set.univ (k0_part2 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  k (fw k) (wd k) (fw k) (wd k) (fw k) (wd k) (fw k) (wd k) (fw k) (wd k) (fw k) (wd k) (wd k) (wd (k - 1)) (wd k) hw (wd k) (wd ((k + 1) % 64)) (wd ((k + 2) % 64)) 1#1 (bt (k.val < 62))) Q
  rw [k0_part2_eq_skeleton]; unfold k0_part2_skel
  iintro ⟨F0, F1, F2, F3⟩ HQ
  by_cases hk : k.val < 62
  · have hk2 : k.val + 2 < 64 := by omega
    simp only [dif_pos ((cond7_at k).mpr hk), dif_pos ((cond8_at k).mpr hk), dif_pos ((cond9_at k).mpr hk), dif_pos ((cond10_at k).mpr hk), wp_bind, wp_pure, iv_at, first_at, last_at, add0_at, moves_at, moved_at, came_at, more_at, and1, one_and, one_or, not_first_at, fetched_at, taken_at, awaited_at, ite_self]
    iapply (r0.wp_fetch c A.a0 𝒱 bd (by decide) (Ring.sl 3 (k + 2)) ⟨k + 2, hk2⟩ (r0.blk_eq (off24_at k hk)) (r0.slot_eq (off23_at k hk)) (r0.cell_eq (off22_at k hk))) $$ F0; iintro F0
    iapply (r1.wp_fetch c A.a1 𝒱 bd (by decide) (Ring.sl 3 (k + 2)) ⟨k + 2, hk2⟩ (r1.blk_eq (off27_at k hk)) (r1.slot_eq (off26_at k hk)) (r1.cell_eq (off25_at k hk))) $$ F1; iintro F1
    iapply (r2.wp_fetch c A.a2 𝒱 bd (by decide) (Ring.sl 3 (k + 2)) ⟨k + 2, hk2⟩ (r2.blk_eq (off30_at k hk)) (r2.slot_eq (off29_at k hk)) (r2.cell_eq (off28_at k hk))) $$ F2; iintro F2
    iapply (r3.wp_fetch c A.a3 𝒱 bd (by decide) (Ring.sl 3 (k + 2)) ⟨k + 2, hk2⟩ (r3.blk_eq (off33_at k hk)) (r3.slot_eq (off32_at k hk)) (r3.cell_eq (off31_at k hk))) $$ F3; iintro F3
    imodintro
    iapply HQ
    isplitl [F0]; · iapply (InRing.at_fly r0 c A.a0 (k + 2) hk2) $$ F0
    isplitl [F1]; · iapply (InRing.at_fly r1 c A.a1 (k + 2) hk2) $$ F1
    isplitl [F2]; · iapply (InRing.at_fly r2 c A.a2 (k + 2) hk2) $$ F2
    iapply (InRing.at_fly r3 c A.a3 (k + 2) hk2) $$ F3
  · have hk' : ¬ (k.val + 2 < 64) := by omega
    simp only [dif_neg (mt (cond7_at k).mp hk), dif_neg (mt (cond8_at k).mp hk), dif_neg (mt (cond9_at k).mp hk), dif_neg (mt (cond10_at k).mp hk), wp_bind, wp_pure, iv_at, first_at, last_at, add0_at, moves_at, moved_at, came_at, more_at, and1, one_and, one_or, not_first_at, fetched_at, taken_at, awaited_at, ite_self]
    imodintro
    iapply HQ
    isplitl [F0]; · iapply (InRing.at_free r0 c A.a0 (k + 2) hk') $$ F0
    isplitl [F1]; · iapply (InRing.at_free r1 c A.a1 (k + 2) hk') $$ F1
    isplitl [F2]; · iapply (InRing.at_free r2 c A.a2 (k + 2) hk') $$ F2
    iapply (InRing.at_free r3 c A.a3 (k + 2) hk') $$ F3

theorem part3_spec (k : Trip) (hw) {Q : _ → sProp 𝕄} :
    iprop(r4.FreeP c A.a4 (Ring.sl 3 (k + 2)) ∗ r5.FreeP c A.a5 (Ring.sl 3 (k + 2)) ∗ r0.FlyP c A.a0 (Ring.sl 3 k) (tb k) ∗ ∃ W, owes (c : Thread nD τ) 0 W) ⊢
      iprop((iprop(r4.AtP c A.a4 (Ring.sl 3 (k + 2)) (k + 2) ∗ r5.AtP c A.a5 (Ring.sl 3 (k + 2)) (k + 2) ∗ r0.LandedP c A.a0 (Ring.sl 3 k) (tb k) ∗ ∃ W, owes (c : Thread nD τ) 0 W) -∗ Q ⟨fw (k + 1), fw (k + 1), fw (k + 1)⟩) -∗
        wp frame (wpE (defs₀ (F := F)) 𝒱 (c : Thread nD τ) bd) Set.univ (p3 m6 h6 m7 h7 m8 h8 m9 h9 k (fw k) (wd k) (fw k) (wd k) (fw k) (wd k) (fw k) (wd k) (fw k) (wd k) (fw k) (wd k) (wd k) (wd (k - 1)) (wd k) hw (wd k) (bt (k.val = 0)) (wd k) (wd ((k + 63) % 64)) (wd ((k + 1) % 64)) (wd ((k + 2) % 64)) (bt (k.val < 62))) Q) := by
  show _ ⊢ _ -∗ wp frame (wpE (defs₀ (F := F)) 𝒱 (c : Thread nD τ) bd) Set.univ (k0_part3 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  k (fw k) (wd k) (fw k) (wd k) (fw k) (wd k) (fw k) (wd k) (fw k) (wd k) (fw k) (wd k) (wd k) (wd (k - 1)) (wd k) hw (wd k) (bt (k.val = 0)) (wd k) (wd ((k + 63) % 64)) (wd ((k + 1) % 64)) (wd ((k + 2) % 64)) (bt (k.val < 62))) Q
  rw [k0_part3_eq_skeleton]; unfold k0_part3_skel
  iintro ⟨F4, F5, W0, HW⟩ HQ
  by_cases hk : k.val < 62
  · have hk2 : k.val + 2 < 64 := by omega
    simp only [dif_pos ((cond11_at k).mpr hk), dif_pos ((cond12_at k).mpr hk), dif_pos (cond13_at k), wp_bind, wp_pure, iv_at, first_at, last_at, add0_at, moves_at, moved_at, came_at, more_at, and1, one_and, one_or, not_first_at, fetched_at, taken_at, awaited_at, ite_self]
    iapply (r4.wp_fetch c A.a4 𝒱 bd (by decide) (Ring.sl 3 (k + 2)) ⟨k + 2, hk2⟩ (r4.blk_eq (off36_at k hk)) (r4.slot_eq (off35_at k hk)) (r4.cell_eq (off34_at k hk))) $$ F4; iintro F4
    iapply (r5.wp_fetch c A.a5 𝒱 bd (by decide) (Ring.sl 3 (k + 2)) ⟨k + 2, hk2⟩ (r5.blk_eq (off39_at k hk)) (r5.slot_eq (off38_at k hk)) (r5.cell_eq (off37_at k hk))) $$ F5; iintro F5
    iapply (r0.wp_await c A.a0 𝒱 bd (Ring.sl 3 k) (tb k) (r0.slot_eq (off41_at k)) (r0.cell_eq (off40_at k))) $$ [W0 HW]
    · isplitl [W0]; · iexact W0
      iexact HW
    iintro ⟨W0, HW⟩
    imodintro
    iapply HQ
    isplitl [F4]; · iapply (InRing.at_fly r4 c A.a4 (k + 2) hk2) $$ F4
    isplitl [F5]; · iapply (InRing.at_fly r5 c A.a5 (k + 2) hk2) $$ F5
    isplitl [W0]; · iexact W0
    iexact HW
  · have hk' : ¬ (k.val + 2 < 64) := by omega
    simp only [dif_neg (mt (cond11_at k).mp hk), dif_neg (mt (cond12_at k).mp hk), dif_pos (cond13_at k), wp_bind, wp_pure, iv_at, first_at, last_at, add0_at, moves_at, moved_at, came_at, more_at, and1, one_and, one_or, not_first_at, fetched_at, taken_at, awaited_at, ite_self]
    iapply (r0.wp_await c A.a0 𝒱 bd (Ring.sl 3 k) (tb k) (r0.slot_eq (off41_at k)) (r0.cell_eq (off40_at k))) $$ [W0 HW]
    · isplitl [W0]; · iexact W0
      iexact HW
    iintro ⟨W0, HW⟩
    imodintro
    iapply HQ
    isplitl [F4]; · iapply (InRing.at_free r4 c A.a4 (k + 2) hk') $$ F4
    isplitl [F5]; · iapply (InRing.at_free r5 c A.a5 (k + 2) hk') $$ F5
    isplitl [W0]; · iexact W0
    iexact HW

theorem part4_spec (k : Trip) (hw) {Q : _ → sProp 𝕄} :
    iprop(r1.FlyP c A.a1 (Ring.sl 3 k) (tb k) ∗ r2.FlyP c A.a2 (Ring.sl 3 k) (tb k) ∗ r3.FlyP c A.a3 (Ring.sl 3 k) (tb k) ∗ r4.FlyP c A.a4 (Ring.sl 3 k) (tb k) ∗ r5.FlyP c A.a5 (Ring.sl 3 k) (tb k) ∗ ∃ W, owes (c : Thread nD τ) 0 W) ⊢
      iprop((∀ x, iprop(r1.LandedP c A.a1 (Ring.sl 3 k) (tb k) ∗ r2.LandedP c A.a2 (Ring.sl 3 k) (tb k) ∗ r3.LandedP c A.a3 (Ring.sl 3 k) (tb k) ∗ r4.LandedP c A.a4 (Ring.sl 3 k) (tb k) ∗ r5.LandedP c A.a5 (Ring.sl 3 k) (tb k) ∗ ∃ W, owes (c : Thread nD τ) 0 W) -∗ Q x) -∗
        wp frame (wpE (defs₀ (F := F)) 𝒱 (c : Thread nD τ) bd) Set.univ (p4 m6 h6 m7 h7 m8 h8 m9 h9 k (fw k) (wd k) (fw k) (wd k) (fw k) (wd k) (fw k) (wd k) (fw k) (wd k) (fw k) (wd k) (wd k) (wd (k - 1)) (wd k) hw (wd k) (bt (k.val = 0)) (wd k) (wd ((k + 63) % 64))) Q) := by
  show _ ⊢ _ -∗ wp frame (wpE (defs₀ (F := F)) 𝒱 (c : Thread nD τ) bd) Set.univ (k0_part4 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  k (fw k) (wd k) (fw k) (wd k) (fw k) (wd k) (fw k) (wd k) (fw k) (wd k) (fw k) (wd k) (wd k) (wd (k - 1)) (wd k) hw (wd k) (bt (k.val = 0)) (wd k) (wd ((k + 63) % 64))) Q
  rw [k0_part4_eq_skeleton]; unfold k0_part4_skel
  iintro ⟨F1, F2, F3, F4, F5, HW⟩ HQ
  simp only [dif_pos (cond14_at k), dif_pos (cond15_at k), dif_pos (cond16_at k), dif_pos (cond17_at k), dif_pos (cond18_at k), wp_bind, wp_pure, iv_at, first_at, last_at, add0_at, moves_at, moved_at, came_at, more_at, and1, one_and, one_or, not_first_at, fetched_at, taken_at, awaited_at, ite_self]
  iapply (r1.wp_await c A.a1 𝒱 bd (Ring.sl 3 k) (tb k) (r1.slot_eq (off44_at k)) (r1.cell_eq (off43_at k))) $$ [F1 HW]
  · isplitl [F1]; · iexact F1
    iexact HW
  iintro ⟨F1, HW⟩
  iapply (r2.wp_await c A.a2 𝒱 bd (Ring.sl 3 k) (tb k) (r2.slot_eq (off47_at k)) (r2.cell_eq (off46_at k))) $$ [F2 HW]
  · isplitl [F2]; · iexact F2
    iexact HW
  iintro ⟨F2, HW⟩
  iapply (r3.wp_await c A.a3 𝒱 bd (Ring.sl 3 k) (tb k) (r3.slot_eq (off50_at k)) (r3.cell_eq (off49_at k))) $$ [F3 HW]
  · isplitl [F3]; · iexact F3
    iexact HW
  iintro ⟨F3, HW⟩
  iapply (r4.wp_await c A.a4 𝒱 bd (Ring.sl 3 k) (tb k) (r4.slot_eq (off53_at k)) (r4.cell_eq (off52_at k))) $$ [F4 HW]
  · isplitl [F4]; · iexact F4
    iexact HW
  iintro ⟨F4, HW⟩
  iapply (r5.wp_await c A.a5 𝒱 bd (Ring.sl 3 k) (tb k) (r5.slot_eq (off56_at k)) (r5.cell_eq (off55_at k))) $$ [F5 HW]
  · isplitl [F5]; · iexact F5
    iexact HW
  iintro ⟨F5, HW⟩
  imodintro
  iapply HQ
  isplitl [F1]; · iexact F1
  isplitl [F2]; · iexact F2
  isplitl [F3]; · iexact F3
  isplitl [F4]; · iexact F4
  isplitl [F5]; · iexact F5
  iexact HW

/-- A load of a whole window. -/
theorem wp_loadWin {n₁ n₂ : ℕ} {e : EltTy} (m : Memref sig .tc .vmem ⟨2, ![n₁, n₂]⟩ e) (hm : m.IsWhole) {X : (⟨2, ![n₁, n₂]⟩ : Shape).Idx → Elt F e}
    {inb} {hl : m.view.LoadsAt (Rect.unit (s := ⟨2, ![n₁, n₂]⟩) ![0, 0] ![n₁, n₂] inb).toLoadRect} {Q : _ → sProp 𝕄} :
    (owns (c : Thread nD τ) m fullShare X : sProp 𝕄) ⊢ iprop((owns (c : Thread nD τ) m fullShare X -∗ Q X) -∗
      wp frame (wpE (defs₀ (F := F)) 𝒱 (c : Thread nD τ) bd) Set.univ (Prog.lift (TpuEff.load m (Rect.unit (s := ⟨2, ![n₁, n₂]⟩) ![0, 0] ![n₁, n₂] inb).toLoadRect hl)) Q) := by
  unfold owns
  iintro ⟨%f, %hf, Hf⟩ HQ
  iapply (wp_load_rect 𝒱 (c : Thread nD τ) bd Set.univ (m := m) (r := Rect.unit (s := ⟨2, ![n₁, n₂]⟩) ![0, 0] ![n₁, n₂] inb) (S := m.view.set) (f := f)
    (by rw [hm.set_eq_univ]; exact Finset.subset_univ _)) $$ Hf
  iintro Hf
  irw [wp_ret]
  imodintro
  have e : (m.access (Rect.unit (s := ⟨2, ![n₁, n₂]⟩) ![0, 0] ![n₁, n₂] inb)).read (Elt F) f = X := by
    subst hf
    funext x
    refine congrArg (m.view.read (Elt F) f) ?_
    funext a
    refine Fin.ext ?_
    show (![0, 0] : Fin 2 → ℕ) a + 1 * (x a).val = (x a).val
    fin_cases a <;> simp
  subst e
  iapply HQ
  iexists f
  isplitr; · ipureintro; exact hf
  iexact Hf

/-- The block of ring `r` as a loaded slot holds it. -/
def InRing.Holds {w : ℕ} {e : EltTy} (R : InRing w e) (c : Dev nD) (A : Buf (Elt F) (R.home.view.loc (c : Thread nD τ))) (b : Fin 64)
    (v : (⟨3, ![1, 1024, w]⟩ : Shape).Idx → Elt F e) : Prop := (fun i => v (Shape.reshapeEquiv R.sq.numel_eq i)) = R.val c A b

theorem part5_spec (k : Trip) (X6 : S1x512.Idx → Elt F .f32) (hw) (x) {Q : _ → sProp 𝕄} :
    iprop(r1.LandedP c A.a1 (Ring.sl 3 k) (tb k) ∗ owns (c : Thread nD τ) m6 fullShare X6) ⊢
      iprop((∀ v1, iprop(⌜r1.Holds c A.a1 (tb k) v1⌝ ∗ r1.LandedP c A.a1 (Ring.sl 3 k) (tb k) ∗ owns (c : Thread nD τ) m6 fullShare X6) -∗
          Q ⟨k0_pay1 v1, k0_pay2 X6, k0_pay3 v1 X6, k0_pay4 v1 X6, k0_pay5 v1, k0_pay6 X6⟩) -∗
        wp frame (wpE (defs₀ (F := F)) 𝒱 (c : Thread nD τ) bd) Set.univ (p5 m6 h6 m7 h7 m8 h8 m9 h9 (wd k) hw x) Q) := by
  show _ ⊢ _ -∗ wp frame (wpE (defs₀ (F := F)) 𝒱 (c : Thread nD τ) bd) Set.univ (k0_part5 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  (wd k) hw x) Q
  rw [k0_part5_eq_skeleton]; unfold k0_part5_skel
  simp only [wp_bind, wp_pure]
  iintro ⟨L1, O6⟩ HQ
  iapply (r1.wp_loadSlot c A.a1 𝒱 bd (Ring.sl 3 k) (tb k) (off58_at k)) $$ L1
  iintro %v1 ⟨%ev1, L1⟩
  iapply (wp_loadWin c 𝒱 bd m6 h6) $$ O6
  iintro O6
  imodintro
  iapply HQ
  isplitr; · ipureintro; exact ev1
  isplitl [L1]; · iexact L1
  iexact O6

theorem part6_spec (k : Trip) (X7 X8 : S512x1024.Idx → Elt F .bf16) (hw6 hw5 hw4 hw3) (x1 x2 x3 x4 x5) (y1 y2 y3 y4 y5 y6) {Q : _ → sProp 𝕄} :
    iprop(r2.LandedP c A.a2 (Ring.sl 3 k) (tb k) ∗ r3.LandedP c A.a3 (Ring.sl 3 k) (tb k) ∗ r0.LandedP c A.a0 (Ring.sl 3 k) (tb k) ∗ owns (c : Thread nD τ) m7 fullShare X7 ∗ r4.LandedP c A.a4 (Ring.sl 3 k) (tb k) ∗ owns (c : Thread nD τ) m8 fullShare X8) ⊢
      iprop((∀ v2 v3 v0 v4, iprop(⌜r2.Holds c A.a2 (tb k) v2 ∧ r3.Holds c A.a3 (tb k) v3 ∧ r0.Holds c A.a0 (tb k) v0 ∧ r4.Holds c A.a4 (tb k) v4⌝ ∗ r2.LandedP c A.a2 (Ring.sl 3 k) (tb k) ∗ r3.LandedP c A.a3 (Ring.sl 3 k) (tb k) ∗ r0.LandedP c A.a0 (Ring.sl 3 k) (tb k) ∗ owns (c : Thread nD τ) m7 fullShare X7 ∗ r4.LandedP c A.a4 (Ring.sl 3 k) (tb k) ∗ owns (c : Thread nD τ) m8 fullShare X8) -∗
          Q (k0_pay7 y1 y2 y3 y4 y5 y6 v2 v3 v0 X7 v4 X8)) -∗
        wp frame (wpE (defs₀ (F := F)) 𝒱 (c : Thread nD τ) bd) Set.univ (p6 m6 h6 m7 h7 m8 h8 m9 h9 (wd k) (wd k) (wd k) (wd k) hw6 hw5 hw4 hw3 x1 x2 x3 x4 x5 y1 y2 y3 y4 y5 y6) Q) := by
  show _ ⊢ _ -∗ wp frame (wpE (defs₀ (F := F)) 𝒱 (c : Thread nD τ) bd) Set.univ (k0_part6 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  (wd k) (wd k) (wd k) (wd k) hw6 hw5 hw4 hw3 x1 x2 x3 x4 x5 y1 y2 y3 y4 y5 y6) Q
  rw [k0_part6_eq_skeleton]; unfold k0_part6_skel
  simp only [wp_bind, wp_pure]
  iintro ⟨L2, L3, L0, O7, L4, O8⟩ HQ
  iapply (r2.wp_loadSlot c A.a2 𝒱 bd (Ring.sl 3 k) (tb k) (off59_at k)) $$ L2
  iintro %v2 ⟨%ev2, L2⟩
  iapply (r3.wp_loadSlot c A.a3 𝒱 bd (Ring.sl 3 k) (tb k) (off60_at k)) $$ L3
  iintro %v3 ⟨%ev3, L3⟩
  iapply (r0.wp_loadSlot c A.a0 𝒱 bd (Ring.sl 3 k) (tb k) (off61_at k)) $$ L0
  iintro %v0 ⟨%ev0, L0⟩
  iapply (wp_loadWin c 𝒱 bd m7 h7) $$ O7
  iintro O7
  iapply (r4.wp_loadSlot c A.a4 𝒱 bd (Ring.sl 3 k) (tb k) (off62_at k)) $$ L4
  iintro %v4 ⟨%ev4, L4⟩
  iapply (wp_loadWin c 𝒱 bd m8 h8) $$ O8
  iintro O8
  imodintro
  iapply HQ
  isplitr; · ipureintro; exact ⟨ev2, ev3, ev0, ev4⟩
  isplitl [L2]; · iexact L2
  isplitl [L3]; · iexact L3
  isplitl [L0]; · iexact L0
  isplitl [O7]; · iexact O7
  isplitl [L4]; · iexact L4
  iexact O8

theorem part7_spec (k : Trip) (X9 : S1024x1024.Idx → Elt F .bf16) (hw8 hw7) (x y) {Q : _ → sProp 𝕄} :
    iprop(r5.LandedP c A.a5 (Ring.sl 3 k) (tb k) ∗ owns (c : Thread nD τ) m9 fullShare X9 ∗ OAny (F := F) c (Ring.sl 2 k)) ⊢
      iprop((∀ v5, iprop(⌜r5.Holds c A.a5 (tb k) v5⌝ ∗ r5.LandedP c A.a5 (Ring.sl 3 k) (tb k) ∗ owns (c : Thread nD τ) m9 fullShare X9 ∗ OHas c (Ring.sl 2 k) (k0_pay8 y v5 X9)) -∗
          Q 1#1) -∗
        wp frame (wpE (defs₀ (F := F)) 𝒱 (c : Thread nD τ) bd) Set.univ (p7 m6 h6 m7 h7 m8 h8 m9 h9 (wd k) (wd k) hw8 hw7 (bt (k.val = 63)) (wd k) (wd ((k + 1) % 64)) x y) Q) := by
  show _ ⊢ _ -∗ wp frame (wpE (defs₀ (F := F)) 𝒱 (c : Thread nD τ) bd) Set.univ (k0_part7 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  (wd k) (wd k) hw8 hw7 (bt (k.val = 63)) (wd k) (wd ((k + 1) % 64)) x y) Q
  rw [k0_part7_eq_skeleton]; unfold k0_part7_skel
  simp only [wp_bind, wp_pure, iv_at, first_at, last_at, add0_at, moves_at, moved_at, came_at, more_at, and1, one_and, one_or, not_first_at, fetched_at, taken_at, awaited_at, ite_self]
  iintro ⟨L5, O9, HO⟩ HQ
  iapply (r5.wp_loadSlot c A.a5 𝒱 bd (Ring.sl 3 k) (tb k) (off63_at k)) $$ L5
  iintro %v5 ⟨%ev5, L5⟩
  iapply (wp_loadWin c 𝒱 bd m9 h9) $$ O9
  iintro O9
  iapply (wp_oload c 𝒱 bd (Ring.sl 2 k) (off64_at k)) $$ HO
  iintro %_ HO
  iapply (wp_ostore c 𝒱 bd (Ring.sl 2 k) (off64_at k)) $$ HO
  iintro HO
  imodintro
  iapply HQ
  isplitr; · ipureintro; exact ev5
  isplitl [L5]; · iexact L5
  isplitl [O9]; · iexact O9
  iexact HO

theorem part8_spec (k : Trip) (v : S1x1024x1024.Idx → Elt F .f32) (hv : (fun i => v (Shape.reshapeEquiv squeezes_S1x1024x1024_S1024x1024.numel_eq i)) = (oblk (tb k)).view.read (Elt F) G)
    (hw) {Q : _ → sProp 𝕄} :
    iprop(OCell (F := F) c (Ring.sl 2 k) ∗ OHas c (Ring.sl 2 k) v ∗ Todo (F := F) c (tb k)) ⊢
      iprop((OFly c G (Ring.sl 2 k) (tb k) -∗ Q ⟨wd (k + 1), 1#1, 1#1⟩) -∗
        wp frame (wpE (defs₀ (F := F)) 𝒱 (c : Thread nD τ) bd) Set.univ (p8 m6 h6 m7 h7 m8 h8 m9 h9 k (fw k) (wd k) (fw k) (wd k) (fw k) (wd k) (fw k) (wd k) (fw k) (wd k) (fw k) (wd k) (wd k) (wd (k - 1)) (wd k) hw (bt (k.val = 0)) (bt (k.val = 63)) (wd k) (wd ((k + 63) % 64)) (wd ((k + 1) % 64)) 1#1) Q) := by
  show _ ⊢ _ -∗ wp frame (wpE (defs₀ (F := F)) 𝒱 (c : Thread nD τ) bd) Set.univ (k0_part8 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  k (fw k) (wd k) (fw k) (wd k) (fw k) (wd k) (fw k) (wd k) (fw k) (wd k) (fw k) (wd k) (wd k) (wd (k - 1)) (wd k) hw (bt (k.val = 0)) (bt (k.val = 63)) (wd k) (wd ((k + 63) % 64)) (wd ((k + 1) % 64)) 1#1) Q
  rw [k0_part8_eq_skeleton]; unfold k0_part8_skel
  simp only [dif_pos (cond26_at k), wp_bind, wp_pure, iv_at, first_at, last_at, add0_at, moves_at, moved_at, came_at, more_at, and1, one_and, one_or, not_first_at, fetched_at, taken_at, awaited_at, ite_self]
  iintro H HQ
  iapply (wp_put c G 𝒱 bd (Ring.sl 2 k) (tb k) (oslot_eq (off67_at k)) (oblk_eq (off66_at k)) (ocell_eq (off65_at k)) hv) $$ H
  iintro H
  imodintro
  iapply HQ $$ H

theorem part9_spec (k : Trip) (hw) (hk : k.val ≠ 0) {Q : _ → sProp 𝕄} :
    iprop(OFly c G (Ring.sl 2 (k - 1)) ⟨k - 1, by have := trip_lt k; omega⟩ ∗ ∃ W, owes (c : Thread nD τ) 0 W) ⊢
      iprop((iprop(OFree (F := F) c (Ring.sl 2 (k - 1)) ∗ Done c G ⟨k - 1, by have := trip_lt k; omega⟩ ∗ ∃ W, owes (c : Thread nD τ) 0 W) -∗ Q ⟨wd (k + 1 - 1), wd (k + 1), wd (k + 1), wd (k + 1), wd (k + 1), wd (k + 1), 1#1, Scalar.addi (wd k) 1#32⟩) -∗
        wp frame (wpE (defs₀ (F := F)) 𝒱 (c : Thread nD τ) bd) Set.univ (p9 m6 h6 m7 h7 m8 h8 m9 h9 k (fw k) (wd k) (fw k) (wd k) (fw k) (wd k) (fw k) (wd k) (fw k) (wd k) (fw k) (wd k) (wd k) (wd (k - 1)) (wd k) hw (bt (k.val = 0)) (bt (k.val = 63)) (wd k) (wd ((k + 63) % 64)) (wd ((k + 1) % 64)) 1#1 1#1) Q) := by
  show _ ⊢ _ -∗ wp frame (wpE (defs₀ (F := F)) 𝒱 (c : Thread nD τ) bd) Set.univ (k0_part9 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  k (fw k) (wd k) (fw k) (wd k) (fw k) (wd k) (fw k) (wd k) (fw k) (wd k) (fw k) (wd k) (wd k) (wd (k - 1)) (wd k) hw (bt (k.val = 0)) (bt (k.val = 63)) (wd k) (wd ((k + 63) % 64)) (wd ((k + 1) % 64)) 1#1 1#1) Q
  rw [k0_part9_eq_skeleton]; unfold k0_part9_skel
  simp only [dif_pos ((cond33_at k).mpr hk), wp_bind, wp_pure, iv_at, first_at, last_at, add0_at, moves_at, moved_at, came_at, more_at, and1, one_and, one_or, not_first_at, fetched_at, taken_at, awaited_at, ite_self]
  iintro H HQ
  have hk9 : k.val - 1 < 64 := by have := trip_lt k; omega
  iapply (wp_oawait c G 𝒱 bd (Ring.sl 2 (k - 1)) ⟨k - 1, hk9⟩ (oblk_eq (off69_at k hk)) (ocell_eq (off68_at k hk))) $$ H
  iintro H
  imodintro
  iapply HQ $$ H

theorem part9_first_spec (k : Trip) (hw) (hk : k.val = 0) {Q : _ → sProp 𝕄} :
    Q ⟨wd (k + 1 - 1), wd (k + 1), wd (k + 1), wd (k + 1), wd (k + 1), wd (k + 1), 1#1, Scalar.addi (wd k) 1#32⟩ ⊢ wp frame (wpE (defs₀ (F := F)) 𝒱 (c : Thread nD τ) bd) Set.univ (p9 m6 h6 m7 h7 m8 h8 m9 h9 k (fw k) (wd k) (fw k) (wd k) (fw k) (wd k) (fw k) (wd k) (fw k) (wd k) (fw k) (wd k) (wd k) (wd (k - 1)) (wd k) hw (bt (k.val = 0)) (bt (k.val = 63)) (wd k) (wd ((k + 63) % 64)) (wd ((k + 1) % 64)) 1#1 1#1) Q := by
  show _ ⊢ wp frame (wpE (defs₀ (F := F)) 𝒱 (c : Thread nD τ) bd) Set.univ (k0_part9 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  k (fw k) (wd k) (fw k) (wd k) (fw k) (wd k) (fw k) (wd k) (fw k) (wd k) (fw k) (wd k) (wd k) (wd (k - 1)) (wd k) hw (bt (k.val = 0)) (bt (k.val = 63)) (wd k) (wd ((k + 63) % 64)) (wd ((k + 1) % 64)) 1#1 1#1) Q
  rw [k0_part9_eq_skeleton]; unfold k0_part9_skel
  simp only [dif_neg (mt (cond33_at k).mp (not_not.mpr hk)), wp_bind, wp_pure, iv_at, first_at, last_at, add0_at, moves_at, moved_at, came_at, more_at, and1, one_and, one_or, not_first_at, fetched_at, taken_at, awaited_at, ite_self]
  iintro HQ !>
  iexact HQ

end

end Cert.KernelIdeal.Merge

end
-- ==== Proof.Merge.Loop.lean ====
module

public import proofs.«01_k».proof.Proof.Merge.Parts

/-!
# The loop over the row blocks, and the body

The invariant before trip `k`: on every ring of inputs the slots `k` and `k + 1` (mod 3) are in flight with blocks `k` and
`k + 1` and the third slot is free; on the ring of results the slot of block `k - 1` is on its way out and the other is
free; the blocks before `k - 1` of the result are written.  One trip keeps it.  Before the loop blocks 0 and 1 are
fetched; after it the copy of block 63 is awaited.
-/

@[expose] public section

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block as a slot holds it. -/
def InRing.unsq {w : ℕ} {e : EltTy} (R : InRing w e) (c : Dev nD) (A : Buf (Elt F) (R.home.view.loc (c : Thread nD τ))) (b : Fin 64) :
    (⟨3, ![1, 1024, w]⟩ : Shape).Idx → Elt F e := fun j => R.val c A b ((Shape.reshapeEquiv R.sq.numel_eq).symm j)

theorem InRing.Holds.eq {w : ℕ} {e : EltTy} {R : InRing w e} {c : Dev nD} {A : Buf (Elt F) (R.home.view.loc (c : Thread nD τ))} {b : Fin 64}
    {v : (⟨3, ![1, 1024, w]⟩ : Shape).Idx → Elt F e} (h : R.Holds c A b v) : v = R.unsq c A b := by
  funext j
  have := congrFun h ((Shape.reshapeEquiv R.sq.numel_eq).symm j)
  rw [Equiv.apply_symm_apply] at this
  exact this

/-- What the staged windows hold: the scale and the three weight matrices. -/
structure Wts (F : FTy → Type) where
  x6 : S1x512.Idx → Elt F .f32
  x7 : S512x1024.Idx → Elt F .bf16
  x8 : S512x1024.Idx → Elt F .bf16
  x9 : S1024x1024.Idx → Elt F .bf16

/-- Block `b` of the result, as the slot holds it. -/
def outB (c : Dev nD) (A : Ins F c) (X : Wts F) (b : Fin 64) : S1x1024x1024.Idx → Elt F .f32 :=
  k0_pay8 (k0_pay7 (k0_pay1 (r1.unsq c A.a1 b)) (k0_pay2 X.x6) (k0_pay3 (r1.unsq c A.a1 b) X.x6) (k0_pay4 (r1.unsq c A.a1 b) X.x6)
    (k0_pay5 (r1.unsq c A.a1 b)) (k0_pay6 X.x6) (r2.unsq c A.a2 b) (r3.unsq c A.a3 b) (r0.unsq c A.a0 b) X.x7 (r4.unsq c A.a4 b) X.x8) (r5.unsq c A.a5 b) X.x9

/-- An array whose every block is the block computed. -/
def IsOut (c : Dev nD) (A : Ins F c) (X : Wts F) (G : Buf (Elt F) (ohome.view.loc (c : Thread nD τ))) : Prop :=
  ∀ b : Fin 64, (fun i => outB c A X b (Shape.reshapeEquiv squeezes_S1x1024x1024_S1024x1024.numel_eq i)) = (oblk b).view.read (Elt F) G

/-- A ring before trip `k`. -/
def InRing.RingAt {w : ℕ} {e : EltTy} (R : InRing w e) (c : Dev nD) (A : Buf (Elt F) (R.home.view.loc (c : Thread nD τ))) (k : ℕ) : sProp 𝕄 :=
  iprop(R.AtP c A (Ring.sl 3 k) k ∗ R.AtP c A (Ring.sl 3 (k + 1)) (k + 1) ∗ R.FreeP c A (Ring.sl 3 (k + 2)))

theorem InRing.ring_next {w : ℕ} {e : EltTy} (R : InRing w e) (c : Dev nD) (A : Buf (Elt F) (R.home.view.loc (c : Thread nD τ))) (k : ℕ) (b : Fin 64) :
    iprop(R.AtP c A (Ring.sl 3 (k + 1)) (k + 1) ∗ R.AtP c A (Ring.sl 3 (k + 2)) (k + 2) ∗ R.LandedP c A (Ring.sl 3 k) b) ⊢ R.RingAt c A (k + 1) := by
  unfold InRing.RingAt
  rw [show Ring.sl 3 (k + 1 + 2) = Ring.sl 3 k from Ring.sl_add 3 k]
  iintro ⟨H1, H2, H3⟩
  isplitl [H1]; · iexact H1
  isplitl [H2]; · iexact H2
  iapply (R.LandedP_free c A) $$ H3

section

variable (c : Dev nD) (A : Ins F c) (G : Buf (Elt F) (ohome.view.loc (c : Thread nD τ))) (X : Wts F) (𝒱 : Variants) (bd : Option 𝒱.V)
variable (m6 : Memref sig .tc .vmem S1x512 .f32) (h6 : m6.IsWhole) (m7 : Memref sig .tc .vmem S512x1024 .bf16) (h7 : m7.IsWhole)
  (m8 : Memref sig .tc .vmem S512x1024 .bf16) (h8 : m8.IsWhole) (m9 : Memref sig .tc .vmem S1024x1024 .bf16) (h9 : m9.IsWhole)

/-- The slot of the block before `k`, on its way out when there is one. -/
def PrevOut : ℕ → sProp 𝕄
  | 0 => OFree (F := F) c (Ring.sl 2 1)
  | k + 1 => if h : k < 64 then OFly c G (Ring.sl 2 k) ⟨k, h⟩ else iprop(emp)

def OutAt (k : ℕ) : sProp 𝕄 :=
  iprop(OFree (F := F) c (Ring.sl 2 k) ∗ PrevOut c G k ∗ bigSep (Ring.rangeSet 64 k 64) (fun b => Todo (F := F) c b)
    ∗ bigSep (Ring.rangeSet 64 0 (k - 1)) (fun b => Done c G b))

/-- The staged windows, and the right to wait. -/
def WinP : sProp 𝕄 :=
  iprop(owns (c : Thread nD τ) m6 fullShare X.x6 ∗ owns (c : Thread nD τ) m7 fullShare X.x7 ∗ owns (c : Thread nD τ) m8 fullShare X.x8 ∗ owns (c : Thread nD τ) m9 fullShare X.x9)

/-- The words before trip `k`. -/
abbrev acc (k : ℕ) : BitVec 32 × BitVec 32 × BitVec 32 × BitVec 32 × BitVec 32 × BitVec 32 × BitVec 32 × BitVec 32 × BitVec 32 × BitVec 32 × BitVec 32 × BitVec 32 × BitVec 32 × BitVec 32 × BitVec 32 :=
  (fw k, wd k, fw k, wd k, fw k, wd k, fw k, wd k, fw k, wd k, fw k, wd k, wd k, wd (k - 1), wd (k % 64))

def RingsAt (k : ℕ) : sProp 𝕄 :=
  iprop(r0.RingAt c A.a0 k ∗ r1.RingAt c A.a1 k ∗ r2.RingAt c A.a2 k ∗ r3.RingAt c A.a3 k ∗ r4.RingAt c A.a4 k ∗ r5.RingAt c A.a5 k)

theorem rings_open (k : ℕ) : RingsAt c A k ⊢ iprop((r0.AtP c A.a0 (Ring.sl 3 k) k ∗ r0.AtP c A.a0 (Ring.sl 3 (k + 1)) (k + 1) ∗ r0.FreeP c A.a0 (Ring.sl 3 (k + 2))) ∗ (r1.AtP c A.a1 (Ring.sl 3 k) k ∗ r1.AtP c A.a1 (Ring.sl 3 (k + 1)) (k + 1) ∗ r1.FreeP c A.a1 (Ring.sl 3 (k + 2))) ∗ (r2.AtP c A.a2 (Ring.sl 3 k) k ∗ r2.AtP c A.a2 (Ring.sl 3 (k + 1)) (k + 1) ∗ r2.FreeP c A.a2 (Ring.sl 3 (k + 2))) ∗ (r3.AtP c A.a3 (Ring.sl 3 k) k ∗ r3.AtP c A.a3 (Ring.sl 3 (k + 1)) (k + 1) ∗ r3.FreeP c A.a3 (Ring.sl 3 (k + 2))) ∗ (r4.AtP c A.a4 (Ring.sl 3 k) k ∗ r4.AtP c A.a4 (Ring.sl 3 (k + 1)) (k + 1) ∗ r4.FreeP c A.a4 (Ring.sl 3 (k + 2))) ∗ (r5.AtP c A.a5 (Ring.sl 3 k) k ∗ r5.AtP c A.a5 (Ring.sl 3 (k + 1)) (k + 1) ∗ r5.FreeP c A.a5 (Ring.sl 3 (k + 2)))) := by unfold RingsAt InRing.RingAt; exact .rfl

theorem out_open (k : ℕ) : OutAt c G k ⊢ iprop((OCell (F := F) c (Ring.sl 2 k) ∗ OAny (F := F) c (Ring.sl 2 k)) ∗ PrevOut c G k
    ∗ bigSep (Ring.rangeSet 64 k 64) (fun b => Todo (F := F) c b) ∗ bigSep (Ring.rangeSet 64 0 (k - 1)) (fun b => Done c G b)) := by
  unfold OutAt OFree; exact .rfl

theorem win_open : WinP c X m6 m7 m8 m9 ⊢ iprop(owns (c : Thread nD τ) m6 fullShare X.x6 ∗ owns (c : Thread nD τ) m7 fullShare X.x7
    ∗ owns (c : Thread nD τ) m8 fullShare X.x8 ∗ owns (c : Thread nD τ) m9 fullShare X.x9) := by unfold WinP; exact .rfl

def Inv (k : ℕ) (a : BitVec 32 × BitVec 32 × BitVec 32 × BitVec 32 × BitVec 32 × BitVec 32 × BitVec 32 × BitVec 32 × BitVec 32 × BitVec 32 × BitVec 32 × BitVec 32 × BitVec 32 × BitVec 32 × BitVec 32) : sProp 𝕄 :=
  iprop(⌜a = acc k⌝ ∗ RingsAt c A k ∗ OutAt c G k ∗ WinP c X m6 m7 m8 m9 ∗ ∃ W, owes (c : Thread nD τ) 0 W)

theorem wrap_at : ∀ k : Trip, Scalar.select (Scalar.cmpi .eq (wd (k + 1)) 64#32) 0#32 (wd (k + 1)) = wd ((k + 1) % 64) := by decide +kernel

theorem prev_fly (k : ℕ) (h : k ≠ 0) (hk : k - 1 < 64) : PrevOut c G k ⊢ OFly c G (Ring.sl 2 (k - 1)) ⟨k - 1, hk⟩ := by
  obtain ⟨n, rfl⟩ := Nat.exists_eq_succ_of_ne_zero h
  show PrevOut c G (n + 1) ⊢ OFly c G (Ring.sl 2 n) ⟨n, _⟩
  have hn : n < 64 := hk
  rw [PrevOut, dif_pos hn]

theorem prev_zero : PrevOut c G 0 ⊢ OFree (F := F) c (Ring.sl 2 (0 + 1)) := by rw [PrevOut]

theorem prev_of_fly (k : Trip) : OFly c G (Ring.sl 2 k) (tb k) ⊢ PrevOut c G (k + 1) := by
  rw [PrevOut, dif_pos (trip_lt k)]; rfl

/-- The ring of results after trip 0, and after a later trip. -/
theorem out_first (k : Trip) (h0 : k.val = 0) :
    iprop(OFly c G (Ring.sl 2 k) (tb k) ∗ PrevOut c G k ∗ bigSep (Ring.rangeSet 64 (k + 1) 64) (fun b => Todo (F := F) c b)
      ∗ bigSep (Ring.rangeSet 64 0 (k - 1)) (fun b => Done c G b)) ⊢ OutAt c G (k + 1) := by
  unfold OutAt
  iintro ⟨HF, HP, HT, HD⟩
  isplitl [HP]
  · rw [h0]; iapply (prev_zero c G) $$ HP
  isplitl [HF]; · iapply (prev_of_fly c G k) $$ HF
  isplitl [HT]; · iexact HT
  rw [h0]; iexact HD

theorem out_next (k : Trip) (h0 : k.val ≠ 0) (hk : k.val - 1 < 64) :
    iprop(OFly c G (Ring.sl 2 k) (tb k) ∗ OFree (F := F) c (Ring.sl 2 (k - 1)) ∗ Done c G ⟨k - 1, hk⟩
      ∗ bigSep (Ring.rangeSet 64 (k + 1) 64) (fun b => Todo (F := F) c b)
      ∗ bigSep (Ring.rangeSet 64 0 (k - 1)) (fun b => Done c G b)) ⊢ OutAt c G (k + 1) := by
  have e : Ring.sl 2 (k.val + 1) = Ring.sl 2 (k.val - 1) := by
    rw [show k.val + 1 = k.val - 1 + 2 by omega]; exact Ring.sl_add 2 _
  unfold OutAt
  rw [e, show k.val + 1 - 1 = k.val from rfl, Ring.bigSep_rangeSet_last (lo := 0) (hi := k.val) (by omega) (by omega)]
  iintro ⟨HF, HP, HB, HT, HD⟩
  isplitl [HP]; · iexact HP
  isplitl [HF]; · iapply (prev_of_fly c G k) $$ HF
  isplitl [HT]; · iexact HT
  isplitl [HB]; · iexact HB
  iexact HD

set_option maxHeartbeats 2000000 in
theorem trip (hG : IsOut c A X G) (y1 y2 y3 y4 y5 y6 y7 : BitVec 32) (y8 y9 : BitVec 1) (k : Trip) (a) :
    Inv c A G X m6 m7 m8 m9 k.val a ⊢ wp frame (wpE (defs₀ (F := F)) 𝒱 (c : Thread nD τ) bd) Set.univ (k0_t1_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  y1 y2 y3 y4 y5 y6 y7 y8 y9 k a) (Inv c A G X m6 m7 m8 m9 (k.val + 1)) := by
  have hk := trip_lt k
  unfold Inv
  iintro ⟨%ha, HR, HO, HX, HW⟩
  subst ha
  ihave HR := (rings_open c A k.val) $$ HR
  ihave HO := (out_open c G k.val) $$ HO
  ihave HX := (win_open c X m6 m7 m8 m9) $$ HX
  icases HR with ⟨⟨F0, N0, E0⟩, ⟨F1, N1, E1⟩, ⟨F2, N2, E2⟩, ⟨F3, N3, E3⟩, ⟨F4, N4, E4⟩, ⟨F5, N5, E5⟩⟩
  icases HO with ⟨⟨HOc, HOa⟩, HP, HT, HD⟩
  icases HX with ⟨O6, O7, O8, O9⟩
  ihave F0 := (InRing.of_at r0 c A.a0 k.val hk) $$ F0
  ihave F1 := (InRing.of_at r1 c A.a1 k.val hk) $$ F1
  ihave F2 := (InRing.of_at r2 c A.a2 k.val hk) $$ F2
  ihave F3 := (InRing.of_at r3 c A.a3 k.val hk) $$ F3
  ihave F4 := (InRing.of_at r4 c A.a4 k.val hk) $$ F4
  ihave F5 := (InRing.of_at r5 c A.a5 k.val hk) $$ F5
  rw [show acc k.val = (fw k, wd k, fw k, wd k, fw k, wd k, fw k, wd k, fw k, wd k, fw k, wd k, wd k, wd (k - 1), wd k) from by rw [acc, Nat.mod_eq_of_lt hk]]
  unfold k0_t1_body
  simp only [wp_bind, wp_pure]
  iapply (part1_spec c 𝒱 bd m6 h6 m7 h7 m8 h8 m9 h9 k)
  try dsimp only
  iapply (part2_spec c A 𝒱 bd m6 h6 m7 h7 m8 h8 m9 h9 k (chk1_at k)) $$ [E0 E1 E2 E3]
  · isplitl [E0]; · iexact E0
    isplitl [E1]; · iexact E1
    isplitl [E2]; · iexact E2
    iexact E3
  iintro ⟨E0, E1, E2, E3⟩
  try dsimp only
  iapply (part3_spec c A 𝒱 bd m6 h6 m7 h7 m8 h8 m9 h9 k (chk1_at k)) $$ [E4 E5 F0 HW]
  · isplitl [E4]; · iexact E4
    isplitl [E5]; · iexact E5
    isplitl [F0]; · iexact F0
    iexact HW
  iintro ⟨E4, E5, F0, HW⟩
  try dsimp only
  iapply (part4_spec c A 𝒱 bd m6 h6 m7 h7 m8 h8 m9 h9 k (chk1_at k)) $$ [F1 F2 F3 F4 F5 HW]
  · isplitl [F1]; · iexact F1
    isplitl [F2]; · iexact F2
    isplitl [F3]; · iexact F3
    isplitl [F4]; · iexact F4
    isplitl [F5]; · iexact F5
    iexact HW
  iintro %x ⟨F1, F2, F3, F4, F5, HW⟩
  obtain ⟨x1, x2, x3, x4, x5, x6, x7⟩ := x
  try dsimp only
  iapply (part5_spec c A 𝒱 bd m6 h6 m7 h7 m8 h8 m9 h9 k X.x6 (chk2_at k) _) $$ [F1 O6]
  · isplitl [F1]; · iexact F1
    iexact O6
  iintro %v1 ⟨%hv1, F1, O6⟩
  try dsimp only
  iapply (part6_spec c A 𝒱 bd m6 h6 m7 h7 m8 h8 m9 h9 k X.x7 X.x8 (chk6_at k) (chk5_at k) (chk4_at k) (chk3_at k)) $$ [F2 F3 F0 O7 F4 O8]
  · isplitl [F2]; · iexact F2
    isplitl [F3]; · iexact F3
    isplitl [F0]; · iexact F0
    isplitl [O7]; · iexact O7
    isplitl [F4]; · iexact F4
    iexact O8
  iintro %v2 %v3 %v0 %v4 ⟨%hv, F2, F3, F0, O7, F4, O8⟩
  try dsimp only
  iapply (part7_spec c A 𝒱 bd m6 h6 m7 h7 m8 h8 m9 h9 k X.x9 (chk8_at k) (chk7_at k)) $$ [F5 O9 HOa]
  · isplitl [F5]; · iexact F5
    isplitl [O9]; · iexact O9
    iexact HOa
  iintro %v5 ⟨%hv5, F5, O9, HOa⟩
  try dsimp only
  obtain ⟨hv2, hv3, hv0, hv4⟩ := hv
  obtain rfl := hv0.eq; obtain rfl := hv1.eq; obtain rfl := hv2.eq; obtain rfl := hv3.eq; obtain rfl := hv4.eq; obtain rfl := hv5.eq
  ihave HT := (entails_eq (Ring.bigSep_rangeSet_head (Φ := fun b => Todo (F := F) c b) hk hk)) $$ HT
  icases HT with ⟨Ht, HT⟩
  iapply (part8_spec c G 𝒱 bd m6 h6 m7 h7 m8 h8 m9 h9 k _ (hG (tb k)) (chk1_at k)) $$ [HOc HOa Ht]
  · isplitl [HOc]; · iexact HOc
    isplitl [HOa]; · iexact HOa
    iexact Ht
  iintro HF
  try dsimp only
  by_cases h0 : k.val = 0
  · iapply (part9_first_spec c 𝒱 bd m6 h6 m7 h7 m8 h8 m9 h9 k (chk1_at k) h0)
    try dsimp only
    imodintro
    isplitr; · ipureintro; simp only [taken_at, wrap_at]
    isplitl [N0 E0 F0 N1 E1 F1 N2 E2 F2 N3 E3 F3 N4 E4 F4 N5 E5 F5]
    · unfold RingsAt
      isplitl [N0 E0 F0]
      · iapply (r0.ring_next c A.a0 k.val (tb k)); isplitl [N0]; · iexact N0
        isplitl [E0]; · iexact E0
        iexact F0
      isplitl [N1 E1 F1]
      · iapply (r1.ring_next c A.a1 k.val (tb k)); isplitl [N1]; · iexact N1
        isplitl [E1]; · iexact E1
        iexact F1
      isplitl [N2 E2 F2]
      · iapply (r2.ring_next c A.a2 k.val (tb k)); isplitl [N2]; · iexact N2
        isplitl [E2]; · iexact E2
        iexact F2
      isplitl [N3 E3 F3]
      · iapply (r3.ring_next c A.a3 k.val (tb k)); isplitl [N3]; · iexact N3
        isplitl [E3]; · iexact E3
        iexact F3
      isplitl [N4 E4 F4]
      · iapply (r4.ring_next c A.a4 k.val (tb k)); isplitl [N4]; · iexact N4
        isplitl [E4]; · iexact E4
        iexact F4
      iapply (r5.ring_next c A.a5 k.val (tb k)); isplitl [N5]; · iexact N5
      isplitl [E5]; · iexact E5
      iexact F5
    isplitl [HF HP HT HD]
    · iapply (out_first c G k h0)
      isplitl [HF]; · iexact HF
      isplitl [HP]; · iexact HP
      isplitl [HT]; · iexact HT
      iexact HD
    isplitl [O6 O7 O8 O9]
    · unfold WinP
      isplitl [O6]; · iexact O6
      isplitl [O7]; · iexact O7
      isplitl [O8]; · iexact O8
      iexact O9
    iexact HW
  · have hk1 : k.val - 1 < 64 := by omega
    ihave HP := (prev_fly c G k.val h0 hk1) $$ HP
    iapply (part9_spec c G 𝒱 bd m6 h6 m7 h7 m8 h8 m9 h9 k (chk1_at k) h0) $$ [HP HW]
    · isplitl [HP]; · iexact HP
      iexact HW
    iintro ⟨HP, HB, HW⟩
    try dsimp only
    imodintro
    isplitr; · ipureintro; simp only [taken_at, wrap_at]
    isplitl [N0 E0 F0 N1 E1 F1 N2 E2 F2 N3 E3 F3 N4 E4 F4 N5 E5 F5]
    · unfold RingsAt
      isplitl [N0 E0 F0]
      · iapply (r0.ring_next c A.a0 k.val (tb k)); isplitl [N0]; · iexact N0
        isplitl [E0]; · iexact E0
        iexact F0
      isplitl [N1 E1 F1]
      · iapply (r1.ring_next c A.a1 k.val (tb k)); isplitl [N1]; · iexact N1
        isplitl [E1]; · iexact E1
        iexact F1
      isplitl [N2 E2 F2]
      · iapply (r2.ring_next c A.a2 k.val (tb k)); isplitl [N2]; · iexact N2
        isplitl [E2]; · iexact E2
        iexact F2
      isplitl [N3 E3 F3]
      · iapply (r3.ring_next c A.a3 k.val (tb k)); isplitl [N3]; · iexact N3
        isplitl [E3]; · iexact E3
        iexact F3
      isplitl [N4 E4 F4]
      · iapply (r4.ring_next c A.a4 k.val (tb k)); isplitl [N4]; · iexact N4
        isplitl [E4]; · iexact E4
        iexact F4
      iapply (r5.ring_next c A.a5 k.val (tb k)); isplitl [N5]; · iexact N5
      isplitl [E5]; · iexact E5
      iexact F5
    isplitl [HF HP HB HT HD]
    · iapply (out_next c G k h0 hk1)
      isplitl [HF]; · iexact HF
      isplitl [HP]; · iexact HP
      isplitl [HB]; · iexact HB
      isplitl [HT]; · iexact HT
      iexact HD
    isplitl [O6 O7 O8 O9]
    · unfold WinP
      isplitl [O6]; · iexact O6
      isplitl [O7]; · iexact O7
      isplitl [O8]; · iexact O8
      iexact O9
    iexact HW

theorem one_at : Scalar.addi 0#32 1#32 = 1#32 := by decide
theorem next0_at : Scalar.addi (Scalar.select (Scalar.cmpi .eq (Scalar.select 1#1 1#32 0#32) 64#32) 0#32 (Scalar.select 1#1 1#32 0#32)) 0#32 = 1#32 := by decide
theorem more0_at : Scalar.andi 1#1 (Scalar.cmpi .ne 1#32 0#32) = 1#1 := by decide
theorem two_at : Scalar.select 1#1 (Scalar.addi 1#32 1#32) 1#32 = 2#32 := by decide

theorem part10_spec {Q : _ → sProp 𝕄} :
    iprop(r0.FreeP c A.a0 0) ⊢
      iprop((iprop(r0.FlyP c A.a0 0 0) -∗ Q ⟨1#32, 1#32⟩) -∗ wp frame (wpE (defs₀ (F := F)) 𝒱 (c : Thread nD τ) bd) Set.univ (p10 m6 h6 m7 h7 m8 h8 m9 h9 ) Q) := by
  show _ ⊢ _ -∗ wp frame (wpE (defs₀ (F := F)) 𝒱 (c : Thread nD τ) bd) Set.univ (k0_part10 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  ) Q
  rw [k0_part10_eq_skeleton]; unfold k0_part10_skel
  simp only [wp_bind, wp_pure, one_at, next0_at, two_at, more0_at]
  iintro H00 HQ
  iapply (r0.wp_fetch c A.a0 𝒱 bd (by decide) 0 0 (r0.blk_eq rfl) (r0.slot_eq off2_at) (r0.cell_eq off1_at)) $$ H00; iintro H00
  imodintro
  iapply HQ
  iexact H00

theorem part11_spec {Q : _ → sProp 𝕄} :
    iprop(r1.FreeP c A.a1 0 ∗ r2.FreeP c A.a2 0 ∗ r3.FreeP c A.a3 0 ∗ r4.FreeP c A.a4 0) ⊢
      iprop((iprop(r1.FlyP c A.a1 0 0 ∗ r2.FlyP c A.a2 0 0 ∗ r3.FlyP c A.a3 0 0 ∗ r4.FlyP c A.a4 0 0) -∗ Q ⟨1#32, 1#32, 1#32, 1#32⟩) -∗ wp frame (wpE (defs₀ (F := F)) 𝒱 (c : Thread nD τ) bd) Set.univ (p11 m6 h6 m7 h7 m8 h8 m9 h9 ) Q) := by
  show _ ⊢ _ -∗ wp frame (wpE (defs₀ (F := F)) 𝒱 (c : Thread nD τ) bd) Set.univ (k0_part11 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  ) Q
  rw [k0_part11_eq_skeleton]; unfold k0_part11_skel
  simp only [wp_bind, wp_pure, one_at, next0_at, two_at, more0_at]
  iintro ⟨H10, H20, H30, H40⟩ HQ
  iapply (r1.wp_fetch c A.a1 𝒱 bd (by decide) 0 0 (r1.blk_eq rfl) (r1.slot_eq off2_at) (r1.cell_eq off1_at)) $$ H10; iintro H10
  iapply (r2.wp_fetch c A.a2 𝒱 bd (by decide) 0 0 (r2.blk_eq rfl) (r2.slot_eq off2_at) (r2.cell_eq off1_at)) $$ H20; iintro H20
  iapply (r3.wp_fetch c A.a3 𝒱 bd (by decide) 0 0 (r3.blk_eq rfl) (r3.slot_eq off3_at) (r3.cell_eq off1_at)) $$ H30; iintro H30
  iapply (r4.wp_fetch c A.a4 𝒱 bd (by decide) 0 0 (r4.blk_eq rfl) (r4.slot_eq off3_at) (r4.cell_eq off1_at)) $$ H40; iintro H40
  imodintro
  iapply HQ
  isplitl [H10]; · iexact H10
  isplitl [H20]; · iexact H20
  isplitl [H30]; · iexact H30
  iexact H40

theorem part12_spec {Q : _ → sProp 𝕄} :
    iprop(r5.FreeP c A.a5 0 ∗ r0.FreeP c A.a0 1 ∗ r1.FreeP c A.a1 1 ∗ r2.FreeP c A.a2 1) ⊢
      iprop((iprop(r5.FlyP c A.a5 0 0 ∗ r0.FlyP c A.a0 1 1 ∗ r1.FlyP c A.a1 1 1 ∗ r2.FlyP c A.a2 1 1) -∗ Q ⟨1#32, 2#32, 2#32, 2#32, 1#1, 1#1⟩) -∗ wp frame (wpE (defs₀ (F := F)) 𝒱 (c : Thread nD τ) bd) Set.univ (p12 m6 h6 m7 h7 m8 h8 m9 h9 1#32 1#32 1#32 1#32) Q) := by
  show _ ⊢ _ -∗ wp frame (wpE (defs₀ (F := F)) 𝒱 (c : Thread nD τ) bd) Set.univ (k0_part12 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  1#32 1#32 1#32 1#32) Q
  rw [k0_part12_eq_skeleton]; unfold k0_part12_skel
  simp only [dif_pos cond1_at, dif_pos cond2_at, dif_pos cond3_at, wp_bind, wp_pure, one_at, next0_at, two_at, more0_at]
  iintro ⟨H50, H01, H11, H21⟩ HQ
  iapply (r5.wp_fetch c A.a5 𝒱 bd (by decide) 0 0 (r5.blk_eq rfl) (r5.slot_eq off3_at) (r5.cell_eq off1_at)) $$ H50; iintro H50
  iapply (r0.wp_fetch c A.a0 𝒱 bd (by decide) 1 1 (r0.blk_eq off6_at) (r0.slot_eq off5_at) (r0.cell_eq off4_at)) $$ H01; iintro H01
  iapply (r1.wp_fetch c A.a1 𝒱 bd (by decide) 1 1 (r1.blk_eq off9_at) (r1.slot_eq off8_at) (r1.cell_eq off7_at)) $$ H11; iintro H11
  iapply (r2.wp_fetch c A.a2 𝒱 bd (by decide) 1 1 (r2.blk_eq off12_at) (r2.slot_eq off11_at) (r2.cell_eq off10_at)) $$ H21; iintro H21
  imodintro
  iapply HQ
  isplitl [H50]; · iexact H50
  isplitl [H01]; · iexact H01
  isplitl [H11]; · iexact H11
  iexact H21

theorem InRing.at_zero {w : ℕ} {e : EltTy} (R : InRing w e) (A : Buf (Elt F) (R.home.view.loc (c : Thread nD τ))) (j : Fin 3) : R.FlyP c A j 0 ⊢ R.AtP c A j 0 := R.at_fly c A 0 (by decide)
theorem InRing.at_one {w : ℕ} {e : EltTy} (R : InRing w e) (A : Buf (Elt F) (R.home.view.loc (c : Thread nD τ))) (j : Fin 3) : R.FlyP c A j 1 ⊢ R.AtP c A j 1 := R.at_fly c A 1 (by decide)

/-- Every slot of every ring of inputs free. -/
def RingsFree : sProp 𝕄 := iprop((r0.FreeP c A.a0 0 ∗ r0.FreeP c A.a0 1 ∗ r0.FreeP c A.a0 2) ∗ (r1.FreeP c A.a1 0 ∗ r1.FreeP c A.a1 1 ∗ r1.FreeP c A.a1 2) ∗ (r2.FreeP c A.a2 0 ∗ r2.FreeP c A.a2 1 ∗ r2.FreeP c A.a2 2) ∗ (r3.FreeP c A.a3 0 ∗ r3.FreeP c A.a3 1 ∗ r3.FreeP c A.a3 2) ∗ (r4.FreeP c A.a4 0 ∗ r4.FreeP c A.a4 1 ∗ r4.FreeP c A.a4 2) ∗ (r5.FreeP c A.a5 0 ∗ r5.FreeP c A.a5 1 ∗ r5.FreeP c A.a5 2))

theorem select1_at : Scalar.select 1#1 2#32 1#32 = 2#32 := by decide

theorem prev_of_free : OFree (F := F) c 1 ⊢ PrevOut c G 0 := by rw [PrevOut]; exact .rfl

theorem inv_end (a) : Inv c A G X m6 m7 m8 m9 (Scf.trips k0_t1_loop.lb k0_t1_loop.ub k0_t1_loop.st) a ⊢ iprop(⌜a = acc 64⌝ ∗ Inv c A G X m6 m7 m8 m9 64 (acc 64)) := by
  rw [show Scf.trips k0_t1_loop.lb k0_t1_loop.ub k0_t1_loop.st = 64 from trips_eq]
  unfold Inv
  iintro ⟨%h, H⟩
  isplitr; · ipureintro; exact h
  isplitr; · ipureintro; rfl
  iexact H

theorem prev_last : PrevOut c G 64 ⊢ OFly c G 1 63 := by
  rw [PrevOut, dif_pos (by decide)]; exact .rfl

theorem done_all : iprop(Done c G 63 ∗ bigSep (Ring.rangeSet 64 0 63) (fun b => Done c G b)) = bigSep Finset.univ (fun b => Done c G b) := by
  rw [← Ring.rangeSet_univ, Ring.bigSep_rangeSet_last (lo := 0) (hi := 64) (by decide) (by decide)]; rfl

/-- After the loop only the copy of the last block is in flight. -/
theorem inv_last : Inv c A G X m6 m7 m8 m9 64 (acc 64) ⊢ iprop(((r0.FreeP c A.a0 0 ∗ r0.FreeP c A.a0 1 ∗ r0.FreeP c A.a0 2) ∗ (r1.FreeP c A.a1 0 ∗ r1.FreeP c A.a1 1 ∗ r1.FreeP c A.a1 2) ∗ (r2.FreeP c A.a2 0 ∗ r2.FreeP c A.a2 1 ∗ r2.FreeP c A.a2 2) ∗ (r3.FreeP c A.a3 0 ∗ r3.FreeP c A.a3 1 ∗ r3.FreeP c A.a3 2) ∗ (r4.FreeP c A.a4 0 ∗ r4.FreeP c A.a4 1 ∗ r4.FreeP c A.a4 2) ∗ (r5.FreeP c A.a5 0 ∗ r5.FreeP c A.a5 1 ∗ r5.FreeP c A.a5 2)) ∗ OFree (F := F) c 0 ∗ OFly c G 1 63
    ∗ bigSep (Ring.rangeSet 64 0 63) (fun b => Done c G b) ∗ WinP c X m6 m7 m8 m9 ∗ ∃ W, owes (c : Thread nD τ) 0 W) := by
  unfold Inv OutAt
  iintro ⟨-, HR, ⟨HO, HP, -, HD⟩, HX, HW⟩
  ihave HR := (rings_open c A 64) $$ HR
  icases HR with ⟨⟨F0, N0, E0⟩, ⟨F1, N1, E1⟩, ⟨F2, N2, E2⟩, ⟨F3, N3, E3⟩, ⟨F4, N4, E4⟩, ⟨F5, N5, E5⟩⟩
  isplitl [F0 N0 E0 F1 N1 E1 F2 N2 E2 F3 N3 E3 F4 N4 E4 F5 N5 E5]
  · isplitl [F0 N0 E0]
    · isplitl [E0]; · iexact E0
      isplitl [F0]; · iapply (InRing.of_at_free r0 c A.a0 64 (by decide)) $$ F0
      iapply (InRing.of_at_free r0 c A.a0 65 (by decide)) $$ N0
    isplitl [F1 N1 E1]
    · isplitl [E1]; · iexact E1
      isplitl [F1]; · iapply (InRing.of_at_free r1 c A.a1 64 (by decide)) $$ F1
      iapply (InRing.of_at_free r1 c A.a1 65 (by decide)) $$ N1
    isplitl [F2 N2 E2]
    · isplitl [E2]; · iexact E2
      isplitl [F2]; · iapply (InRing.of_at_free r2 c A.a2 64 (by decide)) $$ F2
      iapply (InRing.of_at_free r2 c A.a2 65 (by decide)) $$ N2
    isplitl [F3 N3 E3]
    · isplitl [E3]; · iexact E3
      isplitl [F3]; · iapply (InRing.of_at_free r3 c A.a3 64 (by decide)) $$ F3
      iapply (InRing.of_at_free r3 c A.a3 65 (by decide)) $$ N3
    isplitl [F4 N4 E4]
    · isplitl [E4]; · iexact E4
      isplitl [F4]; · iapply (InRing.of_at_free r4 c A.a4 64 (by decide)) $$ F4
      iapply (InRing.of_at_free r4 c A.a4 65 (by decide)) $$ N4
    isplitl [E5]; · iexact E5
    isplitl [F5]; · iapply (InRing.of_at_free r5 c A.a5 64 (by decide)) $$ F5
    iapply (InRing.of_at_free r5 c A.a5 65 (by decide)) $$ N5
  isplitl [HO]; · iexact HO
  isplitl [HP]; · iapply (prev_last c G) $$ HP
  isplitl [HD]; · iexact HD
  isplitl [HX]; · iexact HX
  iexact HW

/-- Before the loop, its invariant. -/
theorem inv_zero : iprop((r0.FlyP c A.a0 0 0 ∗ r0.FlyP c A.a0 1 1 ∗ r0.FreeP c A.a0 2) ∗ (r1.FlyP c A.a1 0 0 ∗ r1.FlyP c A.a1 1 1 ∗ r1.FreeP c A.a1 2) ∗ (r2.FlyP c A.a2 0 0 ∗ r2.FlyP c A.a2 1 1 ∗ r2.FreeP c A.a2 2) ∗ (r3.FlyP c A.a3 0 0 ∗ r3.FlyP c A.a3 1 1 ∗ r3.FreeP c A.a3 2) ∗ (r4.FlyP c A.a4 0 0 ∗ r4.FlyP c A.a4 1 1 ∗ r4.FreeP c A.a4 2) ∗ (r5.FlyP c A.a5 0 0 ∗ r5.FlyP c A.a5 1 1 ∗ r5.FreeP c A.a5 2) ∗ OFree (F := F) c 0 ∗ OFree (F := F) c 1
    ∗ bigSep Finset.univ (fun b => Todo (F := F) c b) ∗ WinP c X m6 m7 m8 m9 ∗ ∃ W, owes (c : Thread nD τ) 0 W) ⊢ Inv c A G X m6 m7 m8 m9 0 (acc 0) := by
  unfold Inv RingsAt OutAt InRing.RingAt
  iintro ⟨⟨F0, N0, E0⟩, ⟨F1, N1, E1⟩, ⟨F2, N2, E2⟩, ⟨F3, N3, E3⟩, ⟨F4, N4, E4⟩, ⟨F5, N5, E5⟩, HO, HP, HT, HX, HW⟩
  isplitr; · ipureintro; rfl
  isplitl [F0 N0 E0 F1 N1 E1 F2 N2 E2 F3 N3 E3 F4 N4 E4 F5 N5 E5]
  · isplitl [F0 N0 E0]
    · isplitl [F0]; · iapply (r0.at_zero c A.a0 0) $$ F0
      isplitl [N0]; · iapply (r0.at_one c A.a0 1) $$ N0
      iexact E0
    isplitl [F1 N1 E1]
    · isplitl [F1]; · iapply (r1.at_zero c A.a1 0) $$ F1
      isplitl [N1]; · iapply (r1.at_one c A.a1 1) $$ N1
      iexact E1
    isplitl [F2 N2 E2]
    · isplitl [F2]; · iapply (r2.at_zero c A.a2 0) $$ F2
      isplitl [N2]; · iapply (r2.at_one c A.a2 1) $$ N2
      iexact E2
    isplitl [F3 N3 E3]
    · isplitl [F3]; · iapply (r3.at_zero c A.a3 0) $$ F3
      isplitl [N3]; · iapply (r3.at_one c A.a3 1) $$ N3
      iexact E3
    isplitl [F4 N4 E4]
    · isplitl [F4]; · iapply (r4.at_zero c A.a4 0) $$ F4
      isplitl [N4]; · iapply (r4.at_one c A.a4 1) $$ N4
      iexact E4
    isplitl [F5]; · iapply (r5.at_zero c A.a5 0) $$ F5
    isplitl [N5]; · iapply (r5.at_one c A.a5 1) $$ N5
    iexact E5
  isplitl [HO HP HT]
  · isplitl [HO]; · iexact HO
    isplitl [HP]; · iapply (prev_of_free c G) $$ HP
    isplitl [HT]; · rw [Ring.rangeSet_univ]; iexact HT
    rw [Ring.bigSep_rangeSet_empty (le_refl 0)]; iempintro
  isplitl [HX]; · iexact HX
  iexact HW

/-- What the last part before the loop is handed besides the three slots it starts fetches into. -/
def Rest0 : sProp 𝕄 := iprop(r0.FlyP c A.a0 0 0 ∗ r1.FlyP c A.a1 0 0 ∗ r2.FlyP c A.a2 0 0 ∗ r3.FlyP c A.a3 0 0 ∗ r4.FlyP c A.a4 0 0 ∗ r5.FlyP c A.a5 0 0 ∗ r0.FlyP c A.a0 1 1 ∗ r1.FlyP c A.a1 1 1 ∗ r2.FlyP c A.a2 1 1 ∗ r0.FreeP c A.a0 2 ∗ r1.FreeP c A.a1 2 ∗ r2.FreeP c A.a2 2 ∗ r3.FreeP c A.a3 2 ∗ r4.FreeP c A.a4 2 ∗ r5.FreeP c A.a5 2 ∗ OFree (F := F) c 0 ∗ OFree (F := F) c 1
    ∗ bigSep Finset.univ (fun b => Todo (F := F) c b) ∗ WinP c X m6 m7 m8 m9 ∗ ∃ W, owes (c : Thread nD τ) 0 W)

theorem start_inv : iprop(r3.FlyP c A.a3 1 1 ∗ r4.FlyP c A.a4 1 1 ∗ r5.FlyP c A.a5 1 1 ∗ Rest0 c A X m6 m7 m8 m9) ⊢ Inv c A G X m6 m7 m8 m9 0 (acc 0) := by
  unfold Rest0
  iintro ⟨N3, N4, N5, F0, F1, F2, F3, F4, F5, N0, N1, N2, E0, E1, E2, E3, E4, E5, HO, HP, HT, HX, HW⟩
  iapply (inv_zero c A G X m6 m7 m8 m9)
  isplitl [F0 N0 E0]
  · isplitl [F0]; · iexact F0
    isplitl [N0]; · iexact N0
    iexact E0
  isplitl [F1 N1 E1]
  · isplitl [F1]; · iexact F1
    isplitl [N1]; · iexact N1
    iexact E1
  isplitl [F2 N2 E2]
  · isplitl [F2]; · iexact F2
    isplitl [N2]; · iexact N2
    iexact E2
  isplitl [F3 N3 E3]
  · isplitl [F3]; · iexact F3
    isplitl [N3]; · iexact N3
    iexact E3
  isplitl [F4 N4 E4]
  · isplitl [F4]; · iexact F4
    isplitl [N4]; · iexact N4
    iexact E4
  isplitl [F5 N5 E5]
  · isplitl [F5]; · iexact F5
    isplitl [N5]; · iexact N5
    iexact E5
  isplitl [HO]; · iexact HO
  isplitl [HP]; · iexact HP
  isplitl [HT]; · iexact HT
  isplitl [HX]; · iexact HX
  iexact HW

theorem part13_spec (hG : IsOut c A X G) (K : sProp 𝕄) (hK : iprop(r3.FlyP c A.a3 1 1 ∗ r4.FlyP c A.a4 1 1 ∗ r5.FlyP c A.a5 1 1 ∗ K) ⊢ Inv c A G X m6 m7 m8 m9 0 (acc 0)) {Q : _ → sProp 𝕄} :
    iprop(r3.FreeP c A.a3 1 ∗ r4.FreeP c A.a4 1 ∗ r5.FreeP c A.a5 1 ∗ K) ⊢
      iprop((∀ y, Inv c A G X m6 m7 m8 m9 64 (acc 64) -∗ Q ⟨wd 63, wd 0, chk10_at, chk9_at, y, 0#32⟩) -∗ wp frame (wpE (defs₀ (F := F)) 𝒱 (c : Thread nD τ) bd) Set.univ (p13 m6 h6 m7 h7 m8 h8 m9 h9 1#32 1#32 1#32 1#32 2#32 2#32 2#32 1#1 1#1) Q) := by
  show _ ⊢ _ -∗ wp frame (wpE (defs₀ (F := F)) 𝒱 (c : Thread nD τ) bd) Set.univ (k0_part13 (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13  1#32 1#32 1#32 1#32 2#32 2#32 2#32 1#1 1#1) Q
  rw [k0_part13_eq_skeleton]; unfold k0_part13_skel
  simp only [dif_pos cond4_at, dif_pos cond5_at, dif_pos cond6_at, wp_bind, wp_pure, one_at, two_at, more0_at, select1_at]
  iintro ⟨H3, H4, H5, HK⟩ HQ
  iapply (r3.wp_fetch c A.a3 𝒱 bd (by decide) 1 1 (r3.blk_eq off15_at) (r3.slot_eq off14_at) (r3.cell_eq off13_at)) $$ H3; iintro H3
  iapply (r4.wp_fetch c A.a4 𝒱 bd (by decide) 1 1 (r4.blk_eq off18_at) (r4.slot_eq off17_at) (r4.cell_eq off16_at)) $$ H4; iintro H4
  iapply (r5.wp_fetch c A.a5 𝒱 bd (by decide) 1 1 (r5.blk_eq off21_at) (r5.slot_eq off20_at) (r5.cell_eq off19_at)) $$ H5; iintro H5
  iapply (Scf.wp_for frame (wpE (defs₀ (F := F)) 𝒱 (c : Thread nD τ) bd) Set.univ _ _ _ k0_t1_ok _ _ (Inv c A G X m6 m7 m8 m9)
    (fun k a => trip c A G X 𝒱 bd m6 h6 m7 h7 m8 h8 m9 h9 hG _ _ _ _ _ _ _ _ _ k a))
  isplitl [H3 H4 H5 HK]
  · iapply hK
    isplitl [H3]; · iexact H3
    isplitl [H4]; · iexact H4
    isplitl [H5]; · iexact H5
    iexact HK
  iintro %a HI
  ihave HI := (inv_end c A G X m6 m7 m8 m9 a) $$ HI
  icases HI with ⟨%ha, HI⟩
  subst ha
  dsimp only
  iapply (wp_check c 𝒱 bd chk10_at)
  iapply (wp_check c 𝒱 bd chk9_at)
  imodintro
  iapply HQ $$ HI

/-- The whole kernel: every ring free before and after, every block of the result written. -/
theorem merge_run (hG : IsOut c A X G) {Q : PUnit → sProp 𝕄} :
    iprop(RingsFree c A ∗ OFree (F := F) c 0 ∗ OFree (F := F) c 1 ∗ bigSep Finset.univ (fun b => Todo (F := F) c b) ∗ WinP c X m6 m7 m8 m9 ∗ ∃ W, owes (c : Thread nD τ) 0 W) ⊢
      iprop((iprop(RingsFree c A ∗ OFree (F := F) c 0 ∗ OFree (F := F) c 1 ∗ bigSep Finset.univ (fun b => Done c G b) ∗ WinP c X m6 m7 m8 m9 ∗ ∃ W, owes (c : Thread nD τ) 0 W) -∗ Q ⟨⟩) -∗
        wp frame (wpE (defs₀ (F := F)) 𝒱 (c : Thread nD τ) bd) Set.univ (cc0_merge (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) m6 h6 m7 h7 m8 h8 m9 h9 (Memref.whole main_v8) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 (Memref.whole cc0_scoped10) (Memref.isWhole_whole _) cc0_scoped11 (Memref.whole cc0_scoped12) (Memref.isWhole_whole _) cc0_scoped13 ) Q) := by
  rw [cc0_merge_eq_skeleton]; unfold cc0_merge_skel
  simp only [wp_bind, wp_pure]
  unfold RingsFree
  iintro ⟨⟨⟨F0, N0, E0⟩, ⟨F1, N1, E1⟩, ⟨F2, N2, E2⟩, ⟨F3, N3, E3⟩, ⟨F4, N4, E4⟩, ⟨F5, N5, E5⟩⟩, HO, HP, HT, HX, HW⟩ HQ
  iapply (part10_spec c A 𝒱 bd m6 h6 m7 h7 m8 h8 m9 h9) $$ F0; iintro F0
  try dsimp only
  iapply (part11_spec c A 𝒱 bd m6 h6 m7 h7 m8 h8 m9 h9) $$ [F1 F2 F3 F4]
  · isplitl [F1]; · iexact F1
    isplitl [F2]; · iexact F2
    isplitl [F3]; · iexact F3
    iexact F4
  iintro ⟨F1, F2, F3, F4⟩
  try dsimp only
  iapply (part12_spec c A 𝒱 bd m6 h6 m7 h7 m8 h8 m9 h9) $$ [F5 N0 N1 N2]
  · isplitl [F5]; · iexact F5
    isplitl [N0]; · iexact N0
    isplitl [N1]; · iexact N1
    iexact N2
  iintro ⟨F5, N0, N1, N2⟩
  try dsimp only
  iapply (part13_spec c A G X 𝒱 bd m6 h6 m7 h7 m8 h8 m9 h9 hG _ (start_inv c A G X m6 m7 m8 m9)) $$ [N3 N4 N5 F0 F1 F2 F3 F4 F5 N0 N1 N2 E0 E1 E2 E3 E4 E5 HO HP HT HX HW]
  · isplitl [N3]; · iexact N3
    isplitl [N4]; · iexact N4
    isplitl [N5]; · iexact N5
    unfold Rest0
    isplitl [F0]; · iexact F0
    isplitl [F1]; · iexact F1
    isplitl [F2]; · iexact F2
    isplitl [F3]; · iexact F3
    isplitl [F4]; · iexact F4
    isplitl [F5]; · iexact F5
    isplitl [N0]; · iexact N0
    isplitl [N1]; · iexact N1
    isplitl [N2]; · iexact N2
    isplitl [E0]; · iexact E0
    isplitl [E1]; · iexact E1
    isplitl [E2]; · iexact E2
    isplitl [E3]; · iexact E3
    isplitl [E4]; · iexact E4
    isplitl [E5]; · iexact E5
    isplitl [HO]; · iexact HO
    isplitl [HP]; · iexact HP
    isplitl [HT]; · iexact HT
    isplitl [HX]; · iexact HX
    iexact HW
  iintro %y HI
  try dsimp only
  ihave HI := (inv_last c A G X m6 m7 m8 m9) $$ HI
  icases HI with ⟨HR, HO, HP, HD, HX, HW⟩
  iapply (wp_oawait c G 𝒱 bd 1 63 (oblk_eq off72_at) (ocell_eq off71_at)) $$ [HP HW]
  · isplitl [HP]; · iexact HP
    iexact HW
  iintro ⟨HP, HB, HW⟩
  imodintro
  iapply HQ
  isplitl [HR]; · iexact HR
  isplitl [HO]; · iexact HO
  isplitl [HP]; · iexact HP
  isplitl [HB HD]
  · iapply (entails_eq (done_all c G)) $$ [HB HD]
    isplitl [HB]; · iexact HB
    iexact HD
  isplitl [HX]; · iexact HX
  iexact HW

end

end Cert.KernelIdeal.Merge

end
-- ==== Proof.Merge.Launch.lean ====
module

public import proofs.«01_k».proof.Proof.Merge.Loop
public import proofs.«01_k».proof.Proof.Gen.KernelIdeal.Frame
public import Idealize.ShloMosaic.Lib.Pipeline.Routed

/-!
# The launch of the merge kernel

What the launch hands the body (its scratch buffers whole, its semaphores at zero, the arrays in HBM whole) is cut into the
rings' slots and the result's blocks, and put together again after the body; the run of the program follows, with the
result's contents stated.
-/

@[expose] public section

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## Blocks of a whole buffer -/

section Slices
variable {κ : Kind} {sp : Space} {s : Shape} {e : EltTy} (M : Memref sig κ sp s e) {n : ℕ} (r : Fin n → Rect s)

/-- The elements of `M` in its block `j`. -/
abbrev part (j : Fin n) : Finset M.view.ty.Idx := (M.view.slice (r j)).set

theorem slices_disjoint (hd : ∀ j j', j ≠ j' → Disjoint (r j).set (r j').set) (j j' : Fin n) (h : j ≠ j') :
    Disjoint (part M r j) (part M r j') := by
  unfold part
  rw [View.set_slice, View.set_slice, Finset.disjoint_map]; exact hd j j' h

theorem slices_cover (hM : M.IsWhole) (hc : Finset.univ.biUnion (fun j => (r j).set) = Finset.univ) :
    Finset.univ.biUnion (part M r) = Finset.univ := by
  ext x
  simp only [Finset.mem_univ, iff_true]
  have hx : x ∈ M.view.set := by rw [hM.set_eq_univ]; exact Finset.mem_univ x
  rw [View.set, Finset.mem_map] at hx
  obtain ⟨y, -, rfl⟩ := hx
  have hy : y ∈ Finset.univ.biUnion (fun j => (r j).set) := by rw [hc]; exact Finset.mem_univ y
  obtain ⟨j, -, hj⟩ := Finset.mem_biUnion.mp hy
  refine Finset.mem_biUnion.mpr ⟨j, Finset.mem_univ _, ?_⟩
  show _ ∈ (M.view.slice (r j)).set
  rw [View.set_slice]; exact Finset.mem_map_of_mem _ hj
end Slices

namespace InRing
variable {w : ℕ} {e : EltTy} (R : InRing w e) (c : Dev nD) (A : Buf (Elt F) (R.home.view.loc (c : Thread nD τ)))

theorem rect_disjoint (j j' : Fin 3) (h : j ≠ j') : Disjoint (rect w j).set (rect w j').set :=
  Ring.lead_disjoint (s := ⟨3, ![3, 1024, w]⟩) (0 : Fin 3) 1 (fun j : Fin 3 => (![j.val, 0, 0] : Fin 3 → ℕ)) ![1, 1024, w] (slotInb w) (fun j => by simp) rfl j j' h
theorem rect_cover : Finset.univ.biUnion (fun j => (rect w j).set) = Finset.univ :=
  Ring.lead_cover (s := ⟨3, ![3, 1024, w]⟩) (0 : Fin 3) 1 (fun j : Fin 3 => (![j.val, 0, 0] : Fin 3 → ℕ)) ![1, 1024, w] (slotInb w) (fun j => by simp)
    (fun j a h => by fin_cases a <;> first | exact absurd rfl h | rfl) rfl (fun a h => by fin_cases a <;> first | exact absurd rfl h | rfl) rfl

/-- A ring whole, as the launch holds it. -/
def Whole : sProp 𝕄 :=
  iprop((∃ f : Buf (Elt F) (R.buf.view.loc (c : Thread nD τ)), R.buf.view.loc (c : Thread nD τ) ↦{fullShare} f)
    ∗ (R.home.view.loc (c : Thread nD τ) ↦{fullShare} A)
    ∗ semVal ((c : Thread nD τ), SemLoc.dma (R.cell 0)) 0 ∗ semVal ((c : Thread nD τ), SemLoc.dma (R.cell 1)) 0 ∗ semVal ((c : Thread nD τ), SemLoc.dma (R.cell 2)) 0)

theorem slot_part (j : Fin 3) : (R.slot j).view.set = part R.buf (rect w) j := View.set_reshape _ _
theorem slot_pt (j : Fin 3) (f : Buf (Elt F) (R.buf.view.loc (c : Thread nD τ))) :
    ((R.slot j).view.loc (c : Thread nD τ) ↦[(R.slot j).view.set]{fullShare} f : sProp 𝕄) = (R.buf.view.loc (c : Thread nD τ) ↦[part R.buf (rect w) j]{fullShare} f) :=
  congrArg (fun S => (R.buf.view.loc (c : Thread nD τ) ↦[S]{fullShare} f : sProp 𝕄)) (R.slot_part j)

theorem whole_open : R.Whole c A ⊢ iprop((∃ f : Buf (Elt F) (R.buf.view.loc (c : Thread nD τ)), R.buf.view.loc (c : Thread nD τ) ↦{fullShare} f)
    ∗ (R.home.view.loc (c : Thread nD τ) ↦{fullShare} A)
    ∗ semVal ((c : Thread nD τ), SemLoc.dma (R.cell 0)) 0 ∗ semVal ((c : Thread nD τ), SemLoc.dma (R.cell 1)) 0 ∗ semVal ((c : Thread nD τ), SemLoc.dma (R.cell 2)) 0) := by
  unfold Whole; exact .rfl

theorem whole_free (hb : R.buf.IsWhole) : R.Whole c A ⊢ iprop(R.FreeP c A 0 ∗ R.FreeP c A 1 ∗ R.FreeP c A 2) := by
  unfold Whole FreeP homeP
  iintro ⟨Hb, Hh, S0, S1, S2⟩
  ihave Hb := (Ring.slots3_split (ℓ := R.buf.view.loc (c : Thread nD τ)) (part R.buf (rect w)) (slices_disjoint R.buf (rect w) rect_disjoint) (slices_cover R.buf (rect w) hb rect_cover)
    (fun f => (R.slot 0).view.loc (c : Thread nD τ) ↦[(R.slot 0).view.set]{fullShare} f) (fun f => (R.slot 1).view.loc (c : Thread nD τ) ↦[(R.slot 1).view.set]{fullShare} f)
    (fun f => (R.slot 2).view.loc (c : Thread nD τ) ↦[(R.slot 2).view.set]{fullShare} f) (R.slot_pt c 0) (R.slot_pt c 1) (R.slot_pt c 2)) $$ Hb
  icases Hb with ⟨B0, B1, B2⟩
  ihave Hh := (Ring.pointsTo_thirds fullShare A).1 $$ Hh
  icases Hh with ⟨H0, H1, H2⟩
  isplitl [S0 B0 H0]
  · isplitl [S0]; · iexact S0
    isplitl [B0]; · iexact B0
    iexact H0
  isplitl [S1 B1 H1]
  · isplitl [S1]; · iexact S1
    isplitl [B1]; · iexact B1
    iexact H1
  isplitl [S2]; · iexact S2
  isplitl [B2]; · iexact B2
  iexact H2

theorem free_whole (hb : R.buf.IsWhole) : iprop(R.FreeP c A 0 ∗ R.FreeP c A 1 ∗ R.FreeP c A 2) ⊢ R.Whole c A := by
  unfold Whole FreeP homeP
  iintro ⟨⟨S0, B0, H0⟩, ⟨S1, B1, H1⟩, S2, B2, H2⟩
  isplitl [B0 B1 B2]
  · iapply (Ring.slots3_join (ℓ := R.buf.view.loc (c : Thread nD τ)) (part R.buf (rect w)) (slices_disjoint R.buf (rect w) rect_disjoint) (slices_cover R.buf (rect w) hb rect_cover)
      (fun f => (R.slot 0).view.loc (c : Thread nD τ) ↦[(R.slot 0).view.set]{fullShare} f) (fun f => (R.slot 1).view.loc (c : Thread nD τ) ↦[(R.slot 1).view.set]{fullShare} f)
      (fun f => (R.slot 2).view.loc (c : Thread nD τ) ↦[(R.slot 2).view.set]{fullShare} f) (R.slot_pt c 0) (R.slot_pt c 1) (R.slot_pt c 2))
    isplitl [B0]; · iexact B0
    isplitl [B1]; · iexact B1
    iexact B2
  isplitl [H0 H1 H2]
  · iapply (Ring.pointsTo_thirds fullShare A).2
    isplitl [H0]; · iexact H0
    isplitl [H1]; · iexact H1
    iexact H2
  isplitl [S0]; · iexact S0
  isplitl [S1]; · iexact S1
  iexact S2

end InRing

/-! ## The ring of results, and the result -/

section Out
variable (c : Dev nD) (G : Buf (Elt F) (ohome.view.loc (c : Thread nD τ)))

theorem orect_disjoint (j j' : Fin 2) (h : j ≠ j') : Disjoint (orect j).set (orect j').set :=
  Ring.lead_disjoint (s := S2x1024x1024) (0 : Fin 3) 1 (fun j : Fin 2 => (![j.val, 0, 0] : Fin 3 → ℕ)) S1x1024x1024.size oslotInb (fun j => by simp) rfl j j' h
theorem orect_cover : Finset.univ.biUnion (fun j => (orect j).set) = Finset.univ :=
  Ring.lead_cover (s := S2x1024x1024) (0 : Fin 3) 1 (fun j : Fin 2 => (![j.val, 0, 0] : Fin 3 → ℕ)) S1x1024x1024.size oslotInb (fun j => by simp)
    (fun j a h => by fin_cases a <;> first | exact absurd rfl h | rfl) rfl (fun a h => by fin_cases a <;> first | exact absurd rfl h | rfl) rfl
theorem brect_disjoint (b b' : Fin 64) (h : b ≠ b') : Disjoint (InRing.brect 1024 b).set (InRing.brect 1024 b').set :=
  Ring.lead_disjoint (s := S65536x1024) (0 : Fin 2) 1024 (fun b : Fin 64 => (![1024 * b.val, 0] : Fin 2 → ℕ)) ![1024, 1024] (InRing.blkInb 1024) (fun j => by simp) rfl b b' h
theorem brect_cover : Finset.univ.biUnion (fun b => (InRing.brect 1024 b).set) = Finset.univ :=
  Ring.lead_cover (s := S65536x1024) (0 : Fin 2) 1024 (fun b : Fin 64 => (![1024 * b.val, 0] : Fin 2 → ℕ)) ![1024, 1024] (InRing.blkInb 1024) (fun j => by simp)
    (fun j a h => by fin_cases a <;> first | exact absurd rfl h | rfl) rfl (fun a h => by fin_cases a <;> first | exact absurd rfl h | rfl) rfl

def OWhole : sProp 𝕄 :=
  iprop((∃ f : Buf (Elt F) (obuf.view.loc (c : Thread nD τ)), obuf.view.loc (c : Thread nD τ) ↦{fullShare} f)
    ∗ semVal ((c : Thread nD τ), SemLoc.dma (ocell 0)) 0 ∗ semVal ((c : Thread nD τ), SemLoc.dma (ocell 1)) 0)

theorem owhole_open : OWhole (F := F) c ⊢ iprop((∃ f : Buf (Elt F) (obuf.view.loc (c : Thread nD τ)), obuf.view.loc (c : Thread nD τ) ↦{fullShare} f)
    ∗ semVal ((c : Thread nD τ), SemLoc.dma (ocell 0)) 0 ∗ semVal ((c : Thread nD τ), SemLoc.dma (ocell 1)) 0) := by
  unfold OWhole; exact .rfl

theorem owhole_free : OWhole (F := F) c ⊢ iprop(OFree (F := F) c 0 ∗ OFree (F := F) c 1) := by
  unfold OWhole OFree OCell OAny
  iintro ⟨Hb, S0, S1⟩
  ihave Hb := (Ring.slots2_split (part obuf orect) (slices_disjoint obuf orect orect_disjoint) (slices_cover obuf orect (Memref.isWhole_whole _) orect_cover)
    (fun f => obuf.view.loc (c : Thread nD τ) ↦[(oslot 0).view.set]{fullShare} f) (fun f => obuf.view.loc (c : Thread nD τ) ↦[(oslot 1).view.set]{fullShare} f)
    (fun f => by rw [View.set_reshape]) (fun f => by rw [View.set_reshape])) $$ Hb
  icases Hb with ⟨B0, B1⟩
  isplitl [S0 B0]
  · isplitl [S0]; · iexact S0
    iexact B0
  isplitl [S1]; · iexact S1
  iexact B1

theorem free_owhole : iprop(OFree (F := F) c 0 ∗ OFree (F := F) c 1) ⊢ OWhole (F := F) c := by
  unfold OWhole OFree OCell OAny
  iintro ⟨⟨S0, B0⟩, S1, B1⟩
  isplitl [B0 B1]
  · iapply (Ring.slots2_join (part obuf orect) (slices_disjoint obuf orect orect_disjoint) (slices_cover obuf orect (Memref.isWhole_whole _) orect_cover)
      (fun f => obuf.view.loc (c : Thread nD τ) ↦[(oslot 0).view.set]{fullShare} f) (fun f => obuf.view.loc (c : Thread nD τ) ↦[(oslot 1).view.set]{fullShare} f)
      (fun f => by rw [View.set_reshape]) (fun f => by rw [View.set_reshape]))
    isplitl [B0]; · iexact B0
    iexact B1
  isplitl [S0]; · iexact S0
  iexact S1

theorem done_part (b : Fin 64) : Done c G b = (ohome.view.loc (c : Thread nD τ) ↦[part ohome (InRing.brect 1024) b]{fullShare} G) := rfl

theorem done_whole : (bigSep Finset.univ (fun b => Done c G b) : sProp 𝕄) = (ohome.view.loc (c : Thread nD τ) ↦{fullShare} G) :=
  (Ring.pointsTo_blocks (ℓ := ohome.view.loc (c : Thread nD τ)) (part ohome (InRing.brect 1024)) (slices_disjoint ohome (InRing.brect 1024) brect_disjoint)
    (slices_cover ohome (InRing.brect 1024) (Memref.isWhole_whole _) brect_cover) G).symm

theorem todo_of_done (b : Fin 64) : Done c G b ⊢ Todo (F := F) c b := by
  unfold Done Todo; iintro H; iexists G; iexact H

theorem todo_all : bigSep Finset.univ (fun b => Done c G b) ⊢ bigSep Finset.univ (fun b => Todo (F := F) c b) := bigSep_mono fun b _ => todo_of_done c G b

end Out

/-! ## The result -/

/-- The result: row `r` is row `r % 1024` of block `r / 1024`. -/
def outG (c : Dev nD) (A : Ins F c) (X : Wts F) : Buf (Elt F) (ohome.view.loc (c : Thread nD τ)) :=
  fun i : S65536x1024.Idx => outB c A X ⟨(i 0).val / 1024, by have := (i 0).isLt; exact Nat.div_lt_of_lt_mul this⟩
    (Shape.reshapeEquiv squeezes_S1x1024x1024_S1024x1024.numel_eq
      (fun a : Fin 2 => match a with | 0 => (⟨(i 0).val % 1024, Nat.mod_lt _ (by decide)⟩ : Fin 1024) | 1 => (⟨(i 1).val, (i 1).isLt⟩ : Fin 1024) : S1024x1024.Idx))

theorem outG_is (c : Dev nD) (A : Ins F c) (X : Wts F) : IsOut c A X (outG c A X) := by
  intro b
  funext i
  show _ = outG c A X ((InRing.brect 1024 b).emb i)
  have h0 : (((InRing.brect 1024 b).emb i) 0).val = 1024 * b.val + (i 0).val := by
    exact (Rect.emb_apply _ _ _).trans (by simp)
  have h1 : (((InRing.brect 1024 b).emb i) 1).val = (i 1).val := by
    exact (Rect.emb_apply _ _ _).trans (by simp)
  have hi := (i 0).isLt
  have hi' : (i 0).val < 1024 := hi
  unfold outG
  have e1 : (⟨(((InRing.brect 1024 b).emb i) 0).val / 1024, by have := (((InRing.brect 1024 b).emb i) 0).isLt; exact Nat.div_lt_of_lt_mul this⟩ : Fin 64) = b := by
    apply Fin.ext; show _ / 1024 = _; rw [h0]; omega
  have e2 : (fun a : Fin 2 => match a with | 0 => (⟨(((InRing.brect 1024 b).emb i) 0).val % 1024, Nat.mod_lt _ (by decide)⟩ : Fin 1024) | 1 => (⟨(((InRing.brect 1024 b).emb i) 1).val, (((InRing.brect 1024 b).emb i) 1).isLt⟩ : Fin 1024) : S1024x1024.Idx) = i := by
    funext a
    fin_cases a
    · apply Fin.ext; show _ % 1024 = _; rw [h0]; show _ = (i 0).val; omega
    · apply Fin.ext; exact h1
  rw [e1, e2]

/-! ## The launch -/

variable (m : (ℓ : Loc nD τ sig) → Buf (Elt F) ℓ) (ρ : Dev nD → PrngReg)

/-- What the arrays the rings read hold at the launch. -/
def ins (c : Dev nD) : Ins F c := ⟨V m c main_arg0, V m c main_arg1, V m c main_arg2, V m c main_arg3, V m c main_arg4, V m c main_arg5⟩
/-- What the staged windows hold. -/
def wts (c : Dev nD) : Wts F := ⟨iblk m c 0 t0_0, iblk m c 1 t0_0, iblk m c 2 t0_0, iblk m c 3 t0_0⟩

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the body reads by its own copies, and the one it writes. -/
def H0 : Finset (Ref sig .tc) := {main_arg0, main_arg1, main_arg2, main_arg3, main_arg4, main_arg5}
def R0 : Finset (Ref sig .tc) := {main_v8}
theorem H0_sub : H0 ⊆ Pipeline.restRefs sig spec0 := by decide
theorem R0_sub : R0 ⊆ Pipeline.restRefs sig spec0 \ H0 := by decide

/-- The body's own semaphores. -/
abbrev osem0 : Fin 20 → SemLoc sig := fun j => SemLoc.dma ⟨4 + j.val, by have := j.isLt; show 4 + j.val < 24; omega⟩
theorem ownSemFacts0 : Pipeline.OwnSemFacts spec0 osem0 := by decide

/-- The written array's contents before the body (as found) and after it. -/
def Gv (c : Dev nD) (k : ℕ) (b : Ref sig .tc) : Buf (Elt F) ((c : Thread nD τ).loc b) :=
  if h : k = 1 ∧ b = main_v8 then h.2 ▸ outG c (ins m c) (wts m c) else V m c b
theorem Gv_zero (c : Dev nD) : Gv m c 0 = V m c := by funext b; simp [Gv]
theorem Gv_one (c : Dev nD) : Gv m c 1 main_v8 = outG c (ins m c) (wts m c) := by simp [Gv]

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ k := Pipeline.ΦDRG osem0 spec0 H0 R0 (V m) (fun c => Gv m c k.val) c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
/-- Window 0's buffer holds its block when the body is called. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
/-- Window 1's buffer holds its block when the body is called. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
/-- Window 2's buffer holds its block when the body is called. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
/-- Window 3's buffer holds its block when the body is called. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The invariant's parts, ring by ring. -/
theorem phi_eq (c : Dev nD) (G : (c : Dev nD) → (b : Ref sig .tc) → Buf (Elt F) ((c : Thread nD τ).loc b)) : (Pipeline.ΦDRG osem0 spec0 H0 R0 (V m) G c : sProp 𝕄)
    = iprop(iprop((∃ f : Buf (Elt F) (r0.buf.view.loc (c : Thread nD τ)), r0.buf.view.loc (c : Thread nD τ) ↦{fullShare} f) ∗ (∃ f : Buf (Elt F) (r1.buf.view.loc (c : Thread nD τ)), r1.buf.view.loc (c : Thread nD τ) ↦{fullShare} f) ∗ (∃ f : Buf (Elt F) (r2.buf.view.loc (c : Thread nD τ)), r2.buf.view.loc (c : Thread nD τ) ↦{fullShare} f) ∗ (∃ f : Buf (Elt F) (r3.buf.view.loc (c : Thread nD τ)), r3.buf.view.loc (c : Thread nD τ) ↦{fullShare} f) ∗ (∃ f : Buf (Elt F) (r4.buf.view.loc (c : Thread nD τ)), r4.buf.view.loc (c : Thread nD τ) ↦{fullShare} f) ∗ (∃ f : Buf (Elt F) (r5.buf.view.loc (c : Thread nD τ)), r5.buf.view.loc (c : Thread nD τ) ↦{fullShare} f) ∗ (∃ f : Buf (Elt F) (obuf.view.loc (c : Thread nD τ)), obuf.view.loc (c : Thread nD τ) ↦{fullShare} f))
      ∗ (∃ r, prngReg c r)
      ∗ iprop(semVal ((c : Thread nD τ), SemLoc.dma (r0.cell 0)) 0 ∗ semVal ((c : Thread nD τ), SemLoc.dma (r0.cell 1)) 0 ∗ semVal ((c : Thread nD τ), SemLoc.dma (r0.cell 2)) 0 ∗ semVal ((c : Thread nD τ), SemLoc.dma (r1.cell 0)) 0 ∗ semVal ((c : Thread nD τ), SemLoc.dma (r1.cell 1)) 0 ∗ semVal ((c : Thread nD τ), SemLoc.dma (r1.cell 2)) 0 ∗ semVal ((c : Thread nD τ), SemLoc.dma (r2.cell 0)) 0 ∗ semVal ((c : Thread nD τ), SemLoc.dma (r2.cell 1)) 0 ∗ semVal ((c : Thread nD τ), SemLoc.dma (r2.cell 2)) 0 ∗ semVal ((c : Thread nD τ), SemLoc.dma (r3.cell 0)) 0 ∗ semVal ((c : Thread nD τ), SemLoc.dma (r3.cell 1)) 0 ∗ semVal ((c : Thread nD τ), SemLoc.dma (r3.cell 2)) 0 ∗ semVal ((c : Thread nD τ), SemLoc.dma (r4.cell 0)) 0 ∗ semVal ((c : Thread nD τ), SemLoc.dma (r4.cell 1)) 0 ∗ semVal ((c : Thread nD τ), SemLoc.dma (r4.cell 2)) 0 ∗ semVal ((c : Thread nD τ), SemLoc.dma (r5.cell 0)) 0 ∗ semVal ((c : Thread nD τ), SemLoc.dma (r5.cell 1)) 0 ∗ semVal ((c : Thread nD τ), SemLoc.dma (r5.cell 2)) 0 ∗ semVal ((c : Thread nD τ), SemLoc.dma (ocell 0)) 0 ∗ semVal ((c : Thread nD τ), SemLoc.dma (ocell 1)) 0)
      ∗ iprop((r0.home.view.loc (c : Thread nD τ) ↦{fullShare} (ins m c).a0) ∗ (r1.home.view.loc (c : Thread nD τ) ↦{fullShare} (ins m c).a1) ∗ (r2.home.view.loc (c : Thread nD τ) ↦{fullShare} (ins m c).a2) ∗ (r3.home.view.loc (c : Thread nD τ) ↦{fullShare} (ins m c).a3) ∗ (r4.home.view.loc (c : Thread nD τ) ↦{fullShare} (ins m c).a4) ∗ (r5.home.view.loc (c : Thread nD τ) ↦{fullShare} (ins m c).a5))
      ∗ (ohome.view.loc (c : Thread nD τ) ↦{fullShare} G c main_v8)) := by
  rw [Pipeline.ΦDRG_eq, scopedRest0_eq, Pipeline.ownSems0_eq_of_list c osem0 [0, 1, 2, 3, 4, 5, 6, 7, 8, 9, 10, 11, 12, 13, 14, 15, 16, 17, 18, 19] (by decide) (by decide), R0, Pipeline.routed_singleton,
    BI.bigSep_eq_bigSepL_of_eq (S := H0) [main_arg0, main_arg1, main_arg2, main_arg3, main_arg4, main_arg5] (by decide) (by decide)]
  rfl

theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)))
    ⊢ wp frame (wpE (defs₀ (F := F)) Variants.none (c : Thread nD τ) none) Set.univ (bodyAt0 t) (fun _ =>
      iprop((dats m 0 c).Φ t.succ ∗ (dats m 0 c).owesAt () t.succ
      ∗ owns (c : Thread nD τ) (win0_0.stage (cfg0.slots t 0)) fullShare ((dats m 0 c).after 0 t) ∗ owns (c : Thread nD τ) (win0_1.stage (cfg0.slots t 1)) fullShare ((dats m 0 c).after 1 t)
      ∗ owns (c : Thread nD τ) (win0_2.stage (cfg0.slots t 2)) fullShare ((dats m 0 c).after 2 t) ∗ owns (c : Thread nD τ) (win0_3.stage (cfg0.slots t 3)) fullShare ((dats m 0 c).after 3 t))) := by
  obtain rfl := fin_N0 t
  rw [show (dats m 0 c).Φ (Fin.castSucc t0_0) = Pipeline.ΦDRG osem0 spec0 H0 R0 (V m) (fun c => Gv m c 0) c from rfl,
    show (dats m 0 c).Φ (Fin.succ t0_0) = Pipeline.ΦDRG osem0 spec0 H0 R0 (V m) (fun c => Gv m c 1) c from rfl, phi_eq, phi_eq, Gv_one]
  unfold Dat.owesAt Pipeline.owesWithin
  rw [show (dats m 0 c).owed (Fin.castSucc t0_0) = 0 from rfl, show (dats m 0 c).owed (Fin.succ t0_0) = 0 from rfl]
  simp only [before_0, before_1, before_2, before_3, after_0, after_1, after_2, after_3]
  iintro ⟨⟨⟨B0, B1, B2, B3, B4, B5, OB⟩, Hg, ⟨S00, S01, S02, S10, S11, S12, S20, S21, S22, S30, S31, S32, S40, S41, S42, S50, S51, S52, OS0, OS1⟩, ⟨A0, A1, A2, A3, A4, A5⟩, HG⟩, ⟨%W, -, HW⟩, ⟨%d0, W0⟩, ⟨%d1, W1⟩, ⟨%d2, W2⟩, ⟨%d3, W3⟩⟩
  ihave R0 := (r0.whole_free c (ins m c).a0 (Memref.isWhole_whole _)) $$ [B0 A0 S00 S01 S02]
  · unfold InRing.Whole
    isplitl [B0]; · iexact B0
    isplitl [A0]; · iexact A0
    isplitl [S00]; · iexact S00
    isplitl [S01]; · iexact S01
    iexact S02
  ihave R1 := (r1.whole_free c (ins m c).a1 (Memref.isWhole_whole _)) $$ [B1 A1 S10 S11 S12]
  · unfold InRing.Whole
    isplitl [B1]; · iexact B1
    isplitl [A1]; · iexact A1
    isplitl [S10]; · iexact S10
    isplitl [S11]; · iexact S11
    iexact S12
  ihave R2 := (r2.whole_free c (ins m c).a2 (Memref.isWhole_whole _)) $$ [B2 A2 S20 S21 S22]
  · unfold InRing.Whole
    isplitl [B2]; · iexact B2
    isplitl [A2]; · iexact A2
    isplitl [S20]; · iexact S20
    isplitl [S21]; · iexact S21
    iexact S22
  ihave R3 := (r3.whole_free c (ins m c).a3 (Memref.isWhole_whole _)) $$ [B3 A3 S30 S31 S32]
  · unfold InRing.Whole
    isplitl [B3]; · iexact B3
    isplitl [A3]; · iexact A3
    isplitl [S30]; · iexact S30
    isplitl [S31]; · iexact S31
    iexact S32
  ihave R4 := (r4.whole_free c (ins m c).a4 (Memref.isWhole_whole _)) $$ [B4 A4 S40 S41 S42]
  · unfold InRing.Whole
    isplitl [B4]; · iexact B4
    isplitl [A4]; · iexact A4
    isplitl [S40]; · iexact S40
    isplitl [S41]; · iexact S41
    iexact S42
  ihave R5 := (r5.whole_free c (ins m c).a5 (Memref.isWhole_whole _)) $$ [B5 A5 S50 S51 S52]
  · unfold InRing.Whole
    isplitl [B5]; · iexact B5
    isplitl [A5]; · iexact A5
    isplitl [S50]; · iexact S50
    isplitl [S51]; · iexact S51
    iexact S52
  ihave RO := (owhole_free c) $$ [OB OS0 OS1]
  · unfold OWhole
    isplitl [OB]; · iexact OB
    isplitl [OS0]; · iexact OS0
    iexact OS1
  icases RO with ⟨O0, O1⟩
  ihave HG := (entails_eq (done_whole c (Gv m c 0 main_v8)).symm) $$ HG
  ihave HT := (todo_all c (Gv m c 0 main_v8)) $$ HG
  iapply (merge_run c (ins m c) (outG c (ins m c) (wts m c)) (wts m c) Variants.none none _ _ _ _ _ _ _ _ (outG_is c (ins m c) (wts m c))) $$ [R0 R1 R2 R3 R4 R5 O0 O1 HT W0 W1 W2 W3 HW]
  · isplitl [R0 R1 R2 R3 R4 R5]
    · unfold RingsFree
      isplitl [R0]; · iexact R0
      isplitl [R1]; · iexact R1
      isplitl [R2]; · iexact R2
      isplitl [R3]; · iexact R3
      isplitl [R4]; · iexact R4
      iexact R5
    isplitl [O0]; · iexact O0
    isplitl [O1]; · iexact O1
    isplitl [HT]; · iexact HT
    isplitl [W0 W1 W2 W3]
    · unfold WinP
      isplitl [W0]; · iexact W0
      isplitl [W1]; · iexact W1
      isplitl [W2]; · iexact W2
      iexact W3
    iexists W; iexact HW
  unfold RingsFree WinP
  iintro ⟨⟨R0, R1, R2, R3, R4, R5⟩, O0, O1, HD, ⟨W0, W1, W2, W3⟩, %W', HW⟩
  ihave R0 := (r0.free_whole c (ins m c).a0 (Memref.isWhole_whole _)) $$ R0
  ihave R0 := (r0.whole_open c (ins m c).a0) $$ R0
  icases R0 with ⟨B0, A0, S00, S01, S02⟩
  ihave R1 := (r1.free_whole c (ins m c).a1 (Memref.isWhole_whole _)) $$ R1
  ihave R1 := (r1.whole_open c (ins m c).a1) $$ R1
  icases R1 with ⟨B1, A1, S10, S11, S12⟩
  ihave R2 := (r2.free_whole c (ins m c).a2 (Memref.isWhole_whole _)) $$ R2
  ihave R2 := (r2.whole_open c (ins m c).a2) $$ R2
  icases R2 with ⟨B2, A2, S20, S21, S22⟩
  ihave R3 := (r3.free_whole c (ins m c).a3 (Memref.isWhole_whole _)) $$ R3
  ihave R3 := (r3.whole_open c (ins m c).a3) $$ R3
  icases R3 with ⟨B3, A3, S30, S31, S32⟩
  ihave R4 := (r4.free_whole c (ins m c).a4 (Memref.isWhole_whole _)) $$ R4
  ihave R4 := (r4.whole_open c (ins m c).a4) $$ R4
  icases R4 with ⟨B4, A4, S40, S41, S42⟩
  ihave R5 := (r5.free_whole c (ins m c).a5 (Memref.isWhole_whole _)) $$ R5
  ihave R5 := (r5.whole_open c (ins m c).a5) $$ R5
  icases R5 with ⟨B5, A5, S50, S51, S52⟩
  ihave RO := (free_owhole c) $$ [O0 O1]
  · isplitl [O0]; · iexact O0
    iexact O1
  ihave RO := (owhole_open c) $$ RO
  icases RO with ⟨OB, OS0, OS1⟩
  ihave HG := (entails_eq (done_whole c (outG c (ins m c) (wts m c)))) $$ HD
  isplitl [B0 B1 B2 B3 B4 B5 OB Hg S00 S01 S02 S10 S11 S12 S20 S21 S22 S30 S31 S32 S40 S41 S42 S50 S51 S52 OS0 OS1 A0 A1 A2 A3 A4 A5 HG]
  · isplitl [B0 B1 B2 B3 B4 B5 OB]
    · isplitl [B0]; · iexact B0
      isplitl [B1]; · iexact B1
      isplitl [B2]; · iexact B2
      isplitl [B3]; · iexact B3
      isplitl [B4]; · iexact B4
      isplitl [B5]; · iexact B5
      iexact OB
    isplitl [Hg]; · iexact Hg
    isplitl [S00 S01 S02 S10 S11 S12 S20 S21 S22 S30 S31 S32 S40 S41 S42 S50 S51 S52 OS0 OS1]
    · isplitl [S00]; · iexact S00
      isplitl [S01]; · iexact S01
      isplitl [S02]; · iexact S02
      isplitl [S10]; · iexact S10
      isplitl [S11]; · iexact S11
      isplitl [S12]; · iexact S12
      isplitl [S20]; · iexact S20
      isplitl [S21]; · iexact S21
      isplitl [S22]; · iexact S22
      isplitl [S30]; · iexact S30
      isplitl [S31]; · iexact S31
      isplitl [S32]; · iexact S32
      isplitl [S40]; · iexact S40
      isplitl [S41]; · iexact S41
      isplitl [S42]; · iexact S42
      isplitl [S50]; · iexact S50
      isplitl [S51]; · iexact S51
      isplitl [S52]; · iexact S52
      isplitl [OS0]; · iexact OS0
      iexact OS1
    isplitl [A0 A1 A2 A3 A4 A5]
    · isplitl [A0]; · iexact A0
      isplitl [A1]; · iexact A1
      isplitl [A2]; · iexact A2
      isplitl [A3]; · iexact A3
      isplitl [A4]; · iexact A4
      iexact A5
    iexact HG
  isplitl [HW]
  · iexists W'; isplitr; · ipureintro; exact fun _ _ => Or.inl trivial
    iexact HW
  isplitl [W0]; · iexact W0
  isplitl [W1]; · iexact W1
  isplitl [W2]; · iexact W2
  iexact W3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦDRG osem0 spec0 H0 R0 (V m) (V m) c ⊢ (dats m 0 c).Φ 0 := by
  rw [show (dats m 0 c).Φ 0 = Pipeline.ΦDRG osem0 spec0 H0 R0 (V m) (fun c => Gv m c 0) c from rfl, phi_eq, phi_eq, Gv_zero]

theorem phi_out (c : Dev nD) : (dats m 0 c).Φ (Fin.last cfg0.N) ⊢ Pipeline.ΦDRG osem0 spec0 H0 R0 (V m) (fun c => Gv m c 1) c := by
  rw [show (dats m 0 c).Φ (Fin.last cfg0.N) = Pipeline.ΦDRG osem0 spec0 H0 R0 (V m) (fun c => Gv m c (Fin.last cfg0.N).val) c from rfl,
    show (Fin.last cfg0.N).val = 1 from N_0]

set_option backward.isDefEq.respectTransparency.types false in
/-- The run: every array outside the result as found, the result at `outG`, every semaphore at zero. -/
theorem run_main : θ_run defs (onTc (τ := τ) (main (F := F))) (s₀ m ρ)
    (fun r => Pipeline.FramePostRG cfgs (dats m) 0 R0 (V m) (fun c => Gv m c 1) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := fun c => Gv m c 1)
    (hin := fun c => phi_in m c) (hout := fun c => phi_out m c)

/-- The arguments end unchanged, the result is `outG`, and every semaphore is back at zero. -/
theorem run_value : θ_run defs (onTc (τ := τ) (main (F := F))) ⟨m, fun _ => 0, ρ⟩ (fun r => (∀ c : Dev nD,
      r.2.mem ((c.tc : Thread nD τ).loc main_v8) = outG c (ins m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.2 c main_v8 (by decide)).trans (Gv_one m c),
    ((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c),
    ((h.1.1 c).2 main_arg2 (Finset.mem_sdiff.mpr ⟨Pipeline.mem_restRefs_of main_arg2 (by decide) (by decide), by decide⟩)).trans (V_main_arg2 m c),
    ((h.1.1 c).2 main_arg3 (Finset.mem_sdiff.mpr ⟨Pipeline.mem_restRefs_of main_arg3 (by decide) (by decide), by decide⟩)).trans (V_main_arg3 m c),
    ((h.1.1 c).2 main_arg4 (Finset.mem_sdiff.mpr ⟨Pipeline.mem_restRefs_of main_arg4 (by decide) (by decide), by decide⟩)).trans (V_main_arg4 m c),
    ((h.1.1 c).2 main_arg5 (Finset.mem_sdiff.mpr ⟨Pipeline.mem_restRefs_of main_arg5 (by decide) (by decide), by decide⟩)).trans (V_main_arg5 m c),
    ((h.1.1 c).2 main_arg6 (Finset.mem_sdiff.mpr ⟨Pipeline.mem_restRefs_of main_arg6 (by decide) (by decide), by decide⟩)).trans (V_main_arg6 m c),
    ((h.1.1 c).2 main_arg7 (Finset.mem_sdiff.mpr ⟨Pipeline.mem_restRefs_of main_arg7 (by decide) (by decide), by decide⟩)).trans (V_main_arg7 m c),
    ((h.1.1 c).2 main_arg8 (Finset.mem_sdiff.mpr ⟨Pipeline.mem_restRefs_of main_arg8 (by decide) (by decide), by decide⟩)).trans (V_main_arg8 m c),
    ((h.1.1 c).2 main_arg9 (Finset.mem_sdiff.mpr ⟨Pipeline.mem_restRefs_of main_arg9 (by decide) (by decide), by decide⟩)).trans (V_main_arg9 m c)⟩, h.2⟩) (run_main m ρ)

end Cert.KernelIdeal.Merge

end
-- ==== Proof.Merge.Same.lean ====
module

public import proofs.«01_k».proof.Defs
public import proofs.«01_k».proof.Proof.Gen.Kernel
public import proofs.«01_k».proof.Proof.Gen.KernelIdeal

/-!
# The two kernels are one text

The kernel over bit patterns and the kernel over the extended reals have the same text, so their bodies and their tables of
bodies are equal.
-/

@[expose] public section

noncomputable section

namespace Cert.Merge

open Idealize.ShloMosaic Idealize.ShloMosaic.TcCoe

set_option maxHeartbeats 40000000 in
theorem body_eq : Cert.Kernel.cc0_merge (F := Bits) = Cert.KernelIdeal.cc0_merge (F := Bits) := rfl

theorem table_eq : Cert.Kernel.defs₀ (F := Bits) = Cert.KernelIdeal.defs₀ (F := Bits) := by
  unfold Cert.Kernel.defs₀ Cert.KernelIdeal.defs₀
  rw [body_eq]
  refine congrArg Defs.onTc (funext fun x => funext fun y => ?_)
  match x, y with
  | 0, (t, s) => rfl
  | ⟨n + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [table_eq]
  rfl

end Cert.Merge

end
-- ==== Proof.Merge.Spec.lean ====
module

public import Idealize.ShloMosaic.Lib.Pointwise

/-!
# One element of the merge, on the extended reals

Both programs are read down to `merged`: an element of the result as a function of its row of each array and of the weights.
-/

@[expose] public section

noncomputable section

namespace Cert.Merge

open Idealize.ShloMosaic

/-- The column of head `h` at position `k`. -/
def col (h : Fin 4) (k : Fin 128) : Fin 512 := ⟨128 * h.val + k.val, by omega⟩

/-- The head of a column. -/
def headOf (c : Fin 512) : Fin 4 := ⟨c.val / 128, by omega⟩

/-- A column of the row `x`, divided by the root of its head's mean square (moved by a millionth) and scaled by `g`. -/
def normed (x g : Fin 512 → EReal) (c : Fin 512) : EReal :=
  x c * Ideal.rsqrt (Ideal.div (∑ k : Fin 128, x (col (headOf c) k) * x (col (headOf c) k)) (Ideal.ofBits FTy.f32 1124073472#32)
    + Ideal.ofBits FTy.f32 897988541#32) * g c

/-- The same value with the indices written another way. -/
theorem normed_of (x g : Fin 512 → EReal) (c d e : Fin 512) (f : Fin 128 → Fin 512) (hd : d = c) (he : e = c)
    (hf : ∀ k, (f k).val = 128 * (c.val / 128) + k.val) :
    x d * Ideal.rsqrt (Ideal.div (∑ k : Fin 128, x (f k) * x (f k)) (Ideal.ofBits FTy.f32 1124073472#32)
      + Ideal.ofBits FTy.f32 897988541#32) * g e = normed x g c := by
  have e' : f = col (headOf c) := funext fun k => Fin.ext (hf k)
  subst hd he e'
  rfl

/-- An element of the result: the residual, and the gated sum of the two projections times the output matrix. -/
def merged (a x s : Fin 512 → EReal) (ga gb : Fin 1024 → EReal) (r : EReal) (g : Fin 512 → EReal)
    (wa wm : Fin 512 → Fin 1024 → EReal) (wo : Fin 1024 → Fin 1024 → EReal) (j : Fin 1024) : EReal :=
  r + ∑ k : Fin 1024, (ga k * (∑ l : Fin 512, a l * wa l k) + gb k * (∑ l : Fin 512, normed x g l * s l * wm l k)) * wo k j

end Cert.Merge

end
-- ==== Proof.Merge.Value.lean ====
module

public import proofs.«01_k».proof.Proof.Merge.Launch
public import proofs.«01_k».proof.Proof.Merge.Spec
public import Idealize.ShloMosaic.Lib.Claim

/-!
# The kernel's result, element by element
-/

@[expose] public section

noncomputable section

namespace Cert.KernelIdeal.Merge

open Cert.KernelIdeal Cert.KernelIdeal.Gen Cert.Merge
open Idealize.ShloMosaic Idealize.ShloMosaic.TcCoe

/-! ## One block -/

section Block
variable (x1 x2 x0 : Vec Ideal S1x1024x512 .bf16) (x3 x4 : Vec Ideal S1x1024x1024 .bf16) (x5 : Vec Ideal S1x1024x1024 .f32)
  (g : Vec Ideal S1x512 .f32) (wa wm : Vec Ideal S512x1024 .bf16) (wo : Vec Ideal S1024x1024 .bf16)

/-- The first head's columns. -/
theorem pay3_at (r : Fin 1024) (l : Fin 128) (c : Fin 512) (hc : c.val = l.val) :
    k0_pay3 (F := Ideal) x1 g (ix2 r l) = normed (fun c => x1 (ix3 0 r c)) (fun c => g (ix2 0 c)) c := by
  pointwise [k0_pay3, k0_pay1, k0_pay2]
  exact normed_of (fun c => x1 (ix3 0 r c)) (fun c => g (ix2 0 c)) c _ _ (fun k => ⟨k.val, by omega⟩) (Fin.ext hc.symm) (Fin.ext hc.symm) (fun k => by show k.val = _; omega)

/-- The second head's columns. -/
theorem pay4_at (r : Fin 1024) (l : Fin 128) (c : Fin 512) (hc : c.val = 128 + l.val) :
    k0_pay4 (F := Ideal) x1 g (ix2 r l) = normed (fun c => x1 (ix3 0 r c)) (fun c => g (ix2 0 c)) c := by
  pointwise [k0_pay4, k0_pay1, k0_pay2]
  exact normed_of (fun c => x1 (ix3 0 r c)) (fun c => g (ix2 0 c)) c _ _ (fun k => ⟨128 + k.val, by omega⟩) (Fin.ext hc.symm) (Fin.ext hc.symm) (fun k => by show 128 + k.val = _; omega)

/-- The third head's columns. -/
theorem pay56_at (r : Fin 1024) (l : Fin 128) (c : Fin 512) (hc : c.val = 256 + l.val) :
    k0_pay5 (F := Ideal) x1 (ix2 r l) * k0_pay6 (F := Ideal) g (ix2 r l) = normed (fun c => x1 (ix3 0 r c)) (fun c => g (ix2 0 c)) c := by
  pointwise [k0_pay5, k0_pay6, k0_pay1, k0_pay2]
  exact normed_of (fun c => x1 (ix3 0 r c)) (fun c => g (ix2 0 c)) c _ _ (fun k => ⟨256 + k.val, by omega⟩) (Fin.ext hc.symm) (Fin.ext hc.symm) (fun k => by show 256 + k.val = _; omega)

/-- The sum of the two gated projections. -/
theorem pay7_at (r k : Fin 1024) :
    k0_pay7 (F := Ideal) (k0_pay1 x1) (k0_pay2 g) (k0_pay3 x1 g) (k0_pay4 x1 g) (k0_pay5 x1) (k0_pay6 g) x2 x3 x0 wa x4 wm (ix2 r k)
      = x3 (ix3 0 r k) * (∑ l : Fin 512, x0 (ix3 0 r l) * wa (ix2 l k))
        + x4 (ix3 0 r k) * (∑ l : Fin 512, normed (fun c => x1 (ix3 0 r c)) (fun c => g (ix2 0 c)) l * x2 (ix3 0 r l) * wm (ix2 l k)) := by
  pointwise [k0_pay7]
  refine congrArg₂ (· + ·) rfl (congrArg₂ (· * ·) rfl (Finset.sum_congr rfl fun l _ => congrArg₂ (· * ·) (congrArg₂ (· * ·) ?_ rfl) rfl))
  split
  · exact pay3_at x1 g r _ l rfl
  split
  · exact pay4_at x1 g r _ l (by show _ = 128 + (l.val - 128); omega)
  split
  · exact pay56_at x1 g r _ l (by show _ = 256 + (l.val - 128 - 128); omega)
  · pointwise [k0_pay1, k0_pay2]
    exact normed_of (fun c => x1 (ix3 0 r c)) (fun c => g (ix2 0 c)) l _ _ (fun k => ⟨384 + k.val, by omega⟩)
      (Fin.ext (by show 384 + (l.val - 128 - 128 - 128) = _; omega)) (Fin.ext (by show 384 + (l.val - 128 - 128 - 128) = _; omega))
      (fun k => by show 384 + k.val = _; omega)

/-- A block of the result. -/
theorem pay8_at (r j : Fin 1024) :
    k0_pay8 (F := Ideal) (k0_pay7 (k0_pay1 x1) (k0_pay2 g) (k0_pay3 x1 g) (k0_pay4 x1 g) (k0_pay5 x1) (k0_pay6 g) x2 x3 x0 wa x4 wm) x5 wo (ix3 0 r j)
      = merged (fun l => x0 (ix3 0 r l)) (fun l => x1 (ix3 0 r l)) (fun l => x2 (ix3 0 r l)) (fun k => x3 (ix3 0 r k)) (fun k => x4 (ix3 0 r k))
        (x5 (ix3 0 r j)) (fun l => g (ix2 0 l)) (fun l k => wa (ix2 l k)) (fun l k => wm (ix2 l k)) (fun k n => wo (ix2 k n)) j := by
  pointwise [k0_pay8]
  unfold merged
  refine congrArg₂ (· + ·) rfl (Finset.sum_congr rfl fun k _ => congrArg₂ (· * ·) ?_ rfl)
  exact pay7_at x1 x2 x0 x3 x4 g wa wm r k

end Block

/-! ## The whole result -/

/-- An element of a block, as an element of the array. -/
theorem InRing.unsq_at {w : ℕ} {e : EltTy} (R : InRing w e) (c : Dev nD) (A : Buf (Elt Ideal) (R.home.view.loc (c : Thread nD τ))) (b : Fin 64)
    (i : Fin 1024) (l : Fin w) (hq : Shape.reshapeEquiv R.sq.numel_eq (ix2 i l) = ix3 0 i l) :
    R.unsq c A b (ix3 0 i l) = R.home.view.read (Elt Ideal) A (ix2 (⟨1024 * b.val + i.val, by omega⟩ : Fin 65536) l) := by
  unfold InRing.unsq
  rw [← hq, Equiv.symm_apply_apply]
  show R.home.view.read (Elt Ideal) A ((InRing.brect w b).emb (ix2 i l)) = _
  congr 1
  funext a
  apply Fin.ext
  match a with
  | 0 => exact (Rect.emb_apply _ _ _).trans (by simp)
  | 1 => exact (Rect.emb_apply _ _ _).trans (by simp)

variable (m : (ℓ : Loc nD τ sig) → Buf (Elt Ideal) ℓ) (c : Dev nD)

/-- The scale as staged. -/
theorem x6_at (l : Fin 512) : (wts m c).x6 (ix2 0 l) = m ((c : Thread nD τ).loc main_arg6) (ix2 0 l) := by
  have hz : (fun a => (win0_0.index t0_0) a * main_v1.ty.shape.size a) = fun _ => 0 :=
    funext fun a => by fin_cases a <;> decide
  have hr := fun f => Memref.read_access_unit_zero (Elt Ideal) main_v1 hz (fun a => by fin_cases a <;> decide) f
  show iblk m c 0 t0_0 _ = _
  unfold iblk
  rw [hr]
  entry_read
  pointwise

/-- The first projection as staged. -/
theorem x7_at (l : Fin 512) (k : Fin 1024) : (wts m c).x7 (ix2 l k) = m ((c : Thread nD τ).loc main_arg7) (ix3 0 l k) := by
  have hz : (fun a => (win0_1.index t0_0) a * main_v3.ty.shape.size a) = fun _ => 0 :=
    funext fun a => by fin_cases a <;> decide
  have hr := fun f => Memref.read_access_unit_zero (Elt Ideal) main_v3 hz (fun a => by fin_cases a <;> decide) f
  show iblk m c 1 t0_0 _ = _
  unfold iblk
  rw [hr]
  entry_read
  pointwise

/-- The second projection as staged. -/
theorem x8_at (l : Fin 512) (k : Fin 1024) : (wts m c).x8 (ix2 l k) = m ((c : Thread nD τ).loc main_arg8) (ix3 0 l k) := by
  have hz : (fun a => (win0_2.index t0_0) a * main_v5.ty.shape.size a) = fun _ => 0 :=
    funext fun a => by fin_cases a <;> decide
  have hr := fun f => Memref.read_access_unit_zero (Elt Ideal) main_v5 hz (fun a => by fin_cases a <;> decide) f
  show iblk m c 2 t0_0 _ = _
  unfold iblk
  rw [hr]
  entry_read
  pointwise

/-- The output matrix as staged. -/
theorem x9_at (k n : Fin 1024) : (wts m c).x9 (ix2 k n) = m ((c : Thread nD τ).loc main_arg9) (ix3 0 k n) := by
  have hz : (fun a => (win0_3.index t0_0) a * main_v7.ty.shape.size a) = fun _ => 0 :=
    funext fun a => by fin_cases a <;> decide
  have hr := fun f => Memref.read_access_unit_zero (Elt Ideal) main_v7 hz (fun a => by fin_cases a <;> decide) f
  show iblk m c 3 t0_0 _ = _
  unfold iblk
  rw [hr]
  entry_read
  pointwise

/-- A row and its place in its block. -/
theorem row_of (r : Fin 65536) (b : Fin 64) (i : Fin 1024) (hb : b.val = r.val / 1024) (hi : i.val = r.val % 1024) :
    (⟨1024 * b.val + i.val, by omega⟩ : Fin 65536) = r := Fin.ext (by show 1024 * b.val + i.val = r.val; omega)

theorem sq512 (h : (⟨3, ![1, 1024, 512]⟩ : Shape).Squeezes ⟨2, ![1024, 512]⟩) (i : Fin 1024) (l : Fin 512) :
    Shape.reshapeEquiv h.numel_eq (ix2 i l) = ix3 0 i l := by
  pointwise

theorem sq1024 (h : (⟨3, ![1, 1024, 1024]⟩ : Shape).Squeezes ⟨2, ![1024, 1024]⟩) (i l : Fin 1024) :
    Shape.reshapeEquiv h.numel_eq (ix2 i l) = ix3 0 i l := by
  pointwise

/-- An element of the result array, of the arguments as launched. -/
theorem outG_at (r : Fin 65536) (j : Fin 1024) : outG c (ins m c) (wts m c) (ix2 r j)
    = merged (fun l => m ((c : Thread nD τ).loc main_arg0) (ix2 r l)) (fun l => m ((c : Thread nD τ).loc main_arg1) (ix2 r l))
      (fun l => m ((c : Thread nD τ).loc main_arg2) (ix2 r l)) (fun k => m ((c : Thread nD τ).loc main_arg3) (ix2 r k))
      (fun k => m ((c : Thread nD τ).loc main_arg4) (ix2 r k)) (m ((c : Thread nD τ).loc main_arg5) (ix2 r j))
      (fun l => m ((c : Thread nD τ).loc main_arg6) (ix2 0 l)) (fun l k => m ((c : Thread nD τ).loc main_arg7) (ix3 0 l k))
      (fun l k => m ((c : Thread nD τ).loc main_arg8) (ix3 0 l k)) (fun k n => m ((c : Thread nD τ).loc main_arg9) (ix3 0 k n)) j := by
  obtain ⟨b, hb⟩ : ∃ b : Fin 64, b.val = r.val / 1024 := ⟨⟨r.val / 1024, by omega⟩, rfl⟩
  obtain ⟨i, hi⟩ : ∃ i : Fin 1024, i.val = r.val % 1024 := ⟨⟨r.val % 1024, by omega⟩, rfl⟩
  have e : outG c (ins m c) (wts m c) (ix2 r j) = outB c (ins m c) (wts m c) b (ix3 0 i j) := by
    have eb : b = ⟨r.val / 1024, by omega⟩ := Fin.ext hb
    have ei : i = ⟨r.val % 1024, by omega⟩ := Fin.ext hi
    rw [← sq1024 squeezes_S1x1024x1024_S1024x1024 i j, eb, ei]
    unfold outG
    congr 2
    funext a
    match a with
    | 0 => rfl
    | 1 => rfl
  have hr := row_of r b i hb hi
  have h0 : ∀ l, r0.unsq c (ins m c).a0 b (ix3 0 i l) = m ((c : Thread nD τ).loc main_arg0) (ix2 r l) := fun l => by
    rw [InRing.unsq_at r0 c _ b i l (sq512 r0.sq i l), hr]; exact congrFun (V_main_arg0 m c) _
  have h1 : ∀ l, r1.unsq c (ins m c).a1 b (ix3 0 i l) = m ((c : Thread nD τ).loc main_arg1) (ix2 r l) := fun l => by
    rw [InRing.unsq_at r1 c _ b i l (sq512 r1.sq i l), hr]; exact congrFun (V_main_arg1 m c) _
  have h2 : ∀ l, r2.unsq c (ins m c).a2 b (ix3 0 i l) = m ((c : Thread nD τ).loc main_arg2) (ix2 r l) := fun l => by
    rw [InRing.unsq_at r2 c _ b i l (sq512 r2.sq i l), hr]; exact congrFun (V_main_arg2 m c) _
  have h3 : ∀ l, r3.unsq c (ins m c).a3 b (ix3 0 i l) = m ((c : Thread nD τ).loc main_arg3) (ix2 r l) := fun l => by
    rw [InRing.unsq_at r3 c _ b i l (sq1024 r3.sq i l), hr]; exact congrFun (V_main_arg3 m c) _
  have h4 : ∀ l, r4.unsq c (ins m c).a4 b (ix3 0 i l) = m ((c : Thread nD τ).loc main_arg4) (ix2 r l) := fun l => by
    rw [InRing.unsq_at r4 c _ b i l (sq1024 r4.sq i l), hr]; exact congrFun (V_main_arg4 m c) _
  have h5 : ∀ l, r5.unsq c (ins m c).a5 b (ix3 0 i l) = m ((c : Thread nD τ).loc main_arg5) (ix2 r l) := fun l => by
    rw [InRing.unsq_at r5 c _ b i l (sq1024 r5.sq i l), hr]; exact congrFun (V_main_arg5 m c) _
  rw [e]
  unfold outB
  rw [pay8_at]
  simp only [h0, h1, h2, h3, h4, h5, x6_at, x7_at, x8_at, x9_at]

end Cert.KernelIdeal.Merge

end
-- ==== Proof.Merge.Reference.lean ====
module

public import proofs.«01_k».proof.Proof.Merge.Spec
public import proofs.«01_k».proof.Proof.Gen.ReferenceIdeal.Run

/-!
# The reference's result, element by element
-/

@[expose] public section

noncomputable section

namespace Cert.ReferenceIdeal.Merge

open Cert.ReferenceIdeal Cert.ReferenceIdeal.Gen Cert.Merge
open Idealize.ShloMosaic Idealize.ShloMosaic.TcCoe Idealize.SL.Sem

variable (a0 a1 a2 : FVec Ideal S65536x512 .bf16) (a3 a4 : FVec Ideal S65536x1024 .bf16) (a5 : FVec Ideal S65536x1024 .f32)
  (a6 : FVec Ideal S1x512 .f32) (a7 a8 : FVec Ideal S1x512x1024 .f32) (a9 : FVec Ideal S1x1024x1024 .f32)

/-- The result as the composed operations of the arguments. -/
def out : FVec Ideal S65536x1024 .f32 :=
  addf a5 (Host.dotGeneral dot_S65536x1024_S1024x1024_S65536x1024_1_0_0_1_n_n none (addf (mulf (extf .f32 a3 bitsLt_bf16_f32) (Host.dotGeneral dot_S65536x512_S512x1024_S65536x1024_1_0_0_1_n_n none (extf .f32 a0 bitsLt_bf16_f32) (shapeCast _ a7 shapeCasts_S1x512x1024_S512x1024))) (mulf (extf .f32 a4 bitsLt_bf16_f32) (Host.dotGeneral dot_S65536x512_S512x1024_S65536x1024_1_0_0_1_n_n none (shapeCast _ (mulf (mulf (mulf (shapeCast _ (extf .f32 a1 bitsLt_bf16_f32) shapeCasts_S65536x512_S65536x4x128) (broadcastInDim S65536x4x128 ![0, 1, 2] bcast_S65536x4x1_S65536x4x128_0_1_2 (Host.rsqrt (addf (Host.divf (broadcastInDim S65536x4x1 ![0, 1] bcast_S65536x4_S65536x4x1_0_1 (Host.reduceAdd (mulf (shapeCast _ (extf .f32 a1 bitsLt_bf16_f32) shapeCasts_S65536x512_S65536x4x128) (shapeCast _ (extf .f32 a1 bitsLt_bf16_f32) shapeCasts_S65536x512_S65536x4x128)) (constant S_ .f32 0x00000000#32) reducesTo_S65536x4x128_S65536x4_d2 h_S_)) (broadcastInDim S65536x4x1 ![] bcast_S_S65536x4x1 (constant S_ .f32 0x43000000#32))) (broadcastInDim S65536x4x1 ![] bcast_S_S65536x4x1 (constant S_ .f32 0x358637BD#32)))))) (broadcastInDim S65536x4x128 ![0, 1, 2] bcast_S1x4x128_S65536x4x128_0_1_2 (broadcastInDim S1x4x128 ![1, 2] bcast_S4x128_S1x4x128_1_2 (shapeCast _ (shapeCast _ a6 shapeCasts_S1x512_S512) shapeCasts_S512_S4x128)))) (shapeCast _ (extf .f32 a2 bitsLt_bf16_f32) shapeCasts_S65536x512_S65536x4x128)) shapeCasts_S65536x4x128_S65536x512) (shapeCast _ a8 shapeCasts_S1x512x1024_S512x1024)))) (shapeCast _ a9 shapeCasts_S1x1024x1024_S1024x1024))

set_option maxRecDepth 16384 in
theorem out_at (r : Fin 65536) (j : Fin 1024) : out a0 a1 a2 a3 a4 a5 a6 a7 a8 a9 (ix2 r j)
    = merged (fun l => a0 (ix2 r l)) (fun l => a1 (ix2 r l)) (fun l => a2 (ix2 r l)) (fun k => a3 (ix2 r k)) (fun k => a4 (ix2 r k))
      (a5 (ix2 r j)) (fun l => a6 (ix2 0 l)) (fun l k => a7 (ix3 0 l k)) (fun l k => a8 (ix3 0 l k)) (fun k n => a9 (ix3 0 k n)) j := by
  pointwise [out]
  unfold merged
  refine congrArg₂ (· + ·) rfl (Finset.sum_congr rfl fun k _ => congrArg₂ (· * ·) (congrArg₂ (· + ·) rfl
    (congrArg₂ (· * ·) rfl (Finset.sum_congr rfl fun l _ => congrArg₂ (· * ·) (congrArg₂ (· * ·) ?_ rfl) rfl))) rfl)
  exact normed_of (fun l => a1 (ix2 r l)) (fun l => a6 (ix2 0 l)) l _ _ (fun k => ⟨l.val / 128 * 128 + k.val, by omega⟩) rfl rfl
    (fun k => by show l.val / 128 * 128 + k.val = _; omega)

end Cert.ReferenceIdeal.Merge

end
-- ==== Proof.Ffn.Spec.lean ====
module

public import Idealize.ShloMosaic.Lib.Pointwise

/-!
# One element of the feed-forward part, on the extended reals

Both programs are read down to `out`: an element of the result as a function of its row, of the rows before and after it
and of the weights.
-/

@[expose] public section

noncomputable section

namespace Cert.Ffn

open Idealize.ShloMosaic

/-- A row divided by the root of its mean square (moved by a millionth) and scaled by `g`. -/
def rms (x g : Fin 1024 → EReal) (k : Fin 1024) : EReal :=
  x k * Ideal.rsqrt (Ideal.div (∑ l : Fin 1024, x l * x l) (Ideal.ofBits FTy.f32 1149239296#32) + Ideal.ofBits FTy.f32 897988541#32) * g k

/-- The gate's function: half of `x` times one plus the hyperbolic tangent of a cubic in `x`. -/
def gelu (x : EReal) : EReal :=
  Ideal.ofBits FTy.f32 1056964608#32 * x
    * (1 + Ideal.tanh (Ideal.ofBits FTy.f32 1061962282#32 * (x + Ideal.ofBits FTy.f32 1027024659#32 * (x * x * x))))

/-- A channel of the hidden layer: the convolution of three neighbours, through the gate's function, times the other projection. -/
def hid (p a q w0 w1 w2 b g : EReal) : EReal := gelu (p * w0 + a * w1 + q * w2 + b) * g

/-- A row times a column of a matrix. -/
def proj (u : Fin 1024 → EReal) (w : Fin 1024 → EReal) : EReal := ∑ k : Fin 1024, u k * w k

/-- The residual and the hidden layer's image. `hp`, `h`, `hn` are three neighbouring rows; `none` stands for the zeros past the end. -/
def body (hp h : Fin 1024 → EReal) (hn : Option (Fin 1024 → EReal)) (g : Fin 1024 → EReal) (wu wg : Fin 1024 → Fin 2816 → EReal)
    (cw : Fin 3 → Fin 2816 → EReal) (cb : Fin 2816 → EReal) (wd : Fin 2816 → Fin 1024 → EReal) (l : Fin 1024) : EReal :=
  h l + ∑ j : Fin 2816, hid (proj (rms hp g) fun k => wu k j) (proj (rms h g) fun k => wu k j)
    (hn.elim 0 fun n => proj (rms n g) fun k => wu k j) (cw 0 j) (cw 1 j) (cw 2 j) (cb j) (proj (rms h g) fun k => wg k j) * wd j l

/-- An element of the result. -/
def out (hp h : Fin 1024 → EReal) (hn : Option (Fin 1024 → EReal)) (g : Fin 1024 → EReal) (wu wg : Fin 1024 → Fin 2816 → EReal)
    (cw : Fin 3 → Fin 2816 → EReal) (cb : Fin 2816 → EReal) (wd : Fin 2816 → Fin 1024 → EReal) (gf : Fin 1024 → EReal) (l : Fin 1024) : EReal :=
  rms (body hp h hn g wu wg cw cb wd) gf l

/-- The row before row `i` of the residual: a sequence's first row follows the last of its meta rows. -/
def before (h : Fin 65536 → Fin 1024 → EReal) (t : Fin 4096 → Fin 1024 → EReal) (i : Fin 65536) : Fin 1024 → EReal :=
  if i.val % 2048 = 0 then t ⟨i.val / 2048 * 128 + 15, by omega⟩ else h ⟨i.val - 1, by omega⟩

/-- The row after row `i`, if its sequence goes on. -/
def after (h : Fin 65536 → Fin 1024 → EReal) (i : Fin 65536) : Option (Fin 1024 → EReal) :=
  if hi : i.val % 2048 = 2047 then none else some (h ⟨i.val + 1, by omega⟩)

/-- The row before row `i` of the sample, which is one sequence. -/
def before1 (h : Fin 16384 → Fin 1024 → EReal) (t : Fin 128 → Fin 1024 → EReal) (i : Fin 16384) : Fin 1024 → EReal :=
  if i.val = 0 then t 15 else h ⟨i.val - 1, by omega⟩

/-- The row after row `i` of the sample, if the sample goes on. -/
def after1 (h : Fin 16384 → Fin 1024 → EReal) (i : Fin 16384) : Option (Fin 1024 → EReal) :=
  if hi : i.val = 16383 then none else some (h ⟨i.val + 1, by omega⟩)

/-- Equal arguments give an equal element, whatever rows `B` and `A` take for the rows before and after. -/
theorem out_congr {N M : ℕ} (B : (Fin N → Fin 1024 → EReal) → (Fin M → Fin 1024 → EReal) → Fin N → Fin 1024 → EReal)
    (A : (Fin N → Fin 1024 → EReal) → Fin N → Option (Fin 1024 → EReal)) {h h' : Fin N → Fin 1024 → EReal} {t t' : Fin M → Fin 1024 → EReal}
    {g g' : Fin 1024 → EReal} {wu wu' wg wg' : Fin 1024 → Fin 2816 → EReal} {cw cw' : Fin 3 → Fin 2816 → EReal} {cb cb' : Fin 2816 → EReal}
    {wd wd' : Fin 2816 → Fin 1024 → EReal} {gf gf' : Fin 1024 → EReal}
    (i : Fin N) (l : Fin 1024) (e0 : h = h') (e1 : t = t') (e2 : g = g') (e3 : wu = wu') (e4 : wg = wg') (e5 : cw = cw') (e6 : cb = cb') (e7 : wd = wd') (e8 : gf = gf') :
    out (B h t i) (h i) (A h i) g wu wg cw cb wd gf l = out (B h' t' i) (h' i) (A h' i) g' wu' wg' cw' cb' wd' gf' l := by
  rw [e0, e1, e2, e3, e4, e5, e6, e7, e8]

/-- The gate's function with its half inside. -/
theorem gelu_eq (x : EReal) : x * (Ideal.ofBits FTy.f32 1056964608#32
    * (1 + Ideal.tanh (Ideal.ofBits FTy.f32 1061962282#32 * (x + Ideal.ofBits FTy.f32 1027024659#32 * (x * x * x))))) = gelu x := by
  unfold gelu
  rw [← mul_assoc, mul_comm x]

/-- The word of zero is zero. -/
theorem zero_word : FloatOps.sitofp (F := Ideal) FTy.f32 0#32 = (0 : EReal) := by
  show ((((0#32).toInt : ℤ) : ℝ) : EReal) = 0
  simp

/-- A sum over the hidden channels, in the kernel's six runs of columns. -/
theorem sum_runs (f : Fin 2816 → EReal) :
    ∑ j : Fin 2816, f j = (∑ j : Fin 512, f ⟨0 + j.val, by omega⟩) + (∑ j : Fin 512, f ⟨512 + j.val, by omega⟩)
      + (∑ j : Fin 512, f ⟨1024 + j.val, by omega⟩) + (∑ j : Fin 512, f ⟨1536 + j.val, by omega⟩)
      + (∑ j : Fin 512, f ⟨2048 + j.val, by omega⟩) + ∑ j : Fin 256, f ⟨2560 + j.val, by omega⟩ := by
  have e1 := Fin.sum_univ_add (a := 2560) (b := 256) f
  have e2 := Fin.sum_univ_add (a := 2048) (b := 512) (fun j : Fin 2560 => f (Fin.castAdd 256 j))
  have e3 := Fin.sum_univ_add (a := 1536) (b := 512) (fun j : Fin 2048 => f (Fin.castAdd 256 (Fin.castAdd 512 j)))
  have e4 := Fin.sum_univ_add (a := 1024) (b := 512) (fun j : Fin 1536 => f (Fin.castAdd 256 (Fin.castAdd 512 (Fin.castAdd 512 j))))
  have e5 := Fin.sum_univ_add (a := 512) (b := 512) (fun j : Fin 1024 => f (Fin.castAdd 256 (Fin.castAdd 512 (Fin.castAdd 512 (Fin.castAdd 512 j)))))
  rw [e2, e3, e4, e5] at e1
  simp only [zero_add]
  exact e1

end Cert.Ffn

end
-- ==== Proof.Ffn.Steps.lean ====
module

public import proofs.«01_k».proof.Proof.Ffn.Spec
public import proofs.«01_k».proof.Proof.Gen.Kernel2Ideal.Skeleton
public import Idealize.ShloMosaic.Lib.Claim

/-!
# The kernel's six runs of columns

Each run adds the same function of the projected rows to the accumulator.
-/

@[expose] public section

noncomputable section

namespace Cert.Kernel2Ideal.Ffn

open Cert.Kernel2Ideal Cert.Kernel2Ideal.Gen Cert.Ffn
open Idealize.ShloMosaic Idealize.ShloMosaic.TcCoe

/-- The row numbers of a block. -/
abbrev rows : IVec S1024x1 32 := iota .tc S1024x1 32 [0] iota_S1024x1_d0_w32

/-- A choice by a row number's word is a choice by the number. -/
theorem select_row (r : Fin 1024) (n : ℕ) (hn : n < 1024) (a b : EReal) :
    Scalar.select (IntOp.cmpi CmpIPredicate.eq (BitVec.ofNat 32 r.val) (BitVec.ofNat 32 n)) a b = if r.val = n then a else b := by
  have e : (BitVec.ofNat 32 r.val = BitVec.ofNat 32 n) ↔ r.val = n := by
    rw [← BitVec.toNat_inj, BitVec.toNat_ofNat, BitVec.toNat_ofNat]
    omega
  unfold IntOp.cmpi
  rw [Scalar.select_ofBool]
  simp only [beq_iff_eq, e]

/-- The row before, of a block extended by eight rows each way. -/
theorem row_before (E : Fin 1040 → EReal) (r : Fin 1024) (hr : 8 + (r.val + 1024 - 1) % 1024 < 1040) :
    Scalar.select (IntOp.cmpi CmpIPredicate.eq (BitVec.ofNat 32 r.val) 0#32) (E 7) (E ⟨8 + (r.val + 1024 - 1) % 1024, hr⟩)
      = E ⟨7 + r.val, by omega⟩ := by
  rw [show (0#32 : BitVec 32) = BitVec.ofNat 32 0 from rfl, select_row r 0 (by omega)]
  split
  · next h => exact congrArg E (Fin.ext (by show 7 = 7 + r.val; omega))
  · next h => exact congrArg E (Fin.ext (by show 8 + (r.val + 1024 - 1) % 1024 = 7 + r.val; omega))

/-- The row after, or a zero in its place past the end. -/
theorem row_after (w : BitVec 1) (E : Fin 1040 → EReal) (r : Fin 1024) (hr : 8 + (r.val + 1024 - 1023) % 1024 < 1040) :
    Scalar.select (IntOp.cmpi CmpIPredicate.eq (BitVec.ofNat 32 r.val) 1023#32) (Scalar.select w 0 (E 1032)) (E ⟨8 + (r.val + 1024 - 1023) % 1024, hr⟩)
      = if r.val = 1023 ∧ w = 1 then 0 else E ⟨9 + r.val, by omega⟩ := by
  rw [show (1023#32 : BitVec 32) = BitVec.ofNat 32 1023 from rfl, select_row r 1023 (by omega)]
  have h9 : r.val = 1023 → E 1032 = E ⟨9 + r.val, by omega⟩ := fun h => congrArg E (Fin.ext (by show 1032 = 9 + r.val; omega))
  by_cases h : r.val = 1023
  · rw [if_pos h, h9 h, Scalar.select_def]
    simp only [h, true_and]
  · rw [if_neg h, if_neg (fun q => h q.1)]
    exact congrArg E (Fin.ext (by show 8 + (r.val + 1024 - 1023) % 1024 = 9 + r.val; omega))

/-- What one run of `n` columns adds: the hidden channels of the row times the output matrix. -/
def run {n : ℕ} (w : BitVec 1) (E : Fin 1040 → Fin n → EReal) (G : Fin n → EReal) (cw : Fin 8 → Fin n → EReal) (b : Fin n → EReal)
    (wd : Fin n → EReal) (r : Fin 1024) : EReal :=
  ∑ j : Fin n, hid (E ⟨7 + r.val, by omega⟩ j) (E ⟨8 + r.val, by omega⟩ j) (if r.val = 1023 ∧ w = 1 then 0 else E ⟨9 + r.val, by omega⟩ j)
    (cw 0 j) (cw 1 j) (cw 2 j) (b j) (G j) * wd j

/-- The first run. -/
theorem run0 (w : BitVec 1) (acc : FVec Ideal S1024x1024 .f32) (E : FVec Ideal S1040x512 .f32) (G : FVec Ideal S1024x512 .f32)
    (cw : Vec Ideal S8x512 .f32) (b : Vec Ideal S1x512 .f32) (wd : Vec Ideal S512x1024 .bf16) (r l : Fin 1024) :
    k0_pay21 (F := Ideal) acc G (k0_pay19 w rows E cw) (k0_pay20 b) wd (ix2 r l)
      = acc (ix2 r l) + run w (fun e j => E (ix2 e j)) (fun j => G (ix2 r j)) (fun k j => cw (ix2 k j)) (fun j => b (ix2 0 j)) (fun j => wd (ix2 j l)) r := by
  pointwise [k0_pay21, k0_pay19, k0_pay20]
  unfold run hid gelu
  refine congrArg₂ (· + ·) rfl (Finset.sum_congr rfl fun j _ => ?_)
  rw [row_before (fun e => E (ix2 e j)) r, row_after w (fun e => E (ix2 e j)) r]

/-- The second run. -/
theorem run1 (w : BitVec 1) (acc : FVec Ideal S1024x1024 .f32) (E : FVec Ideal S1040x512 .f32) (G : FVec Ideal S1024x512 .f32)
    (cw : Vec Ideal S8x512 .f32) (b : Vec Ideal S1x512 .f32) (wd : Vec Ideal S512x1024 .bf16) (r l : Fin 1024) :
    k0_pay29 (F := Ideal) G acc (k0_pay24 E) (k0_pay25 w E) (k0_pay26 rows E) (k0_pay27 rows) (k0_pay28 E) cw b wd (ix2 r l)
      = acc (ix2 r l) + run w (fun e j => E (ix2 e j)) (fun j => G (ix2 r j)) (fun k j => cw (ix2 k j)) (fun j => b (ix2 0 j)) (fun j => wd (ix2 j l)) r := by
  pointwise [k0_pay29, k0_pay24, k0_pay25, k0_pay26, k0_pay27, k0_pay28]
  unfold run hid gelu
  refine congrArg₂ (· + ·) rfl (Finset.sum_congr rfl fun j _ => ?_)
  rw [row_before (fun e => E (ix2 e j)) r, row_after w (fun e => E (ix2 e j)) r]

/-- The third run. -/
theorem run2 (w : BitVec 1) (acc : FVec Ideal S1024x1024 .f32) (E : FVec Ideal S1040x512 .f32) (G : FVec Ideal S1024x512 .f32)
    (cw : Vec Ideal S8x512 .f32) (b : Vec Ideal S1x512 .f32) (wd : Vec Ideal S512x1024 .bf16) (r l : Fin 1024) :
    k0_pay35 (F := Ideal) acc (k0_pay34 rows G (k0_pay30 E) (k0_pay31 E) (k0_pay32 w E) k0_pay33 cw b) wd (ix2 r l)
      = acc (ix2 r l) + run w (fun e j => E (ix2 e j)) (fun j => G (ix2 r j)) (fun k j => cw (ix2 k j)) (fun j => b (ix2 0 j)) (fun j => wd (ix2 j l)) r := by
  pointwise [k0_pay35, k0_pay34, k0_pay30, k0_pay31, k0_pay32, k0_pay33]
  unfold run hid gelu
  refine congrArg₂ (· + ·) rfl (Finset.sum_congr rfl fun j _ => ?_)
  rw [row_before (fun e => E (ix2 e j)) r, row_after w (fun e => E (ix2 e j)) r]

/-- The fourth run. -/
theorem run3 (w : BitVec 1) (acc : FVec Ideal S1024x1024 .f32) (E : FVec Ideal S1040x512 .f32) (G : FVec Ideal S1024x512 .f32)
    (cw : Vec Ideal S8x512 .f32) (b : Vec Ideal S1x512 .f32) (wd : Vec Ideal S512x1024 .bf16) (r l : Fin 1024) :
    k0_pay39 (F := Ideal) G acc (k0_pay36 w rows E cw b) (k0_pay37 w rows E cw b) (k0_pay38 w rows E cw b) wd (ix2 r l)
      = acc (ix2 r l) + run w (fun e j => E (ix2 e j)) (fun j => G (ix2 r j)) (fun k j => cw (ix2 k j)) (fun j => b (ix2 0 j)) (fun j => wd (ix2 j l)) r := by
  pointwise [k0_pay39, k0_pay36, k0_pay37, k0_pay38]
  unfold run hid gelu
  refine congrArg₂ (· + ·) rfl (Finset.sum_congr rfl fun j _ => ?_)
  rw [row_before (fun e => E (ix2 e j)) r, row_after w (fun e => E (ix2 e j)) r]

/-- The fifth run. -/
theorem run4 (w : BitVec 1) (acc : FVec Ideal S1024x1024 .f32) (E : FVec Ideal S1040x512 .f32) (G : FVec Ideal S1024x512 .f32)
    (cw : Vec Ideal S8x512 .f32) (b : Vec Ideal S1x512 .f32) (wd : Vec Ideal S512x1024 .bf16) (r l : Fin 1024) :
    k0_pay41 (F := Ideal) G acc (k0_pay40 w rows E cw) b wd (ix2 r l)
      = acc (ix2 r l) + run w (fun e j => E (ix2 e j)) (fun j => G (ix2 r j)) (fun k j => cw (ix2 k j)) (fun j => b (ix2 0 j)) (fun j => wd (ix2 j l)) r := by
  pointwise [k0_pay41, k0_pay40]
  unfold run hid gelu
  refine congrArg₂ (· + ·) rfl (Finset.sum_congr rfl fun j _ => ?_)
  rw [row_before (fun e => E (ix2 e j)) r, row_after w (fun e => E (ix2 e j)) r]

/-- The last run, of half the width. -/
theorem run5 (w : BitVec 1) (acc : FVec Ideal S1024x1024 .f32) (E : FVec Ideal S1040x256 .f32) (G : FVec Ideal S1024x256 .f32)
    (cw : Vec Ideal S8x256 .f32) (b : Vec Ideal S1x256 .f32) (wd : Vec Ideal S256x1024 .bf16) (r l : Fin 1024) :
    k0_pay45 (F := Ideal) G acc (k0_pay42 E) (k0_pay43 rows E) (k0_pay44 w rows E) cw b wd (ix2 r l)
      = acc (ix2 r l) + run w (fun e j => E (ix2 e j)) (fun j => G (ix2 r j)) (fun k j => cw (ix2 k j)) (fun j => b (ix2 0 j)) (fun j => wd (ix2 j l)) r := by
  pointwise [k0_pay45, k0_pay42, k0_pay43, k0_pay44]
  unfold run hid gelu
  refine congrArg₂ (· + ·) rfl (Finset.sum_congr rfl fun j _ => ?_)
  rw [row_before (fun e => E (ix2 e j)) r, row_after w (fun e => E (ix2 e j)) r]

end Cert.Kernel2Ideal.Ffn

end
-- ==== Proof.Ffn.Tile.lean ====
module

public import proofs.«01_k».proof.Proof.Ffn.Steps
public import proofs.«01_k».proof.Proof.Gen.Kernel2Ideal.Frame
public import Idealize.ShloMosaic.Lib.Pipeline.Value
public import Idealize.ShloMosaic.Lib.Pipeline.ValueKit.Tiles

/-!
# A tile of the feed-forward kernel, over the rows it reads

The tile is stated over its rows extended by eight each way, whatever the length of a sequence is: `place` says where in its
sequence the tile lies, and both lengths of the kernel use what is proved here.
-/

@[expose] public section

noncomputable section

namespace Cert.Kernel2Ideal.Ffn

open Cert.Kernel2Ideal Cert.Kernel2Ideal.Gen Cert.Ffn
open Idealize.ShloMosaic Idealize.ShloMosaic.TcCoe

/-- The word that compares a tile's place in its sequence of `n` tiles with `z`. -/
abbrev place (n a z : BitVec 32) : BitVec 1 :=
  Scalar.cmpi .eq (Scalar.select (Scalar.andi (Scalar.xori (Scalar.cmpi .slt (Scalar.remsi a (Scalar.select (Scalar.cmpi .eq n 0#32) 1#32 n)) 0#32) (Scalar.cmpi .slt (Scalar.select (Scalar.cmpi .eq n 0#32) 1#32 n) 0#32)) (Scalar.cmpi .ne (Scalar.remsi a (Scalar.select (Scalar.cmpi .eq n 0#32) 1#32 n)) 0#32)) (Scalar.addi (Scalar.remsi a (Scalar.select (Scalar.cmpi .eq n 0#32) 1#32 n)) (Scalar.select (Scalar.cmpi .eq n 0#32) 1#32 n)) (Scalar.remsi a (Scalar.select (Scalar.cmpi .eq n 0#32) 1#32 n))) z

section Loads
variable {R C a b : ℕ} {e : EltTy}

/-- A part of a matrix, read at an index. -/
theorem ld_at (x : Vec Ideal ⟨2, ![R, C]⟩ e) (p q : ℕ) (inb) (i : Fin a) (j : Fin b) (hi : p + i.val < R) (hj : q + j.val < C) :
    View.ld x (Rect.unit (s := ⟨2, ![R, C]⟩) ![p, q] ![a, b] inb) (ix2 i j) = x (ix2 ⟨p + i.val, hi⟩ ⟨q + j.val, hj⟩) :=
  View.ld_unit_apply_of x ![p, q] ![a, b] inb (ix2 i j) (ix2 ⟨p + i.val, hi⟩ ⟨q + j.val, hj⟩)
    (fun ax => by match ax with | 0 => rfl | 1 => rfl)

/-- A part that keeps the rows. -/
theorem ld_cols (x : Vec Ideal ⟨2, ![R, C]⟩ e) (q : ℕ) (inb) (i : Fin R) (j : Fin b) (hj : q + j.val < C) :
    View.ld x (Rect.unit (s := ⟨2, ![R, C]⟩) ![0, q] ![R, b] inb) (ix2 i j) = x (ix2 i ⟨q + j.val, hj⟩) :=
  (ld_at x 0 q inb i j (by omega) hj).trans (by congr 2; exact Fin.ext (Nat.zero_add _))

/-- A part that keeps the columns. -/
theorem ld_rows (x : Vec Ideal ⟨2, ![R, C]⟩ e) (p : ℕ) (inb) (i : Fin a) (j : Fin C) (hi : p + i.val < R) :
    View.ld x (Rect.unit (s := ⟨2, ![R, C]⟩) ![p, 0] ![a, C] inb) (ix2 i j) = x (ix2 ⟨p + i.val, hi⟩ j) :=
  (ld_at x p 0 inb i j hi (by omega)).trans (by congr 2; exact Fin.ext (Nat.zero_add _))

/-- The whole of a matrix. -/
theorem ld_all (x : Vec Ideal ⟨2, ![R, C]⟩ e) (inb) (i : Fin R) (j : Fin C) :
    View.ld x (Rect.unit (s := ⟨2, ![R, C]⟩) ![0, 0] ![R, C] inb) (ix2 i j) = x (ix2 i j) :=
  (ld_rows x 0 inb i j (by omega)).trans (by congr 2; exact Fin.ext (Nat.zero_add _))

end Loads

/-- A row of the tile extended by eight rows each way; `w` says that the tile is its sequence's first. -/
def ext (w : BitVec 1) (x0 : Vec Ideal S1024x1024 .f32) (x1 x2 x3 : Vec Ideal S8x1024 .f32) (e : Fin 1040) (k : Fin 1024) : EReal :=
  if h : e.val < 8 then (if w = 1 then x2 (ix2 ⟨e.val, h⟩ k) else x1 (ix2 ⟨e.val, h⟩ k))
  else if h' : e.val - 8 < 1024 then x0 (ix2 ⟨e.val - 8, h'⟩ k) else x3 (ix2 ⟨e.val - 8 - 1024, by omega⟩ k)

/-- The extended tile's own rows. -/
theorem ext_mid (w : BitVec 1) (x0 : Vec Ideal S1024x1024 .f32) (x1 x2 x3 : Vec Ideal S8x1024 .f32) (r l : Fin 1024) :
    ext w x0 x1 x2 x3 ⟨8 + r.val, by omega⟩ l = x0 (ix2 r l) := by
  unfold ext
  rw [dif_neg (by simp), dif_pos (by simp)]
  congr 2
  exact Fin.ext (Nat.add_sub_cancel_left ..)

/-- The row after row `r` of the tile, if the sequence goes on; `w` says that the tile is its sequence's last. -/
def following (w : BitVec 1) (E : Fin 1040 → Fin 1024 → EReal) (r : Fin 1024) : Option (Fin 1024 → EReal) :=
  if r.val = 1023 ∧ w = 1 then none else some (E ⟨9 + r.val, by omega⟩)

/-- The three arrays the first norm starts from: the scale `g`, the rows `E` and the sums of their squares. -/
structure Reads (E : Fin 1040 → Fin 1024 → EReal) (g : Fin 1024 → EReal) (S : FVec Ideal S1x1024 .f32) (X : FVec Ideal S1040x1024 .f32)
    (Q : FVec Ideal S1040x1 .f32) : Prop where
  scale : ∀ k, S (ix2 0 k) = g k
  rows : ∀ e k, X (ix2 e k) = E e k
  squares : ∀ e, Q (ix2 e 0) = ∑ l : Fin 1024, E e l * E e l

section Tile
variable (w : BitVec 1) (E : Fin 1040 → Fin 1024 → EReal) (g : Fin 1024 → EReal) (S : FVec Ideal S1x1024 .f32) (X : FVec Ideal S1040x1024 .f32)
  (Q : FVec Ideal S1040x1 .f32) (x0 : Vec Ideal S1024x1024 .f32) (x5 x6 : Vec Ideal S1024x2816 .bf16) (x7 : Vec Ideal S8x2816 .f32)
  (x8 : Vec Ideal S1x2816 .f32) (x9 : Vec Ideal S2816x1024 .bf16) (x10 : Vec Ideal S1x1024 .f32)

/-- The up-projection of a run of 512 columns. -/
abbrev upOf (W : Vec Ideal S1024x512 .bf16) : FVec Ideal S1040x512 .f32 := k0_pay8 S X Q (Scalar.ofBits .f32 0x44800000#32) W
/-- The gate's projection of a run of 512 columns. -/
abbrev gateOf (W : Vec Ideal S1024x512 .bf16) : FVec Ideal S1024x512 .f32 := k0_pay9 S X Q (Scalar.ofBits .f32 0x44800000#32) W
/-- The up-projection of the last run. -/
abbrev upLast (W : Vec Ideal S1024x256 .bf16) : FVec Ideal S1040x256 .f32 := k0_pay22 (k0_pay7 S X Q (Scalar.ofBits .f32 0x44800000#32)) W
/-- The gate's projection of the last run. -/
abbrev gateLast (W : Vec Ideal S1024x256 .bf16) : FVec Ideal S1024x256 .f32 := k0_pay23 (k0_pay6 S X Q (Scalar.ofBits .f32 0x44800000#32)) W

section Rows
variable {E g S X Q} (h : Reads E g S X Q)
include h

/-- The scaled row. -/
theorem norm_at (e : Fin 1040) (k : Fin 1024) :
    k0_pay5 (F := Ideal) S X Q (Scalar.ofBits .f32 0x44800000#32) (ix2 e k) = rms (E e) g k := by
  pointwise [k0_pay5]
  rw [h.squares, h.scale, h.rows]
  rfl

theorem up_at (W : Vec Ideal S1024x512 .bf16) (e : Fin 1040) (j : Fin 512) :
    upOf S X Q W (ix2 e j) = proj (rms (E e) g) (fun k => W (ix2 k j)) := by
  pointwise [k0_pay8, k0_pay7]
  exact Finset.sum_congr rfl fun k _ => congrArg (· * _) (norm_at h e k)

theorem gate_at (W : Vec Ideal S1024x512 .bf16) (r : Fin 1024) (j : Fin 512) :
    gateOf S X Q W (ix2 r j) = proj (rms (E ⟨8 + r.val, by omega⟩) g) (fun k => W (ix2 k j)) := by
  pointwise [k0_pay9, k0_pay6]
  exact Finset.sum_congr rfl fun k _ => congrArg (· * _) (norm_at h ⟨8 + r.val, by omega⟩ k)

theorem up_last (W : Vec Ideal S1024x256 .bf16) (e : Fin 1040) (j : Fin 256) :
    upLast S X Q W (ix2 e j) = proj (rms (E e) g) (fun k => W (ix2 k j)) := by
  pointwise [k0_pay22, k0_pay7]
  exact Finset.sum_congr rfl fun k _ => congrArg (· * _) (norm_at h e k)

theorem gate_last (W : Vec Ideal S1024x256 .bf16) (r : Fin 1024) (j : Fin 256) :
    gateLast S X Q W (ix2 r j) = proj (rms (E ⟨8 + r.val, by omega⟩) g) (fun k => W (ix2 k j)) := by
  pointwise [k0_pay23, k0_pay6]
  exact Finset.sum_congr rfl fun k _ => congrArg (· * _) (norm_at h ⟨8 + r.val, by omega⟩ k)

end Rows

/-- What hidden channel `q` adds to element `(r, l)` of the tile. -/
def part (r l : Fin 1024) (q : Fin 2816) : EReal :=
  hid (proj (rms (E ⟨7 + r.val, by omega⟩) g) fun k => x5 (ix2 k q)) (proj (rms (E ⟨8 + r.val, by omega⟩) g) fun k => x5 (ix2 k q))
    ((following w E r).elim 0 fun n => proj (rms n g) fun k => x5 (ix2 k q))
    (x7 (ix2 0 q)) (x7 (ix2 1 q)) (x7 (ix2 2 q)) (x8 (ix2 0 q))
    (proj (rms (E ⟨8 + r.val, by omega⟩) g) fun k => x6 (ix2 k q)) * x9 (ix2 q l)

/-- A run of columns adds the parts of its channels. -/
theorem run_eq {n : ℕ} (off : ℕ) (hoff : off + n ≤ 2816) (r l : Fin 1024) (U : Fin 1040 → Fin n → EReal) (G : Fin n → EReal)
    (cw : Fin 8 → Fin n → EReal) (b wd : Fin n → EReal)
    (hE : ∀ e j, U e j = proj (rms (E e) g) (fun k => x5 (ix2 k ⟨off + j.val, by omega⟩)))
    (hG : ∀ j, G j = proj (rms (E ⟨8 + r.val, by omega⟩) g) (fun k => x6 (ix2 k ⟨off + j.val, by omega⟩)))
    (hc : ∀ k j, cw k j = x7 (ix2 k ⟨off + j.val, by omega⟩)) (hb : ∀ j, b j = x8 (ix2 0 ⟨off + j.val, by omega⟩))
    (hd : ∀ j, wd j = x9 (ix2 ⟨off + j.val, by omega⟩ l)) :
    run w U G cw b wd r = ∑ j : Fin n, part w E g x5 x6 x7 x8 x9 r l ⟨off + j.val, by omega⟩ := by
  unfold run part
  refine Finset.sum_congr rfl fun j _ => ?_
  rw [hE, hE, hE, hG, hc, hc, hc, hb, hd]
  congr 2
  unfold following
  split <;> rfl

/-- A run of 512 columns, over the parts of the weights it loads. -/
theorem run_512 (h : Reads E g S X Q) (off : ℕ) (hoff : off + 512 ≤ 2816) (r l : Fin 1024) (h5 h6 h7 h8 h9) :
    run w (fun e j => upOf S X Q (View.ld x5 (Rect.unit (s := S1024x2816) ![0, off] S1024x512.size h5)) (ix2 e j))
        (fun j => gateOf S X Q (View.ld x6 (Rect.unit (s := S1024x2816) ![0, off] S1024x512.size h6)) (ix2 r j))
        (fun k j => View.ld x7 (Rect.unit (s := S8x2816) ![0, off] S8x512.size h7) (ix2 k j))
        (fun j => View.ld x8 (Rect.unit (s := S1x2816) ![0, off] S1x512.size h8) (ix2 0 j))
        (fun j => View.ld x9 (Rect.unit (s := S2816x1024) ![off, 0] S512x1024.size h9) (ix2 j l)) r
      = ∑ j : Fin 512, part w E g x5 x6 x7 x8 x9 r l ⟨off + j.val, by omega⟩ :=
  run_eq w E g x5 x6 x7 x8 x9 off hoff r l _ _ _ _ _
    (fun e j => (up_at h _ e j).trans (congrArg (proj _) (funext fun k => ld_cols x5 off _ k j (by omega))))
    (fun j => (gate_at h _ r j).trans (congrArg (proj _) (funext fun k => ld_cols x6 off _ k j (by omega))))
    (fun k j => ld_cols x7 off _ k j (by omega)) (fun j => ld_cols x8 off _ 0 j (by omega)) (fun j => ld_rows x9 off _ j l (by omega))

/-- The last run, over the parts of the weights it loads. -/
theorem run_256 (h : Reads E g S X Q) (r l : Fin 1024) :
    run w (fun e j => upLast S X Q (View.ld x5 r0_11) (ix2 e j)) (fun j => gateLast S X Q (View.ld x6 r0_11) (ix2 r j))
        (fun k j => View.ld x7 r0_24 (ix2 k j)) (fun j => View.ld x8 r0_25 (ix2 0 j)) (fun j => View.ld x9 r0_26 (ix2 j l)) r
      = ∑ j : Fin 256, part w E g x5 x6 x7 x8 x9 r l ⟨2560 + j.val, by omega⟩ :=
  run_eq w E g x5 x6 x7 x8 x9 2560 (by omega) r l _ _ _ _ _
    (fun e j => (up_last h _ e j).trans (congrArg (proj _) (funext fun k => ld_cols x5 2560 _ k j (by omega))))
    (fun j => (gate_last h _ r j).trans (congrArg (proj _) (funext fun k => ld_cols x6 2560 _ k j (by omega))))
    (fun k j => ld_cols x7 2560 _ k j (by omega)) (fun j => ld_cols x8 2560 _ 0 j (by omega)) (fun j => ld_rows x9 2560 _ j l (by omega))

/-- The residual and the first run. -/
abbrev acc0 : FVec Ideal S1024x1024 .f32 :=
  k0_pay21 (View.ld x0 r0_1) (gateOf S X Q (View.ld x6 r0_3)) (k0_pay19 w rows (upOf S X Q (View.ld x5 r0_3)) (View.ld x7 r0_8)) (k0_pay20 (View.ld x8 r0_9)) (View.ld x9 r0_10)
/-- The second run added. -/
abbrev acc1 : FVec Ideal S1024x1024 .f32 :=
  k0_pay29 (gateOf S X Q (View.ld x6 r0_4)) (acc0 w S X Q x0 x5 x6 x7 x8 x9) (k0_pay24 (upOf S X Q (View.ld x5 r0_4))) (k0_pay25 w (upOf S X Q (View.ld x5 r0_4)))
    (k0_pay26 rows (upOf S X Q (View.ld x5 r0_4))) (k0_pay27 rows) (k0_pay28 (upOf S X Q (View.ld x5 r0_4))) (View.ld x7 r0_12) (View.ld x8 r0_13) (View.ld x9 r0_14)
/-- The third run added. -/
abbrev acc2 : FVec Ideal S1024x1024 .f32 :=
  k0_pay35 (acc1 w S X Q x0 x5 x6 x7 x8 x9) (k0_pay34 rows (gateOf S X Q (View.ld x6 r0_5)) (k0_pay30 (upOf S X Q (View.ld x5 r0_5))) (k0_pay31 (upOf S X Q (View.ld x5 r0_5)))
    (k0_pay32 w (upOf S X Q (View.ld x5 r0_5))) k0_pay33 (View.ld x7 r0_15) (View.ld x8 r0_16)) (View.ld x9 r0_17)
/-- The fourth run added. -/
abbrev acc3 : FVec Ideal S1024x1024 .f32 :=
  k0_pay39 (gateOf S X Q (View.ld x6 r0_6)) (acc2 w S X Q x0 x5 x6 x7 x8 x9) (k0_pay36 w rows (upOf S X Q (View.ld x5 r0_6)) (View.ld x7 r0_18) (View.ld x8 r0_19))
    (k0_pay37 w rows (upOf S X Q (View.ld x5 r0_6)) (View.ld x7 r0_18) (View.ld x8 r0_19)) (k0_pay38 w rows (upOf S X Q (View.ld x5 r0_6)) (View.ld x7 r0_18) (View.ld x8 r0_19)) (View.ld x9 r0_20)
/-- The fifth run added. -/
abbrev acc4 : FVec Ideal S1024x1024 .f32 :=
  k0_pay41 (gateOf S X Q (View.ld x6 r0_7)) (acc3 w S X Q x0 x5 x6 x7 x8 x9) (k0_pay40 w rows (upOf S X Q (View.ld x5 r0_7)) (View.ld x7 r0_21)) (View.ld x8 r0_22) (View.ld x9 r0_23)
/-- The tile before the last norm. -/
abbrev tile : FVec Ideal S1024x1024 .f32 :=
  k0_pay45 (gateLast S X Q (View.ld x6 r0_11)) (acc4 w S X Q x0 x5 x6 x7 x8 x9) (k0_pay42 (upLast S X Q (View.ld x5 r0_11))) (k0_pay43 rows (upLast S X Q (View.ld x5 r0_11)))
    (k0_pay44 w rows (upLast S X Q (View.ld x5 r0_11))) (View.ld x7 r0_24) (View.ld x8 r0_25) (View.ld x9 r0_26)
/-- The inverse root of its rows' mean squares. -/
abbrev lastRoot : FVec Ideal S1024x1024 .f32 :=
  k0_pay47 (gateLast S X Q (View.ld x6 r0_11)) (acc4 w S X Q x0 x5 x6 x7 x8 x9) (k0_pay42 (upLast S X Q (View.ld x5 r0_11))) (k0_pay43 rows (upLast S X Q (View.ld x5 r0_11)))
    (k0_pay44 w rows (upLast S X Q (View.ld x5 r0_11))) (View.ld x7 r0_24) (View.ld x8 r0_25) (View.ld x9 r0_26)
/-- The tile as written. -/
abbrev written : FVec Ideal S1024x1024 .f32 :=
  k0_pay1 (tile w S X Q x0 x5 x6 x7 x8 x9) (k0_pay46 (View.ld x10 r0_0)) (lastRoot w S X Q x0 x5 x6 x7 x8 x9)

set_option maxRecDepth 20000 in
/-- The tile before the last norm, as the residual and the runs. -/
theorem tile_at (h : Reads E g S X Q) (h0 : ∀ r l : Fin 1024, E ⟨8 + r.val, by omega⟩ l = x0 (ix2 r l)) (r l : Fin 1024) :
    tile w S X Q x0 x5 x6 x7 x8 x9 (ix2 r l)
      = body (E ⟨7 + r.val, by omega⟩) (E ⟨8 + r.val, by omega⟩) (following w E r) g (fun k j => x5 (ix2 k j)) (fun k j => x6 (ix2 k j))
          (fun k j => x7 (ix2 ⟨k.val, by omega⟩ j)) (fun j => x8 (ix2 0 j)) (fun j k => x9 (ix2 j k)) l := by
  have c (off : ℕ) (hoff h5 h6 h7 h8 h9) := run_512 w E g S X Q x5 x6 x7 x8 x9 h off hoff r l h5 h6 h7 h8 h9
  have e0 := (run0 w (View.ld x0 r0_1) (upOf S X Q (View.ld x5 r0_3)) (gateOf S X Q (View.ld x6 r0_3))
    (View.ld x7 r0_8) (View.ld x8 r0_9) (View.ld x9 r0_10) r l).trans (congrArg₂ (· + ·) (ld_all x0 _ r l) (c 0 (by omega) _ _ _ _ _))
  have e1 := (run1 w _ (upOf S X Q (View.ld x5 r0_4)) (gateOf S X Q (View.ld x6 r0_4))
    (View.ld x7 r0_12) (View.ld x8 r0_13) (View.ld x9 r0_14) r l).trans (congrArg₂ (· + ·) e0 (c 512 (by omega) _ _ _ _ _))
  have e2 := (run2 w _ (upOf S X Q (View.ld x5 r0_5)) (gateOf S X Q (View.ld x6 r0_5))
    (View.ld x7 r0_15) (View.ld x8 r0_16) (View.ld x9 r0_17) r l).trans (congrArg₂ (· + ·) e1 (c 1024 (by omega) _ _ _ _ _))
  have e3 := (run3 w _ (upOf S X Q (View.ld x5 r0_6)) (gateOf S X Q (View.ld x6 r0_6))
    (View.ld x7 r0_18) (View.ld x8 r0_19) (View.ld x9 r0_20) r l).trans (congrArg₂ (· + ·) e2 (c 1536 (by omega) _ _ _ _ _))
  have e4 := (run4 w _ (upOf S X Q (View.ld x5 r0_7)) (gateOf S X Q (View.ld x6 r0_7))
    (View.ld x7 r0_21) (View.ld x8 r0_22) (View.ld x9 r0_23) r l).trans (congrArg₂ (· + ·) e3 (c 2048 (by omega) _ _ _ _ _))
  have e5 := (run5 w _ (upLast S X Q (View.ld x5 r0_11)) (gateLast S X Q (View.ld x6 r0_11))
    (View.ld x7 r0_24) (View.ld x8 r0_25) (View.ld x9 r0_26) r l).trans (congrArg₂ (· + ·) e4 (run_256 w E g S X Q x5 x6 x7 x8 x9 h r l))
  refine e5.trans ?_
  unfold body
  rw [sum_runs, h0]
  simp only [add_assoc]
  rfl

/-- What the tile writes. -/
theorem written_at (h : Reads E g S X Q) (h0 : ∀ r l : Fin 1024, E ⟨8 + r.val, by omega⟩ l = x0 (ix2 r l)) (r l : Fin 1024) :
    written w S X Q x0 x5 x6 x7 x8 x9 x10 (ix2 r l)
      = out (E ⟨7 + r.val, by omega⟩) (E ⟨8 + r.val, by omega⟩) (following w E r) g (fun k j => x5 (ix2 k j)) (fun k j => x6 (ix2 k j))
          (fun k j => x7 (ix2 ⟨k.val, by omega⟩ j)) (fun j => x8 (ix2 0 j)) (fun j k => x9 (ix2 j k)) (fun k => x10 (ix2 0 k)) l := by
  have ht := tile_at w E g S X Q x0 x5 x6 x7 x8 x9 h h0 r
  have hs : lastRoot w S X Q x0 x5 x6 x7 x8 x9 (ix2 r l)
      = Ideal.rsqrt (Ideal.div (∑ k : Fin 1024, tile w S X Q x0 x5 x6 x7 x8 x9 (ix2 r k) * tile w S X Q x0 x5 x6 x7 x8 x9 (ix2 r k)) (Ideal.ofBits FTy.f32 1149239296#32)
          + Ideal.ofBits FTy.f32 897988541#32) := by
    pointwise [k0_pay47]
  pointwise [k0_pay1, k0_pay46]
  rw [hs]
  show tile w S X Q x0 x5 x6 x7 x8 x9 (ix2 r l) * _ * _ = _
  unfold out rms
  simp only [ht]

end Tile

end Cert.Kernel2Ideal.Ffn

end
-- ==== Proof.Ffn.Block.lean ====
module

public import proofs.«01_k».proof.Proof.Ffn.Tile

/-!
# What one tile of the feed-forward kernel writes
-/

@[expose] public section

noncomputable section

namespace Cert.Kernel2Ideal.Ffn

open Cert.Kernel2Ideal Cert.Kernel2Ideal.Gen Cert.Ffn
open Idealize.ShloMosaic Idealize.ShloMosaic.TcCoe

section Tile
variable (i : grid0.Coords) (x0 : Vec Ideal S1024x1024 .f32) (x1 x2 x3 : Vec Ideal S8x1024 .f32) (x4 : Vec Ideal S1x1024 .f32)
  (x5 x6 : Vec Ideal S1024x2816 .bf16) (x7 : Vec Ideal S8x2816 .f32) (x8 : Vec Ideal S1x2816 .f32) (x9 : Vec Ideal S2816x1024 .bf16)
  (x10 : Vec Ideal S1x1024 .f32)

/-- The word that says the tile is its sequence's first. -/
abbrev first : BitVec 1 := place 2#32 (BitVec.ofNat 32 (i 0).val) 0#32
/-- The word that says the tile is its sequence's last. -/
abbrev last : BitVec 1 := place 2#32 (BitVec.ofNat 32 (i 0).val) 1#32
/-- The tile's rows, extended by eight each way. -/
abbrev tileRows : Fin 1040 → Fin 1024 → EReal := ext (first i) x0 x1 x2 x3

theorem rows_at (e : Fin 1040) (k : Fin 1024) : k0_pay49 (F := Ideal) i x0 x1 x2 x3 x4 x5 x6 x7 x8 x9 x10 (ix2 e k) = tileRows i x0 x1 x2 x3 e k := by
  unfold k0_pay49
  pointwise [k0_pay3]
  unfold tileRows ext
  split
  · rw [Scalar.select_def]
  · rfl

/-- What the first norm starts from. -/
theorem reads : Reads (tileRows i x0 x1 x2 x3) (fun k => x4 (ix2 0 k)) (k0_pay48 i x0 x1 x2 x3 x4 x5 x6 x7 x8 x9 x10)
    (k0_pay49 i x0 x1 x2 x3 x4 x5 x6 x7 x8 x9 x10) (k0_pay50 i x0 x1 x2 x3 x4 x5 x6 x7 x8 x9 x10) where
  scale k := by
    unfold k0_pay48
    pointwise [k0_pay2]
  rows e k := rows_at i x0 x1 x2 x3 x4 x5 x6 x7 x8 x9 x10 e k
  squares e := by
    unfold k0_pay50
    pointwise [k0_pay4]
    exact Finset.sum_congr rfl fun l _ => congrArg₂ (· * ·) (rows_at i x0 x1 x2 x3 x4 x5 x6 x7 x8 x9 x10 e l) (rows_at i x0 x1 x2 x3 x4 x5 x6 x7 x8 x9 x10 e l)

set_option maxRecDepth 20000 in
/-- What the tile writes. -/
theorem out_at (r l : Fin 1024) :
    out0_11 (F := Ideal) i x0 x1 x2 x3 x4 x5 x6 x7 x8 x9 x10 (ix2 r l)
      = out (tileRows i x0 x1 x2 x3 ⟨7 + r.val, by omega⟩) (tileRows i x0 x1 x2 x3 ⟨8 + r.val, by omega⟩) (following (last i) (tileRows i x0 x1 x2 x3) r)
          (fun k => x4 (ix2 0 k)) (fun k j => x5 (ix2 k j)) (fun k j => x6 (ix2 k j)) (fun k j => x7 (ix2 ⟨k.val, by omega⟩ j))
          (fun j => x8 (ix2 0 j)) (fun j k => x9 (ix2 j k)) (fun k => x10 (ix2 0 k)) l := by
  have hz : (![0, 0] : Fin S1024x1024.rank → Nat) = fun _ => 0 := funext fun a => by fin_cases a <;> rfl
  refine Eq.trans ?_ (written_at (last i) _ _ _ _ _ x0 x5 x6 x7 x8 x9 x10 (reads i x0 x1 x2 x3 x4 x5 x6 x7 x8 x9 x10) (ext_mid _ x0 x1 x2 x3) r l)
  unfold out0_11
  rw [View.canon_unit_zero hz]
  rfl

end Tile

end Cert.Kernel2Ideal.Ffn

end
-- ==== Proof.Ffn.Value.lean ====
module

public import proofs.«01_k».proof.Proof.Ffn.Block
public import proofs.«01_k».proof.Proof.Gen.Kernel2Ideal.Value
public import Idealize.ShloMosaic.Lib.Claim

/-!
# The feed-forward kernel's result, element by element
-/

@[expose] public section

noncomputable section

namespace Cert.Kernel2Ideal.Ffn

open Cert.Kernel2Ideal Cert.Kernel2Ideal.Gen Cert.Ffn
open Idealize.ShloMosaic Idealize.ShloMosaic.TcCoe

/-! ## Where the windows lie -/

/-- The last tile of a sequence is the odd one. -/
theorem place_last : ∀ t : Fin 64, place 2#32 (BitVec.ofNat 32 t.val) 1#32 = 1 ↔ t.val % 2 = 1 := by decide

/-- The first tile of a sequence is the even one. -/
theorem place_first : ∀ t : Fin 64, place 2#32 (BitVec.ofNat 32 t.val) 0#32 = 1 ↔ t.val % 2 = 0 := by decide

theorem coord : ∀ t : Fin grid0.N, (grid0.coords t 0).val = t.val := by decide +kernel
theorem index0 : ∀ t : Fin grid0.N, win0_0.index t 0 = t.val ∧ win0_0.index t 1 = 0 := by decide +kernel
theorem index1 : ∀ t : Fin grid0.N, win0_1.index t 0 = 128 * t.val - 1 ∧ win0_1.index t 1 = 0 := by decide +kernel
theorem index2 : ∀ t : Fin grid0.N, win0_2.index t 0 = t.val / 2 * 16 + 1 ∧ win0_2.index t 1 = 0 := by decide +kernel
theorem index3 : ∀ t : Fin grid0.N, win0_3.index t 0 = min (128 * (t.val + 1)) 8191 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = t.val ∧ win0_11.index t 1 = 0 := by decide +kernel

variable (m : (ℓ : Loc nD τ sig) → Buf (Elt Ideal) ℓ) (c : Dev nD)

/-- The tile. -/
theorem iblk0_at (t : Fin cfg0.N) (r k : Fin 1024) (i : Fin 65536) (hi : i.val = t.val * 1024 + r.val) :
    iblk m c 0 t (ix2 r k) = m ((c : Thread nD τ).loc main_arg0) (ix2 i k) := by
  refine (congrFun (V_main_arg0 m c) _).trans (congrArg (m _) (funext fun a => Fin.ext ?_))
  match a with
  | 0 => exact (Rect.emb_apply _ _ _).trans (by simp [index0 t, hi])
  | 1 => exact (Rect.emb_apply _ _ _).trans (by simp [index0 t])

/-- The eight rows before the tile. -/
theorem iblk1_at (t : Fin cfg0.N) (r : Fin 8) (k : Fin 1024) (i : Fin 65536) (hi : i.val = t.val * 1024 - 8 + r.val) :
    iblk m c 1 t (ix2 r k) = m ((c : Thread nD τ).loc main_arg0) (ix2 i k) := by
  refine (congrFun (V_main_arg0 m c) _).trans (congrArg (m _) (funext fun a => Fin.ext ?_))
  match a with
  | 0 => exact (Rect.emb_apply _ _ _).trans (by simp [index1 t, Pipeline.WinKind.off]; omega)
  | 1 => exact (Rect.emb_apply _ _ _).trans (by simp [index1 t])

/-- Eight rows of meta tokens. -/
theorem iblk2_at (t : Fin cfg0.N) (r : Fin 8) (k : Fin 1024) (i : Fin 4096) (hi : i.val = t.val / 2 * 128 + 8 + r.val) :
    iblk m c 2 t (ix2 r k) = m ((c : Thread nD τ).loc main_arg1) (ix2 i k) := by
  refine (congrFun (V_main_arg1 m c) _).trans (congrArg (m _) (funext fun a => Fin.ext ?_))
  match a with
  | 0 => exact (Rect.emb_apply _ _ _).trans (by simp [index2 t, Pipeline.WinKind.off]; omega)
  | 1 => exact (Rect.emb_apply _ _ _).trans (by simp [index2 t])

/-- The eight rows after the tile. -/
theorem iblk3_at (t : Fin cfg0.N) (r : Fin 8) (k : Fin 1024) (i : Fin 65536) (hi : i.val = min (128 * (t.val + 1)) 8191 * 8 + r.val) :
    iblk m c 3 t (ix2 r k) = m ((c : Thread nD τ).loc main_arg0) (ix2 i k) := by
  refine (congrFun (V_main_arg0 m c) _).trans (congrArg (m _) (funext fun a => Fin.ext ?_))
  match a with
  | 0 => exact (Rect.emb_apply _ _ _).trans (by simp [index3 t, Pipeline.WinKind.off]; omega)
  | 1 => exact (Rect.emb_apply _ _ _).trans (by simp [index3 t])

/-- The first norm's scale. -/
theorem iblk4_at (t : Fin cfg0.N) (k : Fin 1024) : iblk m c 4 t (ix2 0 k) = m ((c : Thread nD τ).loc main_arg2) (ix2 0 k) := by
  have e : iblk m c 4 t (ix2 0 k) = V m c main_v4 (ix2 0 k) := by
    refine congrArg (V m c main_v4) (funext fun a => Fin.ext ?_)
    match a with
    | 0 => exact (Rect.emb_apply _ _ _).trans (by simp [index4 t])
    | 1 => exact (Rect.emb_apply _ _ _).trans (by simp [index4 t])
  rw [e]
  entry_read
  pointwise

/-- The up-projection. -/
theorem iblk5_at (t : Fin cfg0.N) (r : Fin 1024) (k : Fin 2816) : iblk m c 5 t (ix2 r k) = m ((c : Thread nD τ).loc main_arg3) (ix3 0 r k) := by
  have e : iblk m c 5 t (ix2 r k) = V m c main_v6 (ix2 r k) := by
    refine congrArg (V m c main_v6) (funext fun a => Fin.ext ?_)
    match a with
    | 0 => exact (Rect.emb_apply _ _ _).trans (by simp [index5 t])
    | 1 => exact (Rect.emb_apply _ _ _).trans (by simp [index5 t])
  rw [e]
  entry_read
  pointwise

/-- The gate's projection. -/
theorem iblk6_at (t : Fin cfg0.N) (r : Fin 1024) (k : Fin 2816) : iblk m c 6 t (ix2 r k) = m ((c : Thread nD τ).loc main_arg4) (ix3 0 r k) := by
  have e : iblk m c 6 t (ix2 r k) = V m c main_v8 (ix2 r k) := by
    refine congrArg (V m c main_v8) (funext fun a => Fin.ext ?_)
    match a with
    | 0 => exact (Rect.emb_apply _ _ _).trans (by simp [index6 t])
    | 1 => exact (Rect.emb_apply _ _ _).trans (by simp [index6 t])
  rw [e]
  entry_read
  pointwise

/-- The convolution. -/
theorem iblk7_at (t : Fin cfg0.N) (r : Fin 3) (k : Fin 2816) : iblk m c 7 t (ix2 ⟨r.val, by omega⟩ k) = m ((c : Thread nD τ).loc main_arg5) (ix3 0 r k) := by
  have e : iblk m c 7 t (ix2 ⟨r.val, by omega⟩ k) = V m c main_v2 (ix2 ⟨r.val, by omega⟩ k) := by
    refine congrArg (V m c main_v2) (funext fun a => Fin.ext ?_)
    match a with
    | 0 => exact (Rect.emb_apply _ _ _).trans (by simp [index7 t])
    | 1 => exact (Rect.emb_apply _ _ _).trans (by simp [index7 t])
  rw [e]
  entry_read
  pointwise

/-- The convolution's bias. -/
theorem iblk8_at (t : Fin cfg0.N) (k : Fin 2816) : iblk m c 8 t (ix2 0 k) = m ((c : Thread nD τ).loc main_arg6) (ix2 0 k) := by
  have e : iblk m c 8 t (ix2 0 k) = V m c main_v10 (ix2 0 k) := by
    refine congrArg (V m c main_v10) (funext fun a => Fin.ext ?_)
    match a with
    | 0 => exact (Rect.emb_apply _ _ _).trans (by simp [index8 t])
    | 1 => exact (Rect.emb_apply _ _ _).trans (by simp [index8 t])
  rw [e]
  entry_read
  pointwise

/-- The down-projection. -/
theorem iblk9_at (t : Fin cfg0.N) (r : Fin 2816) (k : Fin 1024) : iblk m c 9 t (ix2 r k) = m ((c : Thread nD τ).loc main_arg7) (ix3 0 r k) := by
  have e : iblk m c 9 t (ix2 r k) = V m c main_v12 (ix2 r k) := by
    refine congrArg (V m c main_v12) (funext fun a => Fin.ext ?_)
    match a with
    | 0 => exact (Rect.emb_apply _ _ _).trans (by simp [index9 t])
    | 1 => exact (Rect.emb_apply _ _ _).trans (by simp [index9 t])
  rw [e]
  entry_read
  pointwise

/-- The last norm's scale. -/
theorem iblk10_at (t : Fin cfg0.N) (k : Fin 1024) : iblk m c 10 t (ix2 0 k) = m ((c : Thread nD τ).loc main_arg8) (ix1 k) := by
  have e : iblk m c 10 t (ix2 0 k) = V m c main_v13 (ix2 0 k) := by
    refine congrArg (V m c main_v13) (funext fun a => Fin.ext ?_)
    match a with
    | 0 => exact (Rect.emb_apply _ _ _).trans (by simp [index10 t])
    | 1 => exact (Rect.emb_apply _ _ _).trans (by simp [index10 t])
  rw [e]
  entry_read
  pointwise

/-- The residual's rows, as launched. -/
abbrev res (i : Fin 65536) (k : Fin 1024) : EReal := m ((c : Thread nD τ).loc main_arg0) (ix2 i k)
/-- The meta rows, as launched. -/
abbrev meta0 (i : Fin 4096) (k : Fin 1024) : EReal := m ((c : Thread nD τ).loc main_arg1) (ix2 i k)

section Rows
variable (t : Fin cfg0.N) (r : Fin 1024) (i : Fin 65536) (hi : i.val = t.val * 1024 + r.val)
include hi

/-- The row itself. -/
theorem row_here : tileRows (grid0.coords t) (iblk m c 0 t) (iblk m c 1 t) (iblk m c 2 t) (iblk m c 3 t) ⟨8 + r.val, by omega⟩ = res m c i := by
  funext k
  exact (ext_mid _ _ _ _ _ r k).trans (iblk0_at m c t r k i hi)

/-- The row before it. -/
theorem row_prev : tileRows (grid0.coords t) (iblk m c 0 t) (iblk m c 1 t) (iblk m c 2 t) (iblk m c 3 t) ⟨7 + r.val, by omega⟩
    = before (res m c) (meta0 m c) i := by
  funext k
  have ht : t.val < 64 := t.isLt
  have hf := place_first t
  unfold tileRows ext before first
  rw [coord t]
  by_cases hr : r.val = 0
  · rw [dif_pos (by simp [hr])]
    by_cases h2 : t.val % 2 = 0
    · rw [if_pos (hf.2 h2), if_pos (by omega)]
      exact iblk2_at m c t _ k _ (by simp [hr]; omega)
    · rw [if_neg fun q => h2 (hf.1 q), if_neg (by omega)]
      exact iblk1_at m c t _ k _ (by simp [hr]; omega)
  · rw [dif_neg (by simp; omega), dif_pos (by simp; omega), if_neg (by omega)]
    exact iblk0_at m c t _ k _ (by simp; omega)

/-- The row after it. -/
theorem row_next : following (last (grid0.coords t)) (tileRows (grid0.coords t) (iblk m c 0 t) (iblk m c 1 t) (iblk m c 2 t) (iblk m c 3 t)) r = after (res m c) i := by
  have ht : t.val < 64 := t.isLt
  have hl := place_last t
  unfold following after last
  rw [coord t]
  by_cases h : r.val = 1023 ∧ t.val % 2 = 1
  · rw [if_pos ⟨h.1, hl.2 h.2⟩, dif_pos (by omega)]
  · rw [if_neg fun q => h ⟨q.1, hl.1 q.2⟩, dif_neg (by omega)]
    congr 1
    funext k
    unfold tileRows ext
    rw [dif_neg (by show ¬ 9 + r.val < 8; omega)]
    by_cases hr : r.val = 1023
    · rw [dif_neg (by simp [hr])]
      exact iblk3_at m c t _ k _ (by simp [hr]; omega)
    · rw [dif_pos (by simp; omega)]
      exact iblk0_at m c t _ k _ (by simp; omega)

end Rows

/-- An element of the result array, of the arguments as launched. -/
theorem arr_at (i : Fin 65536) (l : Fin 1024) : (dats m 0 c).arrAt 11 cfg0.N (ix2 i l)
    = out (before (res m c) (meta0 m c) i) (res m c i) (after (res m c) i)
      (fun k => m ((c : Thread nD τ).loc main_arg2) (ix2 0 k)) (fun k j => m ((c : Thread nD τ).loc main_arg3) (ix3 0 k j))
      (fun k j => m ((c : Thread nD τ).loc main_arg4) (ix3 0 k j)) (fun k j => m ((c : Thread nD τ).loc main_arg5) (ix3 0 k j))
      (fun j => m ((c : Thread nD τ).loc main_arg6) (ix2 0 j)) (fun j k => m ((c : Thread nD τ).loc main_arg7) (ix3 0 j k))
      (fun k => m ((c : Thread nD τ).loc main_arg8) (ix1 k)) l := by
  obtain ⟨t, ht⟩ : ∃ t : Fin cfg0.N, t.val = i.val / 1024 := ⟨⟨i.val / 1024, by have := i.isLt; show _ < 64; omega⟩, rfl⟩
  obtain ⟨r, hr⟩ : ∃ r : Fin 1024, r.val = i.val % 1024 := ⟨⟨i.val % 1024, by omega⟩, rfl⟩
  have hi : i.val = t.val * 1024 + r.val := by omega
  have h1 := congrFun (Value.blocks11 m c t (flush0_11 t)) (ix2 r l)
  have h2 : ((cfg0.win 11).blk t).view.read (Elt Ideal) ((dats m 0 c).arrAt 11 cfg0.N) (ix2 r l) = (dats m 0 c).arrAt 11 cfg0.N (ix2 i l) := by
    refine congrArg ((dats m 0 c).arrAt 11 cfg0.N) (funext fun a => Fin.ext ?_)
    match a with
    | 0 => exact (Rect.emb_apply _ _ _).trans (by simp [index11 t, hi])
    | 1 => exact (Rect.emb_apply _ _ _).trans (by simp [index11 t])
  rw [← h2, h1, Value.flushed11]
  refine (out_at _ _ _ _ _ _ _ _ _ _ _ _ r l).trans ?_
  rw [row_here m c t r i hi, row_prev m c t r i hi, row_next m c t r i hi]
  simp only [iblk4_at, iblk5_at, iblk6_at, iblk7_at, iblk8_at, iblk9_at, iblk10_at]

end Cert.Kernel2Ideal.Ffn

end
-- ==== Proof.Ffn.Reference.lean ====
module

public import proofs.«01_k».proof.Proof.Ffn.Spec
public import proofs.«01_k».proof.Proof.Gen.Reference2Ideal.Run

/-!
# The feed-forward reference's result, element by element
-/

@[expose] public section

noncomputable section

namespace Cert.Reference2Ideal.Ffn

open Cert.Reference2Ideal Cert.Reference2Ideal.Gen Cert.Reference2Ideal.Value Cert.Ffn
open Idealize.ShloMosaic Idealize.ShloMosaic.TcCoe Idealize.SL.Sem

variable (V0 : Valuation τ sig (Elt Ideal))

/-- The residual's rows. -/
abbrev res (i : Fin 65536) (k : Fin 1024) : EReal := V0 (Proc.devRef .tc main_arg0) (ix2 i k)
/-- The meta rows. -/
abbrev meta0 (i : Fin 4096) (k : Fin 1024) : EReal := V0 (Proc.devRef .tc main_arg1) (ix2 i k)
/-- The rows of a sequence: its meta rows, then its own. -/
abbrev rowOf (b : Fin 32) (s : Fin 2064) (k : Fin 1024) : EReal := res_main_v3 V0 (ix3 b s k)
/-- The first norm's scale. -/
abbrev scale (k : Fin 1024) : EReal := V0 (Proc.devRef .tc main_arg2) (ix2 0 k)
/-- The up-projection. -/
abbrev wup (k : Fin 1024) (j : Fin 2816) : EReal := V0 (Proc.devRef .tc main_arg3) (ix3 0 k j)

theorem v3_at (b : Fin 32) (s : Fin 2064) (k : Fin 1024) : rowOf V0 b s k
    = if h : s.val < 16 then meta0 V0 ⟨b.val * 128 + s.val, by omega⟩ k else res V0 ⟨b.val * 2048 + (s.val - 16), by omega⟩ k := by
  unfold rowOf res_main_v3
  pointwise

theorem v17_at (b : Fin 32) (s : Fin 2064) (k : Fin 1024) : res_main_v17 V0 (ix3 b s k) = rms (rowOf V0 b s) (scale V0) k := by
  unfold res_main_v17 rms
  pointwise

theorem v20_at (b : Fin 3) (k : Fin 2816) : res_main_v20 V0 (ix2 b k) = V0 (Proc.devRef .tc main_arg5) (ix3 0 b k) := by
  unfold res_main_v20
  pointwise

/-- The up-projection, with a row of zeros at either end. -/
theorem v24_at (b : Fin 32) (s : Fin 2066) (j : Fin 2816) : res_main_v24 V0 (ix3 b s j)
    = if h : 1 ≤ s.val ∧ s.val - 1 < 2064 then proj (rms (rowOf V0 b ⟨s.val - 1, h.2⟩) (scale V0)) (fun k => wup V0 k j) else (0 : EReal) := by
  unfold res_main_v24
  pointwise
  split
  · refine Finset.sum_congr (M := EReal) rfl fun k _ => ?_
    exact congrArg (· * wup V0 k j) (v17_at V0 b _ k)
  · exact zero_word

/-- A row of the up-projection. -/
theorem up_row (b : Fin 32) (s : Fin 2066) (p : Fin 2064) (h : s.val = p.val + 1) (j : Fin 2816) : res_main_v24 V0 (ix3 b s j)
    = proj (rms (rowOf V0 b p) (scale V0)) (fun k => wup V0 k j) := by
  rw [v24_at, dif_pos ⟨by omega, by omega⟩]
  congr 3
  exact Fin.ext (by show s.val - 1 = p.val; omega)

/-- The zeros past the end. -/
theorem up_end (b : Fin 32) (s : Fin 2066) (h : s.val = 2065) (j : Fin 2816) : res_main_v24 V0 (ix3 b s j) = (0 : EReal) := by
  rw [v24_at, dif_neg (by omega)]

/-- Row `i` of the residual in its sequence. -/
abbrev seqOf (i : Fin 65536) : Fin 32 := ⟨i.val / 2048, by omega⟩
/-- Its place there. -/
abbrev posOf (i : Fin 65536) : Fin 2064 := ⟨16 + i.val % 2048, by omega⟩

theorem row_here (i : Fin 65536) : rowOf V0 (seqOf i) (posOf i) = res V0 i := by
  funext k
  rw [v3_at, dif_neg (by simp)]
  exact congrArg (fun x => res V0 x k) (Fin.ext (by show i.val / 2048 * 2048 + (16 + i.val % 2048 - 16) = i.val; omega))

theorem row_prev (i : Fin 65536) (p : Fin 2064) (hp : p.val = 15 + i.val % 2048) : rowOf V0 (seqOf i) p = before (res V0) (meta0 V0) i := by
  funext k
  rw [v3_at]
  unfold before
  by_cases h : i.val % 2048 = 0
  · rw [dif_pos (by omega), if_pos h]
    exact congrArg (fun x => meta0 V0 x k) (Fin.ext (by show i.val / 2048 * 128 + p.val = i.val / 2048 * 128 + 15; omega))
  · rw [dif_neg (by omega), if_neg h]
    exact congrArg (fun x => res V0 x k) (Fin.ext (by show i.val / 2048 * 2048 + (p.val - 16) = i.val - 1; omega))

/-- The up-projection of the row after, if the sequence goes on. -/
theorem up_next (i : Fin 65536) (s : Fin 2066) (hs : s.val = 18 + i.val % 2048) (j : Fin 2816) : res_main_v24 V0 (ix3 (seqOf i) s j)
    = (after (res V0) i).elim 0 fun n => proj (rms n (scale V0)) (fun k => wup V0 k j) := by
  unfold after
  by_cases h : i.val % 2048 = 2047
  · rw [dif_pos h, up_end V0 _ s (by omega)]
    rfl
  · rw [dif_neg h, up_row V0 _ s ⟨17 + i.val % 2048, by omega⟩ (by show s.val = 17 + i.val % 2048 + 1; omega)]
    show proj (rms _ _) _ = proj (rms _ _) _
    congr 2
    have := row_here V0 ⟨i.val + 1, by omega⟩
    rw [← this]
    congr 1
    · exact Fin.ext (by show i.val / 2048 = (i.val + 1) / 2048; omega)
    · exact Fin.ext (by show 17 + i.val % 2048 = 16 + (i.val + 1) % 2048; omega)

theorem v66_at (i : Fin 65536) (l : Fin 1024) : res_main_v66 V0 (ix3 (seqOf i) (posOf i) l)
    = body (before (res V0) (meta0 V0) i) (res V0 i) (after (res V0) i) (scale V0) (wup V0)
        (fun k j => V0 (Proc.devRef .tc main_arg4) (ix3 0 k j)) (fun k j => V0 (Proc.devRef .tc main_arg5) (ix3 0 k j))
        (fun j => V0 (Proc.devRef .tc main_arg6) (ix2 0 j)) (fun j k => V0 (Proc.devRef .tc main_arg7) (ix3 0 j k)) l := by
  unfold res_main_v66
  pointwise
  unfold body hid
  refine congrArg₂ (· + ·) (congrFun (row_here V0 i) l) (Finset.sum_congr rfl fun j _ => congrArg (· * _) (congrArg₂ (· * ·) ((gelu_eq _).trans (congrArg gelu ?_)) ?_))
  · unfold res_main_v49
    pointwise
    rw [up_row V0 _ _ ⟨15 + i.val % 2048, by omega⟩ (by show 16 + i.val % 2048 = 15 + i.val % 2048 + 1; omega), row_prev V0 i _ rfl,
      up_row V0 _ _ (posOf i) (by show 1 + (16 + i.val % 2048) = 16 + i.val % 2048 + 1; omega), row_here,
      up_next V0 i _ (by show 2 + (16 + i.val % 2048) = _; omega), v20_at, v20_at, v20_at]
  · refine Finset.sum_congr rfl fun k _ => congrArg (· * _) ?_
    rw [v17_at, row_here]

set_option maxRecDepth 16384 in
theorem out_at (i : Fin 65536) (l : Fin 1024) : (shapeCast _ (extractStridedSlice S32x2048x1024 ![0, 16, 0] (mulf (mulf (res_main_v66 V0) (broadcastInDim S32x2064x1024 ![0, 1, 2] bcast_S32x2064x1_S32x2064x1024_0_1_2 (Host.rsqrt (addf (Host.divf (broadcastInDim S32x2064x1 ![0, 1] bcast_S32x2064_S32x2064x1_0_1 (Host.reduceAdd (mulf (res_main_v66 V0) (res_main_v66 V0)) (constant S_ .f32 0x00000000#32) reducesTo_S32x2064x1024_S32x2064_d2 h_S_)) (broadcastInDim S32x2064x1 ![] bcast_S_S32x2064x1 (constant S_ .f32 0x44800000#32))) (broadcastInDim S32x2064x1 ![] bcast_S_S32x2064x1 (constant S_ .f32 0x358637BD#32)))))) (broadcastInDim S32x2064x1024 ![0, 1, 2] bcast_S1x1x1024_S32x2064x1024_0_1_2 (broadcastInDim S1x1x1024 ![2] bcast_S1024_S1x1x1024_2 (V0 (Proc.devRef .tc main_arg8))))) slices_S32x2064x1024_S32x2048x1024_0_16_0) shapeCasts_S32x2048x1024_S65536x1024 : FVec Ideal S65536x1024 .f32) (ix2 i l)
    = out (before (res V0) (meta0 V0) i) (res V0 i) (after (res V0) i) (scale V0) (wup V0)
        (fun k j => V0 (Proc.devRef .tc main_arg4) (ix3 0 k j)) (fun k j => V0 (Proc.devRef .tc main_arg5) (ix3 0 k j))
        (fun j => V0 (Proc.devRef .tc main_arg6) (ix2 0 j)) (fun j k => V0 (Proc.devRef .tc main_arg7) (ix3 0 j k))
        (fun k => V0 (Proc.devRef .tc main_arg8) (ix1 k)) l := by
  pointwise
  unfold out rms
  simp only [v66_at]

end Cert.Reference2Ideal.Ffn

end
-- ==== Proof.FfnSample.Block.lean ====
module

public import proofs.«01_k».proof.Proof.Ffn.Tile
public import proofs.«01_k».proof.Proof.Gen.Kernel4Ideal.Frame

/-!
# What one tile of the feed-forward kernel writes, over the sample
-/

@[expose] public section

noncomputable section

namespace Cert.Kernel4Ideal.Ffn

open Cert.Kernel4Ideal Cert.Kernel4Ideal.Gen Cert.Ffn Cert.Kernel2Ideal.Ffn
open Idealize.ShloMosaic Idealize.ShloMosaic.TcCoe

section Tile
variable (i : grid0.Coords) (x0 : Vec Ideal S1024x1024 .f32) (x1 x2 x3 : Vec Ideal S8x1024 .f32) (x4 : Vec Ideal S1x1024 .f32)
  (x5 x6 : Vec Ideal S1024x2816 .bf16) (x7 : Vec Ideal S8x2816 .f32) (x8 : Vec Ideal S1x2816 .f32) (x9 : Vec Ideal S2816x1024 .bf16)
  (x10 : Vec Ideal S1x1024 .f32)

/-- The word that says the tile is its sequence's first. -/
abbrev first : BitVec 1 := place 16#32 (BitVec.ofNat 32 (i 0).val) 0#32
/-- The word that says the tile is its sequence's last. -/
abbrev last : BitVec 1 := place 16#32 (BitVec.ofNat 32 (i 0).val) 15#32
/-- The tile's rows, extended by eight each way. -/
abbrev tileRows : Fin 1040 → Fin 1024 → EReal := ext (first i) x0 x1 x2 x3

theorem rows_at (e : Fin 1040) (k : Fin 1024) : k0_pay49 (F := Ideal) i x0 x1 x2 x3 x4 x5 x6 x7 x8 x9 x10 (ix2 e k) = tileRows i x0 x1 x2 x3 e k := by
  unfold k0_pay49
  pointwise [k0_pay3]
  unfold tileRows ext
  split
  · rw [Scalar.select_def]
  · rfl

/-- What the first norm starts from. -/
theorem reads : Reads (tileRows i x0 x1 x2 x3) (fun k => x4 (ix2 0 k)) (k0_pay48 i x0 x1 x2 x3 x4 x5 x6 x7 x8 x9 x10)
    (k0_pay49 i x0 x1 x2 x3 x4 x5 x6 x7 x8 x9 x10) (k0_pay50 i x0 x1 x2 x3 x4 x5 x6 x7 x8 x9 x10) where
  scale k := by
    unfold k0_pay48
    pointwise [k0_pay2]
  rows e k := rows_at i x0 x1 x2 x3 x4 x5 x6 x7 x8 x9 x10 e k
  squares e := by
    unfold k0_pay50
    pointwise [k0_pay4]
    exact Finset.sum_congr rfl fun l _ => congrArg₂ (· * ·) (rows_at i x0 x1 x2 x3 x4 x5 x6 x7 x8 x9 x10 e l) (rows_at i x0 x1 x2 x3 x4 x5 x6 x7 x8 x9 x10 e l)

set_option maxRecDepth 20000 in
/-- What the tile writes. -/
theorem out_at (r l : Fin 1024) :
    out0_11 (F := Ideal) i x0 x1 x2 x3 x4 x5 x6 x7 x8 x9 x10 (ix2 r l)
      = out (tileRows i x0 x1 x2 x3 ⟨7 + r.val, by omega⟩) (tileRows i x0 x1 x2 x3 ⟨8 + r.val, by omega⟩) (following (last i) (tileRows i x0 x1 x2 x3) r)
          (fun k => x4 (ix2 0 k)) (fun k j => x5 (ix2 k j)) (fun k j => x6 (ix2 k j)) (fun k j => x7 (ix2 ⟨k.val, by omega⟩ j))
          (fun j => x8 (ix2 0 j)) (fun j k => x9 (ix2 j k)) (fun k => x10 (ix2 0 k)) l := by
  have hz : (![0, 0] : Fin S1024x1024.rank → Nat) = fun _ => 0 := funext fun a => by fin_cases a <;> rfl
  refine Eq.trans ?_ (written_at (last i) _ _ _ _ _ x0 x5 x6 x7 x8 x9 x10 (reads i x0 x1 x2 x3 x4 x5 x6 x7 x8 x9 x10) (ext_mid _ x0 x1 x2 x3) r l)
  unfold out0_11
  rw [View.canon_unit_zero hz]
  rfl

end Tile

end Cert.Kernel4Ideal.Ffn

end
-- ==== Proof.FfnSample.Value.lean ====
module

public import proofs.«01_k».proof.Proof.FfnSample.Block
public import proofs.«01_k».proof.Proof.Gen.Kernel4Ideal.Value
public import Idealize.ShloMosaic.Lib.Claim

/-!
# The feed-forward kernel's result over the sample, element by element
-/

@[expose] public section

noncomputable section

namespace Cert.Kernel4Ideal.Ffn

open Cert.Kernel4Ideal Cert.Kernel4Ideal.Gen Cert.Ffn Cert.Kernel2Ideal.Ffn
open Idealize.ShloMosaic Idealize.ShloMosaic.TcCoe

/-! ## Where the windows lie -/

/-- The sample's last tile. -/
theorem place_last : ∀ t : Fin 16, place 16#32 (BitVec.ofNat 32 t.val) 15#32 = 1 ↔ t.val = 15 := by decide

/-- The sample's first tile. -/
theorem place_first : ∀ t : Fin 16, place 16#32 (BitVec.ofNat 32 t.val) 0#32 = 1 ↔ t.val = 0 := by decide

theorem coord : ∀ t : Fin grid0.N, (grid0.coords t 0).val = t.val := by decide +kernel
theorem index0 : ∀ t : Fin grid0.N, win0_0.index t 0 = t.val ∧ win0_0.index t 1 = 0 := by decide +kernel
theorem index1 : ∀ t : Fin grid0.N, win0_1.index t 0 = 128 * t.val - 1 ∧ win0_1.index t 1 = 0 := by decide +kernel
theorem index2 : ∀ t : Fin grid0.N, win0_2.index t 0 = 1 ∧ win0_2.index t 1 = 0 := by decide +kernel
theorem index3 : ∀ t : Fin grid0.N, win0_3.index t 0 = min (128 * (t.val + 1)) 2047 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = t.val ∧ win0_11.index t 1 = 0 := by decide +kernel

variable (m : (ℓ : Loc nD τ sig) → Buf (Elt Ideal) ℓ) (c : Dev nD)

/-- The tile. -/
theorem iblk0_at (t : Fin cfg0.N) (r k : Fin 1024) (i : Fin 16384) (hi : i.val = t.val * 1024 + r.val) :
    iblk m c 0 t (ix2 r k) = m ((c : Thread nD τ).loc main_arg0) (ix2 i k) := by
  refine (congrFun (V_main_arg0 m c) _).trans (congrArg (m _) (funext fun a => Fin.ext ?_))
  match a with
  | 0 => exact (Rect.emb_apply _ _ _).trans (by simp [index0 t, hi])
  | 1 => exact (Rect.emb_apply _ _ _).trans (by simp [index0 t])

/-- The eight rows before the tile. -/
theorem iblk1_at (t : Fin cfg0.N) (r : Fin 8) (k : Fin 1024) (i : Fin 16384) (hi : i.val = t.val * 1024 - 8 + r.val) :
    iblk m c 1 t (ix2 r k) = m ((c : Thread nD τ).loc main_arg0) (ix2 i k) := by
  refine (congrFun (V_main_arg0 m c) _).trans (congrArg (m _) (funext fun a => Fin.ext ?_))
  match a with
  | 0 => exact (Rect.emb_apply _ _ _).trans (by simp [index1 t, Pipeline.WinKind.off]; omega)
  | 1 => exact (Rect.emb_apply _ _ _).trans (by simp [index1 t])

/-- Eight rows of meta tokens. -/
theorem iblk2_at (t : Fin cfg0.N) (r : Fin 8) (k : Fin 1024) (i : Fin 128) (hi : i.val = 8 + r.val) :
    iblk m c 2 t (ix2 r k) = m ((c : Thread nD τ).loc main_arg1) (ix2 i k) := by
  refine (congrFun (V_main_arg1 m c) _).trans (congrArg (m _) (funext fun a => Fin.ext ?_))
  match a with
  | 0 => exact (Rect.emb_apply _ _ _).trans (by simp [index2 t, Pipeline.WinKind.off]; omega)
  | 1 => exact (Rect.emb_apply _ _ _).trans (by simp [index2 t])

/-- The eight rows after the tile. -/
theorem iblk3_at (t : Fin cfg0.N) (r : Fin 8) (k : Fin 1024) (i : Fin 16384) (hi : i.val = min (128 * (t.val + 1)) 2047 * 8 + r.val) :
    iblk m c 3 t (ix2 r k) = m ((c : Thread nD τ).loc main_arg0) (ix2 i k) := by
  refine (congrFun (V_main_arg0 m c) _).trans (congrArg (m _) (funext fun a => Fin.ext ?_))
  match a with
  | 0 => exact (Rect.emb_apply _ _ _).trans (by simp [index3 t, Pipeline.WinKind.off]; omega)
  | 1 => exact (Rect.emb_apply _ _ _).trans (by simp [index3 t])

/-- The first norm's scale. -/
theorem iblk4_at (t : Fin cfg0.N) (k : Fin 1024) : iblk m c 4 t (ix2 0 k) = m ((c : Thread nD τ).loc main_arg2) (ix2 0 k) := by
  have e : iblk m c 4 t (ix2 0 k) = V m c main_v4 (ix2 0 k) := by
    refine congrArg (V m c main_v4) (funext fun a => Fin.ext ?_)
    match a with
    | 0 => exact (Rect.emb_apply _ _ _).trans (by simp [index4 t])
    | 1 => exact (Rect.emb_apply _ _ _).trans (by simp [index4 t])
  rw [e]
  entry_read
  pointwise

/-- The up-projection. -/
theorem iblk5_at (t : Fin cfg0.N) (r : Fin 1024) (k : Fin 2816) : iblk m c 5 t (ix2 r k) = m ((c : Thread nD τ).loc main_arg3) (ix3 0 r k) := by
  have e : iblk m c 5 t (ix2 r k) = V m c main_v6 (ix2 r k) := by
    refine congrArg (V m c main_v6) (funext fun a => Fin.ext ?_)
    match a with
    | 0 => exact (Rect.emb_apply _ _ _).trans (by simp [index5 t])
    | 1 => exact (Rect.emb_apply _ _ _).trans (by simp [index5 t])
  rw [e]
  entry_read
  pointwise

/-- The gate's projection. -/
theorem iblk6_at (t : Fin cfg0.N) (r : Fin 1024) (k : Fin 2816) : iblk m c 6 t (ix2 r k) = m ((c : Thread nD τ).loc main_arg4) (ix3 0 r k) := by
  have e : iblk m c 6 t (ix2 r k) = V m c main_v8 (ix2 r k) := by
    refine congrArg (V m c main_v8) (funext fun a => Fin.ext ?_)
    match a with
    | 0 => exact (Rect.emb_apply _ _ _).trans (by simp [index6 t])
    | 1 => exact (Rect.emb_apply _ _ _).trans (by simp [index6 t])
  rw [e]
  entry_read
  pointwise

/-- The convolution. -/
theorem iblk7_at (t : Fin cfg0.N) (r : Fin 3) (k : Fin 2816) : iblk m c 7 t (ix2 ⟨r.val, by omega⟩ k) = m ((c : Thread nD τ).loc main_arg5) (ix3 0 r k) := by
  have e : iblk m c 7 t (ix2 ⟨r.val, by omega⟩ k) = V m c main_v2 (ix2 ⟨r.val, by omega⟩ k) := by
    refine congrArg (V m c main_v2) (funext fun a => Fin.ext ?_)
    match a with
    | 0 => exact (Rect.emb_apply _ _ _).trans (by simp [index7 t])
    | 1 => exact (Rect.emb_apply _ _ _).trans (by simp [index7 t])
  rw [e]
  entry_read
  pointwise

/-- The convolution's bias. -/
theorem iblk8_at (t : Fin cfg0.N) (k : Fin 2816) : iblk m c 8 t (ix2 0 k) = m ((c : Thread nD τ).loc main_arg6) (ix2 0 k) := by
  have e : iblk m c 8 t (ix2 0 k) = V m c main_v10 (ix2 0 k) := by
    refine congrArg (V m c main_v10) (funext fun a => Fin.ext ?_)
    match a with
    | 0 => exact (Rect.emb_apply _ _ _).trans (by simp [index8 t])
    | 1 => exact (Rect.emb_apply _ _ _).trans (by simp [index8 t])
  rw [e]
  entry_read
  pointwise

/-- The down-projection. -/
theorem iblk9_at (t : Fin cfg0.N) (r : Fin 2816) (k : Fin 1024) : iblk m c 9 t (ix2 r k) = m ((c : Thread nD τ).loc main_arg7) (ix3 0 r k) := by
  have e : iblk m c 9 t (ix2 r k) = V m c main_v12 (ix2 r k) := by
    refine congrArg (V m c main_v12) (funext fun a => Fin.ext ?_)
    match a with
    | 0 => exact (Rect.emb_apply _ _ _).trans (by simp [index9 t])
    | 1 => exact (Rect.emb_apply _ _ _).trans (by simp [index9 t])
  rw [e]
  entry_read
  pointwise

/-- The last norm's scale. -/
theorem iblk10_at (t : Fin cfg0.N) (k : Fin 1024) : iblk m c 10 t (ix2 0 k) = m ((c : Thread nD τ).loc main_arg8) (ix1 k) := by
  have e : iblk m c 10 t (ix2 0 k) = V m c main_v13 (ix2 0 k) := by
    refine congrArg (V m c main_v13) (funext fun a => Fin.ext ?_)
    match a with
    | 0 => exact (Rect.emb_apply _ _ _).trans (by simp [index10 t])
    | 1 => exact (Rect.emb_apply _ _ _).trans (by simp [index10 t])
  rw [e]
  entry_read
  pointwise

/-- The residual's rows, as launched. -/
abbrev res (i : Fin 16384) (k : Fin 1024) : EReal := m ((c : Thread nD τ).loc main_arg0) (ix2 i k)
/-- The meta rows, as launched. -/
abbrev meta0 (i : Fin 128) (k : Fin 1024) : EReal := m ((c : Thread nD τ).loc main_arg1) (ix2 i k)

section Rows
variable (t : Fin cfg0.N) (r : Fin 1024) (i : Fin 16384) (hi : i.val = t.val * 1024 + r.val)
include hi

/-- The row itself. -/
theorem row_here : tileRows (grid0.coords t) (iblk m c 0 t) (iblk m c 1 t) (iblk m c 2 t) (iblk m c 3 t) ⟨8 + r.val, by omega⟩ = res m c i := by
  funext k
  exact (ext_mid _ _ _ _ _ r k).trans (iblk0_at m c t r k i hi)

/-- The row before it. -/
theorem row_prev : tileRows (grid0.coords t) (iblk m c 0 t) (iblk m c 1 t) (iblk m c 2 t) (iblk m c 3 t) ⟨7 + r.val, by omega⟩
    = before1 (res m c) (meta0 m c) i := by
  funext k
  have ht : t.val < 16 := t.isLt
  have hf := place_first t
  unfold tileRows ext before1 first
  rw [coord t]
  by_cases hr : r.val = 0
  · rw [dif_pos (by simp [hr])]
    by_cases h2 : t.val = 0
    · rw [if_pos (hf.2 h2), if_pos (by omega)]
      exact iblk2_at m c t _ k _ (by simp [hr])
    · rw [if_neg fun q => h2 (hf.1 q), if_neg (by omega)]
      exact iblk1_at m c t _ k _ (by simp [hr]; omega)
  · rw [dif_neg (by simp; omega), dif_pos (by simp; omega), if_neg (by omega)]
    exact iblk0_at m c t _ k _ (by simp; omega)

/-- The row after it. -/
theorem row_next : following (last (grid0.coords t)) (tileRows (grid0.coords t) (iblk m c 0 t) (iblk m c 1 t) (iblk m c 2 t) (iblk m c 3 t)) r = after1 (res m c) i := by
  have ht : t.val < 16 := t.isLt
  have hl := place_last t
  unfold following after1 last
  rw [coord t]
  by_cases h : r.val = 1023 ∧ t.val = 15
  · rw [if_pos ⟨h.1, hl.2 h.2⟩, dif_pos (by omega)]
  · rw [if_neg fun q => h ⟨q.1, hl.1 q.2⟩, dif_neg (by omega)]
    congr 1
    funext k
    unfold tileRows ext
    rw [dif_neg (by show ¬ 9 + r.val < 8; omega)]
    by_cases hr : r.val = 1023
    · rw [dif_neg (by simp [hr])]
      exact iblk3_at m c t _ k _ (by simp [hr]; omega)
    · rw [dif_pos (by simp; omega)]
      exact iblk0_at m c t _ k _ (by simp; omega)

end Rows

/-- An element of the result array, of the arguments as launched. -/
theorem arr_at (i : Fin 16384) (l : Fin 1024) : (dats m 0 c).arrAt 11 cfg0.N (ix2 i l)
    = out (before1 (res m c) (meta0 m c) i) (res m c i) (after1 (res m c) i)
      (fun k => m ((c : Thread nD τ).loc main_arg2) (ix2 0 k)) (fun k j => m ((c : Thread nD τ).loc main_arg3) (ix3 0 k j))
      (fun k j => m ((c : Thread nD τ).loc main_arg4) (ix3 0 k j)) (fun k j => m ((c : Thread nD τ).loc main_arg5) (ix3 0 k j))
      (fun j => m ((c : Thread nD τ).loc main_arg6) (ix2 0 j)) (fun j k => m ((c : Thread nD τ).loc main_arg7) (ix3 0 j k))
      (fun k => m ((c : Thread nD τ).loc main_arg8) (ix1 k)) l := by
  obtain ⟨t, ht⟩ : ∃ t : Fin cfg0.N, t.val = i.val / 1024 := ⟨⟨i.val / 1024, by have := i.isLt; show _ < 16; omega⟩, rfl⟩
  obtain ⟨r, hr⟩ : ∃ r : Fin 1024, r.val = i.val % 1024 := ⟨⟨i.val % 1024, by omega⟩, rfl⟩
  have hi : i.val = t.val * 1024 + r.val := by omega
  have h1 := congrFun (Value.blocks11 m c t (flush0_11 t)) (ix2 r l)
  have h2 : ((cfg0.win 11).blk t).view.read (Elt Ideal) ((dats m 0 c).arrAt 11 cfg0.N) (ix2 r l) = (dats m 0 c).arrAt 11 cfg0.N (ix2 i l) := by
    refine congrArg ((dats m 0 c).arrAt 11 cfg0.N) (funext fun a => Fin.ext ?_)
    match a with
    | 0 => exact (Rect.emb_apply _ _ _).trans (by simp [index11 t, hi])
    | 1 => exact (Rect.emb_apply _ _ _).trans (by simp [index11 t])
  rw [← h2, h1, Value.flushed11]
  refine (out_at _ _ _ _ _ _ _ _ _ _ _ _ r l).trans ?_
  rw [row_here m c t r i hi, row_prev m c t r i hi, row_next m c t r i hi]
  simp only [iblk4_at, iblk5_at, iblk6_at, iblk7_at, iblk8_at, iblk9_at, iblk10_at]

end Cert.Kernel4Ideal.Ffn

end
-- ==== Proof.FfnSample.Reference.lean ====
module

public import proofs.«01_k».proof.Proof.Ffn.Spec
public import proofs.«01_k».proof.Proof.Gen.Reference4Ideal.Run

/-!
# The feed-forward reference's result over the sample, element by element
-/

@[expose] public section

noncomputable section

namespace Cert.Reference4Ideal.Ffn

open Cert.Reference4Ideal Cert.Reference4Ideal.Gen Cert.Reference4Ideal.Value Cert.Ffn
open Idealize.ShloMosaic Idealize.ShloMosaic.TcCoe Idealize.SL.Sem

variable (V0 : Valuation τ sig (Elt Ideal))

/-- The residual's rows. -/
abbrev res (i : Fin 16384) (k : Fin 1024) : EReal := V0 (Proc.devRef .tc main_arg0) (ix2 i k)
/-- The meta rows. -/
abbrev meta0 (i : Fin 128) (k : Fin 1024) : EReal := V0 (Proc.devRef .tc main_arg1) (ix2 i k)
/-- The rows of a sequence: its meta rows, then its own. -/
abbrev rowOf (s : Fin 16400) (k : Fin 1024) : EReal := res_main_v3 V0 (ix3 0 s k)
/-- The first norm's scale. -/
abbrev scale (k : Fin 1024) : EReal := V0 (Proc.devRef .tc main_arg2) (ix2 0 k)
/-- The up-projection. -/
abbrev wup (k : Fin 1024) (j : Fin 2816) : EReal := V0 (Proc.devRef .tc main_arg3) (ix3 0 k j)

theorem v3_at (s : Fin 16400) (k : Fin 1024) : rowOf V0 s k
    = if h : s.val < 16 then meta0 V0 ⟨s.val, by omega⟩ k else res V0 ⟨s.val - 16, by omega⟩ k := by
  unfold rowOf res_main_v3
  pointwise

theorem v17_at (s : Fin 16400) (k : Fin 1024) : res_main_v17 V0 (ix3 0 s k) = rms (rowOf V0 s) (scale V0) k := by
  unfold res_main_v17 rms
  pointwise

theorem v20_at (b : Fin 3) (k : Fin 2816) : res_main_v20 V0 (ix2 b k) = V0 (Proc.devRef .tc main_arg5) (ix3 0 b k) := by
  unfold res_main_v20
  pointwise

/-- The up-projection, with a row of zeros at either end. -/
theorem v24_at (s : Fin 16402) (j : Fin 2816) : res_main_v24 V0 (ix3 0 s j)
    = if h : 1 ≤ s.val ∧ s.val - 1 < 16400 then proj (rms (rowOf V0 ⟨s.val - 1, h.2⟩) (scale V0)) (fun k => wup V0 k j) else (0 : EReal) := by
  unfold res_main_v24
  pointwise
  split
  · refine Finset.sum_congr (M := EReal) rfl fun k _ => ?_
    exact congrArg (· * wup V0 k j) (v17_at V0 _ k)
  · exact zero_word

/-- A row of the up-projection. -/
theorem up_row (s : Fin 16402) (p : Fin 16400) (h : s.val = p.val + 1) (j : Fin 2816) : res_main_v24 V0 (ix3 0 s j)
    = proj (rms (rowOf V0 p) (scale V0)) (fun k => wup V0 k j) := by
  rw [v24_at, dif_pos ⟨by omega, by omega⟩]
  congr 3
  exact Fin.ext (by show s.val - 1 = p.val; omega)

/-- The zeros past the end. -/
theorem up_end (s : Fin 16402) (h : s.val = 16401) (j : Fin 2816) : res_main_v24 V0 (ix3 0 s j) = (0 : EReal) := by
  rw [v24_at, dif_neg (by omega)]

/-- The place of row `i` of the residual in the sample. -/
abbrev posOf (i : Fin 16384) : Fin 16400 := ⟨16 + i.val, by omega⟩

theorem row_here (i : Fin 16384) : rowOf V0 (posOf i) = res V0 i := by
  funext k
  rw [v3_at, dif_neg (by simp)]
  exact congrArg (fun x => res V0 x k) (Fin.ext (by show 16 + i.val - 16 = i.val; omega))

theorem row_prev (i : Fin 16384) (p : Fin 16400) (hp : p.val = 15 + i.val) : rowOf V0 p = before1 (res V0) (meta0 V0) i := by
  funext k
  rw [v3_at]
  unfold before1
  by_cases h : i.val = 0
  · rw [dif_pos (by omega), if_pos h]
    exact congrArg (fun x => meta0 V0 x k) (Fin.ext (by show p.val = 15; omega))
  · rw [dif_neg (by omega), if_neg h]
    exact congrArg (fun x => res V0 x k) (Fin.ext (by show p.val - 16 = i.val - 1; omega))

/-- The up-projection of the row after, if the sequence goes on. -/
theorem up_next (i : Fin 16384) (s : Fin 16402) (hs : s.val = 18 + i.val) (j : Fin 2816) : res_main_v24 V0 (ix3 0 s j)
    = (after1 (res V0) i).elim 0 fun n => proj (rms n (scale V0)) (fun k => wup V0 k j) := by
  unfold after1
  by_cases h : i.val = 16383
  · rw [dif_pos h, up_end V0 s (by omega)]
    rfl
  · rw [dif_neg h, up_row V0 s ⟨17 + i.val, by omega⟩ (by show s.val = 17 + i.val + 1; omega)]
    show proj (rms _ _) _ = proj (rms _ _) _
    congr 2
    have := row_here V0 ⟨i.val + 1, by omega⟩
    rw [← this]
    exact congrArg (rowOf V0) (Fin.ext (by show 17 + i.val = 16 + (i.val + 1); omega))

theorem v66_at (i : Fin 16384) (l : Fin 1024) : res_main_v66 V0 (ix3 0 (posOf i) l)
    = body (before1 (res V0) (meta0 V0) i) (res V0 i) (after1 (res V0) i) (scale V0) (wup V0)
        (fun k j => V0 (Proc.devRef .tc main_arg4) (ix3 0 k j)) (fun k j => V0 (Proc.devRef .tc main_arg5) (ix3 0 k j))
        (fun j => V0 (Proc.devRef .tc main_arg6) (ix2 0 j)) (fun j k => V0 (Proc.devRef .tc main_arg7) (ix3 0 j k)) l := by
  unfold res_main_v66
  pointwise
  unfold body hid
  refine congrArg₂ (· + ·) (congrFun (row_here V0 i) l) (Finset.sum_congr rfl fun j _ => congrArg (· * _) (congrArg₂ (· * ·) ((gelu_eq _).trans (congrArg gelu ?_)) ?_))
  · unfold res_main_v49
    pointwise
    rw [up_row V0 _ ⟨15 + i.val, by omega⟩ (by show 16 + i.val = 15 + i.val + 1; omega), row_prev V0 i _ rfl,
      up_row V0 _ (posOf i) (by show 1 + (16 + i.val) = 16 + i.val + 1; omega), row_here,
      up_next V0 i _ (by show 2 + (16 + i.val) = _; omega), v20_at, v20_at, v20_at]
  · refine Finset.sum_congr rfl fun k _ => congrArg (· * _) ?_
    rw [v17_at, row_here]

set_option maxRecDepth 16384 in
theorem out_at (i : Fin 16384) (l : Fin 1024) : (shapeCast _ (extractStridedSlice S1x16384x1024 ![0, 16, 0] (mulf (mulf (res_main_v66 V0) (broadcastInDim S1x16400x1024 ![0, 1, 2] bcast_S1x16400x1_S1x16400x1024_0_1_2 (Host.rsqrt (addf (Host.divf (broadcastInDim S1x16400x1 ![0, 1] bcast_S1x16400_S1x16400x1_0_1 (Host.reduceAdd (mulf (res_main_v66 V0) (res_main_v66 V0)) (constant S_ .f32 0x00000000#32) reducesTo_S1x16400x1024_S1x16400_d2 h_S_)) (broadcastInDim S1x16400x1 ![] bcast_S_S1x16400x1 (constant S_ .f32 0x44800000#32))) (broadcastInDim S1x16400x1 ![] bcast_S_S1x16400x1 (constant S_ .f32 0x358637BD#32)))))) (broadcastInDim S1x16400x1024 ![0, 1, 2] bcast_S1x1x1024_S1x16400x1024_0_1_2 (broadcastInDim S1x1x1024 ![2] bcast_S1024_S1x1x1024_2 (V0 (Proc.devRef .tc main_arg8))))) slices_S1x16400x1024_S1x16384x1024_0_16_0) shapeCasts_S1x16384x1024_S16384x1024 : FVec Ideal S16384x1024 .f32) (ix2 i l)
    = out (before1 (res V0) (meta0 V0) i) (res V0 i) (after1 (res V0) i) (scale V0) (wup V0)
        (fun k j => V0 (Proc.devRef .tc main_arg4) (ix3 0 k j)) (fun k j => V0 (Proc.devRef .tc main_arg5) (ix3 0 k j))
        (fun j => V0 (Proc.devRef .tc main_arg6) (ix2 0 j)) (fun j k => V0 (Proc.devRef .tc main_arg7) (ix3 0 j k))
        (fun k => V0 (Proc.devRef .tc main_arg8) (ix1 k)) l := by
  pointwise
  unfold out rms
  simp only [v66_at]

end Cert.Reference4Ideal.Ffn

end
-- ==== Proof.Proj.Spec.lean ====
module

public import proofs.«01_k».proof.Proof.Ffn.Spec

/-!
# One element of the input projection, on the extended reals

Both programs are read down to these functions of one row of the residual stream and of the weights.
-/

@[expose] public section

noncomputable section

namespace Cert.Proj

open Idealize.ShloMosaic Cert.Ffn

/-- A column of the normalized row's projection. -/
def z (x g : Fin 1024 → EReal) (w : Fin 1024 → Fin 4528 → EReal) (j : Fin 4528) : EReal := ∑ k : Fin 1024, rms x g k * w k j

/-- A latent of 128 divided by the root of its mean square (moved by a millionth) and scaled by `g`. -/
def lat (a g : Fin 128 → EReal) (k : Fin 128) : EReal :=
  a k * Ideal.rsqrt (Ideal.div (∑ l : Fin 128, a l * a l) (Ideal.ofBits FTy.f32 1124073472#32) + Ideal.ofBits FTy.f32 897988541#32) * g k

/-- An element of the attention's values: of 128 columns for each head, the last 64. -/
def value (x g : Fin 1024 → EReal) (w : Fin 1024 → Fin 4528 → EReal) (gk : Fin 128 → EReal) (wk : Fin 128 → Fin 1024 → EReal) (d : Fin 512) : EReal :=
  ∑ l : Fin 128, lat (fun l => z x g w ⟨256 + l.val, by omega⟩) gk l * wk l ⟨d.val / 64 * 128 + (64 + d.val % 64), by omega⟩

/-- The logistic function. -/
def sigm (x : EReal) : EReal := Ideal.div 1 (1 + Ideal.exp (-x))

/-- The logarithm of the logistic function. -/
def logSigm (x : EReal) : EReal := min x 0 - Ideal.log1p (Ideal.exp (-(max x (-x))))

/-- The mLSTM's gates: eight input gates, then the logarithms of eight forget gates. -/
def gate (x g : Fin 1024 → EReal) (w : Fin 1024 → Fin 4528 → EReal) (bi bf : Fin 2 → Fin 4 → EReal) (j : Fin 16) : EReal :=
  if h : j.val < 8 then z x g w ⟨2464 + j.val, by omega⟩ + bi ⟨j.val / 4, by omega⟩ ⟨j.val % 4, by omega⟩
  else logSigm (z x g w ⟨2464 + j.val, by omega⟩ + bf ⟨(j.val - 8) / 4, by omega⟩ ⟨(j.val - 8) % 4, by omega⟩)

/-- An element of the mLSTM's keys: a column of the projection divided by the root of 128. -/
def key (x g : Fin 1024 → EReal) (w : Fin 1024 → Fin 4528 → EReal) (j : Fin 512) : EReal :=
  z x g w ⟨928 + j.val, by omega⟩ * Ideal.ofBits FTy.f32 0x3DB504F3#32

/-- Row `i` of the sequences laid end to end. -/
def row (x : Fin 32 → Fin 2048 → Fin 1024 → EReal) (i : Fin 65536) : Fin 1024 → EReal := x ⟨i.val / 2048, by omega⟩ ⟨i.val % 2048, by omega⟩

end Cert.Proj

end
-- ==== Proof.Proj.Block.lean ====
module

public import proofs.«01_k».proof.Proof.Proj.Spec
public import proofs.«01_k».proof.Proof.Gen.Kernel3Ideal.Frame
public import Idealize.ShloMosaic.Lib.Pipeline.Value

/-!
# What one tile of the input projection computes
-/

@[expose] public section

noncomputable section

namespace Cert.Kernel3Ideal.Proj

open Cert.Kernel3Ideal Cert.Kernel3Ideal.Gen Cert.Ffn Cert.Proj
open Idealize.ShloMosaic Idealize.ShloMosaic.TcCoe

variable (x : Vec Ideal S512x1024 .f32) (g : Vec Ideal S1x1024 .f32)

/-- A row of the tile, scaled, times a column. -/
def dot (r : Fin 512) (w : Fin 1024 → EReal) : EReal := ∑ k : Fin 1024, rms (fun k => x (ix2 r k)) (fun k => g (ix2 0 k)) k * w k

/-- The scaled tile. -/
theorem norm_at (r : Fin 512) (k : Fin 1024) : k0_pay2 (F := Ideal) x g (ix2 r k) = rms (fun k => x (ix2 r k)) (fun k => g (ix2 0 k)) k := by
  pointwise [k0_pay2]
  rfl

/-- The first projection. -/
theorem a_at (w : Vec Ideal S1024x640 .bf16) (r : Fin 512) (j : Fin 640) : k0_pay5 (F := Ideal) x g w (ix2 r j) = dot x g r fun k => w (ix2 k j) := by
  pointwise [k0_pay5]
  exact Finset.sum_congr (M := EReal) rfl fun k _ => congrArg (· * _) (norm_at x g r k)

/-- The second projection. -/
theorem b_at (w : Vec Ideal S1024x2176 .bf16) (r : Fin 512) (j : Fin 2176) :
    k0_pay44 (F := Ideal) (k0_pay2 x g) w (ix2 r j) = dot x g r fun k => w (ix2 k j) := by
  pointwise [k0_pay44]
  exact Finset.sum_congr (M := EReal) rfl fun k _ => congrArg (· * _) (norm_at x g r k)

/-- The third projection. -/
theorem c_at (w : Vec Ideal S1024x2048 .bf16) (r : Fin 512) (j : Fin 2048) :
    k0_pay60 (F := Ideal) (k0_pay2 x g) w (ix2 r j) = dot x g r fun k => w (ix2 k j) := by
  pointwise [k0_pay60]
  exact Finset.sum_congr (M := EReal) rfl fun k _ => congrArg (· * _) (norm_at x g r k)

/-- The latent's projection. -/
theorem kv_at (w : Vec Ideal S1024x640 .bf16) (gk : Vec Ideal S1x128 .f32) (wk : Vec Ideal S128x1536 .bf16) (r : Fin 512) (j : Fin 1536) :
    k0_pay13 (F := Ideal) (k0_pay7 (k0_pay5 x g w) gk) wk (ix2 r j)
      = ∑ l : Fin 128, lat (fun l => dot x g r fun k => w (ix2 k ⟨256 + l.val, by omega⟩)) (fun l => gk (ix2 0 l)) l * wk (ix2 l j) := by
  pointwise [k0_pay13, k0_pay7]
  unfold lat
  simp only [a_at]

/-- The gates. -/
theorem gates_at (w : Vec Ideal S1024x2176 .bf16) (b : Vec Ideal S1x128 .f32) (r : Fin 512) (j : Fin 16) :
    k0_pay54 (F := Ideal) (k0_pay44 (k0_pay2 x g) w) b (ix2 ⟨j.val, by omega⟩ r)
      = if j.val < 8 then (dot x g r fun k => w (ix2 k ⟨2048 + j.val, by omega⟩)) + b (ix2 0 ⟨j.val, by omega⟩)
        else logSigm ((dot x g r fun k => w (ix2 k ⟨2048 + j.val, by omega⟩)) + b (ix2 0 ⟨j.val, by omega⟩)) := by
  pointwise [k0_pay54]
  rw [b_at, Scalar.select_def]
  refine if_congr ?_ rfl ?_
  · have h : ∀ j : Fin 16, IntOp.cmpi CmpIPredicate.slt (BitVec.ofNat 32 j.val) 8#32 = 1 ↔ j.val < 8 := by decide
    exact h j
  · rw [zero_sub]
    rfl

end Cert.Kernel3Ideal.Proj

end
-- ==== Proof.Proj.Windows.lean ====
module

public import proofs.«01_k».proof.Proof.Proj.Spec
public import proofs.«01_k».proof.Proof.Gen.Kernel3Ideal.Frame
public import Idealize.ShloMosaic.Lib.Claim
public import Idealize.ShloMosaic.Lib.StableHlo.ReadAt

/-!
# What the input projection's windows hold
-/

@[expose] public section

noncomputable section

namespace Cert.Kernel3Ideal.Proj

open Cert.Kernel3Ideal Cert.Kernel3Ideal.Gen Cert.Ffn Cert.Proj
open Idealize.ShloMosaic Idealize.ShloMosaic.TcCoe

/-! ## The prepared weights -/

section Prepared
variable (V0 : Valuation τ sig (Elt Ideal))

/-- The second projection's columns side by side. -/
theorem wb_cat (A0 A1 A2 A3 : Vec Ideal S1024x512 .f32) (A4 A5 : Vec Ideal S1024x8 .f32) (A6 : Vec Ideal S1024x112 .f32) (k : Fin 1024) (f : Fin 4528 → EReal)
    (h0 : ∀ j : Fin 512, A0 (ix2 k j) = f ⟨416 + j.val, by omega⟩) (h1 : ∀ j : Fin 512, A1 (ix2 k j) = f ⟨928 + j.val, by omega⟩)
    (h2 : ∀ j : Fin 512, A2 (ix2 k j) = f ⟨1440 + j.val, by omega⟩) (h3 : ∀ j : Fin 512, A3 (ix2 k j) = f ⟨1952 + j.val, by omega⟩)
    (h4 : ∀ j : Fin 8, A4 (ix2 k j) = f ⟨2464 + j.val, by omega⟩) (h5 : ∀ j : Fin 8, A5 (ix2 k j) = f ⟨2472 + j.val, by omega⟩) (j : Fin 2064) :
    truncf (F := Ideal) FTy.bf16 (concatenate S1024x2176 1 [⟨S1024x512, A0⟩, ⟨S1024x512, A1⟩, ⟨S1024x512, A2⟩, ⟨S1024x512, A3⟩, ⟨S1024x8, A4⟩, ⟨S1024x8, A5⟩, ⟨S1024x112, A6⟩]
        concatenates_S1024x512_S1024x512_S1024x512_S1024x512_S1024x8_S1024x8_S1024x112_S1024x2176_d1) bitsLt_bf16_f32 (ix2 k ⟨j.val, by omega⟩)
      = f ⟨416 + j.val, by omega⟩ := by
  pointwise
  by_cases g0 : j.val < 512
  · rw [dif_pos g0]
    exact h0 _
  rw [dif_neg g0]
  by_cases g1 : j.val - 512 < 512
  · rw [dif_pos g1]
    exact (h1 _).trans (congrArg f (Fin.ext (by dsimp only; omega)))
  rw [dif_neg g1]
  by_cases g2 : j.val - 512 - 512 < 512
  · rw [dif_pos g2]
    exact (h2 _).trans (congrArg f (Fin.ext (by dsimp only; omega)))
  rw [dif_neg g2]
  by_cases g3 : j.val - 512 - 512 - 512 < 512
  · rw [dif_pos g3]
    exact (h3 _).trans (congrArg f (Fin.ext (by dsimp only; omega)))
  rw [dif_neg g3]
  by_cases g4 : j.val - 512 - 512 - 512 - 512 < 8
  · rw [dif_pos g4]
    exact (h4 _).trans (congrArg f (Fin.ext (by dsimp only; omega)))
  rw [dif_neg g4]
  rw [dif_pos (by omega)]
  exact (h5 _).trans (congrArg f (Fin.ext (by dsimp only; omega)))

set_option maxRecDepth 20000 in
/-- The second projection's columns lie together in the input weights. -/
theorem wb_at (k : Fin 1024) (j : Fin 2064) : StableHlo.after hostOps0 V0 (Proc.devRef .tc main_v58) (ix2 k ⟨j.val, by omega⟩)
    = V0 (Proc.devRef .tc main_arg2) (ix3 0 k ⟨416 + j.val, by omega⟩) := by
  after_reads_simp
  refine wb_cat _ _ _ _ _ _ _ k (fun q => V0 (Proc.devRef .tc main_arg2) (ix3 0 k q)) ?_ ?_ ?_ ?_ ?_ ?_ j <;> intro j
  · show StableHlo.upto hostOps0 V0 26 (Proc.devRef .tc main_v14) (ix2 k j) = _
    after_reads_at
  · show StableHlo.upto hostOps0 V0 26 (Proc.devRef .tc main_v15) (ix2 k j) = _
    after_reads_at
  · show StableHlo.upto hostOps0 V0 26 (Proc.devRef .tc main_v16) (ix2 k j) = _
    after_reads_at
  · show StableHlo.upto hostOps0 V0 26 (Proc.devRef .tc main_v17) (ix2 k j) = _
    after_reads_at
  · show StableHlo.upto hostOps0 V0 26 (Proc.devRef .tc main_v18) (ix2 k j) = _
    after_reads_at
  · show StableHlo.upto hostOps0 V0 26 (Proc.devRef .tc main_v19) (ix2 k j) = _
    after_reads_at

/-- The first projection's columns side by side. -/
theorem wa_cat (A0 : Vec Ideal S1024x256 .f32) (A1 A2 A3 : Vec Ideal S1024x128 .f32) (k : Fin 1024) (f : Fin 128 → EReal)
    (h1 : ∀ l : Fin 128, A1 (ix2 k l) = f l) (l : Fin 128) :
    truncf (F := Ideal) FTy.bf16 (concatenate S1024x640 1 [⟨S1024x256, A0⟩, ⟨S1024x128, A1⟩, ⟨S1024x128, A2⟩, ⟨S1024x128, A3⟩]
        concatenates_S1024x256_S1024x128_S1024x128_S1024x128_S1024x640_d1) bitsLt_bf16_f32 (ix2 k ⟨256 + l.val, by omega⟩)
      = f l := by
  pointwise
  exact h1 l

set_option maxRecDepth 20000 in
/-- The latent's columns. -/
theorem wa_at (k : Fin 1024) (l : Fin 128) : StableHlo.after hostOps0 V0 (Proc.devRef .tc main_v57) (ix2 k ⟨256 + l.val, by omega⟩)
    = V0 (Proc.devRef .tc main_arg2) (ix3 0 k ⟨256 + l.val, by omega⟩) := by
  after_reads_simp
  refine wa_cat _ _ _ _ k (fun l => V0 (Proc.devRef .tc main_arg2) (ix3 0 k ⟨256 + l.val, by omega⟩)) ?_ l
  intro l
  show StableHlo.upto hostOps0 V0 17 (Proc.devRef .tc main_v12) (ix2 k l) = _
  after_reads_at

/-- The gates' biases end to end. -/
theorem gb_cat (A0 A1 : Vec Ideal S8 .f32) (A2 : Vec Ideal S112 .f32) (f0 f1 : Fin 8 → EReal) (h0 : ∀ j : Fin 8, A0 (ix1 j) = f0 j) (h1 : ∀ j : Fin 8, A1 (ix1 j) = f1 j) (j : Fin 16) :
    broadcastInDim S1x128 ![1] bcast_S128_S1x128_1 (concatenate S128 0 [⟨S8, A0⟩, ⟨S8, A1⟩, ⟨S112, A2⟩] concatenates_S8_S8_S112_S128_d0 : Vec Ideal S128 .f32) (ix2 0 ⟨j.val, by omega⟩)
      = if h : j.val < 8 then f0 ⟨j.val, h⟩ else f1 ⟨j.val - 8, by omega⟩ := by
  pointwise
  by_cases h : j.val < 8
  · rw [dif_pos h, dif_pos h]
    exact h0 _
  · rw [dif_neg h, dif_neg h, dif_pos (by omega)]
    exact h1 _

set_option maxRecDepth 20000 in
/-- The gates' biases. -/
theorem gb_at (j : Fin 16) : StableHlo.after hostOps0 V0 (Proc.devRef .tc main_v66) (ix2 0 ⟨j.val, by omega⟩)
    = if h : j.val < 8 then V0 (Proc.devRef .tc main_arg7) (ix3 0 ⟨j.val / 4, by omega⟩ ⟨j.val % 4, by omega⟩)
      else V0 (Proc.devRef .tc main_arg8) (ix3 0 ⟨(j.val - 8) / 4, by omega⟩ ⟨(j.val - 8) % 4, by omega⟩) := by
  after_reads_simp
  refine gb_cat _ _ _ (fun j => V0 (Proc.devRef .tc main_arg7) (ix3 0 ⟨j.val / 4, by omega⟩ ⟨j.val % 4, by omega⟩))
    (fun j => V0 (Proc.devRef .tc main_arg8) (ix3 0 ⟨j.val / 4, by omega⟩ ⟨j.val % 4, by omega⟩)) ?_ ?_ j <;> intro j
  · show StableHlo.upto hostOps0 V0 64 (Proc.devRef .tc main_v50) (ix1 j) = _
    after_reads_at
  · show StableHlo.upto hostOps0 V0 64 (Proc.devRef .tc main_v52) (ix1 j) = _
    after_reads_at

end Prepared

/-! ## The windows -/

theorem index0 : ∀ t : Fin grid0.N, win0_0.index t 0 = t.val ∧ win0_0.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel

variable (m : (ℓ : Loc nD τ sig) → Buf (Elt Ideal) ℓ) (c : Dev nD)

/-- The tile. -/
theorem iblk0_at (t : Fin cfg0.N) (r : Fin 512) (k : Fin 1024) (i : Fin 65536) (hi : i.val = t.val * 512 + r.val) :
    iblk m c 0 t (ix2 r k) = m ((c : Thread nD τ).loc main_arg0) (ix3 ⟨i.val / 2048, by omega⟩ ⟨i.val % 2048, by omega⟩ k) := by
  have e : iblk m c 0 t (ix2 r k) = V m c main_v94 (ix2 i k) := by
    refine congrArg (V m c main_v94) (funext fun a => Fin.ext ?_)
    match a with
    | 0 => exact (Rect.emb_apply _ _ _).trans (by simp [index0 t, hi])
    | 1 => exact (Rect.emb_apply _ _ _).trans (by simp [index0 t])
  rw [e]
  entry_read
  pointwise

/-- The norm's scale. -/
theorem iblk3_at (t : Fin cfg0.N) (k : Fin 1024) : iblk m c 3 t (ix2 0 k) = m ((c : Thread nD τ).loc main_arg1) (ix2 0 k) := by
  have e : iblk m c 3 t (ix2 0 k) = V m c main_v56 (ix2 0 k) := by
    refine congrArg (V m c main_v56) (funext fun a => Fin.ext ?_)
    match a with
    | 0 => exact (Rect.emb_apply _ _ _).trans (by simp [index3 t])
    | 1 => exact (Rect.emb_apply _ _ _).trans (by simp [index3 t])
  rw [e]
  entry_read
  pointwise

/-- The latent's columns of the first projection. -/
theorem iblk4_at (t : Fin cfg0.N) (k : Fin 1024) (l : Fin 128) : iblk m c 4 t (ix2 k ⟨256 + l.val, by omega⟩) = m ((c : Thread nD τ).loc main_arg2) (ix3 0 k ⟨256 + l.val, by omega⟩) := by
  have e : iblk m c 4 t (ix2 k ⟨256 + l.val, by omega⟩) = V m c main_v57 (ix2 k ⟨256 + l.val, by omega⟩) := by
    refine congrArg (V m c main_v57) (funext fun a => Fin.ext ?_)
    match a with
    | 0 => exact (Rect.emb_apply _ _ _).trans (by simp [index4 t])
    | 1 => exact (Rect.emb_apply _ _ _).trans (by simp [index4 t])
  exact e.trans (wa_at (fun b => m (c, b)) k l)

/-- The second projection. -/
theorem iblk5_at (t : Fin cfg0.N) (k : Fin 1024) (j : Fin 2064) : iblk m c 5 t (ix2 k ⟨j.val, by omega⟩) = m ((c : Thread nD τ).loc main_arg2) (ix3 0 k ⟨416 + j.val, by omega⟩) := by
  have e : iblk m c 5 t (ix2 k ⟨j.val, by omega⟩) = V m c main_v58 (ix2 k ⟨j.val, by omega⟩) := by
    refine congrArg (V m c main_v58) (funext fun a => Fin.ext ?_)
    match a with
    | 0 => exact (Rect.emb_apply _ _ _).trans (by simp [index5 t])
    | 1 => exact (Rect.emb_apply _ _ _).trans (by simp [index5 t])
  exact e.trans (wb_at (fun b => m (c, b)) k j)

/-- The third projection. -/
theorem iblk6_at (t : Fin cfg0.N) (k : Fin 1024) (j : Fin 2048) : iblk m c 6 t (ix2 k j) = m ((c : Thread nD τ).loc main_arg2) (ix3 0 k ⟨2480 + j.val, by omega⟩) := by
  have e : iblk m c 6 t (ix2 k j) = V m c main_v59 (ix2 k j) := by
    refine congrArg (V m c main_v59) (funext fun a => Fin.ext ?_)
    match a with
    | 0 => exact (Rect.emb_apply _ _ _).trans (by simp [index6 t])
    | 1 => exact (Rect.emb_apply _ _ _).trans (by simp [index6 t])
  rw [e]
  entry_read
  pointwise
  split
  · rfl
  · exact congrArg (fun q => m ((c : Thread nD τ).loc main_arg2) (ix3 0 k q)) (Fin.ext (by show 3504 + (j.val - 1024) = 2480 + j.val; omega))

/-- The latent's scale. -/
theorem iblk9_at (t : Fin cfg0.N) (l : Fin 128) : iblk m c 9 t (ix2 0 l) = m ((c : Thread nD τ).loc main_arg5) (ix2 0 l) := by
  have e : iblk m c 9 t (ix2 0 l) = V m c main_v64 (ix2 0 l) := by
    refine congrArg (V m c main_v64) (funext fun a => Fin.ext ?_)
    match a with
    | 0 => exact (Rect.emb_apply _ _ _).trans (by simp [index9 t])
    | 1 => exact (Rect.emb_apply _ _ _).trans (by simp [index9 t])
  rw [e]
  entry_read
  pointwise

/-- The values' columns of the latent's projection. -/
theorem iblk10_at (t : Fin cfg0.N) (l : Fin 128) (d : Fin 512) : iblk m c 10 t (ix2 l ⟨1024 + d.val, by omega⟩) = m ((c : Thread nD τ).loc main_arg6) (ix3 0 l ⟨d.val / 64 * 128 + (64 + d.val % 64), by omega⟩) := by
  have e : iblk m c 10 t (ix2 l ⟨1024 + d.val, by omega⟩) = V m c main_v65 (ix2 l ⟨1024 + d.val, by omega⟩) := by
    refine congrArg (V m c main_v65) (funext fun a => Fin.ext ?_)
    match a with
    | 0 => exact (Rect.emb_apply _ _ _).trans (by simp [index10 t])
    | 1 => exact (Rect.emb_apply _ _ _).trans (by simp [index10 t])
  rw [e]
  entry_read
  pointwise

/-- The gates' biases. -/
theorem iblk11_at (t : Fin cfg0.N) (j : Fin 16) : iblk m c 11 t (ix2 0 ⟨j.val, by omega⟩)
    = if h : j.val < 8 then m ((c : Thread nD τ).loc main_arg7) (ix3 0 ⟨j.val / 4, by omega⟩ ⟨j.val % 4, by omega⟩)
      else m ((c : Thread nD τ).loc main_arg8) (ix3 0 ⟨(j.val - 8) / 4, by omega⟩ ⟨(j.val - 8) % 4, by omega⟩) := by
  have e : iblk m c 11 t (ix2 0 ⟨j.val, by omega⟩) = V m c main_v66 (ix2 0 ⟨j.val, by omega⟩) := by
    refine congrArg (V m c main_v66) (funext fun a => Fin.ext ?_)
    match a with
    | 0 => exact (Rect.emb_apply _ _ _).trans (by simp [index11 t])
    | 1 => exact (Rect.emb_apply _ _ _).trans (by simp [index11 t])
  exact e.trans (gb_at (fun b => m (c, b)) j)

end Cert.Kernel3Ideal.Proj

end
-- ==== Proof.Proj.Tile.lean ====
module

public import proofs.«01_k».proof.Proof.Proj.Block
public import proofs.«01_k».proof.Proof.Proj.Windows
public import proofs.«01_k».proof.Proof.Gen.Kernel3Ideal.Value
public import Idealize.ShloMosaic.Lib.Pipeline.ValueKit.Tiles

/-!
# The input projection's tile, element by element
-/

@[expose] public section

noncomputable section

namespace Cert.Kernel3Ideal.Proj

open Cert.Kernel3Ideal Cert.Kernel3Ideal.Gen Cert.Ffn Cert.Proj
open Idealize.ShloMosaic Idealize.ShloMosaic.TcCoe

/-- The whole of a matrix. -/
theorem ld_whole {R C : ℕ} {e : EltTy} (x : Vec Ideal ⟨2, ![R, C]⟩ e) (inb) : View.ld x (Rect.unit (s := ⟨2, ![R, C]⟩) ![0, 0] ![R, C] inb) = x := by
  funext i
  rw [eq_ix2 i]
  exact View.ld_unit_apply_of x ![0, 0] ![R, C] inb _ _ (fun ax => by match ax with | 0 => exact (Nat.zero_add _).symm | 1 => exact (Nat.zero_add _).symm)

/-- The logistic function as the kernel computes it. -/
theorem sigm_eq (v : Ideal .f32) : FloatOps.divf (Scalar.ofBits (F := Ideal) .f32 0x3F800000#32) (FloatOps.addf (Scalar.ofBits .f32 0x3F800000#32)
    (FloatOps.exp (FloatOps.subf (Scalar.ofBits .f32 0x00000000#32) v))) = sigm v := by
  pointwise
  rw [zero_sub]
  rfl

section Tile
variable (x0 : Vec Ideal S512x1024 .f32) (x1 x2 : Vec Ideal S512x128 .f32) (x3 : Vec Ideal S1x1024 .f32) (x4 : Vec Ideal S1024x640 .bf16)
  (x5 : Vec Ideal S1024x2176 .bf16) (x6 : Vec Ideal S1024x2048 .bf16) (x7 : Vec Ideal S1x256 .f32) (x8 : Vec Ideal S256x2048 .bf16)
  (x9 : Vec Ideal S1x128 .f32) (x10 : Vec Ideal S128x1536 .bf16) (x11 : Vec Ideal S1x128 .f32)

/-- The values, turned. -/
theorem out14_at (a : Fin 2) (d : Fin 512) (b : Fin 256) : out0_14 (F := Ideal) x0 x1 x2 x3 x4 x5 x6 x7 x8 x9 x10 x11 (ix3 a d b)
    = ∑ l : Fin 128, lat (fun l => dot x0 x3 ⟨a.val * 256 + b.val, by omega⟩ fun k => x4 (ix2 k ⟨256 + l.val, by omega⟩)) (fun l => x9 (ix2 0 l)) l * x10 (ix2 l ⟨1024 + d.val, by omega⟩) := by
  unfold_out out0_14
  rw [Value.canon14_eq]
  refine Eq.trans ?_ (kv_at x0 x3 x4 x9 x10 ⟨a.val * 256 + b.val, by omega⟩ ⟨1024 + d.val, by omega⟩)
  rw [show View.ld x0 r0_0 = x0 from ld_whole x0 _, show View.ld x3 r0_1 = x3 from ld_whole x3 _, show View.ld x4 r0_3 = x4 from ld_whole x4 _, show View.ld x9 r0_5 = x9 from ld_whole x9 _, show View.ld x10 r0_10 = x10 from ld_whole x10 _]
  refine congrArg (k0_pay13 (F := Ideal) (k0_pay7 (k0_pay5 x0 x3 x4) x9) x10) (funext fun ax => Fin.ext ?_)
  match ax with
  | 0 => rfl
  | 1 => exact Nat.add_comm _ _

/-- The mLSTM's queries. -/
theorem out15_at (r j : Fin 512) : out0_15 (F := Ideal) x0 x1 x2 x3 x4 x5 x6 x7 x8 x9 x10 x11 (ix2 r j)
    = dot x0 x3 r fun k => x5 (ix2 k ⟨0 + j.val, by omega⟩) := by
  unfold_out out0_15
  rw [Value.canon15_eq]
  rw [show View.ld x0 r0_0 = x0 from ld_whole x0 _, show View.ld x3 r0_1 = x3 from ld_whole x3 _, show View.ld x5 r0_29 = x5 from ld_whole x5 _]
  have h : k0_pay44 (F := Ideal) (k0_pay2 x0 x3) x5 (Value.ix15_0 (ix2 r j)) = dot x0 x3 r fun k => x5 (ix2 k ⟨0 + j.val, by omega⟩) := by
    refine Eq.trans (congrArg (k0_pay44 (F := Ideal) (k0_pay2 x0 x3) x5) (funext fun ax => Fin.ext ?_)) (b_at x0 x3 x5 r ⟨0 + j.val, by omega⟩)
    match ax with
    | 0 => rfl
    | 1 => exact (Nat.zero_add _).symm
  exact h

/-- The mLSTM's keys, turned. -/
theorem out16_at (a : Fin 4) (j : Fin 512) (b : Fin 128) : out0_16 (F := Ideal) x0 x1 x2 x3 x4 x5 x6 x7 x8 x9 x10 x11 (ix3 a j b)
    = (dot x0 x3 ⟨a.val * 128 + b.val, by omega⟩ fun k => x5 (ix2 k ⟨512 + j.val, by omega⟩)) * Ideal.ofBits FTy.f32 0x3DB504F3#32 := by
  unfold_out out0_16
  rw [Value.canon16_eq]
  rw [show View.ld x0 r0_0 = x0 from ld_whole x0 _, show View.ld x3 r0_1 = x3 from ld_whole x3 _, show View.ld x5 r0_29 = x5 from ld_whole x5 _]
  have h : k0_pay44 (F := Ideal) (k0_pay2 x0 x3) x5 (Value.ix16_0 (ix3 a j b)) = dot x0 x3 ⟨a.val * 128 + b.val, by omega⟩ fun k => x5 (ix2 k ⟨512 + j.val, by omega⟩) := by
    refine Eq.trans (congrArg (k0_pay44 (F := Ideal) (k0_pay2 x0 x3) x5) (funext fun ax => Fin.ext ?_)) (b_at x0 x3 x5 ⟨a.val * 128 + b.val, by omega⟩ ⟨512 + j.val, by omega⟩)
    match ax with
    | 0 => rfl
    | 1 => exact Nat.add_comm _ _
  exact congrArg (· * Ideal.ofBits FTy.f32 0x3DB504F3#32) h

/-- The mLSTM's values. -/
theorem out17_at (r j : Fin 512) : out0_17 (F := Ideal) x0 x1 x2 x3 x4 x5 x6 x7 x8 x9 x10 x11 (ix2 r j)
    = dot x0 x3 r fun k => x5 (ix2 k ⟨1024 + j.val, by omega⟩) := by
  unfold_out out0_17
  rw [Value.canon17_eq]
  rw [show View.ld x0 r0_0 = x0 from ld_whole x0 _, show View.ld x3 r0_1 = x3 from ld_whole x3 _, show View.ld x5 r0_29 = x5 from ld_whole x5 _]
  have h : k0_pay44 (F := Ideal) (k0_pay2 x0 x3) x5 (Value.ix17_0 (ix2 r j)) = dot x0 x3 r fun k => x5 (ix2 k ⟨1024 + j.val, by omega⟩) := by
    refine Eq.trans (congrArg (k0_pay44 (F := Ideal) (k0_pay2 x0 x3) x5) (funext fun ax => Fin.ext ?_)) (b_at x0 x3 x5 r ⟨1024 + j.val, by omega⟩)
    match ax with
    | 0 => rfl
    | 1 => exact Nat.add_comm _ _
  exact h

/-- The mLSTM's output gate. -/
theorem out18_at (r j : Fin 512) : out0_18 (F := Ideal) x0 x1 x2 x3 x4 x5 x6 x7 x8 x9 x10 x11 (ix2 r j)
    = sigm (dot x0 x3 r fun k => x5 (ix2 k ⟨1536 + j.val, by omega⟩)) := by
  unfold_out out0_18
  rw [Value.canon18_eq]
  rw [show View.ld x0 r0_0 = x0 from ld_whole x0 _, show View.ld x3 r0_1 = x3 from ld_whole x3 _, show View.ld x5 r0_29 = x5 from ld_whole x5 _]
  have h : k0_pay44 (F := Ideal) (k0_pay2 x0 x3) x5 (Value.ix18_0 (ix2 r j)) = dot x0 x3 r fun k => x5 (ix2 k ⟨1536 + j.val, by omega⟩) := by
    refine Eq.trans (congrArg (k0_pay44 (F := Ideal) (k0_pay2 x0 x3) x5) (funext fun ax => Fin.ext ?_)) (b_at x0 x3 x5 r ⟨1536 + j.val, by omega⟩)
    match ax with
    | 0 => rfl
    | 1 => exact Nat.add_comm _ _
  exact (sigm_eq _).trans (congrArg sigm h)

/-- The first branch's gate. -/
theorem out20_at (r : Fin 512) (j : Fin 1024) : out0_20 (F := Ideal) x0 x1 x2 x3 x4 x5 x6 x7 x8 x9 x10 x11 (ix2 r j)
    = sigm (dot x0 x3 r fun k => x6 (ix2 k ⟨0 + j.val, by omega⟩)) := by
  unfold_out out0_20
  rw [Value.canon20_eq]
  rw [show View.ld x0 r0_0 = x0 from ld_whole x0 _, show View.ld x3 r0_1 = x3 from ld_whole x3 _, show View.ld x6 r0_39 = x6 from ld_whole x6 _]
  have h : k0_pay60 (F := Ideal) (k0_pay2 x0 x3) x6 (Value.ix20_0 (ix2 r j)) = dot x0 x3 r fun k => x6 (ix2 k ⟨0 + j.val, by omega⟩) := by
    refine Eq.trans (congrArg (k0_pay60 (F := Ideal) (k0_pay2 x0 x3) x6) (funext fun ax => Fin.ext ?_)) (c_at x0 x3 x6 r ⟨0 + j.val, by omega⟩)
    match ax with
    | 0 => rfl
    | 1 => exact (Nat.zero_add _).symm
  exact (sigm_eq _).trans (congrArg sigm h)

/-- The second branch's gate. -/
theorem out21_at (r : Fin 512) (j : Fin 1024) : out0_21 (F := Ideal) x0 x1 x2 x3 x4 x5 x6 x7 x8 x9 x10 x11 (ix2 r j)
    = sigm (dot x0 x3 r fun k => x6 (ix2 k ⟨1024 + j.val, by omega⟩)) := by
  have hz : (![0, 0] : Fin S512x1024.rank → Nat) = fun _ => 0 := funext fun a => by fin_cases a <;> rfl
  unfold_out out0_21
  rw [View.canon_unit_zero hz]
  rw [show View.ld x0 r0_0 = x0 from ld_whole x0 _, show View.ld x3 r0_1 = x3 from ld_whole x3 _, show View.ld x6 r0_39 = x6 from ld_whole x6 _]
  refine Eq.trans ?_ (congrArg sigm (c_at x0 x3 x6 r ⟨1024 + j.val, by omega⟩))
  refine Eq.trans ?_ (sigm_eq _)
  pointwise [k0_pay1, k0_pay62]

/-- The gates, turned. -/
theorem out19_at (a : Fin 4) (j : Fin 16) (b : Fin 128) : out0_19 (F := Ideal) x0 x1 x2 x3 x4 x5 x6 x7 x8 x9 x10 x11 (ix3 a j b)
    = if j.val < 8 then (dot x0 x3 ⟨a.val * 128 + b.val, by omega⟩ fun k => x5 (ix2 k ⟨2048 + j.val, by omega⟩)) + x11 (ix2 0 ⟨j.val, by omega⟩)
      else logSigm ((dot x0 x3 ⟨a.val * 128 + b.val, by omega⟩ fun k => x5 (ix2 k ⟨2048 + j.val, by omega⟩)) + x11 (ix2 0 ⟨j.val, by omega⟩)) := by
  unfold_out out0_19
  rw [Value.canon19_eq]
  rw [show View.ld x0 r0_0 = x0 from ld_whole x0 _, show View.ld x3 r0_1 = x3 from ld_whole x3 _, show View.ld x5 r0_29 = x5 from ld_whole x5 _, show View.ld x11 r0_5 = x11 from ld_whole x11 _]
  refine Eq.trans (congrArg (k0_pay54 (F := Ideal) (k0_pay44 (k0_pay2 x0 x3) x5) x11) (funext fun ax => Fin.ext ?_)) (gates_at x0 x3 x5 x11 ⟨a.val * 128 + b.val, by omega⟩ j)
  match ax with
  | 0 => rfl
  | 1 => rfl

end Tile

end Cert.Kernel3Ideal.Proj

end
-- ==== Proof.Proj.Value.lean ====
module

public import proofs.«01_k».proof.Proof.Proj.Tile

/-!
# The input projection's results, element by element
-/

@[expose] public section

noncomputable section

namespace Cert.Kernel3Ideal.Proj

open Cert.Kernel3Ideal Cert.Kernel3Ideal.Gen Cert.Ffn Cert.Proj
open Idealize.ShloMosaic Idealize.ShloMosaic.TcCoe

theorem index15 : ∀ t : Fin grid0.N, win0_15.index t 0 = t.val ∧ win0_15.index t 1 = 0 := by decide +kernel
theorem index17 : ∀ t : Fin grid0.N, win0_17.index t 0 = t.val ∧ win0_17.index t 1 = 0 := by decide +kernel
theorem index18 : ∀ t : Fin grid0.N, win0_18.index t 0 = t.val ∧ win0_18.index t 1 = 0 := by decide +kernel
theorem index20 : ∀ t : Fin grid0.N, win0_20.index t 0 = t.val ∧ win0_20.index t 1 = 0 := by decide +kernel
theorem index21 : ∀ t : Fin grid0.N, win0_21.index t 0 = t.val ∧ win0_21.index t 1 = 0 := by decide +kernel
theorem index14 : ∀ t : Fin grid0.N, win0_14.index t 0 = t.val ∧ win0_14.index t 1 = 0 ∧ win0_14.index t 2 = 0 := by decide +kernel
theorem index16 : ∀ t : Fin grid0.N, win0_16.index t 0 = t.val ∧ win0_16.index t 1 = 0 ∧ win0_16.index t 2 = 0 := by decide +kernel
theorem index19 : ∀ t : Fin grid0.N, win0_19.index t 0 = t.val ∧ win0_19.index t 1 = 0 ∧ win0_19.index t 2 = 0 := by decide +kernel

variable (m : (ℓ : Loc nD τ sig) → Buf (Elt Ideal) ℓ) (c : Dev nD)

/-- A row of the residual stream, as launched. -/
abbrev xrow (i : Fin 65536) : Fin 1024 → EReal := row (fun a b k => m ((c : Thread nD τ).loc main_arg0) (ix3 a b k)) i
/-- The norm's scale. -/
abbrev scale (k : Fin 1024) : EReal := m ((c : Thread nD τ).loc main_arg1) (ix2 0 k)
/-- The input weights. -/
abbrev win (k : Fin 1024) (j : Fin 4528) : EReal := m ((c : Thread nD τ).loc main_arg2) (ix3 0 k j)
/-- The latent's scale. -/
abbrev lscale (l : Fin 128) : EReal := m ((c : Thread nD τ).loc main_arg5) (ix2 0 l)
/-- The latent's weights. -/
abbrev lwin (l : Fin 128) (j : Fin 1024) : EReal := m ((c : Thread nD τ).loc main_arg6) (ix3 0 l j)
/-- The input gates' bias. -/
abbrev ibias (a : Fin 2) (b : Fin 4) : EReal := m ((c : Thread nD τ).loc main_arg7) (ix3 0 a b)
/-- The forget gates' bias. -/
abbrev fbias (a : Fin 2) (b : Fin 4) : EReal := m ((c : Thread nD τ).loc main_arg8) (ix3 0 a b)

/-- A column of the tile's projection is a column of the row's. -/
theorem dot_eq (t : Fin cfg0.N) (r : Fin 512) (i : Fin 65536) (hi : i.val = t.val * 512 + r.val) (w : Fin 1024 → EReal) (q : Fin 4528)
    (hw : ∀ k, w k = win m c k q) : dot (iblk m c 0 t) (iblk m c 3 t) r w = z (xrow m c i) (scale m c) (win m c) q := by
  unfold dot z
  refine Finset.sum_congr (M := EReal) rfl fun k _ => ?_
  rw [hw k]
  refine congrArg (fun u => rms u _ k * _) (funext fun k => iblk0_at m c t r k i hi) |>.trans ?_
  exact congrArg (fun u => rms _ u k * _) (funext fun k => iblk3_at m c t k)

/-- The mLSTM's queries. -/
theorem arr15_at (i : Fin 65536) (j : Fin 512) : (dats m 0 c).arrAt 15 cfg0.N (ix2 i j)
    = z (xrow m c i) (scale m c) (win m c) ⟨416 + j.val, by omega⟩ := by
  obtain ⟨t, ht⟩ : ∃ t : Fin cfg0.N, t.val = i.val / 512 := ⟨⟨i.val / 512, by have := i.isLt; show _ < 128; omega⟩, rfl⟩
  obtain ⟨r, hr⟩ : ∃ r : Fin 512, r.val = i.val % 512 := ⟨⟨i.val % 512, by omega⟩, rfl⟩
  have hi : i.val = t.val * 512 + r.val := by omega
  have h1 := congrFun (Value.blocks15 m c t (flush0_15 t)) (ix2 r j)
  have h2 : ((cfg0.win 15).blk t).view.read (Elt Ideal) ((dats m 0 c).arrAt 15 cfg0.N) (ix2 r j) = (dats m 0 c).arrAt 15 cfg0.N (ix2 i j) := by
    refine congrArg ((dats m 0 c).arrAt 15 cfg0.N) (funext fun a => Fin.ext ?_)
    match a with
    | 0 => exact (Rect.emb_apply _ _ _).trans (by simp [index15 t, hi])
    | 1 => exact (Rect.emb_apply _ _ _).trans (by simp [index15 t])
  refine h2.symm.trans (h1.trans ((congrFun (Value.flushed15 m c t) (ix2 r j)).trans ?_))
  refine (out15_at _ _ _ _ _ _ _ _ _ _ _ _ r j).trans ?_
  exact dot_eq m c t r i (hi) _ _ fun k => (iblk5_at m c t k ⟨0 + j.val, by omega⟩).trans (congrArg (win m c k) (Fin.ext (by dsimp only; omega)))

/-- The mLSTM's values. -/
theorem arr17_at (i : Fin 65536) (j : Fin 512) : (dats m 0 c).arrAt 17 cfg0.N (ix2 i j)
    = z (xrow m c i) (scale m c) (win m c) ⟨1440 + j.val, by omega⟩ := by
  obtain ⟨t, ht⟩ : ∃ t : Fin cfg0.N, t.val = i.val / 512 := ⟨⟨i.val / 512, by have := i.isLt; show _ < 128; omega⟩, rfl⟩
  obtain ⟨r, hr⟩ : ∃ r : Fin 512, r.val = i.val % 512 := ⟨⟨i.val % 512, by omega⟩, rfl⟩
  have hi : i.val = t.val * 512 + r.val := by omega
  have h1 := congrFun (Value.blocks17 m c t (flush0_17 t)) (ix2 r j)
  have h2 : ((cfg0.win 17).blk t).view.read (Elt Ideal) ((dats m 0 c).arrAt 17 cfg0.N) (ix2 r j) = (dats m 0 c).arrAt 17 cfg0.N (ix2 i j) := by
    refine congrArg ((dats m 0 c).arrAt 17 cfg0.N) (funext fun a => Fin.ext ?_)
    match a with
    | 0 => exact (Rect.emb_apply _ _ _).trans (by simp [index17 t, hi])
    | 1 => exact (Rect.emb_apply _ _ _).trans (by simp [index17 t])
  refine h2.symm.trans (h1.trans ((congrFun (Value.flushed17 m c t) (ix2 r j)).trans ?_))
  refine (out17_at _ _ _ _ _ _ _ _ _ _ _ _ r j).trans ?_
  exact dot_eq m c t r i (hi) _ _ fun k => (iblk5_at m c t k ⟨1024 + j.val, by omega⟩).trans (congrArg (win m c k) (Fin.ext (by dsimp only; omega)))

/-- The mLSTM's output gate. -/
theorem arr18_at (i : Fin 65536) (j : Fin 512) : (dats m 0 c).arrAt 18 cfg0.N (ix2 i j)
    = sigm (z (xrow m c i) (scale m c) (win m c) ⟨1952 + j.val, by omega⟩) := by
  obtain ⟨t, ht⟩ : ∃ t : Fin cfg0.N, t.val = i.val / 512 := ⟨⟨i.val / 512, by have := i.isLt; show _ < 128; omega⟩, rfl⟩
  obtain ⟨r, hr⟩ : ∃ r : Fin 512, r.val = i.val % 512 := ⟨⟨i.val % 512, by omega⟩, rfl⟩
  have hi : i.val = t.val * 512 + r.val := by omega
  have h1 := congrFun (Value.blocks18 m c t (flush0_18 t)) (ix2 r j)
  have h2 : ((cfg0.win 18).blk t).view.read (Elt Ideal) ((dats m 0 c).arrAt 18 cfg0.N) (ix2 r j) = (dats m 0 c).arrAt 18 cfg0.N (ix2 i j) := by
    refine congrArg ((dats m 0 c).arrAt 18 cfg0.N) (funext fun a => Fin.ext ?_)
    match a with
    | 0 => exact (Rect.emb_apply _ _ _).trans (by simp [index18 t, hi])
    | 1 => exact (Rect.emb_apply _ _ _).trans (by simp [index18 t])
  refine h2.symm.trans (h1.trans ((congrFun (Value.flushed18 m c t) (ix2 r j)).trans ?_))
  refine (out18_at _ _ _ _ _ _ _ _ _ _ _ _ r j).trans ?_
  exact congrArg sigm (dot_eq m c t r i (hi) _ _ fun k => (iblk5_at m c t k ⟨1536 + j.val, by omega⟩).trans (congrArg (win m c k) (Fin.ext (by dsimp only; omega))))

/-- The first branch's gate. -/
theorem arr20_at (i : Fin 65536) (j : Fin 1024) : (dats m 0 c).arrAt 20 cfg0.N (ix2 i j)
    = sigm (z (xrow m c i) (scale m c) (win m c) ⟨2480 + j.val, by omega⟩) := by
  obtain ⟨t, ht⟩ : ∃ t : Fin cfg0.N, t.val = i.val / 512 := ⟨⟨i.val / 512, by have := i.isLt; show _ < 128; omega⟩, rfl⟩
  obtain ⟨r, hr⟩ : ∃ r : Fin 512, r.val = i.val % 512 := ⟨⟨i.val % 512, by omega⟩, rfl⟩
  have hi : i.val = t.val * 512 + r.val := by omega
  have h1 := congrFun (Value.blocks20 m c t (flush0_20 t)) (ix2 r j)
  have h2 : ((cfg0.win 20).blk t).view.read (Elt Ideal) ((dats m 0 c).arrAt 20 cfg0.N) (ix2 r j) = (dats m 0 c).arrAt 20 cfg0.N (ix2 i j) := by
    refine congrArg ((dats m 0 c).arrAt 20 cfg0.N) (funext fun a => Fin.ext ?_)
    match a with
    | 0 => exact (Rect.emb_apply _ _ _).trans (by simp [index20 t, hi])
    | 1 => exact (Rect.emb_apply _ _ _).trans (by simp [index20 t])
  refine h2.symm.trans (h1.trans ((congrFun (Value.flushed20 m c t) (ix2 r j)).trans ?_))
  refine (out20_at _ _ _ _ _ _ _ _ _ _ _ _ r j).trans ?_
  exact congrArg sigm (dot_eq m c t r i (hi) _ _ fun k => (iblk6_at m c t k ⟨0 + j.val, by omega⟩).trans (congrArg (win m c k) (Fin.ext (by dsimp only; omega))))

/-- The second branch's gate. -/
theorem arr21_at (i : Fin 65536) (j : Fin 1024) : (dats m 0 c).arrAt 21 cfg0.N (ix2 i j)
    = sigm (z (xrow m c i) (scale m c) (win m c) ⟨3504 + j.val, by omega⟩) := by
  obtain ⟨t, ht⟩ : ∃ t : Fin cfg0.N, t.val = i.val / 512 := ⟨⟨i.val / 512, by have := i.isLt; show _ < 128; omega⟩, rfl⟩
  obtain ⟨r, hr⟩ : ∃ r : Fin 512, r.val = i.val % 512 := ⟨⟨i.val % 512, by omega⟩, rfl⟩
  have hi : i.val = t.val * 512 + r.val := by omega
  have h1 := congrFun (Value.blocks21 m c t (flush0_21 t)) (ix2 r j)
  have h2 : ((cfg0.win 21).blk t).view.read (Elt Ideal) ((dats m 0 c).arrAt 21 cfg0.N) (ix2 r j) = (dats m 0 c).arrAt 21 cfg0.N (ix2 i j) := by
    refine congrArg ((dats m 0 c).arrAt 21 cfg0.N) (funext fun a => Fin.ext ?_)
    match a with
    | 0 => exact (Rect.emb_apply _ _ _).trans (by simp [index21 t, hi])
    | 1 => exact (Rect.emb_apply _ _ _).trans (by simp [index21 t])
  refine h2.symm.trans (h1.trans ((congrFun (Value.flushed21 m c t) (ix2 r j)).trans ?_))
  refine (out21_at _ _ _ _ _ _ _ _ _ _ _ _ r j).trans ?_
  exact congrArg sigm (dot_eq m c t r i (hi) _ _ fun k => (iblk6_at m c t k ⟨1024 + j.val, by omega⟩).trans (congrArg (win m c k) (Fin.ext (by dsimp only; omega))))

/-- The mLSTM's keys, turned. -/
theorem arr16_at (a : Fin 512) (j : Fin 512) (b : Fin 128) : (dats m 0 c).arrAt 16 cfg0.N (ix3 a j b)
    = key (xrow m c ⟨a.val * 128 + b.val, by omega⟩) (scale m c) (win m c) j := by
  obtain ⟨t, ht⟩ : ∃ t : Fin cfg0.N, t.val = a.val / 4 := ⟨⟨a.val / 4, by have := a.isLt; show _ < 128; omega⟩, rfl⟩
  obtain ⟨p, hp⟩ : ∃ p : Fin 4, p.val = a.val % 4 := ⟨⟨a.val % 4, by omega⟩, rfl⟩
  have ha : a.val = t.val * 4 + p.val := by omega
  have h1 := congrFun (Value.blocks16 m c t (flush0_16 t)) (ix3 p j b)
  have h2 : ((cfg0.win 16).blk t).view.read (Elt Ideal) ((dats m 0 c).arrAt 16 cfg0.N) (ix3 p j b) = (dats m 0 c).arrAt 16 cfg0.N (ix3 a j b) := by
    refine congrArg ((dats m 0 c).arrAt 16 cfg0.N) (funext fun a => Fin.ext ?_)
    match a with
    | 0 => exact (Rect.emb_apply _ _ _).trans (by simp [index16 t, ha])
    | 1 => exact (Rect.emb_apply _ _ _).trans (by simp [index16 t])
    | 2 => exact (Rect.emb_apply _ _ _).trans (by simp [index16 t])
  refine h2.symm.trans (h1.trans ((congrFun (Value.flushed16 m c t) (ix3 p j b)).trans ?_))
  refine (out16_at _ _ _ _ _ _ _ _ _ _ _ _ p j b).trans ?_
  exact congrArg (· * Ideal.ofBits FTy.f32 0x3DB504F3#32) (dot_eq m c t ⟨p.val * 128 + b.val, by omega⟩ ⟨a.val * 128 + b.val, by omega⟩ (by dsimp only; omega) _ _ fun k => (iblk5_at m c t k ⟨512 + j.val, by omega⟩).trans (congrArg (win m c k) (Fin.ext (by dsimp only; omega))))

/-- The attention's values, turned. -/
theorem arr14_at (a : Fin 256) (d : Fin 512) (b : Fin 256) : (dats m 0 c).arrAt 14 cfg0.N (ix3 a d b)
    = value (xrow m c ⟨a.val * 256 + b.val, by omega⟩) (scale m c) (win m c) (lscale m c) (lwin m c) d := by
  obtain ⟨t, ht⟩ : ∃ t : Fin cfg0.N, t.val = a.val / 2 := ⟨⟨a.val / 2, by have := a.isLt; show _ < 128; omega⟩, rfl⟩
  obtain ⟨p, hp⟩ : ∃ p : Fin 2, p.val = a.val % 2 := ⟨⟨a.val % 2, by omega⟩, rfl⟩
  have ha : a.val = t.val * 2 + p.val := by omega
  have h1 := congrFun (Value.blocks14 m c t (flush0_14 t)) (ix3 p d b)
  have h2 : ((cfg0.win 14).blk t).view.read (Elt Ideal) ((dats m 0 c).arrAt 14 cfg0.N) (ix3 p d b) = (dats m 0 c).arrAt 14 cfg0.N (ix3 a d b) := by
    refine congrArg ((dats m 0 c).arrAt 14 cfg0.N) (funext fun a => Fin.ext ?_)
    match a with
    | 0 => exact (Rect.emb_apply _ _ _).trans (by simp [index14 t, ha])
    | 1 => exact (Rect.emb_apply _ _ _).trans (by simp [index14 t])
    | 2 => exact (Rect.emb_apply _ _ _).trans (by simp [index14 t])
  refine h2.symm.trans (h1.trans ((congrFun (Value.flushed14 m c t) (ix3 p d b)).trans ?_))
  refine (out14_at _ _ _ _ _ _ _ _ _ _ _ _ p d b).trans ?_
  unfold value
  have e (l : Fin 128) : (dot (iblk m c 0 t) (iblk m c 3 t) ⟨p.val * 256 + b.val, by omega⟩ fun k => iblk m c 4 t (ix2 k ⟨256 + l.val, by omega⟩))
      = z (xrow m c ⟨a.val * 256 + b.val, by omega⟩) (scale m c) (win m c) ⟨256 + l.val, by omega⟩ := dot_eq m c t ⟨p.val * 256 + b.val, by omega⟩ ⟨a.val * 256 + b.val, by omega⟩ (by dsimp only; omega) _ _ fun k => iblk4_at m c t k l
  refine Finset.sum_congr (M := EReal) rfl fun l _ => congrArg₂ (· * ·) ?_ (iblk10_at m c t l d)
  exact congrArg₂ (fun u v => lat u v l) (funext e) (funext fun l => iblk9_at m c t l)

/-- The gates, turned. -/
theorem arr19_at (a : Fin 512) (j : Fin 16) (b : Fin 128) : (dats m 0 c).arrAt 19 cfg0.N (ix3 a j b)
    = gate (xrow m c ⟨a.val * 128 + b.val, by omega⟩) (scale m c) (win m c) (ibias m c) (fbias m c) j := by
  obtain ⟨t, ht⟩ : ∃ t : Fin cfg0.N, t.val = a.val / 4 := ⟨⟨a.val / 4, by have := a.isLt; show _ < 128; omega⟩, rfl⟩
  obtain ⟨p, hp⟩ : ∃ p : Fin 4, p.val = a.val % 4 := ⟨⟨a.val % 4, by omega⟩, rfl⟩
  have ha : a.val = t.val * 4 + p.val := by omega
  have h1 := congrFun (Value.blocks19 m c t (flush0_19 t)) (ix3 p j b)
  have h2 : ((cfg0.win 19).blk t).view.read (Elt Ideal) ((dats m 0 c).arrAt 19 cfg0.N) (ix3 p j b) = (dats m 0 c).arrAt 19 cfg0.N (ix3 a j b) := by
    refine congrArg ((dats m 0 c).arrAt 19 cfg0.N) (funext fun a => Fin.ext ?_)
    match a with
    | 0 => exact (Rect.emb_apply _ _ _).trans (by simp [index19 t, ha])
    | 1 => exact (Rect.emb_apply _ _ _).trans (by simp [index19 t])
    | 2 => exact (Rect.emb_apply _ _ _).trans (by simp [index19 t])
  refine h2.symm.trans (h1.trans ((congrFun (Value.flushed19 m c t) (ix3 p j b)).trans ?_))
  refine (out19_at _ _ _ _ _ _ _ _ _ _ _ _ p j b).trans ?_
  unfold gate
  have e : (dot (iblk m c 0 t) (iblk m c 3 t) ⟨p.val * 128 + b.val, by omega⟩ fun k => iblk m c 5 t (ix2 k ⟨2048 + j.val, by omega⟩))
      = z (xrow m c ⟨a.val * 128 + b.val, by omega⟩) (scale m c) (win m c) ⟨2464 + j.val, by omega⟩ := dot_eq m c t ⟨p.val * 128 + b.val, by omega⟩ ⟨a.val * 128 + b.val, by omega⟩ (by dsimp only; omega) _ _ fun k =>
    (iblk5_at m c t k ⟨2048 + j.val, by omega⟩).trans (congrArg (win m c k) (Fin.ext (by dsimp only; omega)))
  have f := iblk11_at m c t j
  by_cases h : j.val < 8
  · rw [dif_pos h] at f
    rw [if_pos h, dif_pos h]
    exact congrArg₂ (· + ·) e f
  · rw [dif_neg h] at f
    rw [if_neg h, dif_neg h]
    exact congrArg logSigm (congrArg₂ (· + ·) e f)

end Cert.Kernel3Ideal.Proj

end
-- ==== Proof.Proj.Same.lean ====
module

public import proofs.«01_k».proof.Proof.Gen.Kernel3Ideal.Value
public import proofs.«01_k».proof.Proof.Gen.Kernel5Ideal.Value
public import proofs.«01_k».proof.Proof.Proj.Spec

/-!
# One launch under two names

The queries and keys are two more results of the launch that the other eight are read from: the same text, returning other arrays.
-/

@[expose] public section

noncomputable section

namespace Cert.Kernel5Ideal.Proj

open Idealize.ShloMosaic Idealize.ShloMosaic.TcCoe Cert.Kernel5Ideal

set_option maxHeartbeats 40000000 in
theorem arr12_same (m : (ℓ : Loc nD τ sig) → Buf (Elt Ideal) ℓ) (c : Dev nD) :
    (Cert.Kernel5Ideal.Gen.dats m 0 c).arrAt 12 Cert.Kernel5Ideal.cfg0.N = (Cert.Kernel3Ideal.Gen.dats m 0 c).arrAt 12 Cert.Kernel3Ideal.cfg0.N := rfl

set_option maxHeartbeats 40000000 in
theorem arr13_same (m : (ℓ : Loc nD τ sig) → Buf (Elt Ideal) ℓ) (c : Dev nD) :
    (Cert.Kernel5Ideal.Gen.dats m 0 c).arrAt 13 Cert.Kernel5Ideal.cfg0.N = (Cert.Kernel3Ideal.Gen.dats m 0 c).arrAt 13 Cert.Kernel3Ideal.cfg0.N := rfl

end Cert.Kernel5Ideal.Proj

end
-- ==== Proof.Proj.Rotary.lean ====
module

public import proofs.«01_k».proof.Proof.Proj.Spec
public import Idealize.ShloMosaic.Lib.Pipeline.Value

/-!
# One element of the attention's queries and keys, on the extended reals

A head has 64 columns without a position and 32 that are turned by the row's position. The kernel turns them with a
second projection whose columns are swapped in halves, one half negated; that is the same turn when every number is real.
-/

@[expose] public section

noncomputable section

namespace Cert.Proj

open Idealize.ShloMosaic Cert.Ffn

/-! ## Real numbers among the extended reals -/

/-- Neither infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals is the real sum. -/
theorem sum_coe {n : ℕ} (r : Fin n → ℝ) : ∑ l : Fin n, (r l : EReal) = ((∑ l : Fin n, r l : ℝ) : EReal) := by
  induction n with
  | zero => simp
  | succ n ih => rw [Fin.sum_univ_succ, Fin.sum_univ_succ, ih, EReal.coe_add]

theorem IsReal.sum {n : ℕ} {f : Fin n → EReal} (h : ∀ l, IsReal (f l)) : IsReal (∑ l : Fin n, f l) := by
  choose r hr using h
  exact ⟨∑ l, r l, (Finset.sum_congr rfl fun l _ => hr l).trans (sum_coe r)⟩

/-- The sum of the negations is the negation of the sum. -/
theorem sum_neg {n : ℕ} {f : Fin n → EReal} (h : ∀ l, IsReal (f l)) : ∑ l : Fin n, -f l = -∑ l : Fin n, f l := by
  choose r hr using h
  simp only [hr]
  rw [sum_coe, ← EReal.coe_neg, ← Finset.sum_neg_distrib, ← sum_coe]
  simp only [EReal.coe_neg]

/-- A positive real. -/
def IsPos (x : EReal) : Prop := ∃ r : ℝ, 0 < r ∧ x = (r : EReal)

/-- A row's factor, one over the root of its mean square moved by a millionth, is real. -/
theorem factor_real {n : ℕ} {a : Fin n → EReal} {w e : EReal} (ha : ∀ l, IsReal (a l)) (hw : IsPos w) (he : IsPos e) :
    IsReal (Ideal.rsqrt (Ideal.div (∑ l : Fin n, a l * a l) w + e)) := by
  choose r hr using ha
  obtain ⟨w, hw, rfl⟩ := hw
  obtain ⟨e, he, rfl⟩ := he
  simp only [hr, ← EReal.coe_mul]
  rw [sum_coe, Ideal.div_coe hw.ne', ← EReal.coe_mul, ← EReal.coe_add, Ideal.rsqrt_coe]
  have hs : 0 ≤ ∑ l : Fin n, r l * r l := Finset.sum_nonneg fun l _ => mul_self_nonneg _
  have hp : 0 < (∑ l : Fin n, r l * r l) * (1 / w) + e := by positivity
  rw [if_neg (not_lt.mpr hp.le), if_neg hp.ne']
  exact ⟨_, rfl⟩

/-- A word with a clear sign and an exponent strictly inside its range is a positive real. -/
theorem word_pos (b : BitVec 32) (hs : (b.extractLsb' 31 1 == 1#1) = false) (he : (b.extractLsb' 23 8).toNat ≠ 2 ^ 8 - 1) (h0 : (b.extractLsb' 23 8).toNat ≠ 0) :
    IsPos (Ideal.ofBits FTy.f32 b) := by
  refine ⟨(1 : ℝ) * ((2 ^ 23 + (b.extractLsb' 0 23).toNat : ℕ) : ℝ) * (2 : ℝ) ^ (((b.extractLsb' 23 8).toNat : ℤ) - (2 ^ (8 - 1) - 1) - (23 : ℕ)), by positivity, ?_⟩
  show Ideal.ieee 8 23 b = _
  unfold Ideal.ieee
  dsimp only
  rw [if_neg he, if_neg h0, hs]
  rfl

theorem pos_1024 : IsPos (Ideal.ofBits FTy.f32 1149239296#32) := word_pos _ (by decide) (by decide) (by decide)
theorem pos_256 : IsPos (Ideal.ofBits FTy.f32 1132462080#32) := word_pos _ (by decide) (by decide) (by decide)
theorem pos_millionth : IsPos (Ideal.ofBits FTy.f32 897988541#32) := word_pos _ (by decide) (by decide) (by decide)

/-- A number below the top in size is real. -/
theorem real_of_lt {x : EReal} (h : FloatOps.cmpf (F := Ideal) (φ := .f32) .olt (FloatOps.hostAbsf (F := Ideal) (φ := .f32) x) (FloatOps.ofBits .f32 0x7F800000#32) = 1#1) : IsReal x := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have h2 : max x (-x) < ⊤ := by
    by_contra hn
    rw [decide_eq_false hn] at h'
    exact absurd h' (by decide)
  induction x with
  | bot => exact absurd h2 (by simp)
  | top => exact absurd h2 (by simp)
  | coe r => exact ⟨r, rfl⟩

/-! ## A head's columns -/

/-- Thirty-two columns as sixteen pairs, half the columns apart, each turned by its angle's cosine and sine. -/
def turn (c s : Fin 16 → EReal) (t : Fin 32 → EReal) (j : Fin 32) : EReal :=
  if h : j.val < 16 then t j * c ⟨j.val, h⟩ - t ⟨j.val + 16, by omega⟩ * s ⟨j.val, h⟩
  else t ⟨j.val - 16, by omega⟩ * s ⟨j.val - 16, by omega⟩ + t j * c ⟨j.val - 16, by omega⟩

/-- A head: 64 columns as they are, 32 turned, and zeros up to 128. -/
def head (c s : Fin 16 → EReal) (p : Fin 64 → EReal) (t : Fin 32 → EReal) (d : Fin 128) : EReal :=
  if h : d.val < 64 then p ⟨d.val, h⟩ else if h' : d.val < 96 then turn c s t ⟨d.val - 64, by omega⟩ else 0

/-- The 96 columns of a head with zeros after them. -/
def plain (w : Fin 96 → EReal) (d : Fin 128) : EReal := if h : d.val < 96 then w ⟨d.val, h⟩ else 0

/-- The turned columns with their halves swapped, the first of them negated; zeros elsewhere. -/
def swapped (w : Fin 96 → EReal) (d : Fin 128) : EReal :=
  if d.val < 64 then 0 else if h : d.val < 80 then -w ⟨d.val + 16, by omega⟩ else if h' : d.val < 96 then w ⟨d.val - 16, by omega⟩ else 0

/-- What multiplies the columns: one, then the cosines twice, then zeros. -/
def cosT (c : Fin 16 → EReal) (d : Fin 128) : EReal :=
  if d.val < 64 then 1 else if h : d.val < 80 then c ⟨d.val - 64, by omega⟩ else if h' : d.val < 96 then c ⟨d.val - 80, by omega⟩ else 0

/-- What multiplies the swapped columns: zeros, then the sines twice, then zeros. -/
def sinT (s : Fin 16 → EReal) (d : Fin 128) : EReal :=
  if d.val < 64 then 0 else if h : d.val < 80 then s ⟨d.val - 64, by omega⟩ else if h' : d.val < 96 then s ⟨d.val - 80, by omega⟩ else 0

/-- The two projections and the two tables turn a head, when its products are real. -/
theorem head_eq {n : ℕ} (c s : Fin 16 → EReal) (u : Fin n → EReal) (W : Fin n → Fin 96 → EReal) (h : ∀ l q, IsReal (u l * W l q)) (d : Fin 128) :
    (∑ l : Fin n, u l * plain (W l) d) * cosT c d + (∑ l : Fin n, u l * swapped (W l) d) * sinT s d
      = head c s (fun q => ∑ l : Fin n, u l * W l ⟨q.val, by omega⟩) (fun q => ∑ l : Fin n, u l * W l ⟨64 + q.val, by omega⟩) d := by
  unfold plain swapped cosT sinT head turn
  by_cases h64 : d.val < 64
  · simp only [dif_pos h64, if_pos h64, dif_pos (show d.val < 96 by omega), mul_zero, add_zero, mul_one]
  by_cases h80 : d.val < 80
  · simp only [dif_neg h64, if_neg h64, dif_pos h80, dif_pos (show d.val < 96 by omega), dif_pos (show d.val - 64 < 16 by omega), mul_neg]
    rw [sum_neg fun l => h l _, neg_mul, ← sub_eq_add_neg]
    congr 3
    · funext l
      congr 2
      exact Fin.ext (by dsimp only; omega)
    · funext l
      congr 2
      exact Fin.ext (by dsimp only; omega)
  by_cases h96 : d.val < 96
  · simp only [dif_neg h64, if_neg h64, dif_neg h80, dif_pos h96, dif_neg (show ¬ d.val - 64 < 16 by omega)]
    rw [add_comm]
    refine congrArg₂ (· + ·) (congrArg₂ (· * ·) ?_ ?_) (congrArg₂ (· * ·) ?_ ?_)
    · exact Finset.sum_congr rfl fun l _ => congrArg (fun q => u l * W l q) (Fin.ext (by dsimp only; omega))
    · exact congrArg s (Fin.ext (by dsimp only; omega))
    · exact Finset.sum_congr rfl fun l _ => congrArg (fun q => u l * W l q) (Fin.ext (by dsimp only; omega))
    · exact congrArg c (Fin.ext (by dsimp only; omega))
  · simp only [dif_neg h64, if_neg h64, dif_neg h80, dif_neg h96, mul_zero, add_zero]

/-! ## The specification -/

/-- A latent of 256 divided by the root of its mean square (moved by a millionth) and scaled by `g`. -/
def latq (a g : Fin 256 → EReal) (k : Fin 256) : EReal :=
  a k * Ideal.rsqrt (Ideal.div (∑ l : Fin 256, a l * a l) (Ideal.ofBits FTy.f32 1132462080#32) + Ideal.ofBits FTy.f32 897988541#32) * g k

/-- The angle of pair `j` in row `s` of a sequence, whose first row is in position sixteen. -/
def angle (s : Fin 2048) (j : Fin 16) : EReal := FloatOps.sitofp (F := Ideal) FTy.f32 (16#32 + BitVec.ofNat 32 s.val)
  * Ideal.pow (Ideal.ofBits FTy.f32 1176256512#32) (Ideal.div (-(Ideal.ofBits FTy.f32 1073741824#32 * FloatOps.sitofp (F := Ideal) FTy.f32 (BitVec.ofNat 32 j.val))) (Ideal.ofBits FTy.f32 1107296256#32))

/-- The cosines of a row. -/
def cosines (s : Fin 2048) (j : Fin 16) : EReal := Ideal.cos (angle s j)
/-- The sines of a row. -/
def sines (s : Fin 2048) (j : Fin 16) : EReal := Ideal.sin (angle s j)

/-- An element of the queries: of 96 columns for each head, the last 32 turned; all scaled. -/
def query (s : Fin 2048) (x g : Fin 1024 → EReal) (w : Fin 1024 → Fin 4528 → EReal) (gq : Fin 256 → EReal) (wq : Fin 256 → Fin 768 → EReal) (h : Fin 8) (d : Fin 128) : EReal :=
  head (cosines s) (sines s) (fun q => ∑ l : Fin 256, latq (fun l => z x g w ⟨l.val, by omega⟩) gq l * wq l ⟨h.val * 96 + q.val, by omega⟩)
    (fun q => ∑ l : Fin 256, latq (fun l => z x g w ⟨l.val, by omega⟩) gq l * wq l ⟨h.val * 96 + (64 + q.val), by omega⟩) d * Ideal.ofBits FTy.f32 0x3E16C740#32

/-- An element of the keys: of 128 columns for each head the first 64, and 32 turned columns of the row's own projection, the same for every head. -/
def keyh (s : Fin 2048) (x g : Fin 1024 → EReal) (w : Fin 1024 → Fin 4528 → EReal) (gk : Fin 128 → EReal) (wk : Fin 128 → Fin 1024 → EReal) (h : Fin 8) (d : Fin 128) : EReal :=
  head (cosines s) (sines s) (fun q => ∑ l : Fin 128, lat (fun l => z x g w ⟨256 + l.val, by omega⟩) gk l * wk l ⟨h.val * 128 + q.val, by omega⟩)
    (fun q => z x g w ⟨384 + q.val, by omega⟩) d

/-- Equal arguments give an equal element of the queries. -/
theorem query_congr (s : Fin 2048) {x x' g g' : Fin 1024 → EReal} {w w' : Fin 1024 → Fin 4528 → EReal} {gq gq' : Fin 256 → EReal} {wq wq' : Fin 256 → Fin 768 → EReal}
    (e0 : x = x') (e1 : g = g') (e2 : w = w') (e3 : gq = gq') (e4 : wq = wq') (h : Fin 8) (d : Fin 128) : query s x g w gq wq h d = query s x' g' w' gq' wq' h d := by
  rw [e0, e1, e2, e3, e4]

/-- Equal arguments give an equal element of the keys. -/
theorem keyh_congr (s : Fin 2048) {x x' g g' : Fin 1024 → EReal} {w w' : Fin 1024 → Fin 4528 → EReal} {gk gk' : Fin 128 → EReal} {wk wk' : Fin 128 → Fin 1024 → EReal}
    (e0 : x = x') (e1 : g = g') (e2 : w = w') (e3 : gk = gk') (e4 : wk = wk') (h : Fin 8) (d : Fin 128) : keyh s x g w gk wk h d = keyh s x' g' w' gk' wk' h d := by
  rw [e0, e1, e2, e3, e4]

/-- A row's normalized elements are real. -/
theorem rms_real {x g : Fin 1024 → EReal} (hx : ∀ k, IsReal (x k)) (hg : ∀ k, IsReal (g k)) (k : Fin 1024) : IsReal (rms x g k) :=
  ((hx k).mul (factor_real hx pos_1024 pos_millionth)).mul (hg k)

/-- Its projection is real. -/
theorem z_real {x g : Fin 1024 → EReal} {w : Fin 1024 → Fin 4528 → EReal} (hx : ∀ k, IsReal (x k)) (hg : ∀ k, IsReal (g k)) (hw : ∀ k j, IsReal (w k j)) (j : Fin 4528) :
    IsReal (z x g w j) := IsReal.sum fun k => (rms_real hx hg k).mul (hw k j)

/-- A latent is real. -/
theorem latq_real {a g : Fin 256 → EReal} (ha : ∀ k, IsReal (a k)) (hg : ∀ k, IsReal (g k)) (k : Fin 256) : IsReal (latq a g k) :=
  ((ha k).mul (factor_real ha pos_256 pos_millionth)).mul (hg k)

/-- A head's own part and the part all heads share make a head. -/
theorem head_add (c s : Fin 16 → EReal) (p : Fin 64 → EReal) (t : Fin 32 → EReal) (d : Fin 128) :
    (if h : d.val < 64 then p ⟨d.val, h⟩ else 0) + head c s (fun _ => 0) t d = head c s p t d := by
  unfold head
  by_cases h : d.val < 64
  · simp only [dif_pos h, add_zero]
  · simp only [dif_neg h, zero_add]

end Cert.Proj

end
-- ==== Proof.Proj.RotaryBlock.lean ====
module

public import proofs.«01_k».proof.Proof.Proj.Tile
public import proofs.«01_k».proof.Proof.Proj.Rotary

/-!
# What one tile of the input projection computes for the queries and the keys
-/

@[expose] public section

noncomputable section

namespace Cert.Kernel3Ideal.Proj

open Cert.Kernel3Ideal Cert.Kernel3Ideal.Gen Cert.Ffn Cert.Proj
open Idealize.ShloMosaic Idealize.ShloMosaic.TcCoe

/-- Eight copies of a table side by side. -/
theorem copies_at (v : FVec Ideal S512x128 .f32) (r : Fin 512) (e : Fin 1024) :
    concatenate S512x1024 1 [⟨S512x128, v⟩, ⟨S512x128, v⟩, ⟨S512x128, v⟩, ⟨S512x128, v⟩, ⟨S512x128, v⟩, ⟨S512x128, v⟩, ⟨S512x128, v⟩, ⟨S512x128, v⟩]
      concatenates_S512x128_S512x128_S512x128_S512x128_S512x128_S512x128_S512x128_S512x128_S512x1024_d1 (ix2 r e) = v (ix2 r ⟨e.val % 128, by omega⟩) := by
  pointwise
  by_cases g0 : e.val < 128
  · rw [dif_pos g0]
    exact congrArg (fun q => v (ix2 r q)) (Fin.ext (by dsimp only; omega))
  rw [dif_neg g0]
  by_cases g1 : e.val - 128 < 128
  · rw [dif_pos g1]
    exact congrArg (fun q => v (ix2 r q)) (Fin.ext (by dsimp only; omega))
  rw [dif_neg g1]
  by_cases g2 : e.val - 128 - 128 < 128
  · rw [dif_pos g2]
    exact congrArg (fun q => v (ix2 r q)) (Fin.ext (by dsimp only; omega))
  rw [dif_neg g2]
  by_cases g3 : e.val - 128 - 128 - 128 < 128
  · rw [dif_pos g3]
    exact congrArg (fun q => v (ix2 r q)) (Fin.ext (by dsimp only; omega))
  rw [dif_neg g3]
  by_cases g4 : e.val - 128 - 128 - 128 - 128 < 128
  · rw [dif_pos g4]
    exact congrArg (fun q => v (ix2 r q)) (Fin.ext (by dsimp only; omega))
  rw [dif_neg g4]
  by_cases g5 : e.val - 128 - 128 - 128 - 128 - 128 < 128
  · rw [dif_pos g5]
    exact congrArg (fun q => v (ix2 r q)) (Fin.ext (by dsimp only; omega))
  rw [dif_neg g5]
  by_cases g6 : e.val - 128 - 128 - 128 - 128 - 128 - 128 < 128
  · rw [dif_pos g6]
    exact congrArg (fun q => v (ix2 r q)) (Fin.ext (by dsimp only; omega))
  rw [dif_neg g6]
  exact congrArg (fun q => v (ix2 r q)) (Fin.ext (by dsimp only; omega))

/-- The queries' latent. -/
theorem latq_at (x : Vec Ideal S512x1024 .f32) (g : Vec Ideal S1x1024 .f32) (w : Vec Ideal S1024x640 .bf16) (gq : Vec Ideal S1x256 .f32) (r : Fin 512) (l : Fin 256) :
    k0_pay6 (F := Ideal) x g w gq (ix2 r l) = latq (fun l => dot x g r fun k => w (ix2 k ⟨l.val, by omega⟩)) (fun l => gq (ix2 0 l)) l := by
  pointwise [k0_pay6]
  unfold latq
  simp only [a_at]

/-- The queries from their latent, turned about. -/
theorem turned_at (c s : FVec Ideal S512x128 .f32) (u : FVec Ideal S512x256 .bf16) (w0 w1 : Vec Ideal S256x1024 .bf16) (e : Fin 1024) (r : Fin 512) :
    k0_pay9 (F := Ideal) c s u w0 w1 (ix2 e r)
      = ((∑ l : Fin 256, u (ix2 r l) * w0 (ix2 l e)) * c (ix2 r ⟨e.val % 128, by omega⟩)
        + (∑ l : Fin 256, u (ix2 r l) * w1 (ix2 l e)) * s (ix2 r ⟨e.val % 128, by omega⟩)) * Ideal.ofBits FTy.f32 0x3E16C740#32 := by
  rw [← copies_at c r e, ← copies_at s r e]
  unfold k0_pay9
  generalize concatenate S512x1024 1 [⟨S512x128, c⟩, ⟨S512x128, c⟩, ⟨S512x128, c⟩, ⟨S512x128, c⟩, ⟨S512x128, c⟩, ⟨S512x128, c⟩, ⟨S512x128, c⟩, ⟨S512x128, c⟩] concatenates_S512x128_S512x128_S512x128_S512x128_S512x128_S512x128_S512x128_S512x128_S512x1024_d1 = C
  generalize concatenate S512x1024 1 [⟨S512x128, s⟩, ⟨S512x128, s⟩, ⟨S512x128, s⟩, ⟨S512x128, s⟩, ⟨S512x128, s⟩, ⟨S512x128, s⟩, ⟨S512x128, s⟩, ⟨S512x128, s⟩] concatenates_S512x128_S512x128_S512x128_S512x128_S512x128_S512x128_S512x128_S512x128_S512x1024_d1 = S
  pointwise

section Tile
variable (x0 : Vec Ideal S512x1024 .f32) (x1 x2 : Vec Ideal S512x128 .f32) (x3 : Vec Ideal S1x1024 .f32) (x4 : Vec Ideal S1024x640 .bf16)
  (x5 : Vec Ideal S1024x2176 .bf16) (x6 : Vec Ideal S1024x2048 .bf16) (x7 : Vec Ideal S1x256 .f32) (x8 : Vec Ideal S256x2048 .bf16)
  (x9 : Vec Ideal S1x128 .f32) (x10 : Vec Ideal S128x1536 .bf16) (x11 : Vec Ideal S1x128 .f32)

/-- The first half of the queries' columns. -/
theorem ld6_at (l : Fin 256) (e : Fin 1024) : View.ld x8 r0_6 (ix2 l e) = x8 (ix2 l ⟨e.val, by omega⟩) :=
  View.ld_unit_apply_of x8 ![0, 0] S256x1024.size _ _ _ (fun ax => by match ax with | 0 => exact (Nat.zero_add _).symm | 1 => exact (Nat.zero_add _).symm)

/-- The second half. -/
theorem ld7_at (l : Fin 256) (e : Fin 1024) : View.ld x8 r0_7 (ix2 l e) = x8 (ix2 l ⟨1024 + e.val, by omega⟩) :=
  View.ld_unit_apply_of x8 ![0, 1024] S256x1024.size _ _ _ (fun ax => by match ax with | 0 => exact (Nat.zero_add _).symm | 1 => rfl)

/-- The queries, turned about. -/
theorem out12_at (a : Fin 2) (e : Fin 1024) (b : Fin 256) : out0_12 (F := Ideal) x0 x1 x2 x3 x4 x5 x6 x7 x8 x9 x10 x11 (ix3 a e b)
    = ((∑ l : Fin 256, latq (fun l => dot x0 x3 ⟨a.val * 256 + b.val, by omega⟩ fun k => x4 (ix2 k ⟨l.val, by omega⟩)) (fun l => x7 (ix2 0 l)) l * x8 (ix2 l ⟨e.val, by omega⟩)) * x1 (ix2 ⟨a.val * 256 + b.val, by omega⟩ ⟨e.val % 128, by omega⟩)
      + (∑ l : Fin 256, latq (fun l => dot x0 x3 ⟨a.val * 256 + b.val, by omega⟩ fun k => x4 (ix2 k ⟨l.val, by omega⟩)) (fun l => x7 (ix2 0 l)) l * x8 (ix2 l ⟨1024 + e.val, by omega⟩)) * x2 (ix2 ⟨a.val * 256 + b.val, by omega⟩ ⟨e.val % 128, by omega⟩)) * Ideal.ofBits FTy.f32 0x3E16C740#32 := by
  unfold_out out0_12
  rw [Value.canon12_eq]
  rw [show View.ld x0 r0_0 = x0 from ld_whole x0 _, show View.ld x1 r0_2 = x1 from ld_whole x1 _, show View.ld x2 r0_2 = x2 from ld_whole x2 _, show View.ld x3 r0_1 = x3 from ld_whole x3 _, show View.ld x4 r0_3 = x4 from ld_whole x4 _, show View.ld x7 r0_4 = x7 from ld_whole x7 _]
  simp only [← ld6_at x8, ← ld7_at x8, ← latq_at x0 x3 x4 x7]
  refine Eq.trans ?_ (turned_at x1 x2 (k0_pay6 x0 x3 x4 x7) _ _ e ⟨a.val * 256 + b.val, by omega⟩)
  have hc (v : Vec Ideal S512x128 .f32) : shapeCast S512x128 v shapeCasts_S512x128_S512x128 = v := by
    funext i
    rw [eq_ix2 i]
    pointwise
  refine Eq.trans ?_ (congrArg (k0_pay9 (F := Ideal) x1 x2 (k0_pay6 x0 x3 x4 x7) (View.ld x8 r0_6) (View.ld x8 r0_7)) (?_ : Value.ix12_0 (ix3 a e b) = _))
  · show k0_pay9 (F := Ideal) (shapeCast S512x128 x1 shapeCasts_S512x128_S512x128) (shapeCast S512x128 x2 shapeCasts_S512x128_S512x128) (k0_pay6 x0 x3 x4 x7) _ _ _ = _
    rw [hc, hc]
  · funext ax
    refine Fin.ext ?_
    match ax with
    | 0 => rfl
    | 1 => rfl

/-- The keys. -/
theorem out13_at (a : Fin 2) (h : Fin 8) (b : Fin 256) (d : Fin 128) : out0_13 (F := Ideal) x0 x1 x2 x3 x4 x5 x6 x7 x8 x9 x10 x11 (ix4 a h b d)
    = (∑ l : Fin 128, lat (fun l => dot x0 x3 ⟨a.val * 256 + b.val, by omega⟩ fun k => x4 (ix2 k ⟨256 + l.val, by omega⟩)) (fun l => x9 (ix2 0 l)) l * x10 (ix2 l ⟨h.val * 128 + d.val, by omega⟩))
      + ((dot x0 x3 ⟨a.val * 256 + b.val, by omega⟩ fun k => x4 (ix2 k ⟨384 + d.val, by omega⟩)) * x1 (ix2 ⟨a.val * 256 + b.val, by omega⟩ d)
        + (dot x0 x3 ⟨a.val * 256 + b.val, by omega⟩ fun k => x4 (ix2 k ⟨512 + d.val, by omega⟩)) * x2 (ix2 ⟨a.val * 256 + b.val, by omega⟩ d)) := by
  unfold_out out0_13
  rw [Value.canon13_eq]
  rw [show View.ld x0 r0_0 = x0 from ld_whole x0 _, show View.ld x1 r0_2 = x1 from ld_whole x1 _, show View.ld x2 r0_2 = x2 from ld_whole x2 _, show View.ld x3 r0_1 = x3 from ld_whole x3 _, show View.ld x4 r0_3 = x4 from ld_whole x4 _, show View.ld x9 r0_5 = x9 from ld_whole x9 _, show View.ld x10 r0_10 = x10 from ld_whole x10 _]
  rw [← kv_at x0 x3 x4 x9 x10, ← a_at x0 x3 x4, ← a_at x0 x3 x4]
  refine congrArg₂ (· + ·) (congrArg (k0_pay13 (F := Ideal) (k0_pay7 (k0_pay5 x0 x3 x4) x9) x10) (?_ : Value.ix13_0 (ix4 a h b d) = _))
    (congrArg₂ (· + ·) (congrArg₂ (· * ·) (congrArg (k0_pay5 (F := Ideal) x0 x3 x4) (?_ : Value.ix13_1 (ix4 a h b d) = _)) (congrArg x1 (?_ : Value.ix13_2 (ix4 a h b d) = _)))
      (congrArg₂ (· * ·) (congrArg (k0_pay5 (F := Ideal) x0 x3 x4) (?_ : Value.ix13_3 (ix4 a h b d) = _)) (congrArg x2 (?_ : Value.ix13_4 (ix4 a h b d) = _))))
  · funext ax
    refine Fin.ext ?_
    match ax with
    | 0 => rfl
    | 1 => rfl
  · funext ax
    refine Fin.ext ?_
    match ax with
    | 0 => rfl
    | 1 => exact Nat.add_comm _ _
  · funext ax
    refine Fin.ext ?_
    match ax with
    | 0 => rfl
    | 1 => rfl
  · funext ax
    refine Fin.ext ?_
    match ax with
    | 0 => rfl
    | 1 => exact Nat.add_comm _ _
  · funext ax
    refine Fin.ext ?_
    match ax with
    | 0 => rfl
    | 1 => rfl

end Tile

end Cert.Kernel3Ideal.Proj

end
-- ==== Proof.Proj.RotaryTables.lean ====
module

public import proofs.«01_k».proof.Proof.Proj.Windows
public import proofs.«01_k».proof.Proof.Proj.Rotary

/-!
# The prepared tables of cosines and sines
-/

@[expose] public section

noncomputable section

namespace Cert.Kernel3Ideal.Proj

open Cert.Kernel3Ideal Cert.Kernel3Ideal.Gen Cert.Ffn Cert.Proj
open Idealize.ShloMosaic Idealize.ShloMosaic.TcCoe

variable (V0 : Valuation τ sig (Elt Ideal))

/-- A table's columns side by side: a constant, an array twice, zeros. -/
theorem table_cat (A0 : Vec Ideal S16384x64 .f32) (A1 : Vec Ideal S16384x16 .f32) (A3 : Vec Ideal S16384x32 .f32) (i : Fin 16384) (k : EReal) (f : Fin 16 → EReal)
    (h0 : ∀ j, A0 (ix2 i j) = k) (h1 : ∀ j, A1 (ix2 i j) = f j) (h3 : ∀ j, A3 (ix2 i j) = 0) (d : Fin 128) :
    concatenate S16384x128 1 [⟨S16384x64, A0⟩, ⟨S16384x16, A1⟩, ⟨S16384x16, A1⟩, ⟨S16384x32, A3⟩] concatenates_S16384x64_S16384x16_S16384x16_S16384x32_S16384x128_d1 (ix2 i d)
      = if d.val < 64 then k else if h : d.val < 80 then f ⟨d.val - 64, by omega⟩ else if h' : d.val < 96 then f ⟨d.val - 80, by omega⟩ else 0 := by
  pointwise
  by_cases g0 : d.val < 64
  · rw [dif_pos g0, if_pos g0]
    exact h0 _
  rw [dif_neg g0, if_neg g0]
  by_cases g1 : d.val < 80
  · rw [dif_pos (by omega), dif_pos g1]
    exact h1 _
  rw [dif_neg (by omega), dif_neg g1]
  by_cases g2 : d.val < 96
  · rw [dif_pos (by omega), dif_pos g2]
    exact (h1 _).trans (congrArg f (Fin.ext (by dsimp only; omega)))
  rw [dif_neg (by omega), dif_neg g2]
  exact h3 _

set_option maxRecDepth 20000 in
theorem cos_at (s : Fin 2048) (j : Fin 16) : StableHlo.upto hostOps0 V0 107 (Proc.devRef .tc main_v86) (ix2 ⟨s.val, by omega⟩ j) = cosines s j := by
  after_reads_at
  pointwise
  unfold cosines angle
  rfl

set_option maxRecDepth 20000 in
theorem sin_at (s : Fin 2048) (j : Fin 16) : StableHlo.upto hostOps0 V0 112 (Proc.devRef .tc main_v87) (ix2 ⟨s.val, by omega⟩ j) = sines s j := by
  after_reads_at
  pointwise
  unfold sines angle
  rfl

set_option maxRecDepth 20000 in
/-- The table of cosines. -/
theorem cosT_at (s : Fin 2048) (d : Fin 128) : StableHlo.after hostOps0 V0 (Proc.devRef .tc main_v90) (ix2 ⟨s.val, by omega⟩ d) = cosT (cosines s) d := by
  after_reads_simp
  refine table_cat _ _ _ ⟨s.val, by omega⟩ 1 (cosines s) ?_ ?_ ?_ d <;> intro j
  · show StableHlo.upto hostOps0 V0 107 (Proc.devRef .tc main_v88) (ix2 ⟨s.val, by omega⟩ j) = _
    after_reads_at
  · exact cos_at V0 s j
  · show StableHlo.upto hostOps0 V0 107 (Proc.devRef .tc main_v89) (ix2 ⟨s.val, by omega⟩ j) = _
    after_reads_at

set_option maxRecDepth 20000 in
/-- The table of sines. -/
theorem sinT_at (s : Fin 2048) (d : Fin 128) : StableHlo.after hostOps0 V0 (Proc.devRef .tc main_v93) (ix2 ⟨s.val, by omega⟩ d) = sinT (sines s) d := by
  after_reads_simp
  refine table_cat _ _ _ ⟨s.val, by omega⟩ 0 (sines s) ?_ ?_ ?_ d <;> intro j
  · show StableHlo.upto hostOps0 V0 112 (Proc.devRef .tc main_v91) (ix2 ⟨s.val, by omega⟩ j) = _
    after_reads_at
  · exact sin_at V0 s j
  · show StableHlo.upto hostOps0 V0 112 (Proc.devRef .tc main_v92) (ix2 ⟨s.val, by omega⟩ j) = _
    after_reads_at

end Cert.Kernel3Ideal.Proj

end
-- ==== Proof.Proj.RotaryKeys.lean ====
module

public import proofs.«01_k».proof.Proof.Proj.Windows
public import proofs.«01_k».proof.Proof.Proj.Rotary

/-!
# The prepared columns of the first projection
-/

@[expose] public section

noncomputable section

namespace Cert.Kernel3Ideal.Proj

open Cert.Kernel3Ideal Cert.Kernel3Ideal.Gen Cert.Ffn Cert.Proj
open Idealize.ShloMosaic Idealize.ShloMosaic.TcCoe

variable (V0 : Valuation τ sig (Elt Ideal))

/-- The first projection's first columns. -/
theorem wa_first (A0 : Vec Ideal S1024x256 .f32) (A1 A2 A3 : Vec Ideal S1024x128 .f32) (k : Fin 1024) (f : Fin 256 → EReal) (h : ∀ l : Fin 256, A0 (ix2 k l) = f l) (l : Fin 256) :
    truncf (F := Ideal) FTy.bf16 (concatenate S1024x640 1 [⟨S1024x256, A0⟩, ⟨S1024x128, A1⟩, ⟨S1024x128, A2⟩, ⟨S1024x128, A3⟩]
        concatenates_S1024x256_S1024x128_S1024x128_S1024x128_S1024x640_d1) bitsLt_bf16_f32 (ix2 k ⟨l.val, by omega⟩) = f l := by
  pointwise
  exact h l

/-- Its third columns. -/
theorem wa_third (A0 : Vec Ideal S1024x256 .f32) (A1 A2 A3 : Vec Ideal S1024x128 .f32) (k : Fin 1024) (f : Fin 128 → EReal) (h : ∀ l : Fin 128, A2 (ix2 k l) = f l) (l : Fin 128) :
    truncf (F := Ideal) FTy.bf16 (concatenate S1024x640 1 [⟨S1024x256, A0⟩, ⟨S1024x128, A1⟩, ⟨S1024x128, A2⟩, ⟨S1024x128, A3⟩]
        concatenates_S1024x256_S1024x128_S1024x128_S1024x128_S1024x640_d1) bitsLt_bf16_f32 (ix2 k ⟨384 + l.val, by omega⟩) = f l := by
  pointwise
  rw [dif_neg (by omega), dif_neg (by omega), dif_pos (by omega)]
  exact (congrArg (fun q => A2 (ix2 k q)) (Fin.ext (by dsimp only; omega))).trans (h l)

/-- Its fourth columns. -/
theorem wa_fourth (A0 : Vec Ideal S1024x256 .f32) (A1 A2 A3 : Vec Ideal S1024x128 .f32) (k : Fin 1024) (f : Fin 128 → EReal) (h : ∀ l : Fin 128, A3 (ix2 k l) = f l) (l : Fin 128) :
    truncf (F := Ideal) FTy.bf16 (concatenate S1024x640 1 [⟨S1024x256, A0⟩, ⟨S1024x128, A1⟩, ⟨S1024x128, A2⟩, ⟨S1024x128, A3⟩]
        concatenates_S1024x256_S1024x128_S1024x128_S1024x128_S1024x640_d1) bitsLt_bf16_f32 (ix2 k ⟨512 + l.val, by omega⟩) = f l := by
  pointwise
  rw [dif_neg (by omega), dif_neg (by omega), dif_neg (by omega)]
  exact (congrArg (fun q => A3 (ix2 k q)) (Fin.ext (by dsimp only; omega))).trans (h l)

/-- The keys' own columns, as the last 32 of a head's 96. -/
def own (w : Fin 4528 → EReal) (q : Fin 96) : EReal := if q.val < 64 then 0 else w ⟨320 + q.val, by omega⟩

theorem own_zero (w : Fin 4528 → EReal) (j : Fin 64) : own w ⟨j.val, by omega⟩ = 0 := if_pos j.isLt

theorem own_at (w : Fin 4528 → EReal) (j : ℕ) (hj : j < 32) : own w ⟨64 + j, by omega⟩ = w ⟨384 + j, by omega⟩ :=
  (if_neg (by simp)).trans (congrArg w (Fin.ext (by dsimp only; omega)))

/-- Three pieces side by side are a head's columns. -/
theorem plain_cat (A0 : Vec Ideal S1024x64 .f32) (A1 A2 : Vec Ideal S1024x32 .f32) (k : Fin 1024) (w : Fin 96 → EReal) (h0 : ∀ j : Fin 64, A0 (ix2 k j) = w ⟨j.val, by omega⟩)
    (h1 : ∀ j : Fin 32, A1 (ix2 k j) = w ⟨64 + j.val, by omega⟩) (h2 : ∀ j, A2 (ix2 k j) = 0) (d : Fin 128) :
    concatenate S1024x128 1 [⟨S1024x64, A0⟩, ⟨S1024x32, A1⟩, ⟨S1024x32, A2⟩] concatenates_S1024x64_S1024x32_S1024x32_S1024x128_d1 (ix2 k d) = plain w d := by
  pointwise
  unfold plain
  by_cases g0 : d.val < 64
  · rw [dif_pos g0, dif_pos (by omega)]
    exact h0 _
  rw [dif_neg g0]
  by_cases g1 : d.val < 96
  · rw [dif_pos (by omega), dif_pos g1]
    exact (h1 _).trans (congrArg w (Fin.ext (by dsimp only; omega)))
  rw [dif_neg (by omega), dif_neg g1]
  exact h2 _

/-- Four pieces side by side are a head's columns with the turned halves swapped. -/
theorem swapped_cat (A0 : Vec Ideal S1024x64 .f32) (A1 A2 : Vec Ideal S1024x16 .f32) (A3 : Vec Ideal S1024x32 .f32) (k : Fin 1024) (w : Fin 96 → EReal) (h0 : ∀ j, A0 (ix2 k j) = 0)
    (h1 : ∀ j : Fin 16, A1 (ix2 k j) = -w ⟨64 + (16 + j.val), by omega⟩) (h2 : ∀ j : Fin 16, A2 (ix2 k j) = w ⟨64 + j.val, by omega⟩) (h3 : ∀ j, A3 (ix2 k j) = 0) (d : Fin 128) :
    concatenate S1024x128 1 [⟨S1024x64, A0⟩, ⟨S1024x16, A1⟩, ⟨S1024x16, A2⟩, ⟨S1024x32, A3⟩] concatenates_S1024x64_S1024x16_S1024x16_S1024x32_S1024x128_d1 (ix2 k d) = swapped w d := by
  pointwise
  unfold swapped
  by_cases g0 : d.val < 64
  · rw [dif_pos g0, if_pos g0]
    exact h0 _
  rw [dif_neg g0, if_neg g0]
  by_cases g1 : d.val < 80
  · rw [dif_pos (by omega), dif_pos g1]
    exact (h1 _).trans (congrArg (fun q => -w q) (Fin.ext (by dsimp only; omega)))
  rw [dif_neg (by omega), dif_neg g1]
  by_cases g2 : d.val < 96
  · rw [dif_pos (by omega), dif_pos g2]
    exact (h2 _).trans (congrArg w (Fin.ext (by dsimp only; omega)))
  rw [dif_neg (by omega), dif_neg g2]
  exact h3 _

set_option maxRecDepth 20000 in
theorem v4_at (k : Fin 1024) (d : Fin 128) : StableHlo.upto hostOps0 V0 17 (Proc.devRef .tc main_v4) (ix2 k d)
    = plain (own fun q => V0 (Proc.devRef .tc main_arg2) (ix3 0 k q)) d := by
  after_reads_simp
  refine plain_cat _ _ _ k _ ?_ ?_ ?_ d <;> intro j
  · rw [own_zero]
    show StableHlo.upto hostOps0 V0 6 (Proc.devRef .tc main_v2) (ix2 k j) = _
    after_reads_at
  · rw [own_at _ _ j.isLt]
    show StableHlo.upto hostOps0 V0 6 (Proc.devRef .tc main_v1) (ix2 k j) = _
    after_reads_at
  · show StableHlo.upto hostOps0 V0 6 (Proc.devRef .tc main_v3) (ix2 k j) = _
    after_reads_at

set_option maxRecDepth 20000 in
theorem v10_at (k : Fin 1024) (d : Fin 128) : StableHlo.upto hostOps0 V0 17 (Proc.devRef .tc main_v10) (ix2 k d)
    = swapped (own fun q => V0 (Proc.devRef .tc main_arg2) (ix3 0 k q)) d := by
  after_reads_simp
  refine swapped_cat _ _ _ _ k _ ?_ ?_ ?_ ?_ d <;> intro j
  · show StableHlo.upto hostOps0 V0 14 (Proc.devRef .tc main_v5) (ix2 k j) = _
    after_reads_at
  · rw [own_at _ (16 + j.val) (by omega)]
    show StableHlo.upto hostOps0 V0 14 (Proc.devRef .tc main_v7) (ix2 k j) = _
    after_reads_at
  · rw [own_at _ _ (by omega)]
    show StableHlo.upto hostOps0 V0 14 (Proc.devRef .tc main_v8) (ix2 k j) = _
    after_reads_at
  · show StableHlo.upto hostOps0 V0 14 (Proc.devRef .tc main_v9) (ix2 k j) = _
    after_reads_at

set_option maxRecDepth 20000 in
/-- The queries' latent's columns. -/
theorem waq_at (k : Fin 1024) (l : Fin 256) : StableHlo.after hostOps0 V0 (Proc.devRef .tc main_v57) (ix2 k ⟨l.val, by omega⟩)
    = V0 (Proc.devRef .tc main_arg2) (ix3 0 k ⟨l.val, by omega⟩) := by
  after_reads_simp
  refine wa_first _ _ _ _ k (fun l => V0 (Proc.devRef .tc main_arg2) (ix3 0 k ⟨l.val, by omega⟩)) ?_ l
  intro l
  show StableHlo.upto hostOps0 V0 17 (Proc.devRef .tc main_v11) (ix2 k l) = _
  after_reads_at

set_option maxRecDepth 20000 in
/-- The keys' own columns. -/
theorem wap_at (k : Fin 1024) (d : Fin 128) : StableHlo.after hostOps0 V0 (Proc.devRef .tc main_v57) (ix2 k ⟨384 + d.val, by omega⟩)
    = plain (own fun q => V0 (Proc.devRef .tc main_arg2) (ix3 0 k q)) d := by
  after_reads_simp
  refine wa_third _ _ _ _ k (plain (own fun q => V0 (Proc.devRef .tc main_arg2) (ix3 0 k q))) ?_ d
  intro d
  show StableHlo.upto hostOps0 V0 17 (Proc.devRef .tc main_v4) (ix2 k d) = _
  exact v4_at V0 k d

set_option maxRecDepth 20000 in
/-- The keys' own columns, swapped. -/
theorem was_at (k : Fin 1024) (d : Fin 128) : StableHlo.after hostOps0 V0 (Proc.devRef .tc main_v57) (ix2 k ⟨512 + d.val, by omega⟩)
    = swapped (own fun q => V0 (Proc.devRef .tc main_arg2) (ix3 0 k q)) d := by
  after_reads_simp
  refine wa_fourth _ _ _ _ k (swapped (own fun q => V0 (Proc.devRef .tc main_arg2) (ix3 0 k q))) ?_ d
  intro d
  show StableHlo.upto hostOps0 V0 17 (Proc.devRef .tc main_v10) (ix2 k d) = _
  exact v10_at V0 k d

end Cert.Kernel3Ideal.Proj

end
-- ==== Proof.Proj.RotaryQueries.lean ====
module

public import proofs.«01_k».proof.Proof.Proj.Windows
public import proofs.«01_k».proof.Proof.Proj.Rotary

/-!
# The prepared weights of the queries
-/

@[expose] public section

noncomputable section

namespace Cert.Kernel3Ideal.Proj

open Cert.Kernel3Ideal Cert.Kernel3Ideal.Gen Cert.Ffn Cert.Proj
open Idealize.ShloMosaic Idealize.ShloMosaic.TcCoe

variable (V0 : Valuation τ sig (Elt Ideal))

/-- The queries' first columns. -/
theorem wq_lo (A0 A1 : Vec Ideal S256x1024 .f32) (l : Fin 256) (f : Fin 1024 → EReal) (h : ∀ e, A0 (ix2 l e) = f e) (e : Fin 1024) :
    truncf (F := Ideal) FTy.bf16 (concatenate S256x2048 1 [⟨S256x1024, A0⟩, ⟨S256x1024, A1⟩] concatenates_S256x1024_S256x1024_S256x2048_d1) bitsLt_bf16_f32 (ix2 l ⟨e.val, by omega⟩) = f e := by
  pointwise
  exact h e

/-- The queries' other columns. -/
theorem wq_hi (A0 A1 : Vec Ideal S256x1024 .f32) (l : Fin 256) (f : Fin 1024 → EReal) (h : ∀ e, A1 (ix2 l e) = f e) (e : Fin 1024) :
    truncf (F := Ideal) FTy.bf16 (concatenate S256x2048 1 [⟨S256x1024, A0⟩, ⟨S256x1024, A1⟩] concatenates_S256x1024_S256x1024_S256x2048_d1) bitsLt_bf16_f32 (ix2 l ⟨1024 + e.val, by omega⟩) = f e := by
  pointwise
  exact h e

/-- The heads end to end. -/
theorem heads_at (A : Vec Ideal S256x8x128 .f32) (l : Fin 256) (e : Fin 1024) :
    shapeCast S256x1024 A shapeCasts_S256x8x128_S256x1024 (ix2 l e) = A (ix3 l ⟨e.val / 128, by omega⟩ ⟨e.val % 128, by omega⟩) := by
  pointwise

/-- Three pieces side by side are each head's columns. -/
theorem plains_cat (A0 : Vec Ideal S256x8x64 .f32) (A1 A2 : Vec Ideal S256x8x32 .f32) (l : Fin 256) (h : Fin 8) (w : Fin 96 → EReal) (h0 : ∀ j : Fin 64, A0 (ix3 l h j) = w ⟨j.val, by omega⟩)
    (h1 : ∀ j : Fin 32, A1 (ix3 l h j) = w ⟨64 + j.val, by omega⟩) (h2 : ∀ j, A2 (ix3 l h j) = 0) (d : Fin 128) :
    concatenate S256x8x128 2 [⟨S256x8x64, A0⟩, ⟨S256x8x32, A1⟩, ⟨S256x8x32, A2⟩] concatenates_S256x8x64_S256x8x32_S256x8x32_S256x8x128_d2 (ix3 l h d) = plain w d := by
  pointwise
  unfold plain
  by_cases g0 : d.val < 64
  · rw [dif_pos g0, dif_pos (by omega)]
    exact h0 _
  rw [dif_neg g0]
  by_cases g1 : d.val < 96
  · rw [dif_pos (by omega), dif_pos g1]
    exact (h1 _).trans (congrArg w (Fin.ext (by dsimp only; omega)))
  rw [dif_neg (by omega), dif_neg g1]
  exact h2 _

/-- Four pieces side by side are each head's columns with the turned halves swapped. -/
theorem swappeds_cat (A0 : Vec Ideal S256x8x64 .f32) (A1 A2 : Vec Ideal S256x8x16 .f32) (A3 : Vec Ideal S256x8x32 .f32) (l : Fin 256) (h : Fin 8) (w : Fin 96 → EReal) (h0 : ∀ j, A0 (ix3 l h j) = 0)
    (h1 : ∀ j : Fin 16, A1 (ix3 l h j) = -w ⟨64 + (16 + j.val), by omega⟩) (h2 : ∀ j : Fin 16, A2 (ix3 l h j) = w ⟨64 + j.val, by omega⟩) (h3 : ∀ j, A3 (ix3 l h j) = 0) (d : Fin 128) :
    concatenate S256x8x128 2 [⟨S256x8x64, A0⟩, ⟨S256x8x16, A1⟩, ⟨S256x8x16, A2⟩, ⟨S256x8x32, A3⟩] concatenates_S256x8x64_S256x8x16_S256x8x16_S256x8x32_S256x8x128_d2 (ix3 l h d) = swapped w d := by
  pointwise
  unfold swapped
  by_cases g0 : d.val < 64
  · rw [dif_pos g0, if_pos g0]
    exact h0 _
  rw [dif_neg g0, if_neg g0]
  by_cases g1 : d.val < 80
  · rw [dif_pos (by omega), dif_pos g1]
    exact (h1 _).trans (congrArg (fun q => -w q) (Fin.ext (by dsimp only; omega)))
  rw [dif_neg (by omega), dif_neg g1]
  by_cases g2 : d.val < 96
  · rw [dif_pos (by omega), dif_pos g2]
    exact (h2 _).trans (congrArg w (Fin.ext (by dsimp only; omega)))
  rw [dif_neg (by omega), dif_neg g2]
  exact h3 _

/-- A head's columns of the queries' weights. -/
def wqh (w : Fin 768 → EReal) (h : Fin 8) (q : Fin 96) : EReal := w ⟨h.val * 96 + q.val, by omega⟩

set_option maxRecDepth 20000 in
/-- The heads' columns. -/
theorem v31_at (l : Fin 256) (e : Fin 1024) : StableHlo.upto hostOps0 V0 47 (Proc.devRef .tc main_v31) (ix2 l e)
    = plain (wqh (fun q => V0 (Proc.devRef .tc main_arg4) (ix3 0 l q)) ⟨e.val / 128, by omega⟩) ⟨e.val % 128, by omega⟩ := by
  after_reads_simp
  refine (heads_at _ l e).trans ?_
  refine plains_cat _ _ _ l _ _ ?_ ?_ ?_ _ <;> intro j
  · show StableHlo.upto hostOps0 V0 36 (Proc.devRef .tc main_v27) (ix3 l _ j) = _
    unfold wqh
    after_reads_at
  · show StableHlo.upto hostOps0 V0 36 (Proc.devRef .tc main_v28) (ix3 l _ j) = _
    unfold wqh
    after_reads_at
  · show StableHlo.upto hostOps0 V0 36 (Proc.devRef .tc main_v29) (ix3 l _ j) = _
    after_reads_at

set_option maxRecDepth 20000 in
/-- The heads' columns, swapped. -/
theorem v38_at (l : Fin 256) (e : Fin 1024) : StableHlo.upto hostOps0 V0 47 (Proc.devRef .tc main_v38) (ix2 l e)
    = swapped (wqh (fun q => V0 (Proc.devRef .tc main_arg4) (ix3 0 l q)) ⟨e.val / 128, by omega⟩) ⟨e.val % 128, by omega⟩ := by
  after_reads_simp
  refine (heads_at _ l e).trans ?_
  refine swappeds_cat _ _ _ _ l _ _ ?_ ?_ ?_ ?_ _ <;> intro j
  · show StableHlo.upto hostOps0 V0 45 (Proc.devRef .tc main_v32) (ix3 l _ j) = _
    after_reads_at
  · show StableHlo.upto hostOps0 V0 45 (Proc.devRef .tc main_v34) (ix3 l _ j) = _
    unfold wqh
    after_reads_at
  · show StableHlo.upto hostOps0 V0 45 (Proc.devRef .tc main_v35) (ix3 l _ j) = _
    unfold wqh
    after_reads_at
  · show StableHlo.upto hostOps0 V0 45 (Proc.devRef .tc main_v36) (ix3 l _ j) = _
    after_reads_at

set_option maxRecDepth 20000 in
/-- The queries' prepared weights: the heads end to end. -/
theorem wqp_at (l : Fin 256) (e : Fin 1024) : StableHlo.after hostOps0 V0 (Proc.devRef .tc main_v62) (ix2 l ⟨e.val, by omega⟩)
    = plain (wqh (fun q => V0 (Proc.devRef .tc main_arg4) (ix3 0 l q)) ⟨e.val / 128, by omega⟩) ⟨e.val % 128, by omega⟩ := by
  after_reads_simp
  refine wq_lo _ _ l (fun e => plain (wqh (fun q => V0 (Proc.devRef .tc main_arg4) (ix3 0 l q)) ⟨e.val / 128, by omega⟩) ⟨e.val % 128, by omega⟩) ?_ e
  intro e
  show StableHlo.upto hostOps0 V0 47 (Proc.devRef .tc main_v31) (ix2 l e) = _
  exact v31_at V0 l e

set_option maxRecDepth 20000 in
/-- Then the heads with the turned halves swapped. -/
theorem wqs_at (l : Fin 256) (e : Fin 1024) : StableHlo.after hostOps0 V0 (Proc.devRef .tc main_v62) (ix2 l ⟨1024 + e.val, by omega⟩)
    = swapped (wqh (fun q => V0 (Proc.devRef .tc main_arg4) (ix3 0 l q)) ⟨e.val / 128, by omega⟩) ⟨e.val % 128, by omega⟩ := by
  after_reads_simp
  refine wq_hi _ _ l (fun e => swapped (wqh (fun q => V0 (Proc.devRef .tc main_arg4) (ix3 0 l q)) ⟨e.val / 128, by omega⟩) ⟨e.val % 128, by omega⟩) ?_ e
  intro e
  show StableHlo.upto hostOps0 V0 47 (Proc.devRef .tc main_v38) (ix2 l e) = _
  exact v38_at V0 l e

end Cert.Kernel3Ideal.Proj

end
-- ==== Proof.Proj.RotaryWindows.lean ====
module

public import proofs.«01_k».proof.Proof.Proj.Windows
public import proofs.«01_k».proof.Proof.Proj.RotaryTables
public import proofs.«01_k».proof.Proof.Proj.RotaryKeys
public import proofs.«01_k».proof.Proof.Proj.RotaryQueries

/-!
# What the input projection's windows hold for the queries and the keys
-/

@[expose] public section

noncomputable section

namespace Cert.Kernel3Ideal.Proj

open Cert.Kernel3Ideal Cert.Kernel3Ideal.Gen Cert.Ffn Cert.Proj
open Idealize.ShloMosaic Idealize.ShloMosaic.TcCoe

/-! ## The windows -/

theorem index1 : ∀ t : Fin grid0.N, win0_1.index t 0 = t.val % 4 ∧ win0_1.index t 1 = 0 := by decide +kernel
theorem index2 : ∀ t : Fin grid0.N, win0_2.index t 0 = t.val % 4 ∧ win0_2.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel

variable (m : (ℓ : Loc nD τ sig) → Buf (Elt Ideal) ℓ) (c : Dev nD)

/-- The cosines of the tile's rows. -/
theorem iblk1_at (t : Fin cfg0.N) (r : Fin 512) (d : Fin 128) (s : Fin 2048) (hs : s.val = t.val % 4 * 512 + r.val) : iblk m c 1 t (ix2 r d) = cosT (cosines s) d := by
  have e : iblk m c 1 t (ix2 r d) = V m c main_v90 (ix2 ⟨s.val, by omega⟩ d) := by
    refine congrArg (V m c main_v90) (funext fun a => Fin.ext ?_)
    match a with
    | 0 => exact (Rect.emb_apply _ _ _).trans (by simp [index1 t, hs])
    | 1 => exact (Rect.emb_apply _ _ _).trans (by simp [index1 t])
  exact e.trans (cosT_at (fun b => m (c, b)) s d)

/-- The sines of the tile's rows. -/
theorem iblk2_at (t : Fin cfg0.N) (r : Fin 512) (d : Fin 128) (s : Fin 2048) (hs : s.val = t.val % 4 * 512 + r.val) : iblk m c 2 t (ix2 r d) = sinT (sines s) d := by
  have e : iblk m c 2 t (ix2 r d) = V m c main_v93 (ix2 ⟨s.val, by omega⟩ d) := by
    refine congrArg (V m c main_v93) (funext fun a => Fin.ext ?_)
    match a with
    | 0 => exact (Rect.emb_apply _ _ _).trans (by simp [index2 t, hs])
    | 1 => exact (Rect.emb_apply _ _ _).trans (by simp [index2 t])
  exact e.trans (sinT_at (fun b => m (c, b)) s d)

/-- A column of the first projection, whatever it holds. -/
theorem iblk4_eq (t : Fin cfg0.N) (k : Fin 1024) (j : Fin 640) : iblk m c 4 t (ix2 k j) = V m c main_v57 (ix2 k j) := by
  refine congrArg (V m c main_v57) (funext fun a => Fin.ext ?_)
  match a with
  | 0 => exact (Rect.emb_apply _ _ _).trans (by simp [index4 t])
  | 1 => exact (Rect.emb_apply _ _ _).trans (by simp [index4 t])

/-- The queries' latent's scale. -/
theorem iblk7_at (t : Fin cfg0.N) (l : Fin 256) : iblk m c 7 t (ix2 0 l) = m ((c : Thread nD τ).loc main_arg3) (ix2 0 l) := by
  have e : iblk m c 7 t (ix2 0 l) = V m c main_v61 (ix2 0 l) := by
    refine congrArg (V m c main_v61) (funext fun a => Fin.ext ?_)
    match a with
    | 0 => exact (Rect.emb_apply _ _ _).trans (by simp [index7 t])
    | 1 => exact (Rect.emb_apply _ _ _).trans (by simp [index7 t])
  rw [e]
  entry_read
  pointwise

/-- The queries' weights. -/
theorem iblk8_eq (t : Fin cfg0.N) (l : Fin 256) (e : Fin 2048) : iblk m c 8 t (ix2 l e) = V m c main_v62 (ix2 l e) := by
  refine congrArg (V m c main_v62) (funext fun a => Fin.ext ?_)
  match a with
  | 0 => exact (Rect.emb_apply _ _ _).trans (by simp [index8 t])
  | 1 => exact (Rect.emb_apply _ _ _).trans (by simp [index8 t])

end Cert.Kernel3Ideal.Proj

end
-- ==== Proof.Proj.RotaryKeyWeights.lean ====
module

public import proofs.«01_k».proof.Proof.Proj.Windows

/-!
# The keys' columns of the latent's projection, as the input projection's kernel is given them
-/

@[expose] public section

noncomputable section

namespace Cert.Kernel3Ideal.Proj

open Cert.Kernel3Ideal Cert.Kernel3Ideal.Gen Cert.Ffn Cert.Proj
open Idealize.ShloMosaic Idealize.ShloMosaic.TcCoe

variable (V0 : Valuation τ sig (Elt Ideal))

/-- The columns of the keys come first. -/
theorem wk_lo (A0 : Vec Ideal S128x1024 .f32) (A1 : Vec Ideal S128x512 .f32) (l : Fin 128) (f : Fin 1024 → EReal) (h : ∀ e, A0 (ix2 l e) = f e) (e : Fin 1024) :
    truncf (F := Ideal) FTy.bf16 (concatenate S128x1536 1 [⟨S128x1024, A0⟩, ⟨S128x512, A1⟩] concatenates_S128x1024_S128x512_S128x1536_d1) bitsLt_bf16_f32 (ix2 l ⟨e.val, by omega⟩) = f e := by
  pointwise
  exact h e

/-- A head's first half is kept, its second zeroed. -/
theorem halves_at (A0 A1 : Vec Ideal S128x8x64 .f32) (l : Fin 128) (f : Fin 8 → Fin 64 → EReal) (h0 : ∀ h d, A0 (ix3 l h d) = f h d) (h1 : ∀ h d, A1 (ix3 l h d) = 0) (e : Fin 1024) :
    shapeCast S128x1024 (concatenate S128x8x128 2 [⟨S128x8x64, A0⟩, ⟨S128x8x64, A1⟩] concatenates_S128x8x64_S128x8x64_S128x8x128_d2) shapeCasts_S128x8x128_S128x1024 (ix2 l e)
      = if h : e.val % 128 < 64 then f ⟨e.val / 128, by omega⟩ ⟨e.val % 128, h⟩ else 0 := by
  pointwise
  by_cases h : e.val % 128 < 64
  · rw [dif_pos h, dif_pos h]
    exact h0 _ _
  · rw [dif_neg h, dif_neg h]
    exact h1 _ _

set_option maxRecDepth 20000 in
theorem v45_at (l : Fin 128) (e : Fin 1024) : StableHlo.upto hostOps0 V0 57 (Proc.devRef .tc main_v45) (ix2 l e)
    = if h : e.val % 128 < 64 then V0 (Proc.devRef .tc main_arg6) (ix3 0 l ⟨e.val / 128 * 128 + e.val % 128, by omega⟩) else (0 : EReal) := by
  after_reads_simp
  refine halves_at _ _ l (fun h d => V0 (Proc.devRef .tc main_arg6) (ix3 0 l ⟨h.val * 128 + d.val, by omega⟩)) ?_ ?_ e <;> intro h d
  · show StableHlo.upto hostOps0 V0 53 (Proc.devRef .tc main_v42) (ix3 l h d) = _
    after_reads_at
  · show StableHlo.upto hostOps0 V0 53 (Proc.devRef .tc main_v43) (ix3 l h d) = _
    after_reads_at

set_option maxRecDepth 20000 in
theorem v65_at (l : Fin 128) (e : Fin 1024) : StableHlo.after hostOps0 V0 (Proc.devRef .tc main_v65) (ix2 l ⟨e.val, by omega⟩)
    = if h : e.val % 128 < 64 then V0 (Proc.devRef .tc main_arg6) (ix3 0 l ⟨e.val / 128 * 128 + e.val % 128, by omega⟩) else (0 : EReal) := by
  after_reads_simp
  exact wk_lo _ _ l (fun e => if h : e.val % 128 < 64 then V0 (Proc.devRef .tc main_arg6) (ix3 0 l ⟨e.val / 128 * 128 + e.val % 128, by omega⟩) else (0 : EReal)) (v45_at V0 l) e

variable (m : (ℓ : Loc nD τ sig) → Buf (Elt Ideal) ℓ) (c : Dev nD)

/-- The keys' columns of the latent's projection. -/
theorem iblk10_key (t : Fin cfg0.N) (l : Fin 128) (h : Fin 8) (d : Fin 128) : iblk m c 10 t (ix2 l ⟨h.val * 128 + d.val, by omega⟩)
    = if d.val < 64 then m ((c : Thread nD τ).loc main_arg6) (ix3 0 l ⟨h.val * 128 + d.val, by omega⟩) else (0 : EReal) := by
  have e : iblk m c 10 t (ix2 l ⟨h.val * 128 + d.val, by omega⟩) = V m c main_v65 (ix2 l ⟨h.val * 128 + d.val, by omega⟩) := by
    refine congrArg (V m c main_v65) (funext fun a => Fin.ext ?_)
    match a with
    | 0 => exact (Rect.emb_apply _ _ _).trans (by simp [index10 t])
    | 1 => exact (Rect.emb_apply _ _ _).trans (by simp [index10 t])
  refine e.trans ((v65_at (fun b => m (c, b)) l ⟨h.val * 128 + d.val, by omega⟩).trans ?_)
  by_cases g : d.val < 64
  · rw [dif_pos (by dsimp only; omega), if_pos g]
    exact congrArg (fun q => m ((c : Thread nD τ).loc main_arg6) (ix3 0 l q)) (Fin.ext (by dsimp only; omega))
  · rw [dif_neg (by dsimp only; omega), if_neg g]

end Cert.Kernel3Ideal.Proj

end
-- ==== Proof.Proj.RotaryValue.lean ====
module

public import proofs.«01_k».proof.Proof.Proj.Value
public import proofs.«01_k».proof.Proof.Proj.RotaryBlock
public import proofs.«01_k».proof.Proof.Proj.RotaryWindows
public import proofs.«01_k».proof.Proof.Proj.RotaryKeyWeights

/-!
# The queries and the keys the input projection's kernel leaves, on real arguments
-/

@[expose] public section

noncomputable section

namespace Cert.Kernel3Ideal.Proj

open Cert.Kernel3Ideal Cert.Kernel3Ideal.Gen Cert.Ffn Cert.Proj
open Idealize.ShloMosaic Idealize.ShloMosaic.TcCoe

theorem index12 : ∀ t : Fin grid0.N, win0_12.index t 0 = t.val ∧ win0_12.index t 1 = 0 ∧ win0_12.index t 2 = 0 := by decide +kernel
theorem index13 : ∀ t : Fin grid0.N, win0_13.index t 0 = t.val ∧ win0_13.index t 1 = 0 ∧ win0_13.index t 2 = 0 ∧ win0_13.index t 3 = 0 := by decide +kernel

variable (m : (ℓ : Loc nD τ sig) → Buf (Elt Ideal) ℓ) (c : Dev nD)

/-- The queries' latent's scale. -/
abbrev qscale (l : Fin 256) : EReal := m ((c : Thread nD τ).loc main_arg3) (ix2 0 l)
/-- The queries' latent's weights. -/
abbrev qwin (l : Fin 256) (j : Fin 768) : EReal := m ((c : Thread nD τ).loc main_arg4) (ix3 0 l j)

/-- A column of the tile's projection, whatever the column. -/
theorem dot_row (t : Fin cfg0.N) (r : Fin 512) (i : Fin 65536) (hi : i.val = t.val * 512 + r.val) (w v : Fin 1024 → EReal) (hw : ∀ k, w k = v k) :
    dot (iblk m c 0 t) (iblk m c 3 t) r w = ∑ k : Fin 1024, rms (xrow m c i) (scale m c) k * v k := by
  unfold dot
  refine Finset.sum_congr (M := EReal) rfl fun k _ => ?_
  rw [hw k]
  refine congrArg (fun u => rms u _ k * _) (funext fun k => iblk0_at m c t r k i hi) |>.trans ?_
  exact congrArg (fun u => rms _ u k * _) (funext fun k => iblk3_at m c t k)

/-- A row's queries' latent, normalized. -/
abbrev latRow (i : Fin 65536) (l : Fin 256) : EReal := latq (fun l => z (xrow m c i) (scale m c) (win m c) ⟨l.val, by omega⟩) (qscale m c) l

/-- The tile's queries are turned, given what its windows hold. -/
theorem query_of (s : Fin 2048) (i : Fin 65536) (e : Fin 1024) (u w0 w1 : Fin 256 → EReal) (c0 s0 : EReal)
    (hgq : ∀ l, IsReal (qscale m c l)) (hwq : ∀ l j, IsReal (qwin m c l j)) (hx : ∀ k, IsReal (xrow m c i k)) (hg : ∀ k, IsReal (scale m c k)) (hw : ∀ k j, IsReal (win m c k j))
    (hu : ∀ l, u l = latRow m c i l)
    (h0 : ∀ l, w0 l = plain (wqh (qwin m c l) ⟨e.val / 128, by omega⟩) ⟨e.val % 128, by omega⟩)
    (h1 : ∀ l, w1 l = swapped (wqh (qwin m c l) ⟨e.val / 128, by omega⟩) ⟨e.val % 128, by omega⟩)
    (hc : c0 = cosT (cosines s) ⟨e.val % 128, by omega⟩) (hs : s0 = sinT (sines s) ⟨e.val % 128, by omega⟩) :
    ((∑ l : Fin 256, u l * w0 l) * c0 + (∑ l : Fin 256, u l * w1 l) * s0) * Ideal.ofBits FTy.f32 0x3E16C740#32
      = query s (xrow m c i) (scale m c) (win m c) (qscale m c) (qwin m c) ⟨e.val / 128, by omega⟩ ⟨e.val % 128, by omega⟩ := by
  rw [funext hu, funext h0, funext h1, hc, hs]
  unfold query
  exact congrArg (· * _) (head_eq (cosines s) (sines s) (latRow m c i) (fun l => wqh (qwin m c l) ⟨e.val / 128, by omega⟩)
    (fun l q => (latq_real (fun l => z_real hx hg hw _) hgq l).mul (hwq l _)) ⟨e.val % 128, by omega⟩)

/-- The queries, turned about. -/
theorem arr12_at (hgq : ∀ l, IsReal (qscale m c l)) (hwq : ∀ l j, IsReal (qwin m c l j)) (hx : ∀ i k, IsReal (xrow m c i k)) (hg : ∀ k, IsReal (scale m c k))
    (hw : ∀ k j, IsReal (win m c k j)) (a : Fin 256) (e : Fin 1024) (b : Fin 256) : (dats m 0 c).arrAt 12 cfg0.N (ix3 a e b)
    = query ⟨(a.val * 256 + b.val) % 2048, by omega⟩ (xrow m c ⟨a.val * 256 + b.val, by omega⟩) (scale m c) (win m c) (qscale m c) (qwin m c) ⟨e.val / 128, by omega⟩ ⟨e.val % 128, by omega⟩ := by
  obtain ⟨t, ht⟩ : ∃ t : Fin cfg0.N, t.val = a.val / 2 := ⟨⟨a.val / 2, by have := a.isLt; show _ < 128; omega⟩, rfl⟩
  obtain ⟨p, hp⟩ : ∃ p : Fin 2, p.val = a.val % 2 := ⟨⟨a.val % 2, by omega⟩, rfl⟩
  have ha : a.val = t.val * 2 + p.val := by omega
  have h1 := congrFun (Value.blocks12 m c t (flush0_12 t)) (ix3 p e b)
  have h2 : ((cfg0.win 12).blk t).view.read (Elt Ideal) ((dats m 0 c).arrAt 12 cfg0.N) (ix3 p e b) = (dats m 0 c).arrAt 12 cfg0.N (ix3 a e b) := by
    refine congrArg ((dats m 0 c).arrAt 12 cfg0.N) (funext fun a => Fin.ext ?_)
    match a with
    | 0 => exact (Rect.emb_apply _ _ _).trans (by simp [index12 t, ha])
    | 1 => exact (Rect.emb_apply _ _ _).trans (by simp [index12 t])
    | 2 => exact (Rect.emb_apply _ _ _).trans (by simp [index12 t])
  refine h2.symm.trans (h1.trans ((congrFun (Value.flushed12 m c t) (ix3 p e b)).trans ?_))
  refine (out12_at _ _ _ _ _ _ _ _ _ _ _ _ p e b).trans ?_
  have e0 (l : Fin 256) : (dot (iblk m c 0 t) (iblk m c 3 t) ⟨p.val * 256 + b.val, by omega⟩ fun k => iblk m c 4 t (ix2 k ⟨l.val, by omega⟩))
      = z (xrow m c ⟨a.val * 256 + b.val, by omega⟩) (scale m c) (win m c) ⟨l.val, by omega⟩ :=
    dot_eq m c t ⟨p.val * 256 + b.val, by omega⟩ ⟨a.val * 256 + b.val, by omega⟩ (by dsimp only; omega) _ _ fun k => (iblk4_eq m c t k ⟨l.val, by omega⟩).trans (waq_at (fun b => m (c, b)) k l)
  refine query_of m c ⟨(a.val * 256 + b.val) % 2048, by omega⟩ ⟨a.val * 256 + b.val, by omega⟩ e _ _ _ _ _ hgq hwq (hx _) hg hw ?_ ?_ ?_ ?_ ?_
  · intro l
    exact congrArg₂ (fun u v => latq u v l) (funext e0) (funext fun l => iblk7_at m c t l)
  · intro l
    exact (iblk8_eq m c t l ⟨e.val, by omega⟩).trans (wqp_at (fun b => m (c, b)) l e)
  · intro l
    exact (iblk8_eq m c t l ⟨1024 + e.val, by omega⟩).trans (wqs_at (fun b => m (c, b)) l e)
  · exact iblk1_at m c t ⟨p.val * 256 + b.val, by omega⟩ ⟨e.val % 128, by omega⟩ ⟨(a.val * 256 + b.val) % 2048, by omega⟩ (by dsimp only; omega)
  · exact iblk2_at m c t ⟨p.val * 256 + b.val, by omega⟩ ⟨e.val % 128, by omega⟩ ⟨(a.val * 256 + b.val) % 2048, by omega⟩ (by dsimp only; omega)

/-- The keys' own columns are real when the input weights are. -/
theorem own_real {w : Fin 4528 → EReal} (h : ∀ j, IsReal (w j)) (q : Fin 96) : IsReal (own w q) := by
  unfold own
  split
  · exact ⟨0, rfl⟩
  · exact h _

/-- The part of the keys all heads share, turned. -/
theorem shared_of (s : Fin 2048) (i : Fin 65536) (d : Fin 128) (hx : ∀ k, IsReal (xrow m c i k)) (hg : ∀ k, IsReal (scale m c k)) (hw : ∀ k j, IsReal (win m c k j)) :
    (∑ k : Fin 1024, rms (xrow m c i) (scale m c) k * plain (own (win m c k)) d) * cosT (cosines s) d
        + (∑ k : Fin 1024, rms (xrow m c i) (scale m c) k * swapped (own (win m c k)) d) * sinT (sines s) d
      = head (cosines s) (sines s) (fun _ => 0) (fun q => z (xrow m c i) (scale m c) (win m c) ⟨384 + q.val, by omega⟩) d := by
  refine (head_eq (cosines s) (sines s) (rms (xrow m c i) (scale m c)) (fun k => own (win m c k)) (fun k q => (rms_real hx hg k).mul (own_real (hw k) q)) d).trans ?_
  refine congrArg₂ (fun p t => head (cosines s) (sines s) p t d) (funext fun q => ?_) (funext fun q => ?_)
  · simp only [own_zero, mul_zero, Finset.sum_const_zero]
  · unfold z
    exact Finset.sum_congr rfl fun k _ => congrArg (_ * ·) (own_at (win m c k) q.val q.isLt)

/-- The tile's keys, given what its windows hold. -/
theorem key_of (s : Fin 2048) (i : Fin 65536) (h : Fin 8) (d : Fin 128) (u w0 : Fin 128 → EReal) (y0 y1 c0 s0 : EReal)
    (hx : ∀ k, IsReal (xrow m c i k)) (hg : ∀ k, IsReal (scale m c k)) (hw : ∀ k j, IsReal (win m c k j))
    (hu : ∀ l, u l = lat (fun l => z (xrow m c i) (scale m c) (win m c) ⟨256 + l.val, by omega⟩) (lscale m c) l)
    (h0 : ∀ l, w0 l = if d.val < 64 then lwin m c l ⟨h.val * 128 + d.val, by omega⟩ else 0)
    (hy0 : y0 = ∑ k : Fin 1024, rms (xrow m c i) (scale m c) k * plain (own (win m c k)) d)
    (hy1 : y1 = ∑ k : Fin 1024, rms (xrow m c i) (scale m c) k * swapped (own (win m c k)) d)
    (hc : c0 = cosT (cosines s) d) (hs : s0 = sinT (sines s) d) :
    (∑ l : Fin 128, u l * w0 l) + (y0 * c0 + y1 * s0)
      = keyh s (xrow m c i) (scale m c) (win m c) (lscale m c) (lwin m c) h d := by
  rw [funext hu, funext h0, hy0, hy1, hc, hs, shared_of m c s i d hx hg hw]
  unfold keyh
  refine Eq.trans (congrArg (· + _) ?_) (head_add _ _ _ _ d)
  by_cases g : d.val < 64
  · simp only [if_pos g, dif_pos g]
  · simp only [if_neg g, dif_neg g, mul_zero, Finset.sum_const_zero]

set_option maxHeartbeats 1000000 in
/-- The keys, turned about. -/
theorem arr13_at (hx : ∀ i k, IsReal (xrow m c i k)) (hg : ∀ k, IsReal (scale m c k)) (hw : ∀ k j, IsReal (win m c k j))
    (a : Fin 256) (h : Fin 8) (b : Fin 256) (d : Fin 128) : (dats m 0 c).arrAt 13 cfg0.N (ix4 a h b d)
    = keyh ⟨(a.val * 256 + b.val) % 2048, by omega⟩ (xrow m c ⟨a.val * 256 + b.val, by omega⟩) (scale m c) (win m c) (lscale m c) (lwin m c) h d := by
  obtain ⟨t, ht⟩ : ∃ t : Fin cfg0.N, t.val = a.val / 2 := ⟨⟨a.val / 2, by have := a.isLt; show _ < 128; omega⟩, rfl⟩
  obtain ⟨p, hp⟩ : ∃ p : Fin 2, p.val = a.val % 2 := ⟨⟨a.val % 2, by omega⟩, rfl⟩
  have ha : a.val = t.val * 2 + p.val := by omega
  have h1 := congrFun (Value.blocks13 m c t (flush0_13 t)) (ix4 p h b d)
  have h2 : ((cfg0.win 13).blk t).view.read (Elt Ideal) ((dats m 0 c).arrAt 13 cfg0.N) (ix4 p h b d) = (dats m 0 c).arrAt 13 cfg0.N (ix4 a h b d) := by
    refine congrArg ((dats m 0 c).arrAt 13 cfg0.N) (funext fun a => Fin.ext ?_)
    match a with
    | 0 => exact (Rect.emb_apply _ _ _).trans (by simp [index13 t, ha])
    | 1 => exact (Rect.emb_apply _ _ _).trans (by simp [index13 t])
    | 2 => exact (Rect.emb_apply _ _ _).trans (by simp [index13 t])
    | 3 => exact (Rect.emb_apply _ _ _).trans (by simp [index13 t])
  refine h2.symm.trans (h1.trans ((congrFun (Value.flushed13 m c t) (ix4 p h b d)).trans ?_))
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p h b d).trans ?_
  have e0 (l : Fin 128) : (dot (iblk m c 0 t) (iblk m c 3 t) ⟨p.val * 256 + b.val, by omega⟩ fun k => iblk m c 4 t (ix2 k ⟨256 + l.val, by omega⟩))
      = z (xrow m c ⟨a.val * 256 + b.val, by omega⟩) (scale m c) (win m c) ⟨256 + l.val, by omega⟩ :=
    dot_eq m c t ⟨p.val * 256 + b.val, by omega⟩ ⟨a.val * 256 + b.val, by omega⟩ (by dsimp only; omega) _ _ fun k => iblk4_at m c t k l
  refine key_of m c ⟨(a.val * 256 + b.val) % 2048, by omega⟩ ⟨a.val * 256 + b.val, by omega⟩ h d _ _ _ _ _ _ (hx _) hg hw ?_ ?_ ?_ ?_ ?_ ?_
  · intro l
    exact congrArg₂ (fun u v => lat u v l) (funext e0) (funext fun l => iblk9_at m c t l)
  · intro l
    exact iblk10_key m c t l h d
  · exact dot_row m c t ⟨p.val * 256 + b.val, by omega⟩ ⟨a.val * 256 + b.val, by omega⟩ (by dsimp only; omega) _ (fun k => plain (own (win m c k)) d) fun k => (iblk4_eq m c t k ⟨384 + d.val, by omega⟩).trans (wap_at (fun b => m (c, b)) k d)
  · exact dot_row m c t ⟨p.val * 256 + b.val, by omega⟩ ⟨a.val * 256 + b.val, by omega⟩ (by dsimp only; omega) _ (fun k => swapped (own (win m c k)) d) fun k => (iblk4_eq m c t k ⟨512 + d.val, by omega⟩).trans (was_at (fun b => m (c, b)) k d)
  · exact iblk1_at m c t ⟨p.val * 256 + b.val, by omega⟩ d ⟨(a.val * 256 + b.val) % 2048, by omega⟩ (by dsimp only; omega)
  · exact iblk2_at m c t ⟨p.val * 256 + b.val, by omega⟩ d ⟨(a.val * 256 + b.val) % 2048, by omega⟩ (by dsimp only; omega)

end Cert.Kernel3Ideal.Proj

end
-- ==== Proof.Proj.Reference.lean ====
module

public import proofs.«01_k».proof.Proof.Proj.Spec
public import proofs.«01_k».proof.Proof.Gen.Reference3Ideal.Run

/-!
# The input projection reference's results, element by element
-/

@[expose] public section

noncomputable section

namespace Cert.Reference3Ideal.Proj

open Cert.Reference3Ideal Cert.Reference3Ideal.Gen Cert.Reference3Ideal.Value Cert.Ffn Cert.Proj
open Idealize.ShloMosaic Idealize.ShloMosaic.TcCoe Idealize.SL.Sem

/-- The projection of every row of every sequence. -/
def proj (x : FVec Ideal S32x2048x1024 .f32) (g : FVec Ideal S1x1024 .f32) (w : FVec Ideal S1x1024x4528 .f32) : FVec Ideal S32x2048x4528 .f32 :=
  (Host.dotGeneral dot_S32x2048x1024_S1024x4528_S32x2048x4528_2_0_01_1_n_n none (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (shapeCast _ w shapeCasts_S1x1024x4528_S1024x4528))

theorem proj_at (x : FVec Ideal S32x2048x1024 .f32) (g : FVec Ideal S1x1024 .f32) (w : FVec Ideal S1x1024x4528 .f32) (a : Fin 32) (b : Fin 2048) (j : Fin 4528) : proj x g w (ix3 a b j)
    = z (fun k => x (ix3 a b k)) (fun k => g (ix2 0 k)) (fun k j => w (ix3 0 k j)) j := by
  unfold proj z rms
  pointwise

/-- The latent, normalized. -/
def latent (T : FVec Ideal S32x2048x128 .f32) (g : FVec Ideal S1x128 .f32) : FVec Ideal S32x2048x128 .f32 :=
  (mulf (mulf T (broadcastInDim S32x2048x128 ![0, 1, 2] bcast_S32x2048x1_S32x2048x128_0_1_2 (Host.rsqrt (addf (Host.divf (broadcastInDim S32x2048x1 ![0, 1] bcast_S32x2048_S32x2048x1_0_1 (Host.reduceAdd (mulf T T) (constant S_ .f32 0x00000000#32) reducesTo_S32x2048x128_S32x2048_d2 h_S_)) (broadcastInDim S32x2048x1 ![] bcast_S_S32x2048x1 (constant S_ .f32 0x43000000#32))) (broadcastInDim S32x2048x1 ![] bcast_S_S32x2048x1 (constant S_ .f32 0x358637BD#32)))))) (broadcastInDim S32x2048x128 ![0, 1, 2] bcast_S1x1x128_S32x2048x128_0_1_2 (broadcastInDim S1x1x128 ![2] bcast_S128_S1x1x128_2 (shapeCast _ g shapeCasts_S1x128_S128))))

theorem latent_at (T : FVec Ideal S32x2048x128 .f32) (g : FVec Ideal S1x128 .f32) (a : Fin 32) (b : Fin 2048) (l : Fin 128) : latent T g (ix3 a b l)
    = lat (fun l => T (ix3 a b l)) (fun l => g (ix2 0 l)) l := by
  unfold latent lat
  pointwise

/-- The logarithm of the logistic function, as the reference takes it. -/
def logs (L : FVec Ideal S32x2048x2x4 .f32) : FVec Ideal S32x2048x2x4 .f32 :=
  (Host.negf (select (cmpf .une (subf (Host.negf L) (broadcastInDim S32x2048x2x4 ![] bcast_S_S32x2048x2x4 (constant S_ .f32 0x00000000#32))) (subf (Host.negf L) (broadcastInDim S32x2048x2x4 ![] bcast_S_S32x2048x2x4 (constant S_ .f32 0x00000000#32)))) (addf (Host.negf L) (broadcastInDim S32x2048x2x4 ![] bcast_S_S32x2048x2x4 (constant S_ .f32 0x00000000#32))) (addf (maximumf (Host.negf L) (broadcastInDim S32x2048x2x4 ![] bcast_S_S32x2048x2x4 (constant S_ .f32 0x00000000#32))) (Host.log1p (Host.exp (Host.negf (Host.absf (subf (Host.negf L) (broadcastInDim S32x2048x2x4 ![] bcast_S_S32x2048x2x4 (constant S_ .f32 0x00000000#32))))))))))

/-- Reading at equal places. -/
theorem at3 {p q r : Nat} (Z : Shape.Idx ⟨3, ![p, q, r]⟩ → EReal) {a a' : Fin p} {b b' : Fin q} {j j' : Fin r} (ha : a.val = a'.val) (hb : b.val = b'.val)
    (hj : j.val = j'.val) : Z (ix3 a b j) = Z (ix3 a' b' j') := by
  rw [Fin.ext ha, Fin.ext hb, Fin.ext hj]

/-- Reading at equal places. -/
theorem at4 {p q r s : Nat} (Z : Shape.Idx ⟨4, ![p, q, r, s]⟩ → EReal) {a a' : Fin p} {b b' : Fin q} {j j' : Fin r} {k k' : Fin s} (ha : a.val = a'.val)
    (hb : b.val = b'.val) (hj : j.val = j'.val) (hk : k.val = k'.val) : Z (ix4 a b j k) = Z (ix4 a' b' j' k') := by
  rw [Fin.ext ha, Fin.ext hb, Fin.ext hj, Fin.ext hk]

/-- `log (1 + exp y)` is never negative infinity. -/
theorem log1p_exp_ne_bot (y : EReal) : Ideal.log1p (Ideal.exp y) ≠ ⊥ := by
  have key (r : ℝ) (h : 0 < r) : Ideal.log (r : EReal) ≠ ⊥ := by
    show (if r ≤ 0 then (⊥ : EReal) else (Real.log r : EReal)) ≠ ⊥
    rw [if_neg (not_le.mpr h)]
    exact EReal.coe_ne_bot _
  induction y with
  | bot =>
    show Ideal.log (1 + 0) ≠ ⊥
    rw [add_zero]
    exact key 1 one_pos
  | top =>
    show Ideal.log (1 + ⊤) ≠ ⊥
    rw [show (1 : EReal) + ⊤ = ⊤ from EReal.coe_add_top 1]
    exact top_ne_bot
  | coe r =>
    show Ideal.log (((1 : ℝ) : EReal) + (Real.exp r : EReal)) ≠ ⊥
    rw [← EReal.coe_add]
    exact key _ (by positivity)

/-- The reference's form of the logarithm of the logistic function. -/
theorem logSigm_eq (x : EReal) : (-if -x ≠ -x then -x else max (-x) 0 + Ideal.log1p (Ideal.exp (-(max (-x) (- -x))))) = logSigm x := by
  unfold logSigm
  rw [if_neg (not_not.mpr rfl), neg_neg, max_comm (-x) x, EReal.neg_add (.inl _) (.inr (log1p_exp_ne_bot _))]
  · rw [show max (-x) (0 : EReal) = -(min x 0) from by rw [← EReal.max_neg_neg, neg_zero], neg_neg]
  · exact ((bot_lt_iff_ne_bot).mp (lt_of_lt_of_le EReal.bot_lt_zero (le_max_right _ _)))

theorem logs_at (L : FVec Ideal S32x2048x2x4 .f32) (i : S32x2048x2x4.Idx) : logs L i = logSigm (L i) := by
  unfold logs logSigm
  rw [eq_ix4 i]
  generalize i 0 = a
  generalize i 1 = b
  generalize i 2 = d
  generalize i 3 = e
  pointwise
  exact logSigm_eq _

theorem turned87 (K : FVec Ideal S32x2048x1024 .f32) (a : Fin 256) (d : Fin 512) (b : Fin 256) : (transpose S256x512x256 [0, 2, 1] (shapeCast _ (truncf (F := Ideal) .bf16 (shapeCast _ (extractStridedSlice S32x2048x8x64 ![0, 0, 0, 64] (shapeCast _ K shapeCasts_S32x2048x1024_S32x2048x8x128) slices_S32x2048x8x128_S32x2048x8x64_0_0_0_64) shapeCasts_S32x2048x8x64_S65536x512) bitsLt_bf16_f32) shapeCasts_S65536x512_S256x256x512) transposes_S256x256x512_S256x512x256_0_2_1 : FVec Ideal S256x512x256 .bf16) (ix3 a d b)
    = K (ix3 ⟨(a.val * 256 + b.val) / 2048, by omega⟩ ⟨(a.val * 256 + b.val) % 2048, by omega⟩ ⟨d.val / 64 * 128 + (64 + d.val % 64), by omega⟩) := by
  pointwise

theorem turned94 (G H : FVec Ideal S32x2048x2x4 .f32) (a : Fin 512) (j : Fin 16) (b : Fin 128) : (transpose S512x16x128 [0, 2, 1] (shapeCast _ (shapeCast _ (concatenate S32x2048x4x4 2 [⟨S32x2048x2x4, G⟩, ⟨S32x2048x2x4, H⟩] concatenates_S32x2048x2x4_S32x2048x2x4_S32x2048x4x4_d2) shapeCasts_S32x2048x4x4_S65536x16) shapeCasts_S65536x16_S512x128x16) transposes_S512x128x16_S512x16x128_0_2_1 : FVec Ideal S512x16x128 .f32) (ix3 a j b)
    = if h : j.val < 8 then G (ix4 ⟨(a.val * 128 + b.val) / 2048, by omega⟩ ⟨(a.val * 128 + b.val) % 2048, by omega⟩ ⟨j.val / 4, by omega⟩ ⟨j.val % 4, by omega⟩)
      else H (ix4 ⟨(a.val * 128 + b.val) / 2048, by omega⟩ ⟨(a.val * 128 + b.val) % 2048, by omega⟩ ⟨(j.val - 8) / 4, by omega⟩ ⟨(j.val - 8) % 4, by omega⟩) := by
  pointwise
  by_cases h : j.val < 8
  · rw [dif_pos (by omega), dif_pos h]
    exact at4 G (by dsimp only; omega) (by dsimp only; omega) rfl rfl
  · rw [dif_neg (by omega), dif_neg h]
    exact at4 H (by dsimp only; omega) (by dsimp only; omega) (by dsimp only; omega) (by dsimp only; omega)

/-- The input gates. -/
def inGate (Z : FVec Ideal S32x2048x4528 .f32) (w : FVec Ideal S1x2x4 .f32) : FVec Ideal S32x2048x2x4 .f32 :=
  addf (shapeCast _ (extractStridedSlice S32x2048x8 ![0, 0, 2464] Z slices_S32x2048x4528_S32x2048x8_0_0_2464) shapeCasts_S32x2048x8_S32x2048x2x4) (broadcastInDim S32x2048x2x4 ![0, 1, 2, 3] bcast_S1x1x2x4_S32x2048x2x4_0_1_2_3 (broadcastInDim S1x1x2x4 ![2, 3] bcast_S2x4_S1x1x2x4_2_3 (shapeCast _ w shapeCasts_S1x2x4_S2x4)))

theorem biased2464 (Z : FVec Ideal S32x2048x4528 .f32) (w : FVec Ideal S1x2x4 .f32) (a : Fin 32) (b : Fin 2048) (d : Fin 2) (e : Fin 4) : inGate Z w (ix4 a b d e)
    = Z (ix3 a b ⟨2464 + (d.val * 4 + e.val), by omega⟩) + w (ix3 0 d e) := by
  unfold inGate
  pointwise

/-- The forget gates before their logarithm. -/
def forgetGate (Z : FVec Ideal S32x2048x4528 .f32) (w : FVec Ideal S1x2x4 .f32) : FVec Ideal S32x2048x2x4 .f32 :=
  addf (shapeCast _ (extractStridedSlice S32x2048x8 ![0, 0, 2472] Z slices_S32x2048x4528_S32x2048x8_0_0_2472) shapeCasts_S32x2048x8_S32x2048x2x4) (broadcastInDim S32x2048x2x4 ![0, 1, 2, 3] bcast_S1x1x2x4_S32x2048x2x4_0_1_2_3 (broadcastInDim S1x1x2x4 ![2, 3] bcast_S2x4_S1x1x2x4_2_3 (shapeCast _ w shapeCasts_S1x2x4_S2x4)))

theorem biased2472 (Z : FVec Ideal S32x2048x4528 .f32) (w : FVec Ideal S1x2x4 .f32) (a : Fin 32) (b : Fin 2048) (d : Fin 2) (e : Fin 4) : forgetGate Z w (ix4 a b d e)
    = Z (ix3 a b ⟨2472 + (d.val * 4 + e.val), by omega⟩) + w (ix3 0 d e) := by
  unfold forgetGate
  pointwise

theorem turned90 (Z : FVec Ideal S32x2048x4528 .f32) (a : Fin 512) (j : Fin 512) (b : Fin 128) : (transpose S512x512x128 [0, 2, 1] (shapeCast _ (truncf (F := Ideal) .bf16 (mulf (extractStridedSlice S32x2048x512 ![0, 0, 928] Z slices_S32x2048x4528_S32x2048x512_0_0_928) (broadcastInDim S32x2048x512 ![] bcast_S_S32x2048x512 (constant S_ .f32 0x3DB504F3#32))) bitsLt_bf16_f32) shapeCasts_S32x2048x512_S512x128x512) transposes_S512x128x512_S512x512x128_0_2_1 : FVec Ideal S512x512x128 .bf16) (ix3 a j b)
    = Z (ix3 ⟨(a.val * 128 + b.val) / 2048, by omega⟩ ⟨(a.val * 128 + b.val) % 2048, by omega⟩ ⟨928 + j.val, by omega⟩) * Ideal.ofBits FTy.f32 0x3DB504F3#32 := by
  pointwise
  exact congrArg (· * _) (at3 Z (by dsimp only; omega) (by dsimp only; omega) rfl)

theorem rows88 (Z : FVec Ideal S32x2048x4528 .f32) (i : Fin 65536) (j : Fin 512) : (shapeCast _ (truncf (F := Ideal) .bf16 (extractStridedSlice S32x2048x512 ![0, 0, 416] Z slices_S32x2048x4528_S32x2048x512_0_0_416) bitsLt_bf16_f32) shapeCasts_S32x2048x512_S65536x512 : FVec Ideal S65536x512 .bf16) (ix2 i j)
    = Z (ix3 ⟨i.val / 2048, by omega⟩ ⟨i.val % 2048, by omega⟩ ⟨416 + j.val, by omega⟩) := by
  pointwise

theorem rows91 (Z : FVec Ideal S32x2048x4528 .f32) (i : Fin 65536) (j : Fin 512) : (shapeCast _ (truncf (F := Ideal) .bf16 (extractStridedSlice S32x2048x512 ![0, 0, 1440] Z slices_S32x2048x4528_S32x2048x512_0_0_1440) bitsLt_bf16_f32) shapeCasts_S32x2048x512_S65536x512 : FVec Ideal S65536x512 .bf16) (ix2 i j)
    = Z (ix3 ⟨i.val / 2048, by omega⟩ ⟨i.val % 2048, by omega⟩ ⟨1440 + j.val, by omega⟩) := by
  pointwise

theorem rows92 (Z : FVec Ideal S32x2048x4528 .f32) (i : Fin 65536) (j : Fin 512) : (shapeCast _ (truncf (F := Ideal) .bf16 (Host.divf (broadcastInDim S32x2048x512 ![] bcast_S_S32x2048x512 (constant S_ .f32 0x3F800000#32)) (addf (broadcastInDim S32x2048x512 ![] bcast_S_S32x2048x512 (constant S_ .f32 0x3F800000#32)) (Host.exp (Host.negf (extractStridedSlice S32x2048x512 ![0, 0, 1952] Z slices_S32x2048x4528_S32x2048x512_0_0_1952))))) bitsLt_bf16_f32) shapeCasts_S32x2048x512_S65536x512 : FVec Ideal S65536x512 .bf16) (ix2 i j)
    = sigm (Z (ix3 ⟨i.val / 2048, by omega⟩ ⟨i.val % 2048, by omega⟩ ⟨1952 + j.val, by omega⟩)) := by
  unfold sigm
  pointwise

theorem rows95 (Z : FVec Ideal S32x2048x4528 .f32) (i : Fin 65536) (j : Fin 1024) : (shapeCast _ (truncf (F := Ideal) .bf16 (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 2480] Z slices_S32x2048x4528_S32x2048x1024_0_0_2480))))) bitsLt_bf16_f32) shapeCasts_S32x2048x1024_S65536x1024 : FVec Ideal S65536x1024 .bf16) (ix2 i j)
    = sigm (Z (ix3 ⟨i.val / 2048, by omega⟩ ⟨i.val % 2048, by omega⟩ ⟨2480 + j.val, by omega⟩)) := by
  unfold sigm
  pointwise

theorem rows96 (Z : FVec Ideal S32x2048x4528 .f32) (i : Fin 65536) (j : Fin 1024) : (shapeCast _ (truncf (F := Ideal) .bf16 (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 3504] Z slices_S32x2048x4528_S32x2048x1024_0_0_3504))))) bitsLt_bf16_f32) shapeCasts_S32x2048x1024_S65536x1024 : FVec Ideal S65536x1024 .bf16) (ix2 i j)
    = sigm (Z (ix3 ⟨i.val / 2048, by omega⟩ ⟨i.val % 2048, by omega⟩ ⟨3504 + j.val, by omega⟩)) := by
  unfold sigm
  pointwise

variable (m : (ℓ : Loc nD τ sig) → Buf (Elt Ideal) ℓ) (c : Dev nD)

/-- A row of the residual stream, as launched. -/
abbrev xrow (i : Fin 65536) : Fin 1024 → EReal := row (fun a b k => m ((c.tc : Thread nD τ).loc main_arg0) (ix3 a b k)) i
/-- The norm's scale. -/
abbrev scale (k : Fin 1024) : EReal := m ((c.tc : Thread nD τ).loc main_arg1) (ix2 0 k)
/-- The input weights. -/
abbrev win (k : Fin 1024) (j : Fin 4528) : EReal := m ((c.tc : Thread nD τ).loc main_arg2) (ix3 0 k j)
/-- The latent's scale. -/
abbrev lscale (l : Fin 128) : EReal := m ((c.tc : Thread nD τ).loc main_arg5) (ix2 0 l)
/-- The latent's weights. -/
abbrev lwin (l : Fin 128) (j : Fin 1024) : EReal := m ((c.tc : Thread nD τ).loc main_arg6) (ix3 0 l j)
/-- The input gates' bias. -/
abbrev ibias (a : Fin 2) (b : Fin 4) : EReal := m ((c.tc : Thread nD τ).loc main_arg7) (ix3 0 a b)
/-- The forget gates' bias. -/
abbrev fbias (a : Fin 2) (b : Fin 4) : EReal := m ((c.tc : Thread nD τ).loc main_arg8) (ix3 0 a b)

/-- The projection of the launched arrays. -/
abbrev prj : FVec Ideal S32x2048x4528 .f32 := proj (m ((c.tc : Thread nD τ).loc main_arg0)) (m ((c.tc : Thread nD τ).loc main_arg1)) (m ((c.tc : Thread nD τ).loc main_arg2))

/-- Its element in row `i` of all. -/
theorem prj_at (i : Fin 65536) (j : Fin 4528) : prj m c (ix3 ⟨i.val / 2048, by omega⟩ ⟨i.val % 2048, by omega⟩ j) = z (xrow m c i) (scale m c) (win m c) j :=
  proj_at _ _ _ _ _ _

/-- A latent's product with its weights. -/
def up (T : FVec Ideal S32x2048x128 .f32) (w : FVec Ideal S1x128x1024 .f32) : FVec Ideal S32x2048x1024 .f32 :=
  Host.dotGeneral dot_S32x2048x128_S128x1024_S32x2048x1024_2_0_01_1_n_n none T (shapeCast _ w shapeCasts_S1x128x1024_S128x1024)

/-- The product of a latent with its weights. -/
theorem kv_at (T : FVec Ideal S32x2048x128 .f32) (w : FVec Ideal S1x128x1024 .f32) (a : Fin 32) (b : Fin 2048) (d : Fin 1024) :
    up T w (ix3 a b d)
    = ∑ l : Fin 128, T (ix3 a b l) * w (ix3 0 l d) := by
  unfold up
  pointwise

/-- The latent's columns of a projection. -/
theorem cols_at (Z : FVec Ideal S32x2048x4528 .f32) (a : Fin 32) (b : Fin 2048) (l : Fin 128) :
    (extractStridedSlice S32x2048x128 ![0, 0, 256] Z slices_S32x2048x4528_S32x2048x128_0_0_256 : FVec Ideal S32x2048x128 .f32) (ix3 a b l) = Z (ix3 a b ⟨256 + l.val, by omega⟩) := by
  pointwise

/-- The attention's values, by their parts. -/
theorem v87_eq : res_main_v87 m c = (transpose S256x512x256 [0, 2, 1] (shapeCast _ (truncf (F := Ideal) .bf16 (shapeCast _ (extractStridedSlice S32x2048x8x64 ![0, 0, 0, 64] (shapeCast _ (up (latent (extractStridedSlice S32x2048x128 ![0, 0, 256] (prj m c) slices_S32x2048x4528_S32x2048x128_0_0_256) (m ((c.tc : Thread nD τ).loc main_arg5))) (m ((c.tc : Thread nD τ).loc main_arg6))) shapeCasts_S32x2048x1024_S32x2048x8x128) slices_S32x2048x8x128_S32x2048x8x64_0_0_0_64) shapeCasts_S32x2048x8x64_S65536x512) bitsLt_bf16_f32) shapeCasts_S65536x512_S256x256x512) transposes_S256x256x512_S256x512x256_0_2_1 : FVec Ideal S256x512x256 .bf16) := by
  unfold res_main_v87 prj proj latent up
  rfl

/-- The gates, by their parts. -/
theorem v94_eq : res_main_v94 m c = (transpose S512x16x128 [0, 2, 1] (shapeCast _ (shapeCast _ (concatenate S32x2048x4x4 2 [⟨S32x2048x2x4, inGate (prj m c) (m ((c.tc : Thread nD τ).loc main_arg7))⟩, ⟨S32x2048x2x4, logs (forgetGate (prj m c) (m ((c.tc : Thread nD τ).loc main_arg8)))⟩] concatenates_S32x2048x2x4_S32x2048x2x4_S32x2048x4x4_d2) shapeCasts_S32x2048x4x4_S65536x16) shapeCasts_S65536x16_S512x128x16) transposes_S512x128x16_S512x16x128_0_2_1 : FVec Ideal S512x16x128 .f32) := by
  unfold res_main_v94 prj proj logs inGate forgetGate
  rfl

theorem v87_at (a : Fin 256) (d : Fin 512) (b : Fin 256) : res_main_v87 m c (ix3 a d b)
    = value (xrow m c ⟨a.val * 256 + b.val, by omega⟩) (scale m c) (win m c) (lscale m c) (lwin m c) d := by
  refine (congrFun (v87_eq m c) _).trans ((turned87 _ a d b).trans ?_)
  refine (kv_at _ _ _ _ _).trans ?_
  unfold value
  refine Finset.sum_congr (M := EReal) rfl fun l _ => congrArg (· * _) ((latent_at _ _ _ _ _).trans ?_)
  exact congrArg (fun u => lat u _ l) (funext fun l => (cols_at _ _ _ _).trans (prj_at m c ⟨a.val * 256 + b.val, by omega⟩ _))

theorem v94_at (a : Fin 512) (j : Fin 16) (b : Fin 128) : res_main_v94 m c (ix3 a j b)
    = gate (xrow m c ⟨a.val * 128 + b.val, by omega⟩) (scale m c) (win m c) (ibias m c) (fbias m c) j := by
  refine (congrFun (v94_eq m c) _).trans ((turned94 _ _ a j b).trans ?_)
  unfold gate
  by_cases h : j.val < 8
  · rw [dif_pos h, dif_pos h]
    refine (biased2464 _ _ _ _ _ _).trans (congrArg (· + _) (Eq.trans ?_ (prj_at m c ⟨a.val * 128 + b.val, by omega⟩ _)))
    exact at3 (prj m c) rfl rfl (by dsimp only; omega)
  · rw [dif_neg h, dif_neg h]
    refine (logs_at _ _).trans (congrArg logSigm ((biased2472 _ _ _ _ _ _).trans (congrArg (· + _) (Eq.trans ?_ (prj_at m c ⟨a.val * 128 + b.val, by omega⟩ _)))))
    exact at3 (prj m c) rfl rfl (by dsimp only; omega)

/-- Every run of the reference ends with its results at the specification, and its arguments unchanged. -/
theorem run_at (ρ : Dev nD → PrngReg) : θ_run defs (onTc (τ := τ) (main (F := Ideal))) ⟨m, fun _ => 0, ρ⟩ fun r => ∀ c : Dev nD,
      (∀ a d b, r.2.mem ((c.tc : Thread nD τ).loc main_v87) (ix3 a d b) = value (xrow m c ⟨a.val * 256 + b.val, by omega⟩) (scale m c) (win m c) (lscale m c) (lwin m c) d)
      ∧ (∀ i j, r.2.mem ((c.tc : Thread nD τ).loc main_v88) (ix2 i j) = z (xrow m c i) (scale m c) (win m c) ⟨416 + j.val, by omega⟩)
      ∧ (∀ a j b, r.2.mem ((c.tc : Thread nD τ).loc main_v90) (ix3 a j b) = key (xrow m c ⟨a.val * 128 + b.val, by omega⟩) (scale m c) (win m c) j)
      ∧ (∀ i j, r.2.mem ((c.tc : Thread nD τ).loc main_v91) (ix2 i j) = z (xrow m c i) (scale m c) (win m c) ⟨1440 + j.val, by omega⟩)
      ∧ (∀ i j, r.2.mem ((c.tc : Thread nD τ).loc main_v92) (ix2 i j) = sigm (z (xrow m c i) (scale m c) (win m c) ⟨1952 + j.val, by omega⟩))
      ∧ (∀ a j b, r.2.mem ((c.tc : Thread nD τ).loc main_v94) (ix3 a j b) = gate (xrow m c ⟨a.val * 128 + b.val, by omega⟩) (scale m c) (win m c) (ibias m c) (fbias m c) j)
      ∧ (∀ i j, r.2.mem ((c.tc : Thread nD τ).loc main_v95) (ix2 i j) = sigm (z (xrow m c i) (scale m c) (win m c) ⟨2480 + j.val, by omega⟩))
      ∧ (∀ i j, r.2.mem ((c.tc : Thread nD τ).loc main_v96) (ix2 i j) = sigm (z (xrow m c i) (scale m c) (win m c) ⟨3504 + j.val, by omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Value.run m ρ)
  obtain ⟨h87, h88, h90, h91, h92, h94, h95, h96, k⟩ := h c
  refine ⟨fun a d b => (congrFun h87 _).trans (v87_at m c a d b), fun i j => (congrFun h88 _).trans ((rows88 (prj m c) i j).trans (prj_at m c i _)),
    fun a j b => (congrFun h90 _).trans ((turned90 (prj m c) a j b).trans (congrArg (· * _) (prj_at m c ⟨a.val * 128 + b.val, by omega⟩ _))),
    fun i j => (congrFun h91 _).trans ((rows91 (prj m c) i j).trans (prj_at m c i _)),
    fun i j => (congrFun h92 _).trans ((rows92 (prj m c) i j).trans (congrArg sigm (prj_at m c i _))),
    fun a j b => (congrFun h94 _).trans (v94_at m c a j b),
    fun i j => (congrFun h95 _).trans ((rows95 (prj m c) i j).trans (congrArg sigm (prj_at m c i _))),
    fun i j => (congrFun h96 _).trans ((rows96 (prj m c) i j).trans (congrArg sigm (prj_at m c i _))), k⟩

end Cert.Reference3Ideal.Proj

end
-- ==== Proof.Proj.RotaryReference.lean ====
module

public import proofs.«01_k».proof.Proof.Proj.Reference
public import proofs.«01_k».proof.Proof.Proj.Rotary
public import proofs.«01_k».proof.Proof.Gen.Reference5Ideal.Run

/-!
# The reference's queries and keys, element by element
-/

@[expose] public section

noncomputable section

namespace Cert.Reference5Ideal.Proj

open Cert.Reference5Ideal Cert.Reference5Ideal.Gen Cert.Reference5Ideal.Value Cert.Proj
open Cert.Ffn hiding proj
open Cert.Reference3Ideal.Proj (proj proj_at latent latent_at at3 at4)
open Idealize.ShloMosaic Idealize.ShloMosaic.TcCoe Idealize.SL.Sem

/-- The queries' latent, normalized. -/
def latentq (T : FVec Ideal S32x2048x256 .f32) (g : FVec Ideal S1x256 .f32) : FVec Ideal S32x2048x256 .f32 :=
  (mulf (mulf T (broadcastInDim S32x2048x256 ![0, 1, 2] bcast_S32x2048x1_S32x2048x256_0_1_2 (Host.rsqrt (addf (Host.divf (broadcastInDim S32x2048x1 ![0, 1] bcast_S32x2048_S32x2048x1_0_1 (Host.reduceAdd (mulf T T) (constant S_ .f32 0x00000000#32) reducesTo_S32x2048x256_S32x2048_d2 h_S_)) (broadcastInDim S32x2048x1 ![] bcast_S_S32x2048x1 (constant S_ .f32 0x43800000#32))) (broadcastInDim S32x2048x1 ![] bcast_S_S32x2048x1 (constant S_ .f32 0x358637BD#32)))))) (broadcastInDim S32x2048x256 ![0, 1, 2] bcast_S1x1x256_S32x2048x256_0_1_2 (broadcastInDim S1x1x256 ![2] bcast_S256_S1x1x256_2 (shapeCast _ g shapeCasts_S1x256_S256))))

theorem latentq_at (T : FVec Ideal S32x2048x256 .f32) (g : FVec Ideal S1x256 .f32) (a : Fin 32) (b : Fin 2048) (l : Fin 256) : latentq T g (ix3 a b l)
    = latq (fun l => T (ix3 a b l)) (fun l => g (ix2 0 l)) l := by
  unfold latentq latq
  pointwise

/-- The queries' columns before their turn. -/
def upq (Z : FVec Ideal S32x2048x4528 .f32) (g : FVec Ideal S1x256 .f32) (w : FVec Ideal S1x256x768 .f32) : FVec Ideal S32x2048x768 .f32 :=
  Host.dotGeneral dot_S32x2048x256_S256x768_S32x2048x768_2_0_01_1_n_n none (latentq (extractStridedSlice S32x2048x256 ![0, 0, 0] Z slices_S32x2048x4528_S32x2048x256_0_0_0) g) (shapeCast _ w shapeCasts_S1x256x768_S256x768)

theorem upq_at (Z : FVec Ideal S32x2048x4528 .f32) (g : FVec Ideal S1x256 .f32) (w : FVec Ideal S1x256x768 .f32) (a : Fin 32) (b : Fin 2048) (j : Fin 768) : upq Z g w (ix3 a b j)
    = ∑ l : Fin 256, latq (fun l => Z (ix3 a b ⟨l.val, by omega⟩)) (fun l => g (ix2 0 l)) l * w (ix3 0 l j) := by
  unfold upq
  pointwise
  refine Finset.sum_congr (M := EReal) rfl fun l _ => congrArg (· * _) ((latentq_at _ g a b l).trans (congrArg (fun u => latq u _ l) (funext fun l => ?_)))
  pointwise

/-- The keys' columns of the latent's projection. -/
def upk (Z : FVec Ideal S32x2048x4528 .f32) (g : FVec Ideal S1x128 .f32) (w : FVec Ideal S1x128x1024 .f32) : FVec Ideal S32x2048x1024 .f32 :=
  Host.dotGeneral dot_S32x2048x128_S128x1024_S32x2048x1024_2_0_01_1_n_n none (latent (extractStridedSlice S32x2048x128 ![0, 0, 256] Z slices_S32x2048x4528_S32x2048x128_0_0_256) g) (shapeCast _ w shapeCasts_S1x128x1024_S128x1024)

theorem upk_at (Z : FVec Ideal S32x2048x4528 .f32) (g : FVec Ideal S1x128 .f32) (w : FVec Ideal S1x128x1024 .f32) (a : Fin 32) (b : Fin 2048) (j : Fin 1024) : upk Z g w (ix3 a b j)
    = ∑ l : Fin 128, lat (fun l => Z (ix3 a b ⟨256 + l.val, by omega⟩)) (fun l => g (ix2 0 l)) l * w (ix3 0 l j) := by
  unfold upk
  pointwise
  refine Finset.sum_congr (M := EReal) rfl fun l _ => congrArg (· * _) ((latent_at _ g a b l).trans (congrArg (fun u => lat u _ l) (funext fun l => ?_)))
  pointwise

/-- The angles of every row. -/
def angles : FVec Ideal S2048x16 .f32 :=
  (mulf (broadcastInDim S2048x16 ![0, 1] bcast_S2048x1_S2048x16_0_1 (broadcastInDim S2048x1 ![0] bcast_S2048_S2048x1_0 (sitofp .f32 (addi (broadcastInDim S2048 ![] bcast_S_S2048 (constantI S_ 32 16#32)) (iotaInDim S2048 32 0))))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))

theorem angles_at (s : Fin 2048) (j : Fin 16) : angles (ix2 s j) = angle s j := by
  unfold angles angle
  pointwise
  rfl

theorem cos_at (s : Fin 2048) (j : Fin 16) : Host.cos angles (ix2 s j) = cosines s j := congrArg Ideal.cos (angles_at s j)
theorem sin_at (s : Fin 2048) (j : Fin 16) : Host.sin angles (ix2 s j) = sines s j := congrArg Ideal.sin (angles_at s j)

/-- The turn of every head's last columns. -/
def turnq (R : FVec Ideal S32x2048x8x32 .f32) (C S : FVec Ideal S2048x16 .f32) : FVec Ideal S32x2048x8x32 .f32 :=
  (concatenate S32x2048x8x32 3 [⟨S32x2048x8x16, (subf (mulf (extractStridedSlice S32x2048x8x16 ![0, 0, 0, 0] R slices_S32x2048x8x32_S32x2048x8x16_0_0_0_0) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 C)))) (mulf (extractStridedSlice S32x2048x8x16 ![0, 0, 0, 16] R slices_S32x2048x8x32_S32x2048x8x16_0_0_0_16) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 S)))))⟩, ⟨S32x2048x8x16, (addf (mulf (extractStridedSlice S32x2048x8x16 ![0, 0, 0, 0] R slices_S32x2048x8x32_S32x2048x8x16_0_0_0_0) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 S)))) (mulf (extractStridedSlice S32x2048x8x16 ![0, 0, 0, 16] R slices_S32x2048x8x32_S32x2048x8x16_0_0_0_16) (broadcastInDim S32x2048x8x16 ![0, 1, 2, 3] bcast_S1x2048x1x16_S32x2048x8x16_0_1_2_3 (broadcastInDim S1x2048x1x16 ![1, 2, 3] bcast_S2048x1x16_S1x2048x1x16_1_2_3 (broadcastInDim S2048x1x16 ![0, 2] bcast_S2048x16_S2048x1x16_0_2 C)))))⟩] concatenates_S32x2048x8x16_S32x2048x8x16_S32x2048x8x32_d3)

theorem turnq_at (R : FVec Ideal S32x2048x8x32 .f32) (C S : FVec Ideal S2048x16 .f32) (a : Fin 32) (b : Fin 2048) (h : Fin 8) (q : Fin 32) : turnq R C S (ix4 a b h q)
    = turn (fun j => C (ix2 b j)) (fun j => S (ix2 b j)) (fun q => R (ix4 a b h q)) q := by
  unfold turnq turn
  pointwise
  by_cases g : q.val < 16
  · rw [dif_pos g, dif_pos g]
    refine congrArg (fun x => _ - x * _) (at4 R rfl rfl rfl (by dsimp only; omega))
  · rw [dif_neg g, dif_neg g]
    refine congrArg (fun x => _ + x * _) (at4 R rfl rfl rfl (by dsimp only; omega))

/-- The turn of the columns all heads share. -/
def turnk (R : FVec Ideal S32x2048x1x32 .f32) (C S : FVec Ideal S2048x16 .f32) : FVec Ideal S32x2048x1x32 .f32 :=
  (concatenate S32x2048x1x32 3 [⟨S32x2048x1x16, (subf (mulf (extractStridedSlice S32x2048x1x16 ![0, 0, 0, 0] R slices_S32x2048x1x32_S32x2048x1x16_0_0_0_0) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 C)))) (mulf (extractStridedSlice S32x2048x1x16 ![0, 0, 0, 16] R slices_S32x2048x1x32_S32x2048x1x16_0_0_0_16) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 S)))))⟩, ⟨S32x2048x1x16, (addf (mulf (extractStridedSlice S32x2048x1x16 ![0, 0, 0, 0] R slices_S32x2048x1x32_S32x2048x1x16_0_0_0_0) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 S)))) (mulf (extractStridedSlice S32x2048x1x16 ![0, 0, 0, 16] R slices_S32x2048x1x32_S32x2048x1x16_0_0_0_16) (broadcastInDim S32x2048x1x16 ![0, 1, 2, 3] bcast_S1x2048x1x16_S32x2048x1x16_0_1_2_3 (broadcastInDim S1x2048x1x16 ![1, 2, 3] bcast_S2048x1x16_S1x2048x1x16_1_2_3 (broadcastInDim S2048x1x16 ![0, 2] bcast_S2048x16_S2048x1x16_0_2 C)))))⟩] concatenates_S32x2048x1x16_S32x2048x1x16_S32x2048x1x32_d3)

theorem turnk_at (R : FVec Ideal S32x2048x1x32 .f32) (C S : FVec Ideal S2048x16 .f32) (a : Fin 32) (b : Fin 2048) (q : Fin 32) : turnk R C S (ix4 a b 0 q)
    = turn (fun j => C (ix2 b j)) (fun j => S (ix2 b j)) (fun q => R (ix4 a b 0 q)) q := by
  unfold turnk turn
  pointwise
  by_cases g : q.val < 16
  · rw [dif_pos g, dif_pos g]
    refine congrArg (fun x => _ - x * _) (at4 R rfl rfl rfl (by dsimp only; omega))
  · rw [dif_neg g, dif_neg g]
    refine congrArg (fun x => _ + x * _) (at4 R rfl rfl rfl (by dsimp only; omega))

/-- Reading at equal places. -/
theorem at2 {p q : Nat} (Z : Shape.Idx ⟨2, ![p, q]⟩ → EReal) {a a' : Fin p} {b b' : Fin q} (ha : a.val = a'.val) (hb : b.val = b'.val) : Z (ix2 a b) = Z (ix2 a' b') := by
  rw [Fin.ext ha, Fin.ext hb]

/-- Equal columns, cosines and sines turn equally. -/
theorem turn_congr {c c' s s' : Fin 16 → EReal} {t t' : Fin 32 → EReal} (hc : ∀ j, c j = c' j) (hs : ∀ j, s j = s' j) (ht : ∀ q, t q = t' q) (q : Fin 32) : turn c s t q = turn c' s' t' q := by
  rw [funext hc, funext hs, funext ht]

/-- The queries, turned about. -/
def queries (Q : FVec Ideal S32x2048x768 .f32) (C S : FVec Ideal S2048x16 .f32) : FVec Ideal S256x1024x256 .bf16 :=
  transpose S256x1024x256 [0, 2, 1] (shapeCast _ (truncf .bf16 (pad S32x2048x8x128 ![0, 0, 0, 0] ![0, 0, 0, 32] ![0, 0, 0, 0] (mulf (concatenate S32x2048x8x96 3 [⟨S32x2048x8x64, (extractStridedSlice S32x2048x8x64 ![0, 0, 0, 0] (shapeCast _ Q shapeCasts_S32x2048x768_S32x2048x8x96) slices_S32x2048x8x96_S32x2048x8x64_0_0_0_0)⟩, ⟨S32x2048x8x32, (turnq (extractStridedSlice S32x2048x8x32 ![0, 0, 0, 64] (shapeCast _ Q shapeCasts_S32x2048x768_S32x2048x8x96) slices_S32x2048x8x96_S32x2048x8x32_0_0_0_64) C S)⟩] concatenates_S32x2048x8x64_S32x2048x8x32_S32x2048x8x96_d3) (broadcastInDim S32x2048x8x96 ![] bcast_S_S32x2048x8x96 (constant S_ .f32 0x3E16C740#32))) (sitofp .f32 (constantI S_ 32 0#32)) pads_S32x2048x8x96_S32x2048x8x128_000_000_000_0320 h_S_) bitsLt_bf16_f32) shapeCasts_S32x2048x8x128_S256x256x1024) transposes_S256x256x1024_S256x1024x256_0_2_1

theorem queries_at (Q : FVec Ideal S32x2048x768 .f32) (C S : FVec Ideal S2048x16 .f32) (a : Fin 256) (e : Fin 1024) (b : Fin 256) : queries Q C S (ix3 a e b)
    = head (fun j => C (ix2 ⟨(a.val * 256 + b.val) % 2048, by omega⟩ j)) (fun j => S (ix2 ⟨(a.val * 256 + b.val) % 2048, by omega⟩ j))
        (fun q => Q (ix3 ⟨(a.val * 256 + b.val) / 2048, by omega⟩ ⟨(a.val * 256 + b.val) % 2048, by omega⟩ ⟨e.val / 128 * 96 + q.val, by omega⟩))
        (fun q => Q (ix3 ⟨(a.val * 256 + b.val) / 2048, by omega⟩ ⟨(a.val * 256 + b.val) % 2048, by omega⟩ ⟨e.val / 128 * 96 + (64 + q.val), by omega⟩)) ⟨e.val % 128, by omega⟩
      * Ideal.ofBits FTy.f32 0x3E16C740#32 := by
  unfold queries head
  pointwise
  by_cases h64 : e.val % 128 < 64
  · have hc : a.val / 8 < 32 ∧ a.val % 8 * 256 + b.val < 2048 ∧ e.val / 128 < 8 ∧ e.val % 128 < 96 := ⟨by omega, by omega, by omega, by omega⟩
    simp only [dif_pos hc, dif_pos h64]
    exact congrArg (· * _) (at3 Q (by dsimp only; omega) (by dsimp only; omega) rfl)
  by_cases h96 : e.val % 128 < 96
  · have hc : a.val / 8 < 32 ∧ a.val % 8 * 256 + b.val < 2048 ∧ e.val / 128 < 8 ∧ e.val % 128 < 96 := ⟨by omega, by omega, by omega, h96⟩
    simp only [dif_pos hc, dif_neg h64, dif_pos h96]
    refine congrArg (· * _) ((turnq_at _ C S _ _ _ _).trans ?_)
    refine turn_congr (fun j => ?_) (fun j => ?_) (fun q => ?_) _
    · exact at2 C (by dsimp only; omega) rfl
    · exact at2 S (by dsimp only; omega) rfl
    · pointwise
      exact at3 Q (by dsimp only; omega) (by dsimp only; omega) rfl
  · rw [dif_neg (fun g => h96 g.2.2.2), dif_neg h64, dif_neg h96, zero_mul]
    exact zero_word

/-- The keys, turned about. -/
def keys (Z : FVec Ideal S32x2048x4528 .f32) (Q : FVec Ideal S32x2048x1024 .f32) (C S : FVec Ideal S2048x16 .f32) : FVec Ideal S256x8x256x128 .bf16 :=
  transpose S256x8x256x128 [0, 2, 1, 3] (shapeCast _ (truncf .bf16 (pad S32x2048x8x128 ![0, 0, 0, 0] ![0, 0, 0, 32] ![0, 0, 0, 0] (concatenate S32x2048x8x96 3 [⟨S32x2048x8x64, (extractStridedSlice S32x2048x8x64 ![0, 0, 0, 0] (shapeCast _ Q shapeCasts_S32x2048x1024_S32x2048x8x128) slices_S32x2048x8x128_S32x2048x8x64_0_0_0_0)⟩, ⟨S32x2048x8x32, (broadcastInDim S32x2048x8x32 ![0, 1, 2, 3] bcast_S32x2048x1x32_S32x2048x8x32_0_1_2_3 (turnk (broadcastInDim S32x2048x1x32 ![0, 1, 3] bcast_S32x2048x32_S32x2048x1x32_0_1_3 (extractStridedSlice S32x2048x32 ![0, 0, 384] Z slices_S32x2048x4528_S32x2048x32_0_0_384)) C S))⟩] concatenates_S32x2048x8x64_S32x2048x8x32_S32x2048x8x96_d3) (sitofp .f32 (constantI S_ 32 0#32)) pads_S32x2048x8x96_S32x2048x8x128_000_000_000_0320 h_S_) bitsLt_bf16_f32) shapeCasts_S32x2048x8x128_S256x256x8x128) transposes_S256x256x8x128_S256x8x256x128_0_2_1_3

theorem keys_at (Z : FVec Ideal S32x2048x4528 .f32) (Q : FVec Ideal S32x2048x1024 .f32) (C S : FVec Ideal S2048x16 .f32) (a : Fin 256) (h : Fin 8) (b : Fin 256) (d : Fin 128) : keys Z Q C S (ix4 a h b d)
    = head (fun j => C (ix2 ⟨(a.val * 256 + b.val) % 2048, by omega⟩ j)) (fun j => S (ix2 ⟨(a.val * 256 + b.val) % 2048, by omega⟩ j))
        (fun q => Q (ix3 ⟨(a.val * 256 + b.val) / 2048, by omega⟩ ⟨(a.val * 256 + b.val) % 2048, by omega⟩ ⟨h.val * 128 + q.val, by omega⟩))
        (fun q => Z (ix3 ⟨(a.val * 256 + b.val) / 2048, by omega⟩ ⟨(a.val * 256 + b.val) % 2048, by omega⟩ ⟨384 + q.val, by omega⟩)) d := by
  unfold keys head
  pointwise
  by_cases h64 : d.val < 64
  · have hc : a.val / 8 < 32 ∧ a.val % 8 * 256 + b.val < 2048 ∧ d.val < 96 := ⟨by omega, by omega, by omega⟩
    simp only [dif_pos hc, dif_pos h64]
    exact at3 Q (by dsimp only; omega) (by dsimp only; omega) rfl
  by_cases h96 : d.val < 96
  · have hc : a.val / 8 < 32 ∧ a.val % 8 * 256 + b.val < 2048 ∧ d.val < 96 := ⟨by omega, by omega, h96⟩
    simp only [dif_pos hc, dif_neg h64, dif_pos h96]
    refine ((turnk_at _ C S _ _ _).trans ?_)
    refine turn_congr (fun j => ?_) (fun j => ?_) (fun q => ?_) _
    · exact at2 C (by dsimp only; omega) rfl
    · exact at2 S (by dsimp only; omega) rfl
    · pointwise
      exact at3 Z (by dsimp only; omega) (by dsimp only; omega) rfl
  · rw [dif_neg (fun g => h96 g.2.2), dif_neg h64, dif_neg h96]
    exact zero_word

variable (m : (ℓ : Loc nD τ sig) → Buf (Elt Ideal) ℓ) (c : Dev nD)

theorem v124_eq : res_main_v124 m c = queries (upq (proj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))
    (Host.cos angles) (Host.sin angles) := by
  unfold res_main_v124 queries upq latentq proj turnq angles
  rfl

theorem v128_eq : res_main_v128 m c = keys (proj (m ((c.tc : Thread nD τ).loc main_arg0)) (m ((c.tc : Thread nD τ).loc main_arg1)) (m ((c.tc : Thread nD τ).loc main_arg2)))
    (upk (proj (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)))
    (Host.cos angles) (Host.sin angles) := by
  unfold res_main_v128 keys upk latent proj turnk angles
  rfl

/-- Row `i` of the sequences laid end to end. -/
abbrev xrow (i : Fin 65536) : Fin 1024 → EReal := row (fun a b k => m ((c.tc : Thread nD τ).loc main_arg0) (ix3 a b k)) i

/-- The queries. -/
theorem v124_at (a : Fin 256) (e : Fin 1024) (b : Fin 256) : res_main_v124 m c (ix3 a e b)
    = query ⟨(a.val * 256 + b.val) % 2048, by omega⟩ (xrow m c ⟨a.val * 256 + b.val, by omega⟩) (fun k => m ((c.tc : Thread nD τ).loc main_arg1) (ix2 0 k)) (fun k j => m ((c.tc : Thread nD τ).loc main_arg2) (ix3 0 k j))
        (fun l => m ((c.tc : Thread nD τ).loc main_arg3) (ix2 0 l)) (fun l j => m ((c.tc : Thread nD τ).loc main_arg4) (ix3 0 l j)) ⟨e.val / 128, by omega⟩ ⟨e.val % 128, by omega⟩ := by
  rw [v124_eq, queries_at]
  unfold query
  simp only [cos_at, sin_at, upq_at, proj_at]
  rfl

/-- The keys. -/
theorem v128_at (a : Fin 256) (h : Fin 8) (b : Fin 256) (d : Fin 128) : res_main_v128 m c (ix4 a h b d)
    = keyh ⟨(a.val * 256 + b.val) % 2048, by omega⟩ (xrow m c ⟨a.val * 256 + b.val, by omega⟩) (fun k => m ((c.tc : Thread nD τ).loc main_arg1) (ix2 0 k)) (fun k j => m ((c.tc : Thread nD τ).loc main_arg2) (ix3 0 k j))
        (fun l => m ((c.tc : Thread nD τ).loc main_arg5) (ix2 0 l)) (fun l j => m ((c.tc : Thread nD τ).loc main_arg6) (ix3 0 l j)) h d := by
  rw [v128_eq, keys_at]
  unfold keyh
  simp only [cos_at, sin_at, upk_at, proj_at]
  rfl

end Cert.Reference5Ideal.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite
public import proofs.«01_k».proof.Proof.Merge.Launch
public import proofs.«01_k».proof.Proof.Merge.Same
public import proofs.«01_k».proof.Proof.Merge.Value
public import proofs.«01_k».proof.Proof.Merge.Reference
public import proofs.«01_k».proof.Proof.Ffn.Value
public import proofs.«01_k».proof.Proof.Ffn.Reference
public import proofs.«01_k».proof.Proof.FfnSample.Value
public import proofs.«01_k».proof.Proof.FfnSample.Reference
public import proofs.«01_k».proof.Proof.Proj.Value
public import proofs.«01_k».proof.Proof.Proj.Same
public import proofs.«01_k».proof.Proof.Proj.RotaryValue
public import proofs.«01_k».proof.Proof.Proj.RotaryReference
public import proofs.«01_k».proof.Proof.Proj.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

section
open Cert.KernelIdeal

/-- Every run of the kernel ends, with the arguments unchanged and the counters at zero, at any float values. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (Cert.KernelIdeal.Merge.run_value (F := F) m ρ)
end

/-- The kernel as written, over bit patterns. -/
theorem frame_kernel : Cert.quiescent_Kernel (hKernel := Cert.Kernel.Gen.facts) := by
  intro m ρ _
  rw [Cert.Merge.defs_eq]
  exact frame (F := Bits) m ρ

/-- The kernel on the extended reals. -/
theorem frame_kernelIdeal : Cert.quiescent_KernelIdeal (hKernelIdeal := Cert.KernelIdeal.Gen.facts) := fun m ρ _ => frame (F := Ideal) m ρ

/-- The reference on the extended reals. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

/-- Kernel and reference leave the same result. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Merge.outG c (Cert.KernelIdeal.Merge.ins m c) (Cert.KernelIdeal.Merge.wts m c),
    (θ_run Cert.KernelIdeal.defs _ _).mono (fun _ h => h.1) (Cert.KernelIdeal.Merge.run_value (F := Ideal) m g),
    (θ_run Cert.ReferenceIdeal.defs _ _).mono (fun _ h c => ⟨(h c).1.trans ?_, (h c).2⟩) (Cert.ReferenceIdeal.Value.run (F := Ideal) m' g')⟩
  obtain ⟨e0, e1, e2, e3, e4, e5, e6, e7, e8, e9⟩ := hm c
  rw [e0, e1, e2, e3, e4, e5, e6, e7, e8, e9]
  funext i
  rw [eq_ix2 i]
  exact (Cert.ReferenceIdeal.Merge.out_at _ _ _ _ _ _ _ _ _ _ _ _).trans (Cert.KernelIdeal.Merge.outG_at m c _ _).symm

/-- The feed-forward kernel as written, over bit patterns. -/
theorem frame_kernel2 : Cert.quiescent_Kernel2 (hKernel2 := Cert.Kernel2.Gen.facts) := fun m ρ _ => Cert.Kernel2.Gen.frame m ρ

/-- The feed-forward kernel on the extended reals. -/
theorem frame_kernel2Ideal : Cert.quiescent_Kernel2Ideal (hKernel2Ideal := Cert.Kernel2Ideal.Gen.facts) := fun m ρ _ => Cert.Kernel2Ideal.Gen.frame m ρ

/-- Its reference on the extended reals. -/
theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run (F := Ideal) m ρ)

/-- The feed-forward kernel and its reference leave the same result. -/
theorem algebraic2 : Cert.algebraic_Kernel2Ideal_Reference2Ideal (hKernel2Ideal := Cert.Kernel2Ideal.Gen.facts)
    (hReference2Ideal := Cert.Reference2Ideal.Gen.facts) := by
  intro m g m' g' _ hm
  refine ⟨fun c => (Cert.Kernel2Ideal.Gen.dats m 0 c).arrAt 11 Cert.Kernel2Ideal.cfg0.N, Cert.Kernel2Ideal.Value.run_blocks (F := Ideal) m g,
    (θ_run Cert.Reference2Ideal.defs _ _).mono (fun _ h c => ⟨(h c).1.trans ?_, (h c).2⟩) (Cert.Reference2Ideal.Value.run (F := Ideal) m' g')⟩
  obtain ⟨e0, e1, e2, e3, e4, e5, e6, e7, e8⟩ := hm c
  funext i
  rw [eq_ix2 i]
  refine (Cert.Reference2Ideal.Ffn.out_at _ _ _).trans (Eq.trans ?_ (Cert.Kernel2Ideal.Ffn.arr_at m c _ _).symm)
  exact Cert.Ffn.out_congr Cert.Ffn.before Cert.Ffn.after _ _ (funext₂ fun i k => congrFun e0 (ix2 i k)) (funext₂ fun i k => congrFun e1 (ix2 i k))
    (funext fun k => congrFun e2 (ix2 0 k)) (funext₂ fun k j => congrFun e3 (ix3 0 k j)) (funext₂ fun k j => congrFun e4 (ix3 0 k j))
    (funext₂ fun k j => congrFun e5 (ix3 0 k j)) (funext fun j => congrFun e6 (ix2 0 j)) (funext₂ fun j k => congrFun e7 (ix3 0 j k))
    (funext fun k => congrFun e8 (ix1 k))

/-- Two arrays are equal when they are at every pair of coordinates. -/
theorem eq2 {α : Type} {p q : Nat} {f g : Shape.Idx ⟨2, ![p, q]⟩ → α} (h : ∀ a b, f (ix2 a b) = g (ix2 a b)) : f = g :=
  funext fun i => by rw [eq_ix2 i]; exact h _ _

/-- Two arrays are equal when they are at every three coordinates. -/
theorem eq3 {α : Type} {p q r : Nat} {f g : Shape.Idx ⟨3, ![p, q, r]⟩ → α} (h : ∀ a b d, f (ix3 a b d) = g (ix3 a b d)) : f = g :=
  funext fun i => by rw [eq_ix3 i]; exact h _ _ _

/-- The input projection as written, over bit patterns. -/
theorem frame_kernel3 : Cert.quiescent_Kernel3 (hKernel3 := Cert.Kernel3.Gen.facts) := fun m ρ _ => Cert.Kernel3.Gen.frame m ρ

/-- The input projection on the extended reals. -/
theorem frame_kernel3Ideal : Cert.quiescent_Kernel3Ideal (hKernel3Ideal := Cert.Kernel3Ideal.Gen.facts) := fun m ρ _ => Cert.Kernel3Ideal.Gen.frame m ρ

/-- Its reference on the extended reals. -/
theorem frame_reference3Ideal : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems rfl r.2⟩) (Cert.Reference3Ideal.Value.run (F := Ideal) m ρ)

/-- The input projection and its reference leave the same eight results. -/
theorem algebraic3 : Cert.algebraic_Kernel3Ideal_Reference3Ideal (hKernel3Ideal := Cert.Kernel3Ideal.Gen.facts)
    (hReference3Ideal := Cert.Reference3Ideal.Gen.facts) := by
  intro m g m' g' _ hm
  refine ⟨fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, fun c => (Cert.Kernel3Ideal.Gen.dats m 0 c).arrAt 17 Cert.Kernel3Ideal.cfg0.N, fun c => (Cert.Kernel3Ideal.Gen.dats m 0 c).arrAt 18 Cert.Kernel3Ideal.cfg0.N, fun c => (Cert.Kernel3Ideal.Gen.dats m 0 c).arrAt 19 Cert.Kernel3Ideal.cfg0.N, fun c => (Cert.Kernel3Ideal.Gen.dats m 0 c).arrAt 20 Cert.Kernel3Ideal.cfg0.N, fun c => (Cert.Kernel3Ideal.Gen.dats m 0 c).arrAt 21 Cert.Kernel3Ideal.cfg0.N,
    (θ_run Cert.Kernel3Ideal.defs _ _).mono (fun _ h c => (h c).2.2) (Cert.Kernel3Ideal.Value.run_blocks (F := Ideal) m g),
    (θ_run Cert.Reference3Ideal.defs _ _).mono (fun _ h c => ?_) (Cert.Reference3Ideal.Proj.run_at m' g')⟩
  obtain ⟨h87, h88, h90, h91, h92, h94, h95, h96, k⟩ := h c
  obtain ⟨e0, e1, e2, e3, e4, e5, e6, e7, e8⟩ := hm c
  have ex (i : Fin 65536) : Cert.Reference3Ideal.Proj.xrow m' c i = Cert.Kernel3Ideal.Proj.xrow m c i :=
    congrArg (fun u => Cert.Proj.row u i) (funext₃ fun a b k => congrFun e0 (ix3 a b k))
  have eg : Cert.Reference3Ideal.Proj.scale m' c = Cert.Kernel3Ideal.Proj.scale m c := funext fun k => congrFun e1 (ix2 0 k)
  have ew : Cert.Reference3Ideal.Proj.win m' c = Cert.Kernel3Ideal.Proj.win m c := funext₂ fun k j => congrFun e2 (ix3 0 k j)
  have el : Cert.Reference3Ideal.Proj.lscale m' c = Cert.Kernel3Ideal.Proj.lscale m c := funext fun k => congrFun e5 (ix2 0 k)
  have ev : Cert.Reference3Ideal.Proj.lwin m' c = Cert.Kernel3Ideal.Proj.lwin m c := funext₂ fun k j => congrFun e6 (ix3 0 k j)
  have ei : Cert.Reference3Ideal.Proj.ibias m' c = Cert.Kernel3Ideal.Proj.ibias m c := funext₂ fun a b => congrFun e7 (ix3 0 a b)
  have ef : Cert.Reference3Ideal.Proj.fbias m' c = Cert.Kernel3Ideal.Proj.fbias m c := funext₂ fun a b => congrFun e8 (ix3 0 a b)
  refine ⟨?_, ?_, ?_, ?_, ?_, ?_, ?_, ?_, k⟩
  · refine eq3 fun a d b => ((h87 a d b).trans ?_).trans (Cert.Kernel3Ideal.Proj.arr14_at m c a d b).symm
    rw [ex, eg, ew, el, ev]
  · refine eq2 fun a b => ((h88 a b).trans ?_).trans (Cert.Kernel3Ideal.Proj.arr15_at m c a b).symm
    rw [ex, eg, ew]
  · refine eq3 fun a d b => ((h90 a d b).trans ?_).trans (Cert.Kernel3Ideal.Proj.arr16_at m c a d b).symm
    rw [ex, eg, ew]
  · refine eq2 fun a b => ((h91 a b).trans ?_).trans (Cert.Kernel3Ideal.Proj.arr17_at m c a b).symm
    rw [ex, eg, ew]
  · refine eq2 fun a b => ((h92 a b).trans ?_).trans (Cert.Kernel3Ideal.Proj.arr18_at m c a b).symm
    rw [ex, eg, ew]
  · refine eq3 fun a d b => ((h94 a d b).trans ?_).trans (Cert.Kernel3Ideal.Proj.arr19_at m c a d b).symm
    rw [ex, eg, ew, ei, ef]
  · refine eq2 fun a b => ((h95 a b).trans ?_).trans (Cert.Kernel3Ideal.Proj.arr20_at m c a b).symm
    rw [ex, eg, ew]
  · refine eq2 fun a b => ((h96 a b).trans ?_).trans (Cert.Kernel3Ideal.Proj.arr21_at m c a b).symm
    rw [ex, eg, ew]

/-- The feed-forward kernel over the sample as written, over bit patterns. -/
theorem frame_kernel4 : Cert.quiescent_Kernel4 (hKernel4 := Cert.Kernel4.Gen.facts) := fun m ρ _ => Cert.Kernel4.Gen.frame m ρ

/-- The feed-forward kernel over the sample on the extended reals. -/
theorem frame_kernel4Ideal : Cert.quiescent_Kernel4Ideal (hKernel4Ideal := Cert.Kernel4Ideal.Gen.facts) := fun m ρ _ => Cert.Kernel4Ideal.Gen.frame m ρ

/-- Its reference on the extended reals. -/
theorem frame_reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩) (Cert.Reference4Ideal.Value.run (F := Ideal) m ρ)

/-- Over the sample, the feed-forward kernel and its reference leave the same result. -/
theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨fun c => (Cert.Kernel4Ideal.Gen.dats m 0 c).arrAt 11 Cert.Kernel4Ideal.cfg0.N, Cert.Kernel4Ideal.Value.run_blocks (F := Ideal) m g,
    (θ_run Cert.Reference4Ideal.defs _ _).mono (fun _ h c => ⟨(h c).1.trans ?_, (h c).2⟩) (Cert.Reference4Ideal.Value.run (F := Ideal) m' g')⟩
  obtain ⟨e0, e1, e2, e3, e4, e5, e6, e7, e8⟩ := hm c
  funext i
  rw [eq_ix2 i]
  refine (Cert.Reference4Ideal.Ffn.out_at _ _ _).trans (Eq.trans ?_ (Cert.Kernel4Ideal.Ffn.arr_at m c _ _).symm)
  exact Cert.Ffn.out_congr Cert.Ffn.before1 Cert.Ffn.after1 _ _ (funext₂ fun i k => congrFun e0 (ix2 i k)) (funext₂ fun i k => congrFun e1 (ix2 i k))
    (funext fun k => congrFun e2 (ix2 0 k)) (funext₂ fun k j => congrFun e3 (ix3 0 k j)) (funext₂ fun k j => congrFun e4 (ix3 0 k j))
    (funext₂ fun k j => congrFun e5 (ix3 0 k j)) (funext fun j => congrFun e6 (ix2 0 j)) (funext₂ fun j k => congrFun e7 (ix3 0 j k))
    (funext fun k => congrFun e8 (ix1 k))

/-- Two arrays are equal when they are at every four coordinates. -/
theorem eq4 {α : Type} {p q r s : Nat} {f g : Shape.Idx ⟨4, ![p, q, r, s]⟩ → α} (h : ∀ a b d e, f (ix4 a b d e) = g (ix4 a b d e)) : f = g :=
  funext fun i => by rw [eq_ix4 i]; exact h _ _ _ _

/-- The input projection of the queries and keys as written, over bit patterns. -/
theorem frame_kernel5 : Cert.quiescent_Kernel5 (hKernel5 := Cert.Kernel5.Gen.facts) (hPre_finite := Cert.Pre_finite.Gen.facts) := fun m ρ _ => Cert.Kernel5.Gen.frame m ρ

/-- The same on the extended reals. -/
theorem frame_kernel5Ideal : Cert.quiescent_Kernel5Ideal (hKernel5Ideal := Cert.Kernel5Ideal.Gen.facts) (hPre_finite := Cert.Pre_finite.Gen.facts) :=
  fun m ρ _ => Cert.Kernel5Ideal.Gen.frame m ρ

/-- Its reference on the extended reals. -/
theorem frame_reference5Ideal : Cert.quiescent_Reference5Ideal (hReference5Ideal := Cert.Reference5Ideal.Gen.facts) (hPre_finite := Cert.Pre_finite.Gen.facts) :=
  fun m ρ _ => (θ_run Cert.Reference5Ideal.defs _ _).mono (fun r h => ⟨fun c => (h c).2.2, sem_eq_zero_of_no_sems rfl r.2⟩) (Cert.Reference5Ideal.Value.run (F := Ideal) m ρ)

/-- On finite arguments the input projection and its reference leave the same queries and keys. -/
theorem algebraic5 : Cert.algebraic_Kernel5Ideal_Reference5Ideal (hKernel5Ideal := Cert.Kernel5Ideal.Gen.facts)
    (hReference5Ideal := Cert.Reference5Ideal.Gen.facts) (hPre_finite := Cert.Pre_finite.Gen.facts) := by
  intro m g m' g' hpre hm
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N,
    (θ_run Cert.Kernel5Ideal.defs _ _).mono (fun _ h c => ⟨(h c).1, (h c).2.1, (h c).2.2.2.2.2.2.2.2.2.2⟩) (Cert.Kernel5Ideal.Value.run_blocks (F := Ideal) m g),
    (θ_run Cert.Reference5Ideal.defs _ _).mono (fun _ h c => ⟨(h c).1.trans ?_, (h c).2.1.trans ?_, (h c).2.2⟩) (Cert.Reference5Ideal.Value.run (F := Ideal) m' g')⟩
  · obtain ⟨p0, p1, p2, p3, p4⟩ := hpre c
    obtain ⟨e0, e1, e2, e3, e4, e5, e6, e7, e8⟩ := hm c
    refine Eq.trans ?_ (Cert.Kernel5Ideal.Proj.arr12_same m c).symm
    refine eq3 fun a e b => (Cert.Reference5Ideal.Proj.v124_at m' c a e b).trans (Eq.trans ?_ (Cert.Kernel3Ideal.Proj.arr12_at m c
      (fun l => Cert.Proj.real_of_lt (congrFun p3 (ix2 0 l))) (fun l j => Cert.Proj.real_of_lt (congrFun p4 (ix3 0 l j)))
      (fun i k => Cert.Proj.real_of_lt (congrFun p0 (ix3 _ _ k))) (fun k => Cert.Proj.real_of_lt (congrFun p1 (ix2 0 k)))
      (fun k j => Cert.Proj.real_of_lt (congrFun p2 (ix3 0 k j))) a e b).symm)
    exact Cert.Proj.query_congr _ (congrArg (fun u => Cert.Proj.row u _) (funext₃ fun a b k => congrFun e0 (ix3 a b k))) (funext fun k => congrFun e1 (ix2 0 k))
      (funext₂ fun k j => congrFun e2 (ix3 0 k j)) (funext fun l => congrFun e3 (ix2 0 l)) (funext₂ fun l j => congrFun e4 (ix3 0 l j)) _ _
  · obtain ⟨p0, p1, p2, p3, p4⟩ := hpre c
    obtain ⟨e0, e1, e2, e3, e4, e5, e6, e7, e8⟩ := hm c
    refine Eq.trans ?_ (Cert.Kernel5Ideal.Proj.arr13_same m c).symm
    refine eq4 fun a h b d => (Cert.Reference5Ideal.Proj.v128_at m' c a h b d).trans (Eq.trans ?_ (Cert.Kernel3Ideal.Proj.arr13_at m c
      (fun i k => Cert.Proj.real_of_lt (congrFun p0 (ix3 _ _ k))) (fun k => Cert.Proj.real_of_lt (congrFun p1 (ix2 0 k)))
      (fun k j => Cert.Proj.real_of_lt (congrFun p2 (ix3 0 k j))) a h b d).symm)
    exact Cert.Proj.keyh_congr _ (congrArg (fun u => Cert.Proj.row u _) (funext₃ fun a b k => congrFun e0 (ix3 a b k))) (funext fun k => congrFun e1 (ix2 0 k))
      (funext₂ fun k j => congrFun e2 (ix3 0 k j)) (funext fun l => congrFun e5 (ix2 0 l)) (funext₂ fun l j => congrFun e6 (ix3 0 l j)) _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  frame_kernel, frame_kernelIdeal, frame_referenceIdeal, frame_kernel2, frame_kernel2Ideal, frame_reference2Ideal,
  frame_kernel3, frame_kernel3Ideal, frame_reference3Ideal, frame_kernel4, frame_kernel4Ideal, frame_reference4Ideal,
  frame_kernel5, frame_kernel5Ideal, frame_reference5Ideal,
  trivial, algebraic, trivial, algebraic2, trivial, algebraic3, trivial, algebraic4, trivial, algebraic5⟩

end Cert.Proof

end
